-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v37_0)) (v1 : (c : Dev Cert.Kernel3Ideal.nD) → Buf (Elt Ideal) ((c.tc : Thread Cert.Kernel3Ideal.nD Cert.Kernel3Ideal.τ).loc Cert.Kernel3Ideal.main_v37_1)) (v2 : (c : Dev Cert.Kernel3Ideal.nD) → Buf (Elt Ideal) ((c.tc : Thread Cert.Kernel3Ideal.nD Cert.Kernel3Ideal.τ).loc Cert.Kernel3Ideal.main_v37_2)) (v3 : (c : Dev Cert.Kernel3Ideal.nD) → Buf (Elt Ideal) ((c.tc : Thread Cert.Kernel3Ideal.nD Cert.Kernel3Ideal.τ).loc Cert.Kernel3Ideal.main_v37_5)) (v4 : (c : Dev Cert.Kernel3Ideal.nD) → Buf (Elt Ideal) ((c.tc : Thread Cert.Kernel3Ideal.nD Cert.Kernel3Ideal.τ).loc Cert.Kernel3Ideal.main_v37_6)) (v5 : (c : Dev Cert.Kernel3Ideal.nD) → Buf (Elt Ideal) ((c.tc : Thread Cert.Kernel3Ideal.nD Cert.Kernel3Ideal.τ).loc Cert.Kernel3Ideal.main_v37_7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v37_0) = v0 c
          ∧ r.2.mem ((c.tc : Thread Cert.Kernel3Ideal.nD Cert.Kernel3Ideal.τ).loc Cert.Kernel3Ideal.main_v37_1) = v1 c
          ∧ r.2.mem ((c.tc : Thread Cert.Kernel3Ideal.nD Cert.Kernel3Ideal.τ).loc Cert.Kernel3Ideal.main_v37_2) = v2 c
          ∧ r.2.mem ((c.tc : Thread Cert.Kernel3Ideal.nD Cert.Kernel3Ideal.τ).loc Cert.Kernel3Ideal.main_v37_5) = v3 c
          ∧ r.2.mem ((c.tc : Thread Cert.Kernel3Ideal.nD Cert.Kernel3Ideal.τ).loc Cert.Kernel3Ideal.main_v37_6) = v4 c
          ∧ r.2.mem ((c.tc : Thread Cert.Kernel3Ideal.nD Cert.Kernel3Ideal.τ).loc Cert.Kernel3Ideal.main_v37_7) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v251) = v0 c
          ∧ r.2.mem ((c.tc : Thread Cert.Reference3Ideal.nD Cert.Reference3Ideal.τ).loc Cert.Reference3Ideal.main_v254) = v1 c
          ∧ r.2.mem ((c.tc : Thread Cert.Reference3Ideal.nD Cert.Reference3Ideal.τ).loc Cert.Reference3Ideal.main_v256) = v2 c
          ∧ r.2.mem ((c.tc : Thread Cert.Reference3Ideal.nD Cert.Reference3Ideal.τ).loc Cert.Reference3Ideal.main_v259) = v3 c
          ∧ r.2.mem ((c.tc : Thread Cert.Reference3Ideal.nD Cert.Reference3Ideal.τ).loc Cert.Reference3Ideal.main_v262) = v4 c
          ∧ r.2.mem ((c.tc : Thread Cert.Reference3Ideal.nD Cert.Reference3Ideal.τ).loc Cert.Reference3Ideal.main_v264) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S4x8192x8x64 : Shape := ⟨4, ![4, 8192, 8, 64]⟩
abbrev S4x8192x8x32 : Shape := ⟨4, ![4, 8192, 8, 32]⟩
abbrev S4x8192x32 : Shape := ⟨3, ![4, 8192, 32]⟩
abbrev S4x8192x8x128 : Shape := ⟨4, ![4, 8192, 8, 128]⟩
abbrev S64 : Shape := ⟨1, ![64]⟩
abbrev S32 : Shape := ⟨1, ![32]⟩
abbrev S_ : Shape := ⟨0, ![]⟩

class Facts : Prop where
  bcast_S_S4x8192x8x64 : S_.BroadcastsInDim S4x8192x8x64 (![] : Fin 0 → Fin S4x8192x8x64.rank)
  reducesTo_S4x8192x8x64_S_d0_1_2_3 : S4x8192x8x64.ReducesTo [0, 1, 2, 3] S_
  h_S_ : 0 < S_.numel
  bcast_S_S4x8192x8x32 : S_.BroadcastsInDim S4x8192x8x32 (![] : Fin 0 → Fin S4x8192x8x32.rank)
  reducesTo_S4x8192x8x32_S_d0_1_2_3 : S4x8192x8x32.ReducesTo [0, 1, 2, 3] S_
  bcast_S_S4x8192x32 : S_.BroadcastsInDim S4x8192x32 (![] : Fin 0 → Fin S4x8192x32.rank)
  reducesTo_S4x8192x32_S_d0_1_2 : S4x8192x32.ReducesTo [0, 1, 2] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S4x8192x8x64 .f32) (main_arg1 : FVec F S4x8192x8x32 .f32) (main_arg2 : FVec F S4x8192x8x64 .f32) (main_arg3 : FVec F S4x8192x32 .f32) (main_arg4 : FVec F S4x8192x8x128 .f32) (main_arg5 : FVec F S64 .f32) (main_arg6 : FVec F S32 .f32) (main_arg7 : FVec F S64 .f32) (main_arg8 : FVec F S32 .f32) : IVec S_ 1 :=
  let main_v0 : FVec F S4x8192x8x64 .f32 := Host.absf main_arg0
  let main_cst : FVec F S_ .f32 := constant S_ .f32 0x7F800000#32
  let main_v1 : FVec F S4x8192x8x64 .f32 := broadcastInDim S4x8192x8x64 ![] bcast_S_S4x8192x8x64 main_cst
  let main_v2 : IVec S4x8192x8x64 1 := cmpf .olt main_v0 main_v1
  let main_c : IVec S_ 1 := constantI S_ 1 1#1
  let main_v3 : IVec S_ 1 := (fun x v => Host.reduce IntOp.andi x v reducesTo_S4x8192x8x64_S_d0_1_2_3 h_S_) main_v2 main_c
  let main_v4 : FVec F S4x8192x8x32 .f32 := Host.absf main_arg1
  let main_cst_0 : FVec F S_ .f32 := constant S_ .f32 0x7F800000#32
  let main_v5 : FVec F S4x8192x8x32 .f32 := broadcastInDim S4x8192x8x32 ![] bcast_S_S4x8192x8x32 main_cst_0
  let main_v6 : IVec S4x8192x8x32 1 := cmpf .olt main_v4 main_v5
  let main_c_1 : IVec S_ 1 := constantI S_ 1 1#1
  let main_v7 : IVec S_ 1 := (fun x v => Host.reduce IntOp.andi x v reducesTo_S4x8192x8x32_S_d0_1_2_3 h_S_) main_v6 main_c_1
  let main_v8 : FVec F S4x8192x8x64 .f32 := Host.absf main_arg2
  let main_cst_2 : FVec F S_ .f32 := constant S_ .f32 0x7F800000#32
  let main_v9 : FVec F S4x8192x8x64 .f32 := broadcastInDim S4x8192x8x64 ![] bcast_S_S4x8192x8x64 main_cst_2
  let main_v10 : IVec S4x8192x8x64 1 := cmpf .olt main_v8 main_v9
  let main_c_3 : IVec S_ 1 := constantI S_ 1 1#1
  let main_v11 : IVec S_ 1 := (fun x v => Host.reduce IntOp.andi x v reducesTo_S4x8192x8x64_S_d0_1_2_3 h_S_) main_v10 main_c_3
  let main_v12 : FVec F S4x8192x32 .f32 := Host.absf main_arg3
  let main_cst_4 : FVec F S_ .f32 := constant S_ .f32 0x7F800000#32
  let main_v13 : FVec F S4x8192x32 .f32 := broadcastInDim S4x8192x32 ![] bcast_S_S4x8192x32 main_cst_4
  let main_v14 : IVec S4x8192x32 1 := cmpf .olt main_v12 main_v13
  let main_c_5 : IVec S_ 1 := constantI S_ 1 1#1
  let main_v15 : IVec S_ 1 := (fun x v => Host.reduce IntOp.andi x v reducesTo_S4x8192x32_S_d0_1_2 h_S_) main_v14 main_c_5
  fn_part1 (F := F) main_v3 main_v7 main_v11 main_v15
-- ==== Kernel.lean ====
abbrev S4x8192x8x64 : Shape := ⟨4, ![4, 8192, 8, 64]⟩
abbrev S4x8192x8x32 : Shape := ⟨4, ![4, 8192, 8, 32]⟩
abbrev S4x8192x32 : Shape := ⟨3, ![4, 8192, 32]⟩
abbrev S4x8192x8x128 : Shape := ⟨4, ![4, 8192, 8, 128]⟩
abbrev S64 : Shape := ⟨1, ![64]⟩
abbrev S32 : Shape := ⟨1, ![32]⟩
abbrev S_ : Shape := ⟨0, ![]⟩
abbrev S4x8192x1x32 : Shape := ⟨4, ![4, 8192, 1, 32]⟩
abbrev S4x8x128x8192 : Shape := ⟨4, ![4, 8, 128, 8192]⟩
abbrev S4x8x8192x128 : Shape := ⟨4, ![4, 8, 8192, 128]⟩
abbrev S1 : Shape := ⟨1, ![1]⟩
abbrev S4x1024x8192 : Shape := ⟨3, ![4, 1024, 8192]⟩
abbrev S1x1x128x8192 : Shape := ⟨4, ![1, 1, 128, 8192]⟩
abbrev S1x1x8192x128 : Shape := ⟨4, ![1, 1, 8192, 128]⟩
abbrev S1x128x8192 : Shape := ⟨3, ![1, 128, 8192]⟩
abbrev S1024x512 : Shape := ⟨2, ![1024, 512]⟩
abbrev S1x1x128x1024 : Shape := ⟨4, ![1, 1, 128, 1024]⟩
abbrev S128x1024 : Shape := ⟨2, ![128, 1024]⟩
abbrev S1x1024 : Shape := ⟨2, ![1, 1024]⟩
abbrev S1x1x4096x128 : Shape := ⟨4, ![1, 1, 4096, 128]⟩
abbrev S4096x128 : Shape := ⟨2, ![4096, 128]⟩
abbrev S4096x1024 : Shape := ⟨2, ![4096, 1024]⟩
abbrev S1024 : Shape := ⟨1, ![1024]⟩
abbrev S1x1x128x4096 : Shape := ⟨4, ![1, 1, 128, 4096]⟩
abbrev S128x4096 : Shape := ⟨2, ![128, 4096]⟩
abbrev S1x128x1024 : Shape := ⟨3, ![1, 128, 1024]⟩
abbrev S1x512 : Shape := ⟨2, ![1, 512]⟩
abbrev S1x1x1024x128 : Shape := ⟨4, ![1, 1, 1024, 128]⟩
abbrev S1024x128 : Shape := ⟨2, ![1024, 128]⟩
abbrev S1x1x128x512 : Shape := ⟨4, ![1, 1, 128, 512]⟩
abbrev S128x512 : Shape := ⟨2, ![128, 512]⟩
abbrev S512 : Shape := ⟨1, ![512]⟩
abbrev S1x128x512 : Shape := ⟨3, ![1, 128, 512]⟩

abbrev nBuf : Space → Nat
  | .hbm => 64
  | .vmem => 12
  | .smem => 1
  | _ => 0

abbrev bufTy : (tb : Table) → Fin (tcTables nBuf tb) → BufTy
  | .hbm, ⟨0, _⟩ => ⟨S4x8192x8x64, .f32⟩
  | .hbm, ⟨1, _⟩ => ⟨S4x8192x8x32, .f32⟩
  | .hbm, ⟨2, _⟩ => ⟨S4x8192x8x64, .f32⟩
  | .hbm, ⟨3, _⟩ => ⟨S4x8192x32, .f32⟩
  | .hbm, ⟨4, _⟩ => ⟨S4x8192x8x128, .f32⟩
  | .hbm, ⟨5, _⟩ => ⟨S64, .f32⟩
  | .hbm, ⟨6, _⟩ => ⟨S32, .f32⟩
  | .hbm, ⟨7, _⟩ => ⟨S64, .f32⟩
  | .hbm, ⟨8, _⟩ => ⟨S32, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S4x8192x8x32, .f32⟩
  | .hbm, ⟨22, _⟩ => ⟨S4x8192x1x32, .f32⟩
  | .hbm, ⟨23, _⟩ => ⟨S4x8192x8x32, .f32⟩
  | .hbm, ⟨24, _⟩ => ⟨S4x8192x8x64, .f32⟩
  | .hbm, ⟨25, _⟩ => ⟨S4x8192x8x64, .f32⟩
  | .hbm, ⟨26, _⟩ => ⟨S4x8192x8x32, .f32⟩
  | .hbm, ⟨27, _⟩ => ⟨S4x8192x8x32, .f32⟩
  | .hbm, ⟨28, _⟩ => ⟨S4x8192x8x128, .f32⟩
  | .hbm, ⟨29, _⟩ => ⟨S4x8x128x8192, .f32⟩
  | .hbm, ⟨30, _⟩ => ⟨S4x8x128x8192, .bf16⟩
  | .hbm, ⟨31, _⟩ => ⟨S4x8192x8x128, .f32⟩
  | .hbm, ⟨32, _⟩ => ⟨S4x8x8192x128, .f32⟩
  | .hbm, ⟨33, _⟩ => ⟨S4x8x8192x128, .bf16⟩
  | .hbm, ⟨34, _⟩ => ⟨S4x8x128x8192, .f32⟩
  | .hbm, ⟨35, _⟩ => ⟨S4x8x128x8192, .bf16⟩
  | .hbm, ⟨36, _⟩ => ⟨S64, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S32, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S64, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S32, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .i1⟩
  | .hbm, ⟨61, _⟩ => ⟨S_, .i32⟩
  | .hbm, ⟨62, _⟩ => ⟨S1, .i32⟩
  | .hbm, ⟨63, _⟩ => ⟨S4x1024x8192, .bf16⟩
  | .local _ .vmem, ⟨0, _⟩ => ⟨S1x1x128x8192, .bf16⟩
  | .local _ .vmem, ⟨1, _⟩ => ⟨S1x1x128x8192, .bf16⟩
  | .local _ .vmem, ⟨2, _⟩ => ⟨S1x1x8192x128, .bf16⟩
  | .local _ .vmem, ⟨3, _⟩ => ⟨S1x1x8192x128, .bf16⟩
  | .local _ .vmem, ⟨4, _⟩ => ⟨S1x1x128x8192, .bf16⟩
  | .local _ .vmem, ⟨5, _⟩ => ⟨S1x1x128x8192, .bf16⟩
  | .local _ .vmem, ⟨6, _⟩ => ⟨S1x128x8192, .bf16⟩
  | .local _ .vmem, ⟨7, _⟩ => ⟨S1x128x8192, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .smem, ⟨0, _⟩ => ⟨S1, .i32⟩
  | _, _ => ⟨S4x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_cst_1 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_cst_8 : Ref sig .tc := ⟨.hbm, 50, rfl⟩
abbrev main_v32 : Ref sig .tc := ⟨.hbm, 51, rfl⟩
abbrev main_v33 : Ref sig .tc := ⟨.hbm, 52, rfl⟩
abbrev main_cst_9 : Ref sig .tc := ⟨.hbm, 53, rfl⟩
abbrev main_v34 : Ref sig .tc := ⟨.hbm, 54, rfl⟩
abbrev main_cst_10 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_11 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_3 : BitVec 32 := 0#32
  let c8_i32 : BitVec 32 := 8#32
  let v7 : BitVec 32 := Scalar.addi c0_i32_3 c8_i32
  let c1_i32 : BitVec 32 := 1#32
  ⟨c0_i32_3, v7, c1_i32⟩
def k0_mult1 (k0_t1 : Fin k0_t1_loop.trips) : BitVec 32 :=
  let c0_i32_3 : BitVec 32 := 0#32
  let c1_i32 : BitVec 32 := 1#32
  let arg11 : BitVec 32 := Scf.iv c0_i32_3 c1_i32 k0_t1
  let c1024_i32 : BitVec 32 := 1024#32
  let v8 : BitVec 32 := Scalar.muli arg11 c1024_i32
  v8
def k0_off1 (k0_t1 : Fin k0_t1_loop.trips) : Fin 4 → Nat :=
  let c0_5 : Index := 0#32
  let c0_6 : Index := 0#32
  let c0_7 : Index := 0#32
  let c0_i32_3 : BitVec 32 := 0#32
  let c1_i32 : BitVec 32 := 1#32
  let arg11 : BitVec 32 := Scf.iv c0_i32_3 c1_i32 k0_t1
  let c1024_i32 : BitVec 32 := 1024#32
  let v8 : BitVec 32 := Scalar.muli arg11 c1024_i32
  let v9 : BitVec 32 := v8
  let v10 : Index := Scalar.indexCast v9
  ![0, 0, 0, v10.toNat]
def k0_off2 (k0_t1 : Fin k0_t1_loop.trips) : Fin 3 → Nat :=
  let c0_31 : Index := 0#32
  let c0_32 : Index := 0#32
  let c0_i32_3 : BitVec 32 := 0#32
  let c1_i32 : BitVec 32 := 1#32
  let arg11 : BitVec 32 := Scf.iv c0_i32_3 c1_i32 k0_t1
  let c1024_i32 : BitVec 32 := 1024#32
  let v8 : BitVec 32 := Scalar.muli arg11 c1024_i32
  let v9 : BitVec 32 := v8
  let v44 : Index := Scalar.indexCast v9
  ![0, 0, v44.toNat]
def k0_mult2 : BitVec 32 :=
  let c0_i32_3 : BitVec 32 := 0#32
  c0_i32_3
def k0_mult3 : BitVec 32 :=
  let c0_i32_7 : BitVec 32 := 0#32
  c0_i32_7
def k0_mult4 : BitVec 32 :=
  let c1024_i32 : BitVec 32 := 1024#32
  c1024_i32
def k0_mult5 : BitVec 32 :=
  let c0_i32_18 : BitVec 32 := 0#32
  c0_i32_18
@[reducible] def k0_t2_loop : Scf.Loop 32 :=
  let c0_i32_26 : BitVec 32 := 0#32
  let c16_i32 : BitVec 32 := 16#32
  let v38 : BitVec 32 := Scalar.addi c0_i32_26 c16_i32
  let c1_i32 : BitVec 32 := 1#32
  ⟨c0_i32_26, v38, c1_i32⟩
def k0_mult6 : BitVec 32 :=
  let c2048_i32 : BitVec 32 := 2048#32
  c2048_i32
def k0_mult7 (k0_t2 : Fin k0_t2_loop.trips) : BitVec 32 :=
  let c0_i32_26 : BitVec 32 := 0#32
  let c1_i32 : BitVec 32 := 1#32
  let arg11 : BitVec 32 := Scf.iv c0_i32_26 c1_i32 k0_t2
  let c512_i32 : BitVec 32 := 512#32
  let v48 : BitVec 32 := Scalar.muli arg11 c512_i32
  v48
def k0_off3 (k0_t2 : Fin k0_t2_loop.trips) : Fin 4 → Nat :=
  let c0_34 : Index := 0#32
  let c0_35 : Index := 0#32
  let c0_36 : Index := 0#32
  let c0_i32_26 : BitVec 32 := 0#32
  let c1_i32 : BitVec 32 := 1#32
  let arg11 : BitVec 32 := Scf.iv c0_i32_26 c1_i32 k0_t2
  let c512_i32 : BitVec 32 := 512#32
  let v48 : BitVec 32 := Scalar.muli arg11 c512_i32
  let v49 : BitVec 32 := v48
  let v50 : Index := Scalar.indexCast v49
  ![0, 0, 0, v50.toNat]
def k0_mult8 : BitVec 32 :=
  let c0_i32_44 : BitVec 32 := 0#32
  c0_i32_44
def k0_mult9 : BitVec 32 :=
  let c3072_i32 : BitVec 32 := 3072#32
  c3072_i32
def k0_mult10 (k0_t2 : Fin k0_t2_loop.trips) : BitVec 32 :=
  let c0_i32_26 : BitVec 32 := 0#32
  let c1_i32 : BitVec 32 := 1#32
  let arg11 : BitVec 32 := Scf.iv c0_i32_26 c1_i32 k0_t2
  let c512_i32_52 : BitVec 32 := 512#32
  let v83 : BitVec 32 := Scalar.muli arg11 c512_i32_52
  v83
def k0_mult11 : BitVec 32 :=
  let c1024_i32_63 : BitVec 32 := 1024#32
  c1024_i32_63
def k0_mult12 : BitVec 32 :=
  let c4096_i32 : BitVec 32 := 4096#32
  c4096_i32
def k0_mult13 (k0_t2 : Fin k0_t2_loop.trips) : BitVec 32 :=
  let c0_i32_26 : BitVec 32 := 0#32
  let c1_i32 : BitVec 32 := 1#32
  let arg11 : BitVec 32 := Scf.iv c0_i32_26 c1_i32 k0_t2
  let c512_i32_71 : BitVec 32 := 512#32
  let v118 : BitVec 32 := Scalar.muli arg11 c512_i32_71
  v118
def k0_mult14 : BitVec 32 :=
  let c2048_i32_82 : BitVec 32 := 2048#32
  c2048_i32_82
def k0_mult15 : BitVec 32 :=
  let c5120_i32 : BitVec 32 := 5120#32
  c5120_i32
def k0_mult16 (k0_t2 : Fin k0_t2_loop.trips) : BitVec 32 :=
  let c0_i32_26 : BitVec 32 := 0#32
  let c1_i32 : BitVec 32 := 1#32
  let arg11 : BitVec 32 := Scf.iv c0_i32_26 c1_i32 k0_t2
  let c512_i32_90 : BitVec 32 := 512#32
  let v153 : BitVec 32 := Scalar.muli arg11 c512_i32_90
  v153
def k0_mult17 : BitVec 32 :=
  let c3072_i32_101 : BitVec 32 := 3072#32
  c3072_i32_101
def k0_mult18 : BitVec 32 :=
  let c6144_i32 : BitVec 32 := 6144#32
  c6144_i32
def k0_mult19 (k0_t2 : Fin k0_t2_loop.trips) : BitVec 32 :=
  let c0_i32_26 : BitVec 32 := 0#32
  let c1_i32 : BitVec 32 := 1#32
  let arg11 : BitVec 32 := Scf.iv c0_i32_26 c1_i32 k0_t2
  let c512_i32_109 : BitVec 32 := 512#32
  let v188 : BitVec 32 := Scalar.muli arg11 c512_i32_109
  v188
def k0_mult20 : BitVec 32 :=
  let c4096_i32_120 : BitVec 32 := 4096#32
  c4096_i32_120
def k0_mult21 : BitVec 32 :=
  let c7168_i32 : BitVec 32 := 7168#32
  c7168_i32
def k0_mult22 (k0_t2 : Fin k0_t2_loop.trips) : BitVec 32 :=
  let c0_i32_26 : BitVec 32 := 0#32
  let c1_i32 : BitVec 32 := 1#32
  let arg11 : BitVec 32 := Scf.iv c0_i32_26 c1_i32 k0_t2
  let c512_i32_128 : BitVec 32 := 512#32
  let v223 : BitVec 32 := Scalar.muli arg11 c512_i32_128
  v223
def k0_mult23 : BitVec 32 :=
  let c5120_i32_139 : BitVec 32 := 5120#32
  c5120_i32_139
def k0_mult24 : BitVec 32 :=
  let c0_i32_144 : BitVec 32 := 0#32
  c0_i32_144
def k0_mult25 (k0_t2 : Fin k0_t2_loop.trips) : BitVec 32 :=
  let c0_i32_26 : BitVec 32 := 0#32
  let c1_i32 : BitVec 32 := 1#32
  let arg11 : BitVec 32 := Scf.iv c0_i32_26 c1_i32 k0_t2
  let c1_i32_28 : BitVec 32 := 1#32
  let v40 : BitVec 32 := Scalar.addi arg11 c1_i32_28
  let c15_i32 : BitVec 32 := 15#32
  let v41 : BitVec 32 := Scalar.minsi v40 c15_i32
  let c512_i32_148 : BitVec 32 := 512#32
  let v258 : BitVec 32 := Scalar.muli v41 c512_i32_148
  v258
def k0_off4 (k0_t2 : Fin k0_t2_loop.trips) : Fin 4 → Nat :=
  let c0_149 : Index := 0#32
  let c0_150 : Index := 0#32
  let c0_151 : Index := 0#32
  let c0_i32_26 : BitVec 32 := 0#32
  let c1_i32 : BitVec 32 := 1#32
  let arg11 : BitVec 32 := Scf.iv c0_i32_26 c1_i32 k0_t2
  let c1_i32_28 : BitVec 32 := 1#32
  let v40 : BitVec 32 := Scalar.addi arg11 c1_i32_28
  let c15_i32 : BitVec 32 := 15#32
  let v41 : BitVec 32 := Scalar.minsi v40 c15_i32
  let c512_i32_148 : BitVec 32 := 512#32
  let v258 : BitVec 32 := Scalar.muli v41 c512_i32_148
  let v259 : BitVec 32 := v258
  let v260 : Index := Scalar.indexCast v259
  ![0, 0, 0, v260.toNat]
def k0_mult26 : BitVec 32 :=
  let c6144_i32_159 : BitVec 32 := 6144#32
  c6144_i32_159
def k0_mult27 : BitVec 32 :=
  let c1024_i32_164 : BitVec 32 := 1024#32
  c1024_i32_164
def k0_mult28 (k0_t2 : Fin k0_t2_loop.trips) : BitVec 32 :=
  let c0_i32_26 : BitVec 32 := 0#32
  let c1_i32 : BitVec 32 := 1#32
  let arg11 : BitVec 32 := Scf.iv c0_i32_26 c1_i32 k0_t2
  let c1_i32_28 : BitVec 32 := 1#32
  let v40 : BitVec 32 := Scalar.addi arg11 c1_i32_28
  let c15_i32 : BitVec 32 := 15#32
  let v41 : BitVec 32 := Scalar.minsi v40 c15_i32
  let c512_i32_168 : BitVec 32 := 512#32
  let v293 : BitVec 32 := Scalar.muli v41 c512_i32_168
  v293
def k0_mult29 : BitVec 32 :=
  let c7168_i32_179 : BitVec 32 := 7168#32
  c7168_i32_179
def k0_mult30 (k0_t2 : Fin k0_t2_loop.trips) : BitVec 32 :=
  let c0_i32_26 : BitVec 32 := 0#32
  let c1_i32 : BitVec 32 := 1#32
  let arg11 : BitVec 32 := Scf.iv c0_i32_26 c1_i32 k0_t2
  let c512_i32_185 : BitVec 32 := 512#32
  let v329 : BitVec 32 := Scalar.muli arg11 c512_i32_185
  v329
def k0_off5 (k0_t2 : Fin k0_t2_loop.trips) : Fin 3 → Nat :=
  let c0_186 : Index := 0#32
  let c0_187 : Index := 0#32
  let c0_i32_26 : BitVec 32 := 0#32
  let c1_i32 : BitVec 32 := 1#32
  let arg11 : BitVec 32 := Scf.iv c0_i32_26 c1_i32 k0_t2
  let c512_i32_185 : BitVec 32 := 512#32
  let v329 : BitVec 32 := Scalar.muli arg11 c512_i32_185
  let v330 : BitVec 32 := v329
  let v331 : Index := Scalar.indexCast v330
  ![0, 0, v331.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x128x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S4x8192x8x64 : Shape := ⟨4, ![4, 8192, 8, 64]⟩
abbrev S4x8192x8x32 : Shape := ⟨4, ![4, 8192, 8, 32]⟩
abbrev S4x8192x32 : Shape := ⟨3, ![4, 8192, 32]⟩
abbrev S4x8192x8x128 : Shape := ⟨4, ![4, 8192, 8, 128]⟩
abbrev S64 : Shape := ⟨1, ![64]⟩
abbrev S32 : Shape := ⟨1, ![32]⟩
abbrev S_ : Shape := ⟨0, ![]⟩
abbrev S4x8x8192x8192 : Shape := ⟨4, ![4, 8, 8192, 8192]⟩
abbrev S4x8192x8192x8 : Shape := ⟨4, ![4, 8192, 8192, 8]⟩
abbrev S4x8x8192 : Shape := ⟨3, ![4, 8, 8192]⟩
abbrev S4x8x8192x1 : Shape := ⟨4, ![4, 8, 8192, 1]⟩
abbrev S4x8x128x8192 : Shape := ⟨4, ![4, 8, 128, 8192]⟩
abbrev S4x8192x1024 : Shape := ⟨3, ![4, 8192, 1024]⟩
abbrev S4x1024x8192 : Shape := ⟨3, ![4, 1024, 8192]⟩

abbrev nBuf : Space → Nat
  | .hbm => 38
  | .vmem => 0
  | .smem => 0
  | _ => 0

abbrev bufTy : (tb : Table) → Fin (tcTables nBuf tb) → BufTy
  | .hbm, ⟨0, _⟩ => ⟨S4x8192x8x64, .f32⟩
  | .hbm, ⟨1, _⟩ => ⟨S4x8192x8x32, .f32⟩
  | .hbm, ⟨2, _⟩ => ⟨S4x8192x8x64, .f32⟩
  | .hbm, ⟨3, _⟩ => ⟨S4x8192x32, .f32⟩
  | .hbm, ⟨4, _⟩ => ⟨S4x8192x8x128, .f32⟩
  | .hbm, ⟨5, _⟩ => ⟨S64, .f32⟩
  | .hbm, ⟨6, _⟩ => ⟨S32, .f32⟩
  | .hbm, ⟨7, _⟩ => ⟨S64, .f32⟩
  | .hbm, ⟨8, _⟩ => ⟨S32, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4x8x8192x8192, .f32⟩
  | .hbm, ⟨14, _⟩ => ⟨S4x8192x8192x8, .f32⟩
  | .hbm, ⟨15, _⟩ => ⟨S4x8x8192x8192, .f32⟩
  | .hbm, ⟨16, _⟩ => ⟨S4x8x8192x8192, .f32⟩
  | .hbm, ⟨17, _⟩ => ⟨S4x8x8192x8192, .f32⟩
  | .hbm, ⟨18, _⟩ => ⟨S4x8x8192x8192, .f32⟩
  | .hbm, ⟨19, _⟩ => ⟨S_, .f32⟩
  | .hbm, ⟨20, _⟩ => ⟨S4x8x8192, .f32⟩
  | .hbm, ⟨21, _⟩ => ⟨S_, .f32⟩
  | .hbm, ⟨22, _⟩ => ⟨S4x8x8192, .f32⟩
  | .hbm, ⟨23, _⟩ => ⟨S4x8x8192, .f32⟩
  | .hbm, ⟨24, _⟩ => ⟨S4x8x8192x1, .f32⟩
  | .hbm, ⟨25, _⟩ => ⟨S4x8x8192x8192, .f32⟩
  | .hbm, ⟨26, _⟩ => ⟨S4x8x8192x8192, .f32⟩
  | .hbm, ⟨27, _⟩ => ⟨S4x8x8192x8192, .f32⟩
  | .hbm, ⟨28, _⟩ => ⟨S_, .f32⟩
  | .hbm, ⟨29, _⟩ => ⟨S4x8x8192, .f32⟩
  | .hbm, ⟨30, _⟩ => ⟨S4x8x8192x1, .f32⟩
  | .hbm, ⟨31, _⟩ => ⟨S4x8x8192x8192, .f32⟩
  | .hbm, ⟨32, _⟩ => ⟨S4x8x8192x8192, .f32⟩
  | .hbm, ⟨33, _⟩ => ⟨S4x8x128x8192, .f32⟩
  | .hbm, ⟨34, _⟩ => ⟨S4x8192x8x128, .f32⟩
  | .hbm, ⟨35, _⟩ => ⟨S4x8192x1024, .f32⟩
  | .hbm, ⟨36, _⟩ => ⟨S4x1024x8192, .f32⟩
  | .hbm, ⟨37, _⟩ => ⟨S4x1024x8192, .bf16⟩
  | _, _ => ⟨S4x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Kernel2.lean ====
abbrev S4x8192x1024 : Shape := ⟨3, ![4, 8192, 1024]⟩
abbrev S4x3072 : Shape := ⟨2, ![4, 3072]⟩
abbrev S1024 : Shape := ⟨1, ![1024]⟩
abbrev S2048x1024 : Shape := ⟨2, ![2048, 1024]⟩
abbrev S1024x2048 : Shape := ⟨2, ![1024, 2048]⟩
abbrev S4x3x1024 : Shape := ⟨3, ![4, 3, 1024]⟩
abbrev S4x1024x8192 : Shape := ⟨3, ![4, 1024, 8192]⟩
abbrev S1024x1 : Shape := ⟨2, ![1024, 1]⟩
abbrev S1x1024x1024 : Shape := ⟨3, ![1, 1024, 1024]⟩
abbrev S1x3x1024 : Shape := ⟨3, ![1, 3, 1024]⟩
abbrev S1024x1024 : Shape := ⟨2, ![1024, 1024]⟩
abbrev S1x1024 : Shape := ⟨2, ![1, 1024]⟩
abbrev S256x2048 : Shape := ⟨2, ![256, 2048]⟩
abbrev S256x1024 : Shape := ⟨2, ![256, 1024]⟩
abbrev S1x1x256 : Shape := ⟨3, ![1, 1, 256]⟩
abbrev S1x256 : Shape := ⟨2, ![1, 256]⟩
abbrev S1x1024x256 : Shape := ⟨3, ![1, 1024, 256]⟩
abbrev S1024x256 : Shape := ⟨2, ![1024, 256]⟩

abbrev nBuf : Space → Nat
  | .hbm => 18
  | .vmem => 14
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x1024, .f32⟩
  | .hbm, ⟨3, _⟩ => ⟨S4x8192x1024, .f32⟩
  | .hbm, ⟨4, _⟩ => ⟨S4x3072, .f32⟩
  | .hbm, ⟨5, _⟩ => ⟨S1024, .f32⟩
  | .hbm, ⟨6, _⟩ => ⟨S2048x1024, .f32⟩
  | .hbm, ⟨7, _⟩ => ⟨S1024x2048, .f32⟩
  | .hbm, ⟨8, _⟩ => ⟨S1024x2048, .bf16⟩
  | .hbm, ⟨9, _⟩ => ⟨S4x3x1024, .f32⟩
  | .hbm, ⟨10, _⟩ => ⟨S4x1024x8192, .f32⟩
  | .hbm, ⟨11, _⟩ => ⟨S4x1024x8192, .bf16⟩
  | .hbm, ⟨12, _⟩ => ⟨S4x1024x8192, .f32⟩
  | .hbm, ⟨13, _⟩ => ⟨S4x1024x8192, .bf16⟩
  | .hbm, ⟨14, _⟩ => ⟨S4x1024x8192, .f32⟩
  | .hbm, ⟨15, _⟩ => ⟨S4x1024x8192, .bf16⟩
  | .hbm, ⟨16, _⟩ => ⟨S1024x1, .f32⟩
  | .hbm, ⟨17, _⟩ => ⟨S4x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x3x1024, .f32⟩
  | .local _ .vmem, ⟨9, _⟩ => ⟨S1x3x1024, .f32⟩
  | .local _ .vmem, ⟨10, _⟩ => ⟨S1024x1, .f32⟩
  | .local _ .vmem, ⟨11, _⟩ => ⟨S1024x2048, .bf16⟩
  | .local _ .vmem, ⟨12, _⟩ => ⟨S1x1024x1024, .f32⟩
  | .local _ .vmem, ⟨13, _⟩ => ⟨S1x1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S4x8192x1024 : Shape := ⟨3, ![4, 8192, 1024]⟩
abbrev S4x3072 : Shape := ⟨2, ![4, 3072]⟩
abbrev S1024 : Shape := ⟨1, ![1024]⟩
abbrev S2048x1024 : Shape := ⟨2, ![2048, 1024]⟩
abbrev S4x1024 : Shape := ⟨2, ![4, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x2048 : Shape := ⟨3, ![4, 8192, 2048]⟩
abbrev S4x1x1024 : Shape := ⟨3, ![4, 1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x1024, .f32⟩
  | .hbm, ⟨3, _⟩ => ⟨S4x8192x1024, .f32⟩
  | .hbm, ⟨4, _⟩ => ⟨S4x3072, .f32⟩
  | .hbm, ⟨5, _⟩ => ⟨S1024, .f32⟩
  | .hbm, ⟨6, _⟩ => ⟨S2048x1024, .f32⟩
  | .hbm, ⟨7, _⟩ => ⟨S4x1024, .f32⟩
  | .hbm, ⟨8, _⟩ => ⟨S4x1024, .f32⟩
  | .hbm, ⟨9, _⟩ => ⟨S4x1024, .f32⟩
  | .hbm, ⟨10, _⟩ => ⟨S4x8192x1024, .f32⟩
  | .hbm, ⟨11, _⟩ => ⟨S_, .f32⟩
  | .hbm, ⟨12, _⟩ => ⟨S4x8192, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S_, .f32⟩
  | .hbm, ⟨18, _⟩ => ⟨S4x8192x1, .f32⟩
  | .hbm, ⟨19, _⟩ => ⟨S4x8192x1, .f32⟩
  | .hbm, ⟨20, _⟩ => ⟨S4x8192x1, .f32⟩
  | .hbm, ⟨21, _⟩ => ⟨S4x8192x1024, .f32⟩
  | .hbm, ⟨22, _⟩ => ⟨S4x8192x1024, .f32⟩
  | .hbm, ⟨23, _⟩ => ⟨S1x1x1024, .f32⟩
  | .hbm, ⟨24, _⟩ => ⟨S4x8192x1024, .f32⟩
  | .hbm, ⟨25, _⟩ => ⟨S4x8192x1024, .f32⟩
  | .hbm, ⟨26, _⟩ => ⟨S4x8192x1024, .f32⟩
  | .hbm, ⟨27, _⟩ => ⟨S4x8192x2048, .f32⟩
  | .hbm, ⟨28, _⟩ => ⟨S4x8192x1024, .f32⟩
  | .hbm, ⟨29, _⟩ => ⟨S4x1x1024, .f32⟩
  | .hbm, ⟨30, _⟩ => ⟨S4x8192x1024, .f32⟩
  | .hbm, ⟨31, _⟩ => ⟨S4x8192x1024, .f32⟩
  | .hbm, ⟨32, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Kernel3.lean ====
abbrev S4x8192x1024 : Shape := ⟨3, ![4, 8192, 1024]⟩
abbrev S4x3072 : Shape := ⟨2, ![4, 3072]⟩
abbrev S4x8192 : Shape := ⟨2, ![4, 8192]⟩
abbrev S1024 : Shape := ⟨1, ![1024]⟩
abbrev S1024x4768 : Shape := ⟨2, ![1024, 4768]⟩
abbrev S384 : Shape := ⟨1, ![384]⟩
abbrev S384x768 : Shape := ⟨2, ![384, 768]⟩
abbrev S256 : Shape := ⟨1, ![256]⟩
abbrev S256x1536 : Shape := ⟨2, ![256, 1536]⟩
abbrev S64 : Shape := ⟨1, ![64]⟩
abbrev S32 : Shape := ⟨1, ![32]⟩
abbrev S4768x1024 : Shape := ⟨2, ![4768, 1024]⟩
abbrev S768x384 : Shape := ⟨2, ![768, 384]⟩
abbrev S1536x256 : Shape := ⟨2, ![1536, 256]⟩
abbrev S_ : Shape := ⟨0, ![]⟩
abbrev S32x1 : Shape := ⟨2, ![32, 1]⟩
abbrev S16 : Shape := ⟨1, ![16]⟩
abbrev S16x1 : Shape := ⟨2, ![16, 1]⟩
abbrev S4x3x1024 : Shape := ⟨3, ![4, 3, 1024]⟩
abbrev S4x1x8192 : Shape := ⟨3, ![4, 1, 8192]⟩
abbrev S384x1 : Shape := ⟨2, ![384, 1]⟩
abbrev S256x1 : Shape := ⟨2, ![256, 1]⟩
abbrev S64x1 : Shape := ⟨2, ![64, 1]⟩
abbrev S1x1024 : Shape := ⟨2, ![1, 1024]⟩
abbrev S4x512x8192 : Shape := ⟨3, ![4, 512, 8192]⟩
abbrev S4x1024x8192 : Shape := ⟨3, ![4, 1024, 8192]⟩
abbrev S4x8x128x8192 : Shape := ⟨4, ![4, 8, 128, 8192]⟩
abbrev S4x8x8192x128 : Shape := ⟨4, ![4, 8, 8192, 128]⟩
abbrev S1x512x1024 : Shape := ⟨3, ![1, 512, 1024]⟩
abbrev S1x1x512 : Shape := ⟨3, ![1, 1, 512]⟩
abbrev S1x3x1024 : Shape := ⟨3, ![1, 3, 1024]⟩
abbrev S1x512x512 : Shape := ⟨3, ![1, 512, 512]⟩
abbrev S1x1024x512 : Shape := ⟨3, ![1, 1024, 512]⟩
abbrev S1x8x128x512 : Shape := ⟨4, ![1, 8, 128, 512]⟩
abbrev S1x8x512x128 : Shape := ⟨4, ![1, 8, 512, 128]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1x512 : Shape := ⟨2, ![1, 512]⟩
abbrev S32x512 : Shape := ⟨2, ![32, 512]⟩
abbrev S16x512 : Shape := ⟨2, ![16, 512]⟩
abbrev S672x1024 : Shape := ⟨2, ![672, 1024]⟩
abbrev S672x512 : Shape := ⟨2, ![672, 512]⟩
abbrev S384x512 : Shape := ⟨2, ![384, 512]⟩
abbrev S256x512 : Shape := ⟨2, ![256, 512]⟩
abbrev S768x512 : Shape := ⟨2, ![768, 512]⟩
abbrev S1536x512 : Shape := ⟨2, ![1536, 512]⟩
abbrev S64x512 : Shape := ⟨2, ![64, 512]⟩
abbrev S128x512 : Shape := ⟨2, ![128, 512]⟩
abbrev S1x1x128x512 : Shape := ⟨4, ![1, 1, 128, 512]⟩
abbrev S512x128 : Shape := ⟨2, ![512, 128]⟩
abbrev S1x1x512x128 : Shape := ⟨4, ![1, 1, 512, 128]⟩
abbrev S1024x1024 : Shape := ⟨2, ![1024, 1024]⟩
abbrev S1024x512 : Shape := ⟨2, ![1024, 512]⟩
abbrev S1x32x512 : Shape := ⟨3, ![1, 32, 512]⟩

abbrev nBuf : Space → Nat
  | .hbm => 66
  | .vmem => 34
  | .smem => 0
  | _ => 0

abbrev bufTy : (tb : Table) → Fin (tcTables nBuf tb) → BufTy
  | .hbm, ⟨0, _⟩ => ⟨S4x8192x1024, .f32⟩
  | .hbm, ⟨1, _⟩ => ⟨S4x3072, .f32⟩
  | .hbm, ⟨2, _⟩ => ⟨S4x8192, .i32⟩
  | .hbm, ⟨3, _⟩ => ⟨S1024, .f32⟩
  | .hbm, ⟨4, _⟩ => ⟨S1024x4768, .f32⟩
  | .hbm, ⟨5, _⟩ => ⟨S384, .f32⟩
  | .hbm, ⟨6, _⟩ => ⟨S384x768, .f32⟩
  | .hbm, ⟨7, _⟩ => ⟨S256, .f32⟩
  | .hbm, ⟨8, _⟩ => ⟨S256x1536, .f32⟩
  | .hbm, ⟨9, _⟩ => ⟨S64, .f32⟩
  | .hbm, ⟨10, _⟩ => ⟨S32, .f32⟩
  | .hbm, ⟨11, _⟩ => ⟨S64, .f32⟩
  | .hbm, ⟨12, _⟩ => ⟨S32, .f32⟩
  | .hbm, ⟨13, _⟩ => ⟨S4768x1024, .f32⟩
  | .hbm, ⟨14, _⟩ => ⟨S4768x1024, .bf16⟩
  | .hbm, ⟨15, _⟩ => ⟨S768x384, .f32⟩
  | .hbm, ⟨16, _⟩ => ⟨S768x384, .bf16⟩
  | .hbm, ⟨17, _⟩ => ⟨S1536x256, .f32⟩
  | .hbm, ⟨18, _⟩ => ⟨S1536x256, .bf16⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S32x1, .f32⟩
  | .hbm, ⟨34, _⟩ => ⟨S16, .f32⟩
  | .hbm, ⟨35, _⟩ => ⟨S_, .f32⟩
  | .hbm, ⟨36, _⟩ => ⟨S16, .f32⟩
  | .hbm, ⟨37, _⟩ => ⟨S16, .f32⟩
  | .hbm, ⟨38, _⟩ => ⟨S_, .f32⟩
  | .hbm, ⟨39, _⟩ => ⟨S16, .f32⟩
  | .hbm, ⟨40, _⟩ => ⟨S16, .f32⟩
  | .hbm, ⟨41, _⟩ => ⟨S16, .f32⟩
  | .hbm, ⟨42, _⟩ => ⟨S_, .f32⟩
  | .hbm, ⟨43, _⟩ => ⟨S16, .f32⟩
  | .hbm, ⟨44, _⟩ => ⟨S16, .f32⟩
  | .hbm, ⟨45, _⟩ => ⟨S_, .f32⟩
  | .hbm, ⟨46, _⟩ => ⟨S16, .f32⟩
  | .hbm, ⟨47, _⟩ => ⟨S16, .f32⟩
  | .hbm, ⟨48, _⟩ => ⟨S16x1, .f32⟩
  | .hbm, ⟨49, _⟩ => ⟨S4x3x1024, .f32⟩
  | .hbm, ⟨50, _⟩ => ⟨S4x1x8192, .i32⟩
  | .hbm, ⟨51, _⟩ => ⟨S384x1, .f32⟩
  | .hbm, ⟨52, _⟩ => ⟨S256x1, .f32⟩
  | .hbm, ⟨53, _⟩ => ⟨S32x1, .f32⟩
  | .hbm, ⟨54, _⟩ => ⟨S64x1, .f32⟩
  | .hbm, ⟨55, _⟩ => ⟨S32x1, .f32⟩
  | .hbm, ⟨56, _⟩ => ⟨S64x1, .f32⟩
  | .hbm, ⟨57, _⟩ => ⟨S1x1024, .f32⟩
  | .hbm, ⟨58, _⟩ => ⟨S4x512x8192, .bf16⟩
  | .hbm, ⟨59, _⟩ => ⟨S4x512x8192, .bf16⟩
  | .hbm, ⟨60, _⟩ => ⟨S4x1024x8192, .bf16⟩
  | .hbm, ⟨61, _⟩ => ⟨S4x1024x8192, .bf16⟩
  | .hbm, ⟨62, _⟩ => ⟨S4x1024x8192, .bf16⟩
  | .hbm, ⟨63, _⟩ => ⟨S4x8x128x8192, .bf16⟩
  | .hbm, ⟨64, _⟩ => ⟨S4x8x8192x128, .bf16⟩
  | .hbm, ⟨65, _⟩ => ⟨S4x8x128x8192, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x512, .i32⟩
  | .local _ .vmem, ⟨3, _⟩ => ⟨S1x1x512, .i32⟩
  | .local _ .vmem, ⟨4, _⟩ => ⟨S1x3x1024, .f32⟩
  | .local _ .vmem, ⟨5, _⟩ => ⟨S1x3x1024, .f32⟩
  | .local _ .vmem, ⟨6, _⟩ => ⟨S1x1024, .f32⟩
  | .local _ .vmem, ⟨7, _⟩ => ⟨S4768x1024, .bf16⟩
  | .local _ .vmem, ⟨8, _⟩ => ⟨S32x1, .f32⟩
  | .local _ .vmem, ⟨9, _⟩ => ⟨S16x1, .f32⟩
  | .local _ .vmem, ⟨10, _⟩ => ⟨S384x1, .f32⟩
  | .local _ .vmem, ⟨11, _⟩ => ⟨S256x1, .f32⟩
  | .local _ .vmem, ⟨12, _⟩ => ⟨S32x1, .f32⟩
  | .local _ .vmem, ⟨13, _⟩ => ⟨S768x384, .bf16⟩
  | .local _ .vmem, ⟨14, _⟩ => ⟨S1536x256, .bf16⟩
  | .local _ .vmem, ⟨15, _⟩ => ⟨S64x1, .f32⟩
  | .local _ .vmem, ⟨16, _⟩ => ⟨S32x1, .f32⟩
  | .local _ .vmem, ⟨17, _⟩ => ⟨S64x1, .f32⟩
  | .local _ .vmem, ⟨18, _⟩ => ⟨S1x512x512, .bf16⟩
  | .local _ .vmem, ⟨19, _⟩ => ⟨S1x512x512, .bf16⟩
  | .local _ .vmem, ⟨20, _⟩ => ⟨S1x512x512, .bf16⟩
  | .local _ .vmem, ⟨21, _⟩ => ⟨S1x512x512, .bf16⟩
  | .local _ .vmem, ⟨22, _⟩ => ⟨S1x1024x512, .bf16⟩
  | .local _ .vmem, ⟨23, _⟩ => ⟨S1x1024x512, .bf16⟩
  | .local _ .vmem, ⟨24, _⟩ => ⟨S1x1024x512, .bf16⟩
  | .local _ .vmem, ⟨25, _⟩ => ⟨S1x1024x512, .bf16⟩
  | .local _ .vmem, ⟨26, _⟩ => ⟨S1x1024x512, .bf16⟩
  | .local _ .vmem, ⟨27, _⟩ => ⟨S1x1024x512, .bf16⟩
  | .local _ .vmem, ⟨28, _⟩ => ⟨S1x8x128x512, .bf16⟩
  | .local _ .vmem, ⟨29, _⟩ => ⟨S1x8x128x512, .bf16⟩
  | .local _ .vmem, ⟨30, _⟩ => ⟨S1x8x512x128, .bf16⟩
  | .local _ .vmem, ⟨31, _⟩ => ⟨S1x8x512x128, .bf16⟩
  | .local _ .vmem, ⟨32, _⟩ => ⟨S1x8x128x512, .bf16⟩
  | .local _ .vmem, ⟨33, _⟩ => ⟨S1x8x128x512, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_5 : Ref sig .tc := ⟨.hbm, 42, rfl⟩
abbrev main_v23 : Ref sig .tc := ⟨.hbm, 43, rfl⟩
abbrev main_v24 : Ref sig .tc := ⟨.hbm, 44, rfl⟩
abbrev main_cst_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37_0 : Ref sig .tc := ⟨.hbm, 58, rfl⟩
abbrev main_v37_1 : Ref sig .tc := ⟨.hbm, 59, rfl⟩
abbrev main_v37_2 : Ref sig .tc := ⟨.hbm, 60, rfl⟩
abbrev main_v37_3 : Ref sig .tc := ⟨.hbm, 61, rfl⟩
abbrev main_v37_4 : Ref sig .tc := ⟨.hbm, 62, rfl⟩
abbrev main_v37_5 : Ref sig .tc := ⟨.hbm, 63, rfl⟩
abbrev main_v37_6 : Ref sig .tc := ⟨.hbm, 64, rfl⟩
abbrev main_v37_7 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg22_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31
abbrev cc0_sem22_0 : DmaSem sig := 32
abbrev cc0_sem22_1 : DmaSem sig := 33

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_20 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_21 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_22 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4768x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S384x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S32x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S768x384 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1536x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S64x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S32x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S64x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1024x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1024x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1024x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x8x128x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x8x512x128 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x8x128x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]
-- ==== Reference3Ideal.lean ====
abbrev S4x8192x1024 : Shape := ⟨3, ![4, 8192, 1024]⟩
abbrev S4x3072 : Shape := ⟨2, ![4, 3072]⟩
abbrev S4x8192 : Shape := ⟨2, ![4, 8192]⟩
abbrev S1024 : Shape := ⟨1, ![1024]⟩
abbrev S1024x4768 : Shape := ⟨2, ![1024, 4768]⟩
abbrev S384 : Shape := ⟨1, ![384]⟩
abbrev S384x768 : Shape := ⟨2, ![384, 768]⟩
abbrev S256 : Shape := ⟨1, ![256]⟩
abbrev S256x1536 : Shape := ⟨2, ![256, 1536]⟩
abbrev S64 : Shape := ⟨1, ![64]⟩
abbrev S32 : Shape := ⟨1, ![32]⟩
abbrev S4x1024 : Shape := ⟨2, ![4, 1024]⟩
abbrev S_ : Shape := ⟨0, ![]⟩
abbrev S4x8192x1 : Shape := ⟨3, ![4, 8192, 1]⟩
abbrev S1x1x1024 : Shape := ⟨3, ![1, 1, 1024]⟩
abbrev S4x1x1024 : Shape := ⟨3, ![4, 1, 1024]⟩
abbrev S4x8192x4768 : Shape := ⟨3, ![4, 8192, 4768]⟩
abbrev S4x8192x512 : Shape := ⟨3, ![4, 8192, 512]⟩
abbrev S4x8192x384 : Shape := ⟨3, ![4, 8192, 384]⟩
abbrev S4x8192x256 : Shape := ⟨3, ![4, 8192, 256]⟩
abbrev S4x8192x32 : Shape := ⟨3, ![4, 8192, 32]⟩
abbrev S4x8192x8x64 : Shape := ⟨4, ![4, 8192, 8, 64]⟩
abbrev S1x1x32 : Shape := ⟨3, ![1, 1, 32]⟩
abbrev S4x8192x1x32 : Shape := ⟨4, ![4, 8192, 1, 32]⟩
abbrev S4x8192x8x32 : Shape := ⟨4, ![4, 8192, 8, 32]⟩
abbrev S1x1x384 : Shape := ⟨3, ![1, 1, 384]⟩
abbrev S4x8192x768 : Shape := ⟨3, ![4, 8192, 768]⟩
abbrev S4x8192x8x96 : Shape := ⟨4, ![4, 8192, 8, 96]⟩
abbrev S1x1x256 : Shape := ⟨3, ![1, 1, 256]⟩
abbrev S4x8192x1536 : Shape := ⟨3, ![4, 8192, 1536]⟩
abbrev S4x8192x8x192 : Shape := ⟨4, ![4, 8192, 8, 192]⟩
abbrev S4x8192x8 : Shape := ⟨3, ![4, 8192, 8]⟩
abbrev S4x8192x8x1 : Shape := ⟨4, ![4, 8192, 8, 1]⟩
abbrev S1x1x1x64 : Shape := ⟨4, ![1, 1, 1, 64]⟩
abbrev S1x1x1x32 : Shape := ⟨4, ![1, 1, 1, 32]⟩
abbrev S16 : Shape := ⟨1, ![16]⟩
abbrev S1x1x16 : Shape := ⟨3, ![1, 1, 16]⟩
abbrev S4x8192x16 : Shape := ⟨3, ![4, 8192, 16]⟩
abbrev S4x8192x1x16 : Shape := ⟨4, ![4, 8192, 1, 16]⟩
abbrev S4x8192x8x16 : Shape := ⟨4, ![4, 8192, 8, 16]⟩
abbrev S4x8192x8x128 : Shape := ⟨4, ![4, 8192, 8, 128]⟩
abbrev S4x512x8192 : Shape := ⟨3, ![4, 512, 8192]⟩
abbrev S4x1024x8192 : Shape := ⟨3, ![4, 1024, 8192]⟩
abbrev S4x8x128x8192 : Shape := ⟨4, ![4, 8, 128, 8192]⟩
abbrev S4x8x8192x128 : Shape := ⟨4, ![4, 8, 8192, 128]⟩

abbrev nBuf : Space → Nat
  | .hbm => 318
  | .vmem => 0
  | .smem => 0
  | _ => 0

abbrev hbmTy0_0 (i : Nat) : BufTy := match i % 128 with
  | 0 => ⟨S4x8192x1024, .f32⟩
  | 1 => ⟨S4x3072, .f32⟩
  | 2 => ⟨S4x8192, .i32⟩
  | 3 => ⟨S1024, .f32⟩
  | 4 => ⟨S1024x4768, .f32⟩
  | 5 => ⟨S384, .f32⟩
  | 6 => ⟨S384x768, .f32⟩
  | 7 => ⟨S256, .f32⟩
  | 8 => ⟨S256x1536, .f32⟩
  | 9 => ⟨S64, .f32⟩
  | 10 => ⟨S32, .f32⟩
  | 11 => ⟨S64, .f32⟩
  | 12 => ⟨S32, .f32⟩
  | 13 => ⟨S4x1024, .f32⟩
  | 14 => ⟨S4x1024, .f32⟩
  | 15 => ⟨S4x1024, .f32⟩
  | 16 => ⟨S4x8192x1024, .f32⟩
  | 17 => ⟨S_, .f32⟩
  | 18 => ⟨S4x8192, .f32⟩
  | 19 => ⟨S4x8192x1, .f32⟩
  | 20 => ⟨S_, .f32⟩
  | 21 => ⟨S4x8192x1, .f32⟩
  | 22 => ⟨S4x8192x1, .f32⟩
  | 23 => ⟨S_, .f32⟩
  | 24 => ⟨S4x8192x1, .f32⟩
  | 25 => ⟨S4x8192x1, .f32⟩
  | 26 => ⟨S4x8192x1, .f32⟩
  | 27 => ⟨S4x8192x1024, .f32⟩
  | 28 => ⟨S4x8192x1024, .f32⟩
  | 29 => ⟨S1x1x1024, .f32⟩
  | 30 => ⟨S4x8192x1024, .f32⟩
  | 31 => ⟨S4x8192x1024, .f32⟩
  | 32 => ⟨S4x1x1024, .f32⟩
  | 33 => ⟨S_, .f32⟩
  | 34 => ⟨S4x1x1024, .f32⟩
  | 35 => ⟨S4x1x1024, .f32⟩
  | 36 => ⟨S4x8192x1024, .f32⟩
  | 37 => ⟨S4x8192x1024, .f32⟩
  | 38 => ⟨S4x1x1024, .f32⟩
  | 39 => ⟨S4x8192x1024, .f32⟩
  | 40 => ⟨S4x8192x1024, .f32⟩
  | 41 => ⟨S4x8192x4768, .f32⟩
  | 42 => ⟨S4x8192x512, .f32⟩
  | 43 => ⟨S4x8192x512, .f32⟩
  | 44 => ⟨S4x8192x1024, .f32⟩
  | 45 => ⟨S4x8192x1024, .f32⟩
  | 46 => ⟨S4x8192x384, .f32⟩
  | 47 => ⟨S4x8192x256, .f32⟩
  | 48 => ⟨S4x8192x32, .f32⟩
  | 49 => ⟨S4x8192x1024, .f32⟩
  | 50 => ⟨S4x8192x8x64, .f32⟩
  | 51 => ⟨S32, .f32⟩
  | 52 => ⟨S_, .f32⟩
  | 53 => ⟨S32, .f32⟩
  | 54 => ⟨S32, .f32⟩
  | 55 => ⟨S_, .f32⟩
  | 56 => ⟨S32, .f32⟩
  | 57 => ⟨S32, .f32⟩
  | 58 => ⟨S32, .f32⟩
  | 59 => ⟨S_, .f32⟩
  | 60 => ⟨S32, .f32⟩
  | 61 => ⟨S32, .f32⟩
  | 62 => ⟨S_, .f32⟩
  | 63 => ⟨S32, .f32⟩
  | 64 => ⟨S32, .f32⟩
  | 65 => ⟨S4x8192, .f32⟩
  | 66 => ⟨S4x8192x1, .f32⟩
  | 67 => ⟨S1x1x32, .f32⟩
  | 68 => ⟨S4x8192x32, .f32⟩
  | 69 => ⟨S4x8192x32, .f32⟩
  | 70 => ⟨S4x8192x32, .f32⟩
  | 71 => ⟨S4x8192x1x32, .f32⟩
  | 72 => ⟨S4x8192x1x32, .f32⟩
  | 73 => ⟨S4x8192x1x32, .f32⟩
  | 74 => ⟨S4x8192x8x32, .f32⟩
  | 75 => ⟨S4x8192x8x32, .f32⟩
  | 76 => ⟨S4x8192x8x32, .f32⟩
  | 77 => ⟨S4x8192x8x32, .f32⟩
  | 78 => ⟨S4x8192x8x32, .f32⟩
  | 79 => ⟨S4x8192x8x32, .f32⟩
  | 80 => ⟨S4x8192x8x32, .f32⟩
  | 81 => ⟨S4x8192x8x32, .f32⟩
  | 82 => ⟨S4x8192x8x32, .f32⟩
  | 83 => ⟨S4x8192x8x32, .f32⟩
  | 84 => ⟨S4x8192x8x32, .f32⟩
  | 85 => ⟨S4x8192x8x32, .f32⟩
  | 86 => ⟨S4x8192x8x64, .f32⟩
  | 87 => ⟨S4x8192x8x64, .f32⟩
  | 88 => ⟨S32, .f32⟩
  | 89 => ⟨S_, .f32⟩
  | 90 => ⟨S32, .f32⟩
  | 91 => ⟨S32, .f32⟩
  | 92 => ⟨S_, .f32⟩
  | 93 => ⟨S32, .f32⟩
  | 94 => ⟨S32, .f32⟩
  | 95 => ⟨S32, .f32⟩
  | 96 => ⟨S_, .f32⟩
  | 97 => ⟨S32, .f32⟩
  | 98 => ⟨S32, .f32⟩
  | 99 => ⟨S_, .f32⟩
  | 100 => ⟨S32, .f32⟩
  | 101 => ⟨S32, .f32⟩
  | 102 => ⟨S4x8192, .f32⟩
  | 103 => ⟨S4x8192x1, .f32⟩
  | 104 => ⟨S1x1x32, .f32⟩
  | 105 => ⟨S4x8192x32, .f32⟩
  | 106 => ⟨S4x8192x32, .f32⟩
  | 107 => ⟨S4x8192x32, .f32⟩
  | 108 => ⟨S4x8192x1x32, .f32⟩
  | 109 => ⟨S4x8192x1x32, .f32⟩
  | 110 => ⟨S4x8192x1x32, .f32⟩
  | 111 => ⟨S4x8192x8x32, .f32⟩
  | 112 => ⟨S4x8192x8x32, .f32⟩
  | 113 => ⟨S4x8192x8x32, .f32⟩
  | 114 => ⟨S4x8192x8x32, .f32⟩
  | 115 => ⟨S4x8192x8x32, .f32⟩
  | 116 => ⟨S4x8192x8x32, .f32⟩
  | 117 => ⟨S4x8192x8x32, .f32⟩
  | 118 => ⟨S4x8192x8x32, .f32⟩
  | 119 => ⟨S4x8192x8x32, .f32⟩
  | 120 => ⟨S4x8192x8x32, .f32⟩
  | 121 => ⟨S4x8192x8x32, .f32⟩
  | 122 => ⟨S4x8192x8x32, .f32⟩
  | 123 => ⟨S4x8192x8x64, .f32⟩
  | 124 => ⟨S_, .f32⟩
  | 125 => ⟨S4x8192x8x64, .f32⟩
  | 126 => ⟨S4x8192x8x64, .f32⟩
  | 127 => ⟨S4x8192x384, .f32⟩
  | _ => ⟨S4x8192x1024, .f32⟩

abbrev hbmTy0_1 (i : Nat) : BufTy := match i % 128 with
  | 0 => ⟨S_, .f32⟩
  | 1 => ⟨S4x8192, .f32⟩
  | 2 => ⟨S4x8192x1, .f32⟩
  | 3 => ⟨S_, .f32⟩
  | 4 => ⟨S4x8192x1, .f32⟩
  | 5 => ⟨S4x8192x1, .f32⟩
  | 6 => ⟨S_, .f32⟩
  | 7 => ⟨S4x8192x1, .f32⟩
  | 8 => ⟨S4x8192x1, .f32⟩
  | 9 => ⟨S4x8192x1, .f32⟩
  | 10 => ⟨S4x8192x384, .f32⟩
  | 11 => ⟨S4x8192x384, .f32⟩
  | 12 => ⟨S1x1x384, .f32⟩
  | 13 => ⟨S4x8192x384, .f32⟩
  | 14 => ⟨S4x8192x384, .f32⟩
  | 15 => ⟨S4x8192x768, .f32⟩
  | 16 => ⟨S4x8192x8x96, .f32⟩
  | 17 => ⟨S4x8192x256, .f32⟩
  | 18 => ⟨S_, .f32⟩
  | 19 => ⟨S4x8192, .f32⟩
  | 20 => ⟨S4x8192x1, .f32⟩
  | 21 => ⟨S_, .f32⟩
  | 22 => ⟨S4x8192x1, .f32⟩
  | 23 => ⟨S4x8192x1, .f32⟩
  | 24 => ⟨S_, .f32⟩
  | 25 => ⟨S4x8192x1, .f32⟩
  | 26 => ⟨S4x8192x1, .f32⟩
  | 27 => ⟨S4x8192x1, .f32⟩
  | 28 => ⟨S4x8192x256, .f32⟩
  | 29 => ⟨S4x8192x256, .f32⟩
  | 30 => ⟨S1x1x256, .f32⟩
  | 31 => ⟨S4x8192x256, .f32⟩
  | 32 => ⟨S4x8192x256, .f32⟩
  | 33 => ⟨S4x8192x1536, .f32⟩
  | 34 => ⟨S4x8192x8x192, .f32⟩
  | 35 => ⟨S4x8192x8x64, .f32⟩
  | 36 => ⟨S4x8192x8x64, .f32⟩
  | 37 => ⟨S_, .f32⟩
  | 38 => ⟨S4x8192x8, .f32⟩
  | 39 => ⟨S4x8192x8x1, .f32⟩
  | 40 => ⟨S_, .f32⟩
  | 41 => ⟨S4x8192x8x1, .f32⟩
  | 42 => ⟨S4x8192x8x1, .f32⟩
  | 43 => ⟨S_, .f32⟩
  | 44 => ⟨S4x8192x8x1, .f32⟩
  | 45 => ⟨S4x8192x8x1, .f32⟩
  | 46 => ⟨S4x8192x8x1, .f32⟩
  | 47 => ⟨S4x8192x8x64, .f32⟩
  | 48 => ⟨S4x8192x8x64, .f32⟩
  | 49 => ⟨S1x1x1x64, .f32⟩
  | 50 => ⟨S4x8192x8x64, .f32⟩
  | 51 => ⟨S4x8192x8x64, .f32⟩
  | 52 => ⟨S4x8192x8x32, .f32⟩
  | 53 => ⟨S4x8192x8x32, .f32⟩
  | 54 => ⟨S_, .f32⟩
  | 55 => ⟨S4x8192x8, .f32⟩
  | 56 => ⟨S4x8192x8x1, .f32⟩
  | 57 => ⟨S_, .f32⟩
  | 58 => ⟨S4x8192x8x1, .f32⟩
  | 59 => ⟨S4x8192x8x1, .f32⟩
  | 60 => ⟨S_, .f32⟩
  | 61 => ⟨S4x8192x8x1, .f32⟩
  | 62 => ⟨S4x8192x8x1, .f32⟩
  | 63 => ⟨S4x8192x8x1, .f32⟩
  | 64 => ⟨S4x8192x8x32, .f32⟩
  | 65 => ⟨S4x8192x8x32, .f32⟩
  | 66 => ⟨S1x1x1x32, .f32⟩
  | 67 => ⟨S4x8192x8x32, .f32⟩
  | 68 => ⟨S4x8192x8x32, .f32⟩
  | 69 => ⟨S16, .f32⟩
  | 70 => ⟨S_, .f32⟩
  | 71 => ⟨S16, .f32⟩
  | 72 => ⟨S16, .f32⟩
  | 73 => ⟨S_, .f32⟩
  | 74 => ⟨S16, .f32⟩
  | 75 => ⟨S16, .f32⟩
  | 76 => ⟨S16, .f32⟩
  | 77 => ⟨S_, .f32⟩
  | 78 => ⟨S16, .f32⟩
  | 79 => ⟨S16, .f32⟩
  | 80 => ⟨S_, .f32⟩
  | 81 => ⟨S16, .f32⟩
  | 82 => ⟨S16, .f32⟩
  | 83 => ⟨S4x8192, .f32⟩
  | 84 => ⟨S4x8192x1, .f32⟩
  | 85 => ⟨S1x1x16, .f32⟩
  | 86 => ⟨S4x8192x16, .f32⟩
  | 87 => ⟨S4x8192x16, .f32⟩
  | 88 => ⟨S4x8192x16, .f32⟩
  | 89 => ⟨S4x8192x1x16, .f32⟩
  | 90 => ⟨S4x8192x1x16, .f32⟩
  | 91 => ⟨S4x8192x1x16, .f32⟩
  | 92 => ⟨S4x8192x8x16, .f32⟩
  | 93 => ⟨S4x8192x8x16, .f32⟩
  | 94 => ⟨S4x8192x8x16, .f32⟩
  | 95 => ⟨S4x8192x8x16, .f32⟩
  | 96 => ⟨S4x8192x8x16, .f32⟩
  | 97 => ⟨S4x8192x8x16, .f32⟩
  | 98 => ⟨S4x8192x8x16, .f32⟩
  | 99 => ⟨S4x8192x8x16, .f32⟩
  | 100 => ⟨S4x8192x8x16, .f32⟩
  | 101 => ⟨S4x8192x8x16, .f32⟩
  | 102 => ⟨S4x8192x8x16, .f32⟩
  | 103 => ⟨S4x8192x8x16, .f32⟩
  | 104 => ⟨S4x8192x8x32, .f32⟩
  | 105 => ⟨S4x8192x8x64, .f32⟩
  | 106 => ⟨S4x8192x8x64, .f32⟩
  | 107 => ⟨S_, .f32⟩
  | 108 => ⟨S4x8192x8, .f32⟩
  | 109 => ⟨S4x8192x8x1, .f32⟩
  | 110 => ⟨S_, .f32⟩
  | 111 => ⟨S4x8192x8x1, .f32⟩
  | 112 => ⟨S4x8192x8x1, .f32⟩
  | 113 => ⟨S_, .f32⟩
  | 114 => ⟨S4x8192x8x1, .f32⟩
  | 115 => ⟨S4x8192x8x1, .f32⟩
  | 116 => ⟨S4x8192x8x1, .f32⟩
  | 117 => ⟨S4x8192x8x64, .f32⟩
  | 118 => ⟨S4x8192x8x64, .f32⟩
  | 119 => ⟨S1x1x1x64, .f32⟩
  | 120 => ⟨S4x8192x8x64, .f32⟩
  | 121 => ⟨S4x8192x8x64, .f32⟩
  | 122 => ⟨S4x8192x8x128, .f32⟩
  | 123 => ⟨S4x8192x32, .f32⟩
  | 124 => ⟨S_, .f32⟩
  | 125 => ⟨S4x8192, .f32⟩
  | 126 => ⟨S4x8192x1, .f32⟩
  | 127 => ⟨S_, .f32⟩
  | _ => ⟨S4x8192x1024, .f32⟩

abbrev hbmTy0_2 (i : Nat) : BufTy := match i % 128 with
  | 0 => ⟨S4x8192x1, .f32⟩
  | 1 => ⟨S4x8192x1, .f32⟩
  | 2 => ⟨S_, .f32⟩
  | 3 => ⟨S4x8192x1, .f32⟩
  | 4 => ⟨S4x8192x1, .f32⟩
  | 5 => ⟨S4x8192x1, .f32⟩
  | 6 => ⟨S4x8192x32, .f32⟩
  | 7 => ⟨S4x8192x32, .f32⟩
  | 8 => ⟨S1x1x32, .f32⟩
  | 9 => ⟨S4x8192x32, .f32⟩
  | 10 => ⟨S4x8192x32, .f32⟩
  | 11 => ⟨S16, .f32⟩
  | 12 => ⟨S_, .f32⟩
  | 13 => ⟨S16, .f32⟩
  | 14 => ⟨S16, .f32⟩
  | 15 => ⟨S_, .f32⟩
  | 16 => ⟨S16, .f32⟩
  | 17 => ⟨S16, .f32⟩
  | 18 => ⟨S16, .f32⟩
  | 19 => ⟨S_, .f32⟩
  | 20 => ⟨S16, .f32⟩
  | 21 => ⟨S16, .f32⟩
  | 22 => ⟨S_, .f32⟩
  | 23 => ⟨S16, .f32⟩
  | 24 => ⟨S16, .f32⟩
  | 25 => ⟨S4x8192, .f32⟩
  | 26 => ⟨S4x8192x1, .f32⟩
  | 27 => ⟨S1x1x16, .f32⟩
  | 28 => ⟨S4x8192x16, .f32⟩
  | 29 => ⟨S4x8192x16, .f32⟩
  | 30 => ⟨S4x8192x16, .f32⟩
  | 31 => ⟨S4x8192x16, .f32⟩
  | 32 => ⟨S4x8192x16, .f32⟩
  | 33 => ⟨S4x8192x16, .f32⟩
  | 34 => ⟨S4x8192x16, .f32⟩
  | 35 => ⟨S4x8192x16, .f32⟩
  | 36 => ⟨S4x8192x16, .f32⟩
  | 37 => ⟨S4x8192x16, .f32⟩
  | 38 => ⟨S4x8192x16, .f32⟩
  | 39 => ⟨S4x8192x16, .f32⟩
  | 40 => ⟨S4x8192x16, .f32⟩
  | 41 => ⟨S4x8192x32, .f32⟩
  | 42 => ⟨S4x8192x1x32, .f32⟩
  | 43 => ⟨S4x8192x8x32, .f32⟩
  | 44 => ⟨S_, .f32⟩
  | 45 => ⟨S4x8192x8x32, .f32⟩
  | 46 => ⟨S4x8192x512, .f32⟩
  | 47 => ⟨S4x512x8192, .f32⟩
  | 48 => ⟨S4x512x8192, .bf16⟩
  | 49 => ⟨S4x8192x512, .f32⟩
  | 50 => ⟨S4x512x8192, .f32⟩
  | 51 => ⟨S4x512x8192, .bf16⟩
  | 52 => ⟨S4x1024x8192, .f32⟩
  | 53 => ⟨S4x1024x8192, .bf16⟩
  | 54 => ⟨S4x8192x8x128, .f32⟩
  | 55 => ⟨S4x8x128x8192, .f32⟩
  | 56 => ⟨S4x8x128x8192, .bf16⟩
  | 57 => ⟨S4x8192x8x128, .f32⟩
  | 58 => ⟨S4x8x8192x128, .f32⟩
  | 59 => ⟨S4x8x8192x128, .bf16⟩
  | 60 => ⟨S4x8x128x8192, .f32⟩
  | 61 => ⟨S4x8x128x8192, .bf16⟩
  | _ => ⟨S4x8192x1024, .f32⟩

abbrev hbmTy (i : Nat) : BufTy := match i / 128 with
  | 0 => hbmTy0_0 i
  | 1 => hbmTy0_1 i
  | 2 => hbmTy0_2 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_3 : Ref sig .tc := ⟨.hbm, 52, rfl⟩
abbrev main_v35 : Ref sig .tc := ⟨.hbm, 53, rfl⟩
abbrev main_v36 : Ref sig .tc := ⟨.hbm, 54, rfl⟩
abbrev main_cst_4 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_5 : Ref sig .tc := ⟨.hbm, 59, rfl⟩
abbrev main_v40 : Ref sig .tc := ⟨.hbm, 60, rfl⟩
abbrev main_v41 : Ref sig .tc := ⟨.hbm, 61, rfl⟩
abbrev main_cst_6 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_7 : Ref sig .tc := ⟨.hbm, 89, rfl⟩
abbrev main_v68 : Ref sig .tc := ⟨.hbm, 90, rfl⟩
abbrev main_v69 : Ref sig .tc := ⟨.hbm, 91, rfl⟩
abbrev main_cst_8 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_9 : Ref sig .tc := ⟨.hbm, 96, rfl⟩
abbrev main_v73 : Ref sig .tc := ⟨.hbm, 97, rfl⟩
abbrev main_v74 : Ref sig .tc := ⟨.hbm, 98, rfl⟩
abbrev main_cst_10 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_cst_11 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_cst_12 : Ref sig .tc := ⟨.hbm, 128, rfl⟩
abbrev main_v102 : Ref sig .tc := ⟨.hbm, 129, rfl⟩
abbrev main_v103 : Ref sig .tc := ⟨.hbm, 130, rfl⟩
abbrev main_cst_13 : Ref sig .tc := ⟨.hbm, 131, rfl⟩
abbrev main_v104 : Ref sig .tc := ⟨.hbm, 132, rfl⟩
abbrev main_v105 : Ref sig .tc := ⟨.hbm, 133, rfl⟩
abbrev main_cst_14 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_cst_15 : Ref sig .tc := ⟨.hbm, 146, rfl⟩
abbrev main_v117 : Ref sig .tc := ⟨.hbm, 147, rfl⟩
abbrev main_v118 : Ref sig .tc := ⟨.hbm, 148, rfl⟩
abbrev main_cst_16 : Ref sig .tc := ⟨.hbm, 149, rfl⟩
abbrev main_v119 : Ref sig .tc := ⟨.hbm, 150, rfl⟩
abbrev main_v120 : Ref sig .tc := ⟨.hbm, 151, rfl⟩
abbrev main_cst_17 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_cst_18 : Ref sig .tc := ⟨.hbm, 165, rfl⟩
abbrev main_v133 : Ref sig .tc := ⟨.hbm, 166, rfl⟩
abbrev main_v134 : Ref sig .tc := ⟨.hbm, 167, rfl⟩
abbrev main_cst_19 : Ref sig .tc := ⟨.hbm, 168, rfl⟩
abbrev main_v135 : Ref sig .tc := ⟨.hbm, 169, rfl⟩
abbrev main_v136 : Ref sig .tc := ⟨.hbm, 170, rfl⟩
abbrev main_cst_20 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_cst_21 : Ref sig .tc := ⟨.hbm, 182, rfl⟩
abbrev main_v147 : Ref sig .tc := ⟨.hbm, 183, rfl⟩
abbrev main_v148 : Ref sig .tc := ⟨.hbm, 184, rfl⟩
abbrev main_cst_22 : Ref sig .tc := ⟨.hbm, 185, rfl⟩
abbrev main_v149 : Ref sig .tc := ⟨.hbm, 186, rfl⟩
abbrev main_v150 : Ref sig .tc := ⟨.hbm, 187, rfl⟩
abbrev main_cst_23 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_cst_24 : Ref sig .tc := ⟨.hbm, 198, rfl⟩
abbrev main_v160 : Ref sig .tc := ⟨.hbm, 199, rfl⟩
abbrev main_v161 : Ref sig .tc := ⟨.hbm, 200, rfl⟩
abbrev main_cst_25 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_cst_26 : Ref sig .tc := ⟨.hbm, 205, rfl⟩
abbrev main_v165 : Ref sig .tc := ⟨.hbm, 206, rfl⟩
abbrev main_v166 : Ref sig .tc := ⟨.hbm, 207, rfl⟩
abbrev main_cst_27 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩
abbrev main_cst_28 : Ref sig .tc := ⟨.hbm, 235, rfl⟩
abbrev main_v193 : Ref sig .tc := ⟨.hbm, 236, rfl⟩
abbrev main_v194 : Ref sig .tc := ⟨.hbm, 237, rfl⟩
abbrev main_cst_29 : Ref sig .tc := ⟨.hbm, 238, rfl⟩
abbrev main_v195 : Ref sig .tc := ⟨.hbm, 239, rfl⟩
abbrev main_v196 : Ref sig .tc := ⟨.hbm, 240, rfl⟩
abbrev main_cst_30 : Ref sig .tc := ⟨.hbm, 241, rfl⟩
abbrev main_v197 : Ref sig .tc := ⟨.hbm, 242, rfl⟩
abbrev main_v198 : Ref sig .tc := ⟨.hbm, 243, rfl⟩
abbrev main_v199 : Ref sig .tc := ⟨.hbm, 244, rfl⟩
abbrev main_v200 : Ref sig .tc := ⟨.hbm, 245, rfl⟩
abbrev main_v201 : Ref sig .tc := ⟨.hbm, 246, rfl⟩
abbrev main_v202 : Ref sig .tc := ⟨.hbm, 247, rfl⟩
abbrev main_v203 : Ref sig .tc := ⟨.hbm, 248, rfl⟩
abbrev main_v204 : Ref sig .tc := ⟨.hbm, 249, rfl⟩
abbrev main_v205 : Ref sig .tc := ⟨.hbm, 250, rfl⟩
abbrev main_v206 : Ref sig .tc := ⟨.hbm, 251, rfl⟩
abbrev main_cst_31 : Ref sig .tc := ⟨.hbm, 252, rfl⟩
abbrev main_v207 : Ref sig .tc := ⟨.hbm, 253, rfl⟩
abbrev main_v208 : Ref sig .tc := ⟨.hbm, 254, rfl⟩
abbrev main_cst_32 : Ref sig .tc := ⟨.hbm, 255, rfl⟩
abbrev main_v209 : Ref sig .tc := ⟨.hbm, 256, rfl⟩
abbrev main_v210 : Ref sig .tc := ⟨.hbm, 257, rfl⟩
abbrev main_cst_33 : Ref sig .tc := ⟨.hbm, 258, rfl⟩
abbrev main_v211 : Ref sig .tc := ⟨.hbm, 259, rfl⟩
abbrev main_v212 : Ref sig .tc := ⟨.hbm, 260, rfl⟩
abbrev main_v213 : Ref sig .tc := ⟨.hbm, 261, rfl⟩
abbrev main_v214 : Ref sig .tc := ⟨.hbm, 262, rfl⟩
abbrev main_v215 : Ref sig .tc := ⟨.hbm, 263, rfl⟩
abbrev main_v216 : Ref sig .tc := ⟨.hbm, 264, rfl⟩
abbrev main_v217 : Ref sig .tc := ⟨.hbm, 265, rfl⟩
abbrev main_v218 : Ref sig .tc := ⟨.hbm, 266, rfl⟩
abbrev main_v219 : Ref sig .tc := ⟨.hbm, 267, rfl⟩
abbrev main_cst_34 : Ref sig .tc := ⟨.hbm, 268, rfl⟩
abbrev main_v220 : Ref sig .tc := ⟨.hbm, 269, rfl⟩
abbrev main_v221 : Ref sig .tc := ⟨.hbm, 270, rfl⟩
abbrev main_cst_35 : Ref sig .tc := ⟨.hbm, 271, rfl⟩
abbrev main_v222 : Ref sig .tc := ⟨.hbm, 272, rfl⟩
abbrev main_v223 : Ref sig .tc := ⟨.hbm, 273, rfl⟩
abbrev main_v224 : Ref sig .tc := ⟨.hbm, 274, rfl⟩
abbrev main_cst_36 : Ref sig .tc := ⟨.hbm, 275, rfl⟩
abbrev main_v225 : Ref sig .tc := ⟨.hbm, 276, rfl⟩
abbrev main_v226 : Ref sig .tc := ⟨.hbm, 277, rfl⟩
abbrev main_cst_37 : Ref sig .tc := ⟨.hbm, 278, rfl⟩
abbrev main_v227 : Ref sig .tc := ⟨.hbm, 279, rfl⟩
abbrev main_v228 : Ref sig .tc := ⟨.hbm, 280, rfl⟩
abbrev main_v229 : Ref sig .tc := ⟨.hbm, 281, rfl⟩
abbrev main_v230 : Ref sig .tc := ⟨.hbm, 282, rfl⟩
abbrev main_v231 : Ref sig .tc := ⟨.hbm, 283, rfl⟩
abbrev main_v232 : Ref sig .tc := ⟨.hbm, 284, rfl⟩
abbrev main_v233 : Ref sig .tc := ⟨.hbm, 285, rfl⟩
abbrev main_v234 : Ref sig .tc := ⟨.hbm, 286, rfl⟩
abbrev main_v235 : Ref sig .tc := ⟨.hbm, 287, rfl⟩
abbrev main_v236 : Ref sig .tc := ⟨.hbm, 288, rfl⟩
abbrev main_v237 : Ref sig .tc := ⟨.hbm, 289, rfl⟩
abbrev main_v238 : Ref sig .tc := ⟨.hbm, 290, rfl⟩
abbrev main_v239 : Ref sig .tc := ⟨.hbm, 291, rfl⟩
abbrev main_v240 : Ref sig .tc := ⟨.hbm, 292, rfl⟩
abbrev main_v241 : Ref sig .tc := ⟨.hbm, 293, rfl⟩
abbrev main_v242 : Ref sig .tc := ⟨.hbm, 294, rfl⟩
abbrev main_v243 : Ref sig .tc := ⟨.hbm, 295, rfl⟩
abbrev main_v244 : Ref sig .tc := ⟨.hbm, 296, rfl⟩
abbrev main_v245 : Ref sig .tc := ⟨.hbm, 297, rfl⟩
abbrev main_v246 : Ref sig .tc := ⟨.hbm, 298, rfl⟩
abbrev main_v247 : Ref sig .tc := ⟨.hbm, 299, rfl⟩
abbrev main_cst_38 : Ref sig .tc := ⟨.hbm, 300, rfl⟩
abbrev main_v248 : Ref sig .tc := ⟨.hbm, 301, rfl⟩
abbrev main_v249 : Ref sig .tc := ⟨.hbm, 302, rfl⟩
abbrev main_v250 : Ref sig .tc := ⟨.hbm, 303, rfl⟩
abbrev main_v251 : Ref sig .tc := ⟨.hbm, 304, rfl⟩
abbrev main_v252 : Ref sig .tc := ⟨.hbm, 305, rfl⟩
abbrev main_v253 : Ref sig .tc := ⟨.hbm, 306, rfl⟩
abbrev main_v254 : Ref sig .tc := ⟨.hbm, 307, rfl⟩
abbrev main_v255 : Ref sig .tc := ⟨.hbm, 308, rfl⟩
abbrev main_v256 : Ref sig .tc := ⟨.hbm, 309, rfl⟩
abbrev main_v257 : Ref sig .tc := ⟨.hbm, 310, rfl⟩
abbrev main_v258 : Ref sig .tc := ⟨.hbm, 311, rfl⟩
abbrev main_v259 : Ref sig .tc := ⟨.hbm, 312, rfl⟩
abbrev main_v260 : Ref sig .tc := ⟨.hbm, 313, rfl⟩
abbrev main_v261 : Ref sig .tc := ⟨.hbm, 314, rfl⟩
abbrev main_v262 : Ref sig .tc := ⟨.hbm, 315, rfl⟩
abbrev main_v263 : Ref sig .tc := ⟨.hbm, 316, rfl⟩
abbrev main_v264 : Ref sig .tc := ⟨.hbm, 317, rfl⟩

abbrev nD : Nat := 1
abbrev τ : Topo := Topo.v7x

variable {F : FTy → Type} [FloatOps F]
-- ==== Proof.Tiles.lean ====
/- What one program of the attention kernel computes, as plain functions of its three operand blocks: the tiles it
   reads, the running maximum, the running denominator and the running numerator of the guarded path, and the two
   plain sums of the unguarded path. Nothing here mentions memory. -/
module

public import proofs.«01_k».proof.Proof.Gen.KernelIdeal.Skeleton
public import Idealize.ShloMosaic.Lib.Pipeline.Value
public import Idealize.ShloMosaic.Lib.ValueIdxCore

@[expose] public section

noncomputable section

namespace Cert.KernelIdeal.Att

open Idealize.ShloMosaic Idealize.ShloMosaic.ValueIdx
open Cert.KernelIdeal.Gen

variable {F : FTy → Type} [FloatOps F]

/-! ## Tiles -/

/-- `R` rows of the key block from row `o` on. -/
def rows {α : Type} (R : ℕ) (x : S1x1x8192x128.Idx → α) (o : ℕ) : (⟨2, ![R, 128]⟩ : Shape).Idx → α :=
  fun i => x (ix4 (0 : Fin 1) (0 : Fin 1) (⟨(o + (i 0).val) % 8192, Nat.mod_lt _ (by norm_num)⟩ : Fin 8192) (i 1 : Fin 128))

/-- `C` columns of the query block or of the value block from column `o` on. -/
def cols {α : Type} (C : ℕ) (x : S1x1x128x8192.Idx → α) (o : ℕ) : (⟨2, ![128, C]⟩ : Shape).Idx → α :=
  fun i => x (ix4 (0 : Fin 1) (0 : Fin 1) (i 0 : Fin 128) (⟨(o + (i 1).val) % 8192, Nat.mod_lt _ (by norm_num)⟩ : Fin 8192))

theorem rows_load {Val : EltTy → Type} {e : EltTy} {R : ℕ} (x : S1x1x8192x128.Idx → Val e) (o : ℕ)
    (inb : ∀ a, (![0, 0, o, 0] : Fin 4 → ℕ) a + (![1, 1, R, 128] : Fin 4 → ℕ) a ≤ S1x1x8192x128.size a)
    (h : (⟨4, ![1, 1, R, 128]⟩ : Shape).ShapeCasts ⟨2, ![R, 128]⟩) :
    shapeCast ⟨2, ![R, 128]⟩ (View.ld x (Rect.unit (s := S1x1x8192x128) ![0, 0, o, 0] ![1, 1, R, 128] inb)) h = rows R x o := by
  funext i
  rw [shapeCast_apply _ h i (ix4 (0 : Fin 1) (0 : Fin 1) (i 0 : Fin R) (i 1 : Fin 128)) (by
    rw [Shape.rowMajor_val_four, Shape.rowMajor_val_two]
    show ((0 * 1 + 0) * R + (i 0).val) * 128 + (i 1).val = (i 0).val * 128 + (i 1).val; simp)]
  refine congrArg x (funext fun a => Fin.ext ?_)
  have hi : (i 0).val < R := (i 0).isLt
  have hb : o + R ≤ 8192 := inb 2
  match a with
  | ⟨0, _⟩ => rfl
  | ⟨1, _⟩ => rfl
  | ⟨2, _⟩ =>
    show o + 1 * (i 0).val = (o + (i 0).val) % 8192
    rw [Nat.mod_eq_of_lt (by omega), Nat.one_mul]
  | ⟨3, _⟩ => show 0 + 1 * (i 1).val = (i 1).val; omega

theorem cols_load_of {Val : EltTy → Type} {e : EltTy} {C : ℕ} (x : S1x1x128x8192.Idx → Val e) (o : ℕ) (off : Fin 4 → ℕ)
    (hoff : off = ![0, 0, 0, o])
    (inb : ∀ a, off a + (![1, 1, 128, C] : Fin 4 → ℕ) a ≤ S1x1x128x8192.size a)
    (h : (⟨4, ![1, 1, 128, C]⟩ : Shape).ShapeCasts ⟨2, ![128, C]⟩) :
    shapeCast ⟨2, ![128, C]⟩ (View.ld x (Rect.unit (s := S1x1x128x8192) off ![1, 1, 128, C] inb)) h = cols C x o := by
  subst hoff
  funext i
  rw [shapeCast_apply _ h i (ix4 (0 : Fin 1) (0 : Fin 1) (i 0 : Fin 128) (i 1 : Fin C)) (by
    rw [Shape.rowMajor_val_four, Shape.rowMajor_val_two]
    show ((0 * 1 + 0) * 128 + (i 0).val) * C + (i 1).val = (i 0).val * C + (i 1).val; simp)]
  refine congrArg x (funext fun a => Fin.ext ?_)
  have hi : (i 1).val < C := (i 1).isLt
  have hb : o + C ≤ 8192 := inb 3
  match a with
  | ⟨0, _⟩ => rfl
  | ⟨1, _⟩ => rfl
  | ⟨2, _⟩ => show 0 + 1 * (i 0).val = (i 0).val; omega
  | ⟨3, _⟩ =>
    show o + 1 * (i 1).val = (o + (i 1).val) % 8192
    rw [Nat.mod_eq_of_lt (by omega), Nat.one_mul]

theorem cols_load {Val : EltTy → Type} {e : EltTy} {C : ℕ} (x : S1x1x128x8192.Idx → Val e) (o : ℕ)
    (inb : ∀ a, (![0, 0, 0, o] : Fin 4 → ℕ) a + (![1, 1, 128, C] : Fin 4 → ℕ) a ≤ S1x1x128x8192.size a)
    (h : (⟨4, ![1, 1, 128, C]⟩ : Shape).ShapeCasts ⟨2, ![128, C]⟩) :
    shapeCast ⟨2, ![128, C]⟩ (View.ld x (Rect.unit (s := S1x1x128x8192) ![0, 0, 0, o] ![1, 1, 128, C] inb)) h = cols C x o :=
  cols_load_of x o _ rfl inb h

/-! ## The guarded path: one step of the running softmax -/

/-- The scores of a tile of keys against a tile of queries. -/
def score (kt : FVec F S1024x128 .bf16) (qt : FVec F S128x512 .bf16) : FVec F S1024x512 .f32 :=
  matmul dot_S1024x128_S128x512_S1024x512_1_0_0_1_n_n none kt qt (constant S1024x512 .f32 0x00000000#32)

/-- The running maximum after a tile of scores. -/
def mstep (m : FVec F S1x512 .f32) (s : FVec F S1024x512 .f32) : FVec F S1x512 .f32 :=
  maximumf m (shapeCast S1x512 (multiReduction .maximumf [0] S512 s 0xFF800000#32 reduces_S1024x512_S512 (.inl rfl) rfl) shapeCasts_S512_S1x512)

/-- The factor that brings the sums from the earlier maximum to the later one. -/
def fac (m' m : FVec F S1x512 .f32) : FVec F S1x512 .f32 := exp2 (subf m' m)

/-- The weights of a tile under a maximum. -/
def wts (m : FVec F S1x512 .f32) (s : FVec F S1024x512 .f32) : FVec F S1024x512 .f32 :=
  exp2 (subf s (broadcastTo S1024x512 m broadcasts_S1x512_S1024x512))

/-- The denominator after a tile. -/
def lstep (m' m : FVec F S1x512 .f32) (s : FVec F S1024x512 .f32) (l : FVec F S1x512 .f32) : FVec F S1x512 .f32 :=
  addf (mulf (fac m' m) l)
    (shapeCast S1x512 (multiReduction .add [0] S512 (wts m s) 0x00000000#32 reduces_S1024x512_S512 (.inl rfl) rfl) shapeCasts_S512_S1x512)

/-- A tile of values weighted. -/
def pv (vt : FVec F S128x1024 .bf16) (p : FVec F S1024x512 .f32) : FVec F S128x512 .f32 :=
  matmul dot_S128x1024_S1024x512_S128x512_1_0_0_1_n_n none vt (truncf .bf16 p bitsLt_bf16_f32) (constant S128x512 .f32 0x00000000#32)

/-- A numerator brought to a later maximum. -/
def scl (al : FVec F S1x512 .f32) (a : FVec F S128x512 .f32) : FVec F S128x512 .f32 :=
  mulf (broadcastTo S128x512 al broadcasts_S1x512_S128x512) a

/-- The numerator after a tile. -/
def astep (m' m : FVec F S1x512 .f32) (s : FVec F S1024x512 .f32) (vt : FVec F S128x1024 .bf16) (a : FVec F S128x512 .f32) :
    FVec F S128x512 .f32 :=
  addf (scl (fac m' m) a) (pv vt (wts m s))

/-- The quotient of the two, as a tile of the result. -/
def quot (l : FVec F S1x512 .f32) (a : FVec F S128x512 .f32) : FVec F S1x128x512 .bf16 :=
  shapeCast S1x128x512
    (truncf .bf16 (mulf a (broadcastTo S128x512 (divf (broadcast S1x512 (Scalar.ofBits .f32 0x3F800000#32)) l) broadcasts_S1x512_S128x512))
      bitsLt_bf16_f32) shapeCasts_S128x512_S1x128x512

/-- The maximum over no scores. -/
def minf : FVec F S1x512 .f32 := broadcast S1x512 (Scalar.ofBits .f32 0xFF800000#32)

/-- The scores of key tile `j` against query block `n`. -/
def S (x1 : FVec F S1x1x128x8192 .bf16) (x2 : FVec F S1x1x8192x128 .bf16) (n j : ℕ) : FVec F S1024x512 .f32 :=
  score (rows 1024 x2 (1024 * j)) (cols 512 x1 (512 * n))

/-- The maximum over the first `j` key tiles. -/
def M (x1 : FVec F S1x1x128x8192 .bf16) (x2 : FVec F S1x1x8192x128 .bf16) (n : ℕ) : ℕ → FVec F S1x512 .f32
  | 0 => minf
  | j + 1 => mstep (M x1 x2 n j) (S x1 x2 n j)

/-- The denominator over the first `j` key tiles. -/
def L (x1 : FVec F S1x1x128x8192 .bf16) (x2 : FVec F S1x1x8192x128 .bf16) (n : ℕ) : ℕ → FVec F S1x512 .f32
  | 0 => broadcast S1x512 (Scalar.ofBits .f32 0x00000000#32)
  | j + 1 => lstep (M x1 x2 n j) (M x1 x2 n (j + 1)) (S x1 x2 n j) (L x1 x2 n j)

/-- The numerator over the first `j` key tiles. -/
def A (x1 : FVec F S1x1x128x8192 .bf16) (x2 : FVec F S1x1x8192x128 .bf16) (x3 : FVec F S1x1x128x8192 .bf16) (n : ℕ) :
    ℕ → FVec F S128x512 .f32
  | 0 => broadcast S128x512 (Scalar.ofBits .f32 0x00000000#32)
  | j + 1 => astep (M x1 x2 n j) (M x1 x2 n (j + 1)) (S x1 x2 n j) (cols 1024 x3 (1024 * j)) (A x1 x2 x3 n j)

/-- The result of query block `n`. -/
def out (x1 : FVec F S1x1x128x8192 .bf16) (x2 : FVec F S1x1x8192x128 .bf16) (x3 : FVec F S1x1x128x8192 .bf16) (n : ℕ) :
    FVec F S1x128x512 .bf16 :=
  quot (L x1 x2 n 8) (A x1 x2 x3 n 8)

/-- The whole block the guarded path leaves. -/
def safe (x1 : FVec F S1x1x128x8192 .bf16) (x2 : FVec F S1x1x8192x128 .bf16) (x3 : FVec F S1x1x128x8192 .bf16) :
    FVec F S1x128x8192 .bf16 :=
  fun i => out x1 x2 x3 ((i 2).val / 512)
    (ix3 (0 : Fin 1) (i 1 : Fin 128) (⟨(i 2).val % 512, Nat.mod_lt _ (by norm_num)⟩ : Fin 512))

/-! ## The unguarded path -/

/-- The weights of a tile of 4096 keys against a tile of 1024 queries. -/
def fw (kt : FVec F S4096x128 .bf16) (qt : FVec F S128x1024 .bf16) : FVec F S4096x1024 .f32 :=
  exp2 (matmul dot_S4096x128_S128x1024_S4096x1024_1_0_0_1_n_n none kt qt (constant S4096x1024 .f32 0x00000000#32))

/-- Their sums over the keys. -/
def fl (w : FVec F S4096x1024 .f32) : FVec F S1x1024 .f32 :=
  shapeCast S1x1024 (multiReduction .add [0] S1024 w 0x00000000#32 reduces_S4096x1024_S1024 (.inl rfl) rfl) shapeCasts_S1024_S1x1024

/-- A tile of values weighted. -/
def fa (vt : FVec F S128x4096 .bf16) (w : FVec F S4096x1024 .f32) : FVec F S128x1024 .f32 :=
  matmul dot_S128x4096_S4096x1024_S128x1024_1_0_0_1_n_n none vt (truncf .bf16 w bitsLt_bf16_f32) (constant S128x1024 .f32 0x00000000#32)

/-- The result of query block `n`. -/
def fout (x1 : FVec F S1x1x128x8192 .bf16) (x2 : FVec F S1x1x8192x128 .bf16) (x3 : FVec F S1x1x128x8192 .bf16) (n : ℕ) :
    FVec F S1x128x1024 .bf16 :=
  k0_pay1
    (addf (addf (broadcast S1x1024 (Scalar.ofBits .f32 0x00000000#32)) (fl (fw (rows 4096 x2 0) (cols 1024 x1 (1024 * n)))))
      (fl (fw (rows 4096 x2 4096) (cols 1024 x1 (1024 * n)))))
    (addf (addf (broadcast S128x1024 (Scalar.ofBits .f32 0x00000000#32)) (fa (cols 4096 x3 0) (fw (rows 4096 x2 0) (cols 1024 x1 (1024 * n)))))
      (fa (cols 4096 x3 4096) (fw (rows 4096 x2 4096) (cols 1024 x1 (1024 * n)))))

/-- The whole block the unguarded path leaves. -/
def fast (x1 : FVec F S1x1x128x8192 .bf16) (x2 : FVec F S1x1x8192x128 .bf16) (x3 : FVec F S1x1x128x8192 .bf16) :
    FVec F S1x128x8192 .bf16 :=
  fun i => fout x1 x2 x3 ((i 2).val / 1024)
    (ix3 (0 : Fin 1) (i 1 : Fin 128) (⟨(i 2).val % 1024, Nat.mod_lt _ (by norm_num)⟩ : Fin 1024))

end Cert.KernelIdeal.Att

end
-- ==== Proof.Trips.lean ====
/- One trip of each of the two loops, as the plain functions of `Tiles`. -/
module

public import proofs.«01_k».proof.Proof.Gen.KernelIdeal.Frame
public import proofs.«01_k».proof.Proof.Gen.KernelIdeal.Loops
public import proofs.«01_k».proof.Proof.Tiles
public import Idealize.ShloMosaic.Lib.WritesUnit

@[expose] public section

noncomputable section

namespace Cert.KernelIdeal.Att

open Idealize.ShloMosaic Idealize.ShloMosaic.TcCoe Idealize.ShloMosaic.Tactic Idealize.ShloMosaic.ValueIdx
open Idealize.SL Idealize.SL.RA Idealize.SL.BI
open Cert.KernelIdeal.Gen

variable {F : FTy → Type} [FloatOps F]

/-! ## Where a trip reads and writes -/

theorem off1_eq : ∀ k : Fin k0_t1_loop.trips, k0_off1 k = ![0, 0, 0, 1024 * k.val] := by decide +kernel
theorem off2_eq : ∀ k : Fin k0_t1_loop.trips, k0_off2 k = ![0, 0, 1024 * k.val] := by decide +kernel
theorem off3_eq : ∀ k : Fin k0_t2_loop.trips, k0_off3 k = ![0, 0, 0, 512 * k.val] := by decide +kernel
theorem off4_eq : ∀ k : Fin k0_t2_loop.trips, k0_off4 k = ![0, 0, 0, 512 * min (k.val + 1) 15] := by decide +kernel
theorem off5_eq : ∀ k : Fin k0_t2_loop.trips, k0_off5 k = ![0, 0, 512 * k.val] := by decide +kernel

theorem qload1 {Val : EltTy → Type} {e : EltTy} (x : S1x1x128x8192.Idx → Val e) (k : Fin k0_t1_loop.trips) (inb) (h) :
    shapeCast S128x1024 (View.ld x (Rect.unit (s := S1x1x128x8192) (k0_off1 k) ![1, 1, 128, 1024] inb)) h = cols 1024 x (1024 * k.val) :=
  cols_load_of x _ _ (off1_eq k) inb h
theorem qload3 {Val : EltTy → Type} {e : EltTy} (x : S1x1x128x8192.Idx → Val e) (k : Fin k0_t2_loop.trips) (inb) (h) :
    shapeCast S128x512 (View.ld x (Rect.unit (s := S1x1x128x8192) (k0_off3 k) ![1, 1, 128, 512] inb)) h = cols 512 x (512 * k.val) :=
  cols_load_of x _ _ (off3_eq k) inb h
theorem qload4 {Val : EltTy → Type} {e : EltTy} (x : S1x1x128x8192.Idx → Val e) (k : Fin k0_t2_loop.trips) (inb) (h) :
    shapeCast S128x512 (View.ld x (Rect.unit (s := S1x1x128x8192) (k0_off4 k) ![1, 1, 128, 512] inb)) h = cols 512 x (512 * min (k.val + 1) 15) :=
  cols_load_of x _ _ (off4_eq k) inb h

theorem off_zero : (![0, 0] : Fin 2 → ℕ) = fun _ => 0 := by
  funext a; match a with | ⟨0, _⟩ => rfl | ⟨1, _⟩ => rfl

theorem buf_ld {Val : EltTy → Type} {e : EltTy} (x : S1024x512.Idx → Val e) (inb) :
    View.ld x (Rect.unit (s := S1024x512) ![0, 0] ![1024, 512] inb) = x :=
  View.ld_unit_zero off_zero inb x

/-- A load of a whole score buffer reads what its last store left there. -/
theorem buf_readCov {Val : EltTy → Type} [∀ e, Nonempty (Val e)] {sig : RefSig} {κ : Kind} {sp : Space} {e : EltTy}
    (v : View sig κ sp S1024x512 e) (inb inb') (w : S1024x512.Idx → Val e) (L : List (View.Piece Val S1024x512 e)) :
    v.readCov ((⟨Rect.unit (s := S1024x512) ![0, 0] ![1024, 512] inb, w⟩ : View.Piece Val S1024x512 e) :: L)
      (Rect.unit (s := S1024x512) ![0, 0] ![1024, 512] inb').toLoadRect = w := by
  rw [View.readCov_eq_canon']
  have h := View.canon_cons_unit_zero (S := S1024x512) off_zero inb w L
  have h2 := buf_ld (View.canon ((⟨Rect.unit (s := S1024x512) ![0, 0] ![1024, 512] inb, w⟩ : View.Piece Val S1024x512 e) :: L)) inb'
  exact h2.trans h

/-- A score buffer after stores of the whole of it holds the last one. -/
theorem buf_read {Val : EltTy → Type} [∀ e, Nonempty (Val e)] {sig : RefSig} {κ : Kind} {sp : Space} {e : EltTy}
    (v : View sig κ sp S1024x512 e) (f : v.ty.Contents Val) (inb) (w : S1024x512.Idx → Val e) (L : List (View.Piece Val S1024x512 e)) :
    v.read Val (v.writes Val f ((⟨Rect.unit (s := S1024x512) ![0, 0] ![1024, 512] inb, w⟩ : View.Piece Val S1024x512 e) :: L)) = w := by
  funext y
  exact View.read_writes_cons_unit_of_mem v f inb w L y y off_zero fun a => (Nat.zero_add _).symm

theorem score_self {α : Type} (x : S1024x512.Idx → α) (h : S1024x512.ShapeCasts S1024x512) : shapeCast S1024x512 x h = x := by
  funext i; exact shapeCast_apply x h i i rfl

/-! ## The operations between the loads, folded -/

theorem pay3_eq (a : Vec F S1x1x128x1024 .bf16) (b : Vec F S1x1x4096x128 .bf16) : k0_pay3 a b = fw (shapeCast S4096x128 b shapeCasts_S1x1x4096x128_S4096x128) (shapeCast S128x1024 a shapeCasts_S1x1x128x1024_S128x1024) := rfl
theorem pay4_eq (a : Vec F S1x1x128x1024 .bf16) (b : Vec F S1x1x4096x128 .bf16) : k0_pay4 a b = fw (shapeCast S4096x128 b shapeCasts_S1x1x4096x128_S4096x128) (shapeCast S128x1024 a shapeCasts_S1x1x128x1024_S128x1024) := rfl
theorem pay5_eq (a : Vec F S1x1x128x1024 .bf16) (b b' : Vec F S1x1x4096x128 .bf16) :
    k0_pay5 a b b' = addf (addf (broadcast S1x1024 (Scalar.ofBits .f32 0x00000000#32)) (fl (k0_pay3 a b))) (fl (k0_pay4 a b')) := rfl
theorem pay6_eq (a : Vec F S1x1x128x1024 .bf16) (b : Vec F S1x1x4096x128 .bf16) (v : Vec F S1x1x128x4096 .bf16) (b' : Vec F S1x1x4096x128 .bf16) (v' : Vec F S1x1x128x4096 .bf16) :
    k0_pay6 a b v b' v' = addf (addf (broadcast S128x1024 (Scalar.ofBits .f32 0x00000000#32)) (fa (shapeCast S128x4096 v shapeCasts_S1x1x128x4096_S128x4096) (k0_pay3 a b)))
      (fa (shapeCast S128x4096 v' shapeCasts_S1x1x128x4096_S128x4096) (k0_pay4 a b')) := rfl

section
variable (arg2 : Memref sig .tc .smem S1 .i32) (harg2 : arg2.IsWhole) (arg3 : Memref sig .tc .vmem S1x1x128x8192 .bf16) (harg3 : arg3.IsWhole) (arg4 : Memref sig .tc .vmem S1x1x8192x128 .bf16) (harg4 : arg4.IsWhole) (arg5 : Memref sig .tc .vmem S1x1x128x8192 .bf16) (harg5 : arg5.IsWhole) (arg6 : Memref sig .tc .vmem S1x128x8192 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole)

/-- A trip of the unguarded loop writes one piece: its query block's result. -/
theorem tripL1 (𝒱 : Variants) (c : Dev nD) (bd : Option 𝒱.V) (i : grid0.Coords) (x1 : Vec F S1x1x128x8192 .bf16) (x2 : Vec F S1x1x8192x128 .bf16) (x3 : Vec F S1x1x128x8192 .bf16) (k : Fin k0_t1_loop.trips) :
    tripL_k0_t1 (F := F) 𝒱 c bd i arg2 harg2 arg3 harg3 arg4 harg4 arg5 harg5 arg6 harg6 arg7 harg7 arg8 harg8 arg9 harg9 arg10 harg10 (harg3.unread x1) (harg4.unread x2) (harg5.unread x3) k
      = [⟨Rect.unit (s := S1x128x8192) (k0_off2 k) S1x128x1024.size (k0_off2_inb k), fout x1 x2 x3 k.val⟩] := by
  unfold tripL_k0_t1 trip_k0_t1
  dsimp only
  simp only [trip_k0_t1.sl.r, trip_k0_t1.sl.r_1, pay5_eq, pay6_eq, pay3_eq, pay4_eq, View.readAt_eq_ld, Memref.IsWhole.read_unread, rows_load, cols_load, qload1]
  rfl
end

end Cert.KernelIdeal.Att

end
-- ==== Proof.Trip2.lean ====
/- The operations of the guarded path between two loads, folded into the plain functions of `Tiles`. -/
module

public import proofs.«01_k».proof.Proof.Trips

@[expose] public section

noncomputable section

namespace Cert.KernelIdeal.Att

open Idealize.ShloMosaic Idealize.ShloMosaic.TcCoe Idealize.ShloMosaic.Tactic Idealize.ShloMosaic.ValueIdx
open Idealize.SL Idealize.SL.RA Idealize.SL.BI
open Cert.KernelIdeal.Gen

variable {F : FTy → Type} [FloatOps F]

theorem pay7_eq (a : Vec F S1x1x1024x128 .bf16) (b : Vec F S1x1x128x512 .bf16) : k0_pay7 a b = score (shapeCast S1024x128 a shapeCasts_S1x1x1024x128_S1024x128) (shapeCast S128x512 b shapeCasts_S1x1x128x512_S128x512) := rfl
theorem pay14_eq (a : Vec F S1x1x1024x128 .bf16) (b : Vec F S1x1x128x512 .bf16) : k0_pay14 a b = score (shapeCast S1024x128 a shapeCasts_S1x1x1024x128_S1024x128) (shapeCast S128x512 b shapeCasts_S1x1x128x512_S128x512) := rfl
theorem pay22_eq (a : Vec F S1x1x1024x128 .bf16) (b : Vec F S1x1x128x512 .bf16) : k0_pay22 a b = score (shapeCast S1024x128 a shapeCasts_S1x1x1024x128_S1024x128) (shapeCast S128x512 b shapeCasts_S1x1x128x512_S128x512) := rfl
theorem pay29_eq (a : Vec F S1x1x1024x128 .bf16) (b : Vec F S1x1x128x512 .bf16) : k0_pay29 a b = score (shapeCast S1024x128 a shapeCasts_S1x1x1024x128_S1024x128) (shapeCast S128x512 b shapeCasts_S1x1x128x512_S128x512) := rfl
theorem pay36_eq (a : Vec F S1x1x1024x128 .bf16) (b : Vec F S1x1x128x512 .bf16) : k0_pay36 a b = score (shapeCast S1024x128 a shapeCasts_S1x1x1024x128_S1024x128) (shapeCast S128x512 b shapeCasts_S1x1x128x512_S128x512) := rfl
theorem pay59_eq (a : Vec F S1x1x1024x128 .bf16) (b : Vec F S1x1x128x512 .bf16) : k0_pay59 a b = score (shapeCast S1024x128 a shapeCasts_S1x1x1024x128_S1024x128) (shapeCast S128x512 b shapeCasts_S1x1x128x512_S128x512) := rfl
theorem pay64_eq (a : Vec F S1x1x1024x128 .bf16) (b : Vec F S1x1x128x512 .bf16) : k0_pay64 a b = score (shapeCast S1024x128 a shapeCasts_S1x1x1024x128_S1024x128) (shapeCast S128x512 b shapeCasts_S1x1x128x512_S128x512) := rfl
theorem pay67_eq (a : Vec F S1x1x1024x128 .bf16) (b : Vec F S1x1x128x512 .bf16) : k0_pay67 a b = score (shapeCast S1024x128 a shapeCasts_S1x1x1024x128_S1024x128) (shapeCast S128x512 b shapeCasts_S1x1x128x512_S128x512) := rfl
theorem pay43_eq (a : Vec F S1x1x1024x128 .bf16) : k0_pay43 a = shapeCast S1024x128 a shapeCasts_S1x1x1024x128_S1024x128 := rfl
theorem pay51_eq (a : Vec F S1x1x1024x128 .bf16) : k0_pay51 a = shapeCast S1024x128 a shapeCasts_S1x1x1024x128_S1024x128 := rfl
theorem pay44_eq (a : FVec F S1024x128 .bf16) (b : Vec F S1x1x128x512 .bf16) : k0_pay44 a b = score a (shapeCast S128x512 b shapeCasts_S1x1x128x512_S128x512) := rfl
theorem pay52_eq (a : FVec F S1024x128 .bf16) (b : Vec F S1x1x128x512 .bf16) : k0_pay52 a b = score a (shapeCast S128x512 b shapeCasts_S1x1x128x512_S128x512) := rfl
theorem pay8_eq (a : Vec F S1x1x1024x128 .bf16) (b : Vec F S1x1x128x512 .bf16) : k0_pay8 a b = k0_pay7 a b := score_self _ _
theorem pay15_eq (a : Vec F S1x1x1024x128 .bf16) (b : Vec F S1x1x128x512 .bf16) : k0_pay15 a b = k0_pay14 a b := score_self _ _
theorem pay23_eq (a : Vec F S1x1x1024x128 .bf16) (b : Vec F S1x1x128x512 .bf16) : k0_pay23 a b = k0_pay22 a b := score_self _ _
theorem pay30_eq (a : Vec F S1x1x1024x128 .bf16) (b : Vec F S1x1x128x512 .bf16) : k0_pay30 a b = k0_pay29 a b := score_self _ _
theorem pay37_eq (a : Vec F S1x1x1024x128 .bf16) (b : Vec F S1x1x128x512 .bf16) : k0_pay37 a b = k0_pay36 a b := score_self _ _
theorem pay65_eq (a : Vec F S1x1x1024x128 .bf16) (b : Vec F S1x1x128x512 .bf16) : k0_pay65 a b = k0_pay64 a b := score_self _ _
theorem pay68_eq (a : Vec F S1x1x1024x128 .bf16) (b : Vec F S1x1x128x512 .bf16) : k0_pay68 a b = k0_pay67 a b := score_self _ _
theorem pay45_eq (a : FVec F S1024x128 .bf16) (b : Vec F S1x1x128x512 .bf16) : k0_pay45 a b = k0_pay44 a b := score_self _ _
theorem pay53_eq (a : FVec F S1024x128 .bf16) (b : Vec F S1x1x128x512 .bf16) : k0_pay53 a b = k0_pay52 a b := score_self _ _
theorem pay60_eq (s : FVec F S1024x512 .f32) : k0_pay60 s = s := score_self _ _
theorem pay9_eq (m : FVec F S1x512 .f32) (a : Vec F S1x1x1024x128 .bf16) (b : Vec F S1x1x128x512 .bf16) : k0_pay9 m a b = mstep m (k0_pay7 a b) := rfl
theorem pay16_eq (m : FVec F S1x512 .f32) (a : Vec F S1x1x1024x128 .bf16) (b : Vec F S1x1x128x512 .bf16) : k0_pay16 m a b = mstep m (k0_pay14 a b) := rfl
theorem pay24_eq (m : FVec F S1x512 .f32) (a : Vec F S1x1x1024x128 .bf16) (b : Vec F S1x1x128x512 .bf16) : k0_pay24 m a b = mstep m (k0_pay22 a b) := rfl
theorem pay31_eq (m : FVec F S1x512 .f32) (a : Vec F S1x1x1024x128 .bf16) (b : Vec F S1x1x128x512 .bf16) : k0_pay31 m a b = mstep m (k0_pay29 a b) := rfl
theorem pay38_eq (m : FVec F S1x512 .f32) (a : Vec F S1x1x1024x128 .bf16) (b : Vec F S1x1x128x512 .bf16) : k0_pay38 m a b = mstep m (k0_pay36 a b) := rfl
theorem pay46_eq (m : FVec F S1x512 .f32) (a : FVec F S1024x128 .bf16) (b : Vec F S1x1x128x512 .bf16) : k0_pay46 m a b = mstep m (k0_pay44 a b) := rfl
theorem pay54_eq (m : FVec F S1x512 .f32) (a : FVec F S1024x128 .bf16) (b : Vec F S1x1x128x512 .bf16) : k0_pay54 m a b = mstep m (k0_pay52 a b) := rfl
theorem pay61_eq (m : FVec F S1x512 .f32) (s : FVec F S1024x512 .f32) : k0_pay61 m s = mstep m s := rfl
theorem pay10_eq (m' m : FVec F S1x512 .f32) : k0_pay10 m' m = fac m' m := rfl
theorem pay17_eq (m' m : FVec F S1x512 .f32) : k0_pay17 m' m = fac m' m := rfl
theorem pay25_eq (m' m : FVec F S1x512 .f32) : k0_pay25 m' m = fac m' m := rfl
theorem pay32_eq (m' m : FVec F S1x512 .f32) : k0_pay32 m' m = fac m' m := rfl
theorem pay39_eq (m' m : FVec F S1x512 .f32) : k0_pay39 m' m = fac m' m := rfl
theorem pay47_eq (m' m : FVec F S1x512 .f32) : k0_pay47 m' m = fac m' m := rfl
theorem pay55_eq (m' m : FVec F S1x512 .f32) : k0_pay55 m' m = fac m' m := rfl
theorem pay11_eq (m : FVec F S1x512 .f32) (s : FVec F S1024x512 .f32) : k0_pay11 m s = wts m s := rfl
theorem pay18_eq (m : FVec F S1x512 .f32) (s : FVec F S1024x512 .f32) : k0_pay18 m s = wts m s := rfl
theorem pay26_eq (m : FVec F S1x512 .f32) (s : FVec F S1024x512 .f32) : k0_pay26 m s = wts m s := rfl
theorem pay33_eq (m : FVec F S1x512 .f32) (s : FVec F S1024x512 .f32) : k0_pay33 m s = wts m s := rfl
theorem pay40_eq (m : FVec F S1x512 .f32) (s : FVec F S1024x512 .f32) : k0_pay40 m s = wts m s := rfl
theorem pay48_eq (m : FVec F S1x512 .f32) (s : FVec F S1024x512 .f32) : k0_pay48 m s = wts m s := rfl
theorem pay56_eq (m : FVec F S1x512 .f32) (s : FVec F S1024x512 .f32) : k0_pay56 m s = wts m s := rfl
theorem pay12_eq (m' m : FVec F S1x512 .f32) (s : FVec F S1024x512 .f32) : k0_pay12 m' m s = lstep m' m s (broadcast S1x512 (Scalar.ofBits .f32 0x00000000#32)) := rfl
theorem pay19_eq (m' m : FVec F S1x512 .f32) (l : FVec F S1x512 .f32) (s : FVec F S1024x512 .f32) : k0_pay19 m' m l s = lstep m' m s l := rfl
theorem pay27_eq (m' m : FVec F S1x512 .f32) (l : FVec F S1x512 .f32) (s : FVec F S1024x512 .f32) : k0_pay27 m' m l s = lstep m' m s l := rfl
theorem pay34_eq (m' m : FVec F S1x512 .f32) (l : FVec F S1x512 .f32) (s : FVec F S1024x512 .f32) : k0_pay34 m' m l s = lstep m' m s l := rfl
theorem pay41_eq (m' m : FVec F S1x512 .f32) (l : FVec F S1x512 .f32) (s : FVec F S1024x512 .f32) : k0_pay41 m' m l s = lstep m' m s l := rfl
theorem pay49_eq (m' m : FVec F S1x512 .f32) (l : FVec F S1x512 .f32) (s : FVec F S1024x512 .f32) : k0_pay49 m' m l s = lstep m' m s l := rfl
theorem pay57_eq (m' m : FVec F S1x512 .f32) (l : FVec F S1x512 .f32) (s : FVec F S1024x512 .f32) : k0_pay57 m' m l s = lstep m' m s l := rfl
theorem pay13_eq (m' m : FVec F S1x512 .f32) : k0_pay13 m' m = scl (fac m' m) (broadcast S128x512 (Scalar.ofBits .f32 0x00000000#32)) := rfl
theorem pay20_eq (m' m : FVec F S1x512 .f32) (s : FVec F S1024x512 .f32) (a : FVec F S128x512 .f32) (v : Vec F S1x1x128x1024 .bf16) : k0_pay20 m' m s a v = scl (fac m' m) (addf a (pv (shapeCast S128x1024 v shapeCasts_S1x1x128x1024_S128x1024) s)) := rfl
theorem pay21_eq (m : FVec F S1x512 .f32) (s : FVec F S1024x512 .f32) (v : Vec F S1x1x128x1024 .bf16) : k0_pay21 m s v = pv (shapeCast S128x1024 v shapeCasts_S1x1x128x1024_S128x1024) (wts m s) := rfl
theorem pay28_eq (m' m : FVec F S1x512 .f32) (a a' : FVec F S128x512 .f32) (s : FVec F S1024x512 .f32) (v : Vec F S1x1x128x1024 .bf16) : k0_pay28 m' m a a' s v = astep m' m s (shapeCast S128x1024 v shapeCasts_S1x1x128x1024_S128x1024) (addf a a') := rfl
theorem pay35_eq (m' m : FVec F S1x512 .f32) (a : FVec F S128x512 .f32) (s : FVec F S1024x512 .f32) (v : Vec F S1x1x128x1024 .bf16) : k0_pay35 m' m a s v = astep m' m s (shapeCast S128x1024 v shapeCasts_S1x1x128x1024_S128x1024) a := rfl
theorem pay42_eq (m' m : FVec F S1x512 .f32) (a : FVec F S128x512 .f32) (s : FVec F S1024x512 .f32) (v : Vec F S1x1x128x1024 .bf16) : k0_pay42 m' m a s v = astep m' m s (shapeCast S128x1024 v shapeCasts_S1x1x128x1024_S128x1024) a := rfl
theorem pay50_eq (m' m : FVec F S1x512 .f32) (a : FVec F S128x512 .f32) (s : FVec F S1024x512 .f32) (v : Vec F S1x1x128x1024 .bf16) : k0_pay50 m' m a s v = astep m' m s (shapeCast S128x1024 v shapeCasts_S1x1x128x1024_S128x1024) a := rfl
theorem pay58_eq (m' m : FVec F S1x512 .f32) (a : FVec F S128x512 .f32) (s : FVec F S1024x512 .f32) (v : Vec F S1x1x128x1024 .bf16) : k0_pay58 m' m a s v = astep m' m s (shapeCast S128x1024 v shapeCasts_S1x1x128x1024_S128x1024) a := rfl
theorem pay62_eq (m' m : FVec F S1x512 .f32) (l : FVec F S1x512 .f32) (a : FVec F S128x512 .f32) (s : FVec F S1024x512 .f32) (v : Vec F S1x1x128x1024 .bf16) : k0_pay62 m' m l a s v = quot (lstep m' m s l) (astep m' m s (shapeCast S128x1024 v shapeCasts_S1x1x128x1024_S128x1024) a) := rfl
theorem pay63_eq : (k0_pay63 : FVec F S1x512 .f32) = minf := rfl
theorem pay66_eq (a : Vec F S1x1x1024x128 .bf16) (b : Vec F S1x1x128x512 .bf16) : k0_pay66 a b = mstep minf (k0_pay64 a b) := rfl
theorem pay69_eq (a : Vec F S1x1x1024x128 .bf16) (b : Vec F S1x1x128x512 .bf16) (a' : Vec F S1x1x1024x128 .bf16) (b' : Vec F S1x1x128x512 .bf16) : k0_pay69 a b a' b' = mstep (k0_pay66 a b) (k0_pay67 a' b') := rfl
theorem foldS0 (x1 : FVec F S1x1x128x8192 .bf16) (x2 : FVec F S1x1x8192x128 .bf16) (n : ℕ) : score (rows 1024 x2 0) (cols 512 x1 (512 * n)) = S x1 x2 n 0 := rfl
theorem foldM0 (x1 : FVec F S1x1x128x8192 .bf16) (x2 : FVec F S1x1x8192x128 .bf16) (n : ℕ) : mstep minf (S x1 x2 n 0) = M x1 x2 n 1 := rfl
theorem foldL0 (x1 : FVec F S1x1x128x8192 .bf16) (x2 : FVec F S1x1x8192x128 .bf16) (n : ℕ) : lstep minf (M x1 x2 n 1) (S x1 x2 n 0) (broadcast S1x512 (Scalar.ofBits .f32 0x00000000#32)) = L x1 x2 n 1 := rfl
theorem foldA0 (x1 : FVec F S1x1x128x8192 .bf16) (x2 : FVec F S1x1x8192x128 .bf16) (x3 : FVec F S1x1x128x8192 .bf16) (n : ℕ) : addf (scl (fac minf (M x1 x2 n 1)) (broadcast S128x512 (Scalar.ofBits .f32 0x00000000#32))) (pv (cols 1024 x3 0) (wts (M x1 x2 n 1) (S x1 x2 n 0))) = A x1 x2 x3 n 1 := rfl
theorem foldS1 (x1 : FVec F S1x1x128x8192 .bf16) (x2 : FVec F S1x1x8192x128 .bf16) (n : ℕ) : score (rows 1024 x2 1024) (cols 512 x1 (512 * n)) = S x1 x2 n 1 := rfl
theorem foldM1 (x1 : FVec F S1x1x128x8192 .bf16) (x2 : FVec F S1x1x8192x128 .bf16) (n : ℕ) : mstep (M x1 x2 n 1) (S x1 x2 n 1) = M x1 x2 n 2 := rfl
theorem foldL1 (x1 : FVec F S1x1x128x8192 .bf16) (x2 : FVec F S1x1x8192x128 .bf16) (n : ℕ) : lstep (M x1 x2 n 1) (M x1 x2 n 2) (S x1 x2 n 1) (L x1 x2 n 1) = L x1 x2 n 2 := rfl
theorem foldA1 (x1 : FVec F S1x1x128x8192 .bf16) (x2 : FVec F S1x1x8192x128 .bf16) (x3 : FVec F S1x1x128x8192 .bf16) (n : ℕ) : addf (scl (fac (M x1 x2 n 1) (M x1 x2 n 2)) (A x1 x2 x3 n 1)) (pv (cols 1024 x3 1024) (wts (M x1 x2 n 2) (S x1 x2 n 1))) = A x1 x2 x3 n 2 := rfl
theorem foldS2 (x1 : FVec F S1x1x128x8192 .bf16) (x2 : FVec F S1x1x8192x128 .bf16) (n : ℕ) : score (rows 1024 x2 2048) (cols 512 x1 (512 * n)) = S x1 x2 n 2 := rfl
theorem foldM2 (x1 : FVec F S1x1x128x8192 .bf16) (x2 : FVec F S1x1x8192x128 .bf16) (n : ℕ) : mstep (M x1 x2 n 2) (S x1 x2 n 2) = M x1 x2 n 3 := rfl
theorem foldL2 (x1 : FVec F S1x1x128x8192 .bf16) (x2 : FVec F S1x1x8192x128 .bf16) (n : ℕ) : lstep (M x1 x2 n 2) (M x1 x2 n 3) (S x1 x2 n 2) (L x1 x2 n 2) = L x1 x2 n 3 := rfl
theorem foldA2 (x1 : FVec F S1x1x128x8192 .bf16) (x2 : FVec F S1x1x8192x128 .bf16) (x3 : FVec F S1x1x128x8192 .bf16) (n : ℕ) : addf (scl (fac (M x1 x2 n 2) (M x1 x2 n 3)) (A x1 x2 x3 n 2)) (pv (cols 1024 x3 2048) (wts (M x1 x2 n 3) (S x1 x2 n 2))) = A x1 x2 x3 n 3 := rfl
theorem foldS3 (x1 : FVec F S1x1x128x8192 .bf16) (x2 : FVec F S1x1x8192x128 .bf16) (n : ℕ) : score (rows 1024 x2 3072) (cols 512 x1 (512 * n)) = S x1 x2 n 3 := rfl
theorem foldM3 (x1 : FVec F S1x1x128x8192 .bf16) (x2 : FVec F S1x1x8192x128 .bf16) (n : ℕ) : mstep (M x1 x2 n 3) (S x1 x2 n 3) = M x1 x2 n 4 := rfl
theorem foldL3 (x1 : FVec F S1x1x128x8192 .bf16) (x2 : FVec F S1x1x8192x128 .bf16) (n : ℕ) : lstep (M x1 x2 n 3) (M x1 x2 n 4) (S x1 x2 n 3) (L x1 x2 n 3) = L x1 x2 n 4 := rfl
theorem foldA3 (x1 : FVec F S1x1x128x8192 .bf16) (x2 : FVec F S1x1x8192x128 .bf16) (x3 : FVec F S1x1x128x8192 .bf16) (n : ℕ) : addf (scl (fac (M x1 x2 n 3) (M x1 x2 n 4)) (A x1 x2 x3 n 3)) (pv (cols 1024 x3 3072) (wts (M x1 x2 n 4) (S x1 x2 n 3))) = A x1 x2 x3 n 4 := rfl
theorem foldS4 (x1 : FVec F S1x1x128x8192 .bf16) (x2 : FVec F S1x1x8192x128 .bf16) (n : ℕ) : score (rows 1024 x2 4096) (cols 512 x1 (512 * n)) = S x1 x2 n 4 := rfl
theorem foldM4 (x1 : FVec F S1x1x128x8192 .bf16) (x2 : FVec F S1x1x8192x128 .bf16) (n : ℕ) : mstep (M x1 x2 n 4) (S x1 x2 n 4) = M x1 x2 n 5 := rfl
theorem foldL4 (x1 : FVec F S1x1x128x8192 .bf16) (x2 : FVec F S1x1x8192x128 .bf16) (n : ℕ) : lstep (M x1 x2 n 4) (M x1 x2 n 5) (S x1 x2 n 4) (L x1 x2 n 4) = L x1 x2 n 5 := rfl
theorem foldA4 (x1 : FVec F S1x1x128x8192 .bf16) (x2 : FVec F S1x1x8192x128 .bf16) (x3 : FVec F S1x1x128x8192 .bf16) (n : ℕ) : addf (scl (fac (M x1 x2 n 4) (M x1 x2 n 5)) (A x1 x2 x3 n 4)) (pv (cols 1024 x3 4096) (wts (M x1 x2 n 5) (S x1 x2 n 4))) = A x1 x2 x3 n 5 := rfl
theorem foldS5 (x1 : FVec F S1x1x128x8192 .bf16) (x2 : FVec F S1x1x8192x128 .bf16) (n : ℕ) : score (rows 1024 x2 5120) (cols 512 x1 (512 * n)) = S x1 x2 n 5 := rfl
theorem foldM5 (x1 : FVec F S1x1x128x8192 .bf16) (x2 : FVec F S1x1x8192x128 .bf16) (n : ℕ) : mstep (M x1 x2 n 5) (S x1 x2 n 5) = M x1 x2 n 6 := rfl
theorem foldL5 (x1 : FVec F S1x1x128x8192 .bf16) (x2 : FVec F S1x1x8192x128 .bf16) (n : ℕ) : lstep (M x1 x2 n 5) (M x1 x2 n 6) (S x1 x2 n 5) (L x1 x2 n 5) = L x1 x2 n 6 := rfl
theorem foldA5 (x1 : FVec F S1x1x128x8192 .bf16) (x2 : FVec F S1x1x8192x128 .bf16) (x3 : FVec F S1x1x128x8192 .bf16) (n : ℕ) : addf (scl (fac (M x1 x2 n 5) (M x1 x2 n 6)) (A x1 x2 x3 n 5)) (pv (cols 1024 x3 5120) (wts (M x1 x2 n 6) (S x1 x2 n 5))) = A x1 x2 x3 n 6 := rfl
theorem foldS6 (x1 : FVec F S1x1x128x8192 .bf16) (x2 : FVec F S1x1x8192x128 .bf16) (n : ℕ) : score (rows 1024 x2 6144) (cols 512 x1 (512 * n)) = S x1 x2 n 6 := rfl
theorem foldM6 (x1 : FVec F S1x1x128x8192 .bf16) (x2 : FVec F S1x1x8192x128 .bf16) (n : ℕ) : mstep (M x1 x2 n 6) (S x1 x2 n 6) = M x1 x2 n 7 := rfl
theorem foldL6 (x1 : FVec F S1x1x128x8192 .bf16) (x2 : FVec F S1x1x8192x128 .bf16) (n : ℕ) : lstep (M x1 x2 n 6) (M x1 x2 n 7) (S x1 x2 n 6) (L x1 x2 n 6) = L x1 x2 n 7 := rfl
theorem foldA6 (x1 : FVec F S1x1x128x8192 .bf16) (x2 : FVec F S1x1x8192x128 .bf16) (x3 : FVec F S1x1x128x8192 .bf16) (n : ℕ) : addf (scl (fac (M x1 x2 n 6) (M x1 x2 n 7)) (A x1 x2 x3 n 6)) (pv (cols 1024 x3 6144) (wts (M x1 x2 n 7) (S x1 x2 n 6))) = A x1 x2 x3 n 7 := rfl
theorem foldS7 (x1 : FVec F S1x1x128x8192 .bf16) (x2 : FVec F S1x1x8192x128 .bf16) (n : ℕ) : score (rows 1024 x2 7168) (cols 512 x1 (512 * n)) = S x1 x2 n 7 := rfl
theorem foldM7 (x1 : FVec F S1x1x128x8192 .bf16) (x2 : FVec F S1x1x8192x128 .bf16) (n : ℕ) : mstep (M x1 x2 n 7) (S x1 x2 n 7) = M x1 x2 n 8 := rfl
theorem foldL7 (x1 : FVec F S1x1x128x8192 .bf16) (x2 : FVec F S1x1x8192x128 .bf16) (n : ℕ) : lstep (M x1 x2 n 7) (M x1 x2 n 8) (S x1 x2 n 7) (L x1 x2 n 7) = L x1 x2 n 8 := rfl
theorem foldA7 (x1 : FVec F S1x1x128x8192 .bf16) (x2 : FVec F S1x1x8192x128 .bf16) (x3 : FVec F S1x1x128x8192 .bf16) (n : ℕ) : addf (scl (fac (M x1 x2 n 7) (M x1 x2 n 8)) (A x1 x2 x3 n 7)) (pv (cols 1024 x3 7168) (wts (M x1 x2 n 8) (S x1 x2 n 7))) = A x1 x2 x3 n 8 := rfl
theorem foldOut (x1 : FVec F S1x1x128x8192 .bf16) (x2 : FVec F S1x1x8192x128 .bf16) (x3 : FVec F S1x1x128x8192 .bf16) (n : ℕ) : quot (L x1 x2 n 8) (A x1 x2 x3 n 8) = out x1 x2 x3 n := rfl

variable (arg2 : Memref sig .tc .smem S1 .i32) (harg2 : arg2.IsWhole) (arg3 : Memref sig .tc .vmem S1x1x128x8192 .bf16) (harg3 : arg3.IsWhole) (arg4 : Memref sig .tc .vmem S1x1x8192x128 .bf16) (harg4 : arg4.IsWhole) (arg5 : Memref sig .tc .vmem S1x1x128x8192 .bf16) (harg5 : arg5.IsWhole) (arg6 : Memref sig .tc .vmem S1x128x8192 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole)

set_option maxHeartbeats 1000000 in
/-- A trip of the guarded loop, entered with the first two maxima of its query block and the first two score tiles in
    the first two buffers: the piece it writes is its query block's result, and it leaves the first two maxima and
    score tiles of the next. -/
theorem trip2 (𝒱 : Variants) (c : Dev nD) (bd : Option 𝒱.V) (i : grid0.Coords) (x1 : Vec F S1x1x128x8192 .bf16) (x2 : Vec F S1x1x8192x128 .bf16) (x3 : Vec F S1x1x128x8192 .bf16) (k : Fin k0_t2_loop.trips)
    (c0 : BitVec 32) (acc : FVec F S1x512 .f32 × FVec F S1x512 .f32) (f6 f7 f8 f9 f10)
    (h1 : acc.1 = M x1 x2 k.val 1) (h2 : acc.2 = M x1 x2 k.val 2)
    (h7 : arg7.view.read (Elt F) f7 = S x1 x2 k.val 0) (h8 : arg8.view.read (Elt F) f8 = S x1 x2 k.val 1) :
    (tripL_k0_t2 (F := F) 𝒱 c bd i arg2 harg2 arg3 harg3 arg4 harg4 arg5 harg5 arg6 harg6 arg7 harg7 arg8 harg8 arg9 harg9 arg10 harg10 minf c0 (harg3.unread x1) (harg4.unread x2) (harg5.unread x3) k acc f6 f7 f8 f9 f10).1
        = [⟨Rect.unit (s := S1x128x8192) (k0_off5 k) S1x128x512.size (k0_off5_inb k), out x1 x2 x3 k.val⟩]
      ∧ tripR_k0_t2 (F := F) 𝒱 c bd i arg2 harg2 arg3 harg3 arg4 harg4 arg5 harg5 arg6 harg6 arg7 harg7 arg8 harg8 arg9 harg9 arg10 harg10 minf c0 (harg3.unread x1) (harg4.unread x2) (harg5.unread x3) k acc f6 f7 f8 f9 f10
        = (M x1 x2 (min (k.val + 1) 15) 1, M x1 x2 (min (k.val + 1) 15) 2)
      ∧ arg7.view.read (Elt F) (arg7.view.writes (Elt F) f7 (tripL_k0_t2 (F := F) 𝒱 c bd i arg2 harg2 arg3 harg3 arg4 harg4 arg5 harg5 arg6 harg6 arg7 harg7 arg8 harg8 arg9 harg9 arg10 harg10 minf c0 (harg3.unread x1) (harg4.unread x2) (harg5.unread x3) k acc f6 f7 f8 f9 f10).2.1) = S x1 x2 (min (k.val + 1) 15) 0
      ∧ arg8.view.read (Elt F) (arg8.view.writes (Elt F) f8 (tripL_k0_t2 (F := F) 𝒱 c bd i arg2 harg2 arg3 harg3 arg4 harg4 arg5 harg5 arg6 harg6 arg7 harg7 arg8 harg8 arg9 harg9 arg10 harg10 minf c0 (harg3.unread x1) (harg4.unread x2) (harg5.unread x3) k acc f6 f7 f8 f9 f10).2.2.1) = S x1 x2 (min (k.val + 1) 15) 1 := by
  unfold tripL_k0_t2 tripR_k0_t2 trip_k0_t2
  dsimp only
  refine ⟨?_, ?_, ?_, ?_⟩
  · simp only [trip_k0_t2.sl.r, trip_k0_t2.sl.r_1, trip_k0_t2.sl.r_2, trip_k0_t2.sl.r_3, trip_k0_t2.sl.r_4, trip_k0_t2.sl.r_5, trip_k0_t2.sl.r_6, trip_k0_t2.sl.r_7, trip_k0_t2.sl.r_8, trip_k0_t2.sl.r_9, trip_k0_t2.sl.r_10, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_20, trip_k0_t2.sl.r_21, trip_k0_t2.sl.r_22, trip_k0_t2.sl.r_23, trip_k0_t2.sl.r_24, trip_k0_t2.sl.r_25, trip_k0_t2.sl.r_26, trip_k0_t2.sl.r_27, trip_k0_t2.sl.r_28, trip_k0_t2.sl.v132, trip_k0_t2.sl.v167, trip_k0_t2.sl.v202, trip_k0_t2.sl.v223, trip_k0_t2.sl.v237, trip_k0_t2.sl.v272, trip_k0_t2.sl.v307, trip_k0_t2.sl.HW_arg7_1, trip_k0_t2.sl.HW_arg8_1, trip_k0_t2.sl.HW_arg9_1, trip_k0_t2.sl.HW_arg9_2, trip_k0_t2.sl.HW_arg10_1, trip_k0_t2.sl.HW_arg10_2,
      pay7_eq, pay14_eq, pay22_eq, pay29_eq, pay36_eq, pay59_eq, pay64_eq, pay67_eq, pay43_eq, pay51_eq, pay44_eq, pay52_eq, pay8_eq, pay15_eq, pay23_eq, pay30_eq, pay37_eq, pay65_eq, pay68_eq, pay45_eq, pay53_eq, pay60_eq, pay9_eq, pay16_eq, pay24_eq, pay31_eq, pay38_eq, pay46_eq, pay54_eq, pay61_eq, pay10_eq, pay17_eq, pay25_eq, pay32_eq, pay39_eq, pay47_eq, pay55_eq, pay11_eq, pay18_eq, pay26_eq, pay33_eq, pay40_eq, pay48_eq, pay56_eq, pay12_eq, pay19_eq, pay27_eq, pay34_eq, pay41_eq, pay49_eq, pay57_eq, pay13_eq, pay20_eq, pay21_eq, pay28_eq, pay35_eq, pay42_eq, pay50_eq, pay58_eq, pay62_eq, pay63_eq, pay66_eq, pay69_eq, View.readAt_eq_ld, Memref.IsWhole.read_unread, rows_load, cols_load, qload3, qload4, buf_readCov, buf_ld, h1, h2, h7, h8,
      astep, foldS0, foldM0, foldL0, foldA0, foldS1, foldM1, foldL1, foldA1, foldS2, foldM2, foldL2, foldA2, foldS3, foldM3, foldL3, foldA3, foldS4, foldM4, foldL4, foldA4, foldS5, foldM5, foldL5, foldA5, foldS6, foldM6, foldL6, foldA6, foldS7, foldM7, foldL7, foldA7, foldOut]
  · simp only [trip_k0_t2.sl.r, trip_k0_t2.sl.r_1, trip_k0_t2.sl.r_2, trip_k0_t2.sl.r_3, trip_k0_t2.sl.r_4, trip_k0_t2.sl.r_5, trip_k0_t2.sl.r_6, trip_k0_t2.sl.r_7, trip_k0_t2.sl.r_8, trip_k0_t2.sl.r_9, trip_k0_t2.sl.r_10, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_20, trip_k0_t2.sl.r_21, trip_k0_t2.sl.r_22, trip_k0_t2.sl.r_23, trip_k0_t2.sl.r_24, trip_k0_t2.sl.r_25, trip_k0_t2.sl.r_26, trip_k0_t2.sl.r_27, trip_k0_t2.sl.r_28, trip_k0_t2.sl.v132, trip_k0_t2.sl.v167, trip_k0_t2.sl.v202, trip_k0_t2.sl.v223, trip_k0_t2.sl.v237, trip_k0_t2.sl.v272, trip_k0_t2.sl.v307, trip_k0_t2.sl.HW_arg7_1, trip_k0_t2.sl.HW_arg8_1, trip_k0_t2.sl.HW_arg9_1, trip_k0_t2.sl.HW_arg9_2, trip_k0_t2.sl.HW_arg10_1, trip_k0_t2.sl.HW_arg10_2,
      pay7_eq, pay14_eq, pay22_eq, pay29_eq, pay36_eq, pay59_eq, pay64_eq, pay67_eq, pay43_eq, pay51_eq, pay44_eq, pay52_eq, pay8_eq, pay15_eq, pay23_eq, pay30_eq, pay37_eq, pay65_eq, pay68_eq, pay45_eq, pay53_eq, pay60_eq, pay9_eq, pay16_eq, pay24_eq, pay31_eq, pay38_eq, pay46_eq, pay54_eq, pay61_eq, pay10_eq, pay17_eq, pay25_eq, pay32_eq, pay39_eq, pay47_eq, pay55_eq, pay11_eq, pay18_eq, pay26_eq, pay33_eq, pay40_eq, pay48_eq, pay56_eq, pay12_eq, pay19_eq, pay27_eq, pay34_eq, pay41_eq, pay49_eq, pay57_eq, pay13_eq, pay20_eq, pay21_eq, pay28_eq, pay35_eq, pay42_eq, pay50_eq, pay58_eq, pay62_eq, pay63_eq, pay66_eq, pay69_eq, View.readAt_eq_ld, Memref.IsWhole.read_unread, rows_load, cols_load, qload3, qload4, buf_readCov, buf_ld, h1, h2, h7, h8,
      foldS0, foldM0, foldL0, foldA0, foldS1, foldM1, foldL1, foldA1, foldS2, foldM2, foldL2, foldA2, foldS3, foldM3, foldL3, foldA3, foldS4, foldM4, foldL4, foldA4, foldS5, foldM5, foldL5, foldA5, foldS6, foldM6, foldL6, foldA6, foldS7, foldM7, foldL7, foldA7]
  · simp only [trip_k0_t2.sl.r, trip_k0_t2.sl.r_1, trip_k0_t2.sl.r_2, trip_k0_t2.sl.r_3, trip_k0_t2.sl.r_4, trip_k0_t2.sl.r_5, trip_k0_t2.sl.r_6, trip_k0_t2.sl.r_7, trip_k0_t2.sl.r_8, trip_k0_t2.sl.r_9, trip_k0_t2.sl.r_10, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_20, trip_k0_t2.sl.r_21, trip_k0_t2.sl.r_22, trip_k0_t2.sl.r_23, trip_k0_t2.sl.r_24, trip_k0_t2.sl.r_25, trip_k0_t2.sl.r_26, trip_k0_t2.sl.r_27, trip_k0_t2.sl.r_28, trip_k0_t2.sl.v132, trip_k0_t2.sl.v167, trip_k0_t2.sl.v202, trip_k0_t2.sl.v223, trip_k0_t2.sl.v237, trip_k0_t2.sl.v272, trip_k0_t2.sl.v307, trip_k0_t2.sl.HW_arg7_1, trip_k0_t2.sl.HW_arg8_1, trip_k0_t2.sl.HW_arg9_1, trip_k0_t2.sl.HW_arg9_2, trip_k0_t2.sl.HW_arg10_1, trip_k0_t2.sl.HW_arg10_2,
      pay7_eq, pay14_eq, pay22_eq, pay29_eq, pay36_eq, pay59_eq, pay64_eq, pay67_eq, pay43_eq, pay51_eq, pay44_eq, pay52_eq, pay8_eq, pay15_eq, pay23_eq, pay30_eq, pay37_eq, pay65_eq, pay68_eq, pay45_eq, pay53_eq, pay60_eq, pay9_eq, pay16_eq, pay24_eq, pay31_eq, pay38_eq, pay46_eq, pay54_eq, pay61_eq, pay10_eq, pay17_eq, pay25_eq, pay32_eq, pay39_eq, pay47_eq, pay55_eq, pay11_eq, pay18_eq, pay26_eq, pay33_eq, pay40_eq, pay48_eq, pay56_eq, pay12_eq, pay19_eq, pay27_eq, pay34_eq, pay41_eq, pay49_eq, pay57_eq, pay13_eq, pay20_eq, pay21_eq, pay28_eq, pay35_eq, pay42_eq, pay50_eq, pay58_eq, pay62_eq, pay63_eq, pay66_eq, pay69_eq, View.readAt_eq_ld, Memref.IsWhole.read_unread, rows_load, cols_load, qload3, qload4, buf_read, foldS0, foldS1]
  · simp only [trip_k0_t2.sl.r, trip_k0_t2.sl.r_1, trip_k0_t2.sl.r_2, trip_k0_t2.sl.r_3, trip_k0_t2.sl.r_4, trip_k0_t2.sl.r_5, trip_k0_t2.sl.r_6, trip_k0_t2.sl.r_7, trip_k0_t2.sl.r_8, trip_k0_t2.sl.r_9, trip_k0_t2.sl.r_10, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_20, trip_k0_t2.sl.r_21, trip_k0_t2.sl.r_22, trip_k0_t2.sl.r_23, trip_k0_t2.sl.r_24, trip_k0_t2.sl.r_25, trip_k0_t2.sl.r_26, trip_k0_t2.sl.r_27, trip_k0_t2.sl.r_28, trip_k0_t2.sl.v132, trip_k0_t2.sl.v167, trip_k0_t2.sl.v202, trip_k0_t2.sl.v223, trip_k0_t2.sl.v237, trip_k0_t2.sl.v272, trip_k0_t2.sl.v307, trip_k0_t2.sl.HW_arg7_1, trip_k0_t2.sl.HW_arg8_1, trip_k0_t2.sl.HW_arg9_1, trip_k0_t2.sl.HW_arg9_2, trip_k0_t2.sl.HW_arg10_1, trip_k0_t2.sl.HW_arg10_2,
      pay7_eq, pay14_eq, pay22_eq, pay29_eq, pay36_eq, pay59_eq, pay64_eq, pay67_eq, pay43_eq, pay51_eq, pay44_eq, pay52_eq, pay8_eq, pay15_eq, pay23_eq, pay30_eq, pay37_eq, pay65_eq, pay68_eq, pay45_eq, pay53_eq, pay60_eq, pay9_eq, pay16_eq, pay24_eq, pay31_eq, pay38_eq, pay46_eq, pay54_eq, pay61_eq, pay10_eq, pay17_eq, pay25_eq, pay32_eq, pay39_eq, pay47_eq, pay55_eq, pay11_eq, pay18_eq, pay26_eq, pay33_eq, pay40_eq, pay48_eq, pay56_eq, pay12_eq, pay19_eq, pay27_eq, pay34_eq, pay41_eq, pay49_eq, pay57_eq, pay13_eq, pay20_eq, pay21_eq, pay28_eq, pay35_eq, pay42_eq, pay50_eq, pay58_eq, pay62_eq, pay63_eq, pay66_eq, pay69_eq, View.readAt_eq_ld, Memref.IsWhole.read_unread, rows_load, cols_load, qload3, qload4, buf_read, foldS0, foldS1]

end Cert.KernelIdeal.Att

end
-- ==== Proof.Loops.lean ====
/- What the two loops leave in the result block. -/
module

public import proofs.«01_k».proof.Proof.Trip2

@[expose] public section

noncomputable section

namespace Cert.KernelIdeal.Att

open Idealize.ShloMosaic Idealize.ShloMosaic.TcCoe Idealize.ShloMosaic.Tactic Idealize.ShloMosaic.ValueIdx
open Idealize.SL Idealize.SL.RA Idealize.SL.BI
open Cert.KernelIdeal.Gen

variable {F : FTy → Type} [FloatOps F]

/-- One more column block of the result written: where it lies the block reads it, before it the earlier ones. -/
theorem colstep {α : Type} {Val : EltTy → Type} {sig : RefSig} {κ : Kind} {sp : Space} {e : EltTy} {C : ℕ} (hC : 0 < C)
    (v : View sig κ sp S1x128x8192 e) (f : v.ty.Contents Val) (k : ℕ) {off : Fin 3 → ℕ} (hoff : off = ![0, 0, C * k])
    (inb : ∀ a, off a + (![1, 128, C] : Fin 3 → ℕ) a ≤ S1x128x8192.size a) (w : ℕ → (⟨3, ![1, 128, C]⟩ : Shape).Idx → Val e)
    (Ls : List (View.Piece Val S1x128x8192 e))
    (ih : ∀ y : S1x128x8192.Idx, (y 2).val < C * k → v.read Val (v.writes Val f Ls) y
      = w ((y 2).val / C) (ix3 (0 : Fin 1) (y 1 : Fin 128) (⟨(y 2).val % C, Nat.mod_lt _ hC⟩ : Fin C)))
    (y : S1x128x8192.Idx) (hy : (y 2).val < C * (k + 1)) :
    v.read Val (v.writes Val f ((⟨Rect.unit (s := S1x128x8192) off ![1, 128, C] inb, w k⟩ : View.Piece Val S1x128x8192 e) :: Ls)) y
      = w ((y 2).val / C) (ix3 (0 : Fin 1) (y 1 : Fin 128) (⟨(y 2).val % C, Nat.mod_lt _ hC⟩ : Fin C)) := by
  by_cases h : (y 2).val < C * k
  · rw [View.read_writes_cons_unit_of_not_mem v f inb (w k) Ls y hoff 2 (Or.inl h)]
    exact ih y h
  · have hd : (y 2).val = C * k + ((y 2).val - C * k) := by omega
    have hlt : (y 2).val - C * k < C := by rw [Nat.mul_succ] at hy; omega
    have hq : (y 2).val / C = k := by
      rw [hd, Nat.mul_add_div hC, Nat.div_eq_of_lt hlt, Nat.add_zero]
    have hm : (y 2).val % C = (y 2).val - C * k := by
      conv_lhs => rw [hd]
      rw [Nat.mul_add_mod, Nat.mod_eq_of_lt hlt]
    rw [hq, View.read_writes_cons_unit_of_mem v f inb (w k) Ls y
      (ix3 (0 : Fin 1) (y 1 : Fin 128) (⟨(y 2).val % C, Nat.mod_lt _ hC⟩ : Fin C)) hoff]
    intro a
    match a with
    | ⟨0, _⟩ => have h0 : (y 0).val < 1 := (y 0).isLt; show (y 0).val = 0 + 0; omega
    | ⟨1, _⟩ => show (y 1).val = 0 + (y 1).val; omega
    | ⟨2, _⟩ => show (y 2).val = C * k + (y 2).val % C; omega

theorem trips1 : k0_t1_loop.trips = 8 := by decide +kernel
theorem trips2 : k0_t2_loop.trips = 16 := by decide +kernel

variable (arg2 : Memref sig .tc .smem S1 .i32) (harg2 : arg2.IsWhole) (arg3 : Memref sig .tc .vmem S1x1x128x8192 .bf16) (harg3 : arg3.IsWhole) (arg4 : Memref sig .tc .vmem S1x1x8192x128 .bf16) (harg4 : arg4.IsWhole) (arg5 : Memref sig .tc .vmem S1x1x128x8192 .bf16) (harg5 : arg5.IsWhole) (arg6 : Memref sig .tc .vmem S1x128x8192 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole)

theorem loop1_upto (𝒱 : Variants) (c : Dev nD) (bd : Option 𝒱.V) (i : grid0.Coords) (x1 : Vec F S1x1x128x8192 .bf16) (x2 : Vec F S1x1x8192x128 .bf16) (x3 : Vec F S1x1x128x8192 .bf16)
    (f : arg6.view.ty.Contents (Elt F)) : ∀ k : ℕ, k ≤ 8 → ∀ y : S1x128x8192.Idx, (y 2).val < 1024 * k →
    arg6.view.read (Elt F) (arg6.view.writes (Elt F) f (pb_k0_t1 (F := F) 𝒱 c bd i arg2 harg2 arg3 harg3 arg4 harg4 arg5 harg5 arg6 harg6 arg7 harg7 arg8 harg8 arg9 harg9 arg10 harg10 (harg3.unread x1) (harg4.unread x2) (harg5.unread x3) k)) y
      = fast x1 x2 x3 y
  | 0, _, y, hy => absurd hy (by omega)
  | k + 1, hk, y, hy => by
    have ht : k < k0_t1_loop.trips := by rw [trips1]; omega
    rw [pb_k0_t1_succ (F := F) 𝒱 c bd i arg2 harg2 arg3 harg3 arg4 harg4 arg5 harg5 arg6 harg6 arg7 harg7 arg8 harg8 arg9 harg9 arg10 harg10 (harg3.unread x1) (harg4.unread x2) (harg5.unread x3) ⟨k, ht⟩, tripL1]
    exact colstep (α := Unit) (by norm_num) arg6.view f k (off2_eq ⟨k, ht⟩) _ (fout x1 x2 x3) _
      (loop1_upto 𝒱 c bd i x1 x2 x3 f k (by omega)) y hy

/-- The unguarded loop leaves the block `fast`. -/
theorem loop1 (𝒱 : Variants) (c : Dev nD) (bd : Option 𝒱.V) (i : grid0.Coords) (x1 : Vec F S1x1x128x8192 .bf16) (x2 : Vec F S1x1x8192x128 .bf16) (x3 : Vec F S1x1x128x8192 .bf16)
    (f : arg6.view.ty.Contents (Elt F)) :
    arg6.view.read (Elt F) (arg6.view.writes (Elt F) f (pb_k0_t1 (F := F) 𝒱 c bd i arg2 harg2 arg3 harg3 arg4 harg4 arg5 harg5 arg6 harg6 arg7 harg7 arg8 harg8 arg9 harg9 arg10 harg10 (harg3.unread x1) (harg4.unread x2) (harg5.unread x3) k0_t1_loop.trips))
      = fast x1 x2 x3 := by
  rw [trips1]
  funext y
  exact loop1_upto arg2 harg2 arg3 harg3 arg4 harg4 arg5 harg5 arg6 harg6 arg7 harg7 arg8 harg8 arg9 harg9 arg10 harg10 𝒱 c bd i x1 x2 x3 f 8 le_rfl y (y 2).isLt

theorem loop2_upto (𝒱 : Variants) (c : Dev nD) (bd : Option 𝒱.V) (i : grid0.Coords) (x1 : Vec F S1x1x128x8192 .bf16) (x2 : Vec F S1x1x8192x128 .bf16) (x3 : Vec F S1x1x128x8192 .bf16)
    (c0 : BitVec 32) (init : FVec F S1x512 .f32 × FVec F S1x512 .f32) (f6 f7 f8 f9 f10)
    (hi : init = (M x1 x2 0 1, M x1 x2 0 2))
    (h7 : arg7.view.read (Elt F) f7 = S x1 x2 0 0) (h8 : arg8.view.read (Elt F) f8 = S x1 x2 0 1) : ∀ k : ℕ, k ≤ 16 →
    let st := st_k0_t2 (F := F) 𝒱 c bd i arg2 harg2 arg3 harg3 arg4 harg4 arg5 harg5 arg6 harg6 arg7 harg7 arg8 harg8 arg9 harg9 arg10 harg10 minf c0 (harg3.unread x1) (harg4.unread x2) (harg5.unread x3) f6 f7 f8 f9 f10 init k
    st.1 = (M x1 x2 (min k 15) 1, M x1 x2 (min k 15) 2)
    ∧ arg7.view.read (Elt F) (arg7.view.writes (Elt F) f7 st.2.2.1) = S x1 x2 (min k 15) 0
    ∧ arg8.view.read (Elt F) (arg8.view.writes (Elt F) f8 st.2.2.2.1) = S x1 x2 (min k 15) 1
    ∧ ∀ y : S1x128x8192.Idx, (y 2).val < 512 * k → arg6.view.read (Elt F) (arg6.view.writes (Elt F) f6 st.2.1) y = safe x1 x2 x3 y
  | 0, _ => ⟨hi, h7, h8, fun y hy => absurd hy (by omega)⟩
  | k + 1, hk => by
    have ht : k < k0_t2_loop.trips := by rw [trips2]; omega
    have hm : min k 15 = k := by omega
    obtain ⟨i1, i7, i8, i6⟩ := loop2_upto 𝒱 c bd i x1 x2 x3 c0 init f6 f7 f8 f9 f10 hi h7 h8 k (by omega)
    rw [hm] at i1 i7 i8
    intro st
    have e : st = _ := st_k0_t2_succ (F := F) 𝒱 c bd i arg2 harg2 arg3 harg3 arg4 harg4 arg5 harg5 arg6 harg6 arg7 harg7 arg8 harg8 arg9 harg9 arg10 harg10 minf c0 (harg3.unread x1) (harg4.unread x2) (harg5.unread x3) f6 f7 f8 f9 f10 init ⟨k, ht⟩
    obtain ⟨t6, tR, t7, t8⟩ := trip2 arg2 harg2 arg3 harg3 arg4 harg4 arg5 harg5 arg6 harg6 arg7 harg7 arg8 harg8 arg9 harg9 arg10 harg10 𝒱 c bd i x1 x2 x3 ⟨k, ht⟩ c0
      _ (arg6.view.writes (Elt F) f6 (st_k0_t2 (F := F) 𝒱 c bd i arg2 harg2 arg3 harg3 arg4 harg4 arg5 harg5 arg6 harg6 arg7 harg7 arg8 harg8 arg9 harg9 arg10 harg10 minf c0 (harg3.unread x1) (harg4.unread x2) (harg5.unread x3) f6 f7 f8 f9 f10 init k).2.1) _ _
      (arg9.view.writes (Elt F) f9 (st_k0_t2 (F := F) 𝒱 c bd i arg2 harg2 arg3 harg3 arg4 harg4 arg5 harg5 arg6 harg6 arg7 harg7 arg8 harg8 arg9 harg9 arg10 harg10 minf c0 (harg3.unread x1) (harg4.unread x2) (harg5.unread x3) f6 f7 f8 f9 f10 init k).2.2.2.2.1)
      (arg10.view.writes (Elt F) f10 (st_k0_t2 (F := F) 𝒱 c bd i arg2 harg2 arg3 harg3 arg4 harg4 arg5 harg5 arg6 harg6 arg7 harg7 arg8 harg8 arg9 harg9 arg10 harg10 minf c0 (harg3.unread x1) (harg4.unread x2) (harg5.unread x3) f6 f7 f8 f9 f10 init k).2.2.2.2.2)
      (congrArg Prod.fst i1) (congrArg Prod.snd i1) i7 i8
    rw [e]
    refine ⟨tR, ?_, ?_, ?_⟩
    · exact (congrArg (arg7.view.read (Elt F)) (View.writes_append ..)).trans t7
    · exact (congrArg (arg8.view.read (Elt F)) (View.writes_append ..)).trans t8
    · intro y hy
      dsimp only at t6 ⊢
      rw [t6]
      exact colstep (α := Unit) (by norm_num) arg6.view f6 k (off5_eq ⟨k, ht⟩) _ (out x1 x2 x3) _ i6 y hy

/-- The guarded loop leaves the block `safe`. -/
theorem loop2 (𝒱 : Variants) (c : Dev nD) (bd : Option 𝒱.V) (i : grid0.Coords) (x1 : Vec F S1x1x128x8192 .bf16) (x2 : Vec F S1x1x8192x128 .bf16) (x3 : Vec F S1x1x128x8192 .bf16)
    (c0 : BitVec 32) (init : FVec F S1x512 .f32 × FVec F S1x512 .f32) (f6 f7 f8 f9 f10)
    (hi : init = (M x1 x2 0 1, M x1 x2 0 2))
    (h7 : arg7.view.read (Elt F) f7 = S x1 x2 0 0) (h8 : arg8.view.read (Elt F) f8 = S x1 x2 0 1) :
    arg6.view.read (Elt F) (arg6.view.writes (Elt F) f6 (st_k0_t2 (F := F) 𝒱 c bd i arg2 harg2 arg3 harg3 arg4 harg4 arg5 harg5 arg6 harg6 arg7 harg7 arg8 harg8 arg9 harg9 arg10 harg10 minf c0 (harg3.unread x1) (harg4.unread x2) (harg5.unread x3) f6 f7 f8 f9 f10 init k0_t2_loop.trips).2.1)
      = safe x1 x2 x3 := by
  rw [trips2]
  funext y
  exact (loop2_upto arg2 harg2 arg3 harg3 arg4 harg4 arg5 harg5 arg6 harg6 arg7 harg7 arg8 harg8 arg9 harg9 arg10 harg10 𝒱 c bd i x1 x2 x3 c0 init f6 f7 f8 f9 f10 hi h7 h8 16 le_rfl).2.2.2 y (y 2).isLt

end Cert.KernelIdeal.Att

end
-- ==== Proof.Setup.lean ====
/- What the two runs of the body are stated over: the word that chooses the path, the staging buffers, the score buffers. -/
module

public import proofs.«01_k».proof.Proof.Loops

@[expose] public section

set_option maxRecDepth 16384

noncomputable section

namespace Cert.KernelIdeal.Att

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The word the body reads. -/
abbrev word (arg2 : Memref sig .tc .smem S1 .i32) (harg2 : arg2.IsWhole) (x0 : Vec F S1 .i32) : BitVec 32 :=
  arg2.view.readAt (Elt F) (Rect.unit (s := S1) ![0] S1.size inb_S1_S1_0).toLoadRect (harg2.unread x0) (Shape.Idx.first (numel1_S1.symm ▸ Nat.one_pos))

/-- The body takes the unguarded path. -/
abbrev goFast (w : BitVec 32) : Prop := (Scalar.cmpi .ne (Scalar.extui (Scalar.cmpi .ne w 0#32)) 0#32) = 1#1
/-- The body takes the guarded path. -/
abbrev goSafe (w : BitVec 32) : Prop := (Scalar.cmpi .ne (Scalar.extui (Scalar.cmpi .eq w 0#32)) 0#32) = 1#1

theorem goFast_iff (w : BitVec 32) : goFast w ↔ w ≠ 0#32 := by
  unfold goFast
  by_cases h : w = 0#32
  · subst h; decide
  · simp [Scalar.cmpi, Scalar.extui, IntOp.cmpi, h, (bne_iff_ne (a := w) (b := 0#32)).mpr h]
theorem goSafe_iff (w : BitVec 32) : goSafe w ↔ w = 0#32 := by
  unfold goSafe
  by_cases h : w = 0#32
  · subst h; decide
  · simp [Scalar.cmpi, Scalar.extui, IntOp.cmpi, h, (beq_eq_false_iff_ne (a := w) (b := 0#32)).mpr h]

/-- The staging buffer of each window at a point, and that it is a whole buffer. -/
abbrev st0 (t : Fin cfg0.N) : Memref sig .tc .smem S1 .i32 := win0_0.stage (cfg0.slots t 0)
abbrev stw0 (t : Fin cfg0.N) : (st0 t).IsWhole := hstage0_0 ((cfg0.slots t 0).cast nbuf0_0)
abbrev st1 (t : Fin cfg0.N) : Memref sig .tc .vmem S1x1x128x8192 .bf16 := win0_1.stage (cfg0.slots t 1)
abbrev stw1 (t : Fin cfg0.N) : (st1 t).IsWhole := hstage0_1 ((cfg0.slots t 1).cast nbuf0_1)
abbrev st2 (t : Fin cfg0.N) : Memref sig .tc .vmem S1x1x8192x128 .bf16 := win0_2.stage (cfg0.slots t 2)
abbrev stw2 (t : Fin cfg0.N) : (st2 t).IsWhole := hstage0_2 ((cfg0.slots t 2).cast nbuf0_2)
abbrev st3 (t : Fin cfg0.N) : Memref sig .tc .vmem S1x1x128x8192 .bf16 := win0_3.stage (cfg0.slots t 3)
abbrev stw3 (t : Fin cfg0.N) : (st3 t).IsWhole := hstage0_3 ((cfg0.slots t 3).cast nbuf0_3)
abbrev st4 (t : Fin cfg0.N) : Memref sig .tc .vmem S1x128x8192 .bf16 := win0_4.stage (cfg0.slots t 4)
abbrev stw4 (t : Fin cfg0.N) : (st4 t).IsWhole := hstage0_4 ((cfg0.slots t 4).cast nbuf0_4)

/-- The four score buffers. -/
abbrev sbuf0 : Memref sig .tc .vmem S1024x512 .f32 := Memref.whole cc0_scratch0
abbrev sbuf1 : Memref sig .tc .vmem S1024x512 .f32 := Memref.whole cc0_scratch1
abbrev sbuf2 : Memref sig .tc .vmem S1024x512 .f32 := Memref.whole cc0_scratch2
abbrev sbuf3 : Memref sig .tc .vmem S1024x512 .f32 := Memref.whole cc0_scratch3

theorem inv_eq (c : Dev nD) :
    (Pipeline.ΦA spec0 c : sProp 𝕄)
      = iprop(iprop((∃ d, owns (c : Thread nD τ) sbuf0 fullShare d) ∗ (∃ d, owns (c : Thread nD τ) sbuf1 fullShare d) ∗ (∃ d, owns (c : Thread nD τ) sbuf2 fullShare d) ∗ (∃ d, owns (c : Thread nD τ) sbuf3 fullShare d)) ∗ (∃ r, prngReg c r)) := by
  unfold Pipeline.ΦA; rw [scopedRest0_eq]; simp only [sbuf0, sbuf1, sbuf2, sbuf3, owns_whole]; try rfl

/-- The result block of the body: the word chooses the path. -/
def block (x0 : Vec F S1 .i32) (x1 : Vec F S1x1x128x8192 .bf16) (x2 : Vec F S1x1x8192x128 .bf16) (x3 : Vec F S1x1x128x8192 .bf16) : FVec F S1x128x8192 .bf16 :=
  if x0 (ix1 0) = 0#32 then safe x1 x2 x3 else fast x1 x2 x3

theorem word_eq (arg2 : Memref sig .tc .smem S1 .i32) (harg2 : arg2.IsWhole) (x0 : Vec F S1 .i32) : word arg2 harg2 x0 = x0 (ix1 0) := by
  unfold word
  rw [View.readAt_eq_ld, harg2.read_unread]
  refine congrArg x0 (funext fun a => ?_)
  match a with | ⟨0, _⟩ => exact Subsingleton.elim (α := Fin 1) _ _

end Cert.KernelIdeal.Att

end
-- ==== Proof.RunFast.lean ====
/- The run of the body on the unguarded path. -/
module

public import proofs.«01_k».proof.Proof.Setup

@[expose] public section

set_option maxRecDepth 16384

noncomputable section

namespace Cert.KernelIdeal.Att

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The unguarded path leaves the block `fast`. -/
theorem run_fast (c : Dev nD) (i : grid0.Coords) (arg2 : Memref sig .tc .smem S1 .i32) (harg2 : arg2.IsWhole) (arg3 : Memref sig .tc .vmem S1x1x128x8192 .bf16) (harg3 : arg3.IsWhole) (arg4 : Memref sig .tc .vmem S1x1x8192x128 .bf16) (harg4 : arg4.IsWhole) (arg5 : Memref sig .tc .vmem S1x1x128x8192 .bf16) (harg5 : arg5.IsWhole) (arg6 : Memref sig .tc .vmem S1x128x8192 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole)
    (x0 : Vec F S1 .i32) (x1 : Vec F S1x1x128x8192 .bf16) (x2 : Vec F S1x1x8192x128 .bf16) (x3 : Vec F S1x1x128x8192 .bf16) (hc0 : goFast (word arg2 harg2 x0)) (hc1 : ¬goSafe (word arg2 harg2 x0)) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (fast x1 x2 x3) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
        ⊢ wp frame (wpE (defs₀ (F := F)) Variants.none c none) E (cc0_mla_attention i arg2 harg2 arg3 harg3 arg4 harg4 arg5 harg5 arg6 harg6 arg7 harg7 arg8 harg8 arg9 harg9 arg10 harg10) K := by
  intro E K
  simp only [cc0_mla_attention_eq_skeleton]; unfold cc0_mla_attention_skel
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, ⟨%ds3, %fs3, -, HS3⟩, Hk⟩
  obtain rfl := harg2.eq_unread hf0; obtain rfl := harg3.eq_unread hf1; obtain rfl := harg4.eq_unread hf2; obtain rfl := harg5.eq_unread hf3
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    exact loop1 arg2 harg2 arg3 harg3 arg4 harg4 arg5 harg5 arg6 harg6 arg7 harg7 arg8 harg8 arg9 harg9 arg10 harg10 Variants.none c none i x1 x2 x3 f4
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

end Cert.KernelIdeal.Att

end
-- ==== Proof.RunSafe.lean ====
/- The run of the body on the guarded path. -/
module

public import proofs.«01_k».proof.Proof.RunFast

@[expose] public section

set_option maxRecDepth 16384

noncomputable section

namespace Cert.KernelIdeal.Att

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The guarded path leaves the block `safe`. -/
theorem run_safe (c : Dev nD) (i : grid0.Coords) (arg2 : Memref sig .tc .smem S1 .i32) (harg2 : arg2.IsWhole) (arg3 : Memref sig .tc .vmem S1x1x128x8192 .bf16) (harg3 : arg3.IsWhole) (arg4 : Memref sig .tc .vmem S1x1x8192x128 .bf16) (harg4 : arg4.IsWhole) (arg5 : Memref sig .tc .vmem S1x1x128x8192 .bf16) (harg5 : arg5.IsWhole) (arg6 : Memref sig .tc .vmem S1x128x8192 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole)
    (x0 : Vec F S1 .i32) (x1 : Vec F S1x1x128x8192 .bf16) (x2 : Vec F S1x1x8192x128 .bf16) (x3 : Vec F S1x1x128x8192 .bf16) (hc0 : ¬goFast (word arg2 harg2 x0)) (hc1 : goSafe (word arg2 harg2 x0)) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (safe x1 x2 x3) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
        ⊢ wp frame (wpE (defs₀ (F := F)) Variants.none c none) E (cc0_mla_attention i arg2 harg2 arg3 harg3 arg4 harg4 arg5 harg5 arg6 harg6 arg7 harg7 arg8 harg8 arg9 harg9 arg10 harg10) K := by
  intro E K
  simp only [cc0_mla_attention_eq_skeleton]; unfold cc0_mla_attention_skel
  simp only [k0_part10_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, ⟨%ds3, %fs3, -, HS3⟩, Hk⟩
  obtain rfl := harg2.eq_unread hf0; obtain rfl := harg3.eq_unread hf1; obtain rfl := harg4.eq_unread hf2; obtain rfl := harg5.eq_unread hf3
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    have s0 : score (rows 1024 x2 0) (cols 512 x1 0) = S x1 x2 0 0 := rfl
    have s1 : score (rows 1024 x2 1024) (cols 512 x1 0) = S x1 x2 0 1 := rfl
    refine loop2 arg2 harg2 arg3 harg3 arg4 harg4 arg5 harg5 arg6 harg6 arg7 harg7 arg8 harg8 arg9 harg9 arg10 harg10 Variants.none c none i x1 x2 x3 _ _ _ _ _ _ _ ?_ ?_ ?_
    · delta run_safe.sl.r_1 run_safe.sl.r_2
      simp only [pay69_eq, pay66_eq, pay64_eq, pay67_eq, View.readAt_eq_ld, Memref.IsWhole.read_unread, rows_load, cols_load, s0, s1, foldM0, foldM1]
    · delta run_safe.sl.HS0_1
      simp only [buf_read, pay65_eq, pay64_eq, View.readAt_eq_ld, Memref.IsWhole.read_unread, rows_load, cols_load, s0]
    · delta run_safe.sl.HS1_1
      simp only [buf_read, pay68_eq, pay67_eq, View.readAt_eq_ld, Memref.IsWhole.read_unread, rows_load, cols_load, s1]

  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

end Cert.KernelIdeal.Att

end
-- ==== Proof.Run.lean ====
/- The launch: every block of the result array at the end is `block` of the blocks read. -/
module

public import proofs.«01_k».proof.Proof.RunSafe
public import Idealize.ShloMosaic.Lib.Claim

@[expose] public section

set_option maxRecDepth 16384

noncomputable section

namespace Cert.KernelIdeal.Att

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result block at a grid point. -/
def resBlk (c : Dev nD) (t : Fin cfg0.N) : FVec F S1x128x8192 .bf16 :=
  block (iblk m c 0 t) (iblk m c 1 t) (iblk m c 2 t) (iblk m c 3 t)

/-- What the windows hold: the arrays as the launch finds them, each input's block unchanged, the result's block named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => resBlk m c t
  Φ _ := Pipeline.ΦA spec0 c
  q _ := fullShare
  owed _ := 0

theorem dats_A (c : Dev nD) (w : Fin cfg0.W) : (dats m 0 c).A w = V m c (Pipeline.arrRef spec0 w) := by
  dsimp only [dats]

theorem dats_after0 (c : Dev nD) (t : Fin cfg0.N) : (dats m 0 c).after 0 t = iblk m c 0 t := by dsimp only [dats]
theorem dats_after1 (c : Dev nD) (t : Fin cfg0.N) : (dats m 0 c).after 1 t = iblk m c 1 t := by dsimp only [dats]
theorem dats_after2 (c : Dev nD) (t : Fin cfg0.N) : (dats m 0 c).after 2 t = iblk m c 2 t := by dsimp only [dats]
theorem dats_after3 (c : Dev nD) (t : Fin cfg0.N) : (dats m 0 c).after 3 t = iblk m c 3 t := by dsimp only [dats]
theorem dats_after4 (c : Dev nD) (t : Fin cfg0.N) : (dats m 0 c).after 4 t = resBlk m c t := by dsimp only [dats]

theorem dats_before0 (c : Dev nD) (t : Fin cfg0.N) (d) : (dats m 0 c).before 0 t d = iblk m c 0 t :=
  before0_0_of m (dats m 0 c) (dats_A m c 0) (dats_after0 m c) t d
theorem dats_before1 (c : Dev nD) (t : Fin cfg0.N) (d) : (dats m 0 c).before 1 t d = iblk m c 1 t :=
  before0_1_of m (dats m 0 c) (dats_A m c 1) (dats_after1 m c) t d
theorem dats_before2 (c : Dev nD) (t : Fin cfg0.N) (d) : (dats m 0 c).before 2 t d = iblk m c 2 t :=
  before0_2_of m (dats m 0 c) (dats_A m c 2) (dats_after2 m c) t d
theorem dats_before3 (c : Dev nD) (t : Fin cfg0.N) (d) : (dats m 0 c).before 3 t d = iblk m c 3 t :=
  before0_3_of m (dats m 0 c) (dats_A m c 3) (dats_after3 m c) t d

theorem resBlk_fast (c : Dev nD) (t : Fin cfg0.N) (h : ¬goSafe (word (st0 t) (stw0 t) (iblk m c 0 t))) :
    resBlk m c t = fast (iblk m c 1 t) (iblk m c 2 t) (iblk m c 3 t) := by
  rw [goSafe_iff, word_eq] at h
  exact if_neg h
theorem resBlk_safe (c : Dev nD) (t : Fin cfg0.N) (h : goSafe (word (st0 t) (stw0 t) (iblk m c 0 t))) :
    resBlk m c t = safe (iblk m c 1 t) (iblk m c 2 t) (iblk m c 3 t) := by
  rw [goSafe_iff, word_eq] at h
  exact if_pos h

/-- What the body is called with at a point, and what it returns. -/
def atCall (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d)))
def atReturn (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t))

set_option maxHeartbeats 3200000 in
theorem body_sound (c : Dev nD) (t : Fin cfg0.N) :
    atCall m c t ⊢ wp frame (wpE (defs₀ (F := F)) Variants.none c none) Set.univ (bodyAt0 t) (fun _ => atReturn m c t) := by
  unfold atCall atReturn bodyAt0
  simp only [dats_before0, dats_before1, dats_before2, dats_before3]
  rw [show (dats m 0 c).Φ t.succ = (dats m 0 c).Φ t.castSucc from rfl,
    show (dats m 0 c).owesAt () t.succ = (dats m 0 c).owesAt () t.castSucc from rfl,
    dats_after0, dats_after1, dats_after2, dats_after3, dats_after4]
  rw [show (dats m 0 c).Φ t.castSucc = Pipeline.ΦA spec0 c from rfl, inv_eq]
  by_cases h1 : goSafe (word (st0 t) (stw0 t) (iblk m c 0 t))
  · have h0 : ¬goFast (word (st0 t) (stw0 t) (iblk m c 0 t)) := fun h => (goFast_iff _).mp h ((goSafe_iff _).mp h1)
    rw [resBlk_safe m c t h1]
    iintro ⟨⟨⟨HS0, HS1, HS2, HS3⟩, Hg⟩, Ho, ⟨%d0, H0⟩, ⟨%d1, H1⟩, ⟨%d2, H2⟩, ⟨%d3, H3⟩, ⟨%d4, H4⟩⟩
    iapply ((run_safe c (grid0.coords t) _ _ _ _ _ _ _ _ _ _ _ _ _ _ _ _ _ _ (iblk m c 0 t) (iblk m c 1 t) (iblk m c 2 t) (iblk m c 3 t) h0 h1) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HS3]; · iexact HS3
    iintro ⟨H0, H1, H2, H3, H4, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    iexact H4
  · have h0 : goFast (word (st0 t) (stw0 t) (iblk m c 0 t)) := (goFast_iff _).mpr fun h => h1 ((goSafe_iff _).mpr h)
    rw [resBlk_fast m c t h1]
    iintro ⟨⟨⟨HS0, HS1, HS2, HS3⟩, Hg⟩, Ho, ⟨%d0, H0⟩, ⟨%d1, H1⟩, ⟨%d2, H2⟩, ⟨%d3, H3⟩, ⟨%d4, H4⟩⟩
    iapply ((run_fast c (grid0.coords t) _ _ _ _ _ _ _ _ _ _ _ _ _ _ _ _ _ _ (iblk m c 0 t) (iblk m c 1 t) (iblk m c 2 t) (iblk m c 3 t) h0 h1) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HS3]; · iexact HS3
    iintro ⟨H0, H1, H2, H3, H4, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    iexact H4

theorem body_row (t : Fin cfg0.N) :
    defs₀ (F := F) .tc cfg0.body (cfg0.bodyArgs t (cfg0.slots t)) = bodyAt0 t := by
  unfold defs₀; rw [Defs.onTc_tc]

theorem body_ob (c : Dev nD) : BodyObligation (dats (F := F) m 0 c) (defs₀ (F := F)) Variants.none () Set.univ := fun t => by
  rw [bigSep_W0, bigSep_W0, body_row]
  exact triple_restated (body_sound m c t) rfl .rfl fun _ => .rfl

set_option backward.isDefEq.respectTransparency.types false in
/-- The run: the arrays at the end are the proof data's, and every semaphore is at zero. -/
theorem run : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_ob m c).loose) (hshare := fun c => (dats m 0 c).share_full fun _ => rfl)
    (howed := fun _ _ => rfl) (V := V m) (hmain := hmain m Variants.none) (hA := dats_A m) (hΦ := fun _ _ => rfl)

/-- The arguments are unchanged and the semaphores at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (dats_A m) ((θ_run defs _ _).mono (fun _ h => h.1) (run m ρ))) ((θ_run defs _ _).mono (fun _ h => h.2) (run m ρ))

end Cert.KernelIdeal.Att

end
-- ==== Proof.Host.lean ====
/- The arrays that the host prepares for the launch, read at one element over the extended reals. -/
module

public import proofs.«01_k».proof.Proof.Gen.KernelIdeal.Frame
public import Idealize.ShloMosaic.Lib.Pointwise
public import Idealize.ShloMosaic.Lib.Claim

@[expose] public section

set_option maxRecDepth 16384

noncomputable section

namespace Cert.KernelIdeal.Att

open Idealize.ShloMosaic Idealize.ShloMosaic.TcCoe Idealize.ShloMosaic.StableHlo
open Idealize.SL.Sem
open Cert.KernelIdeal.Gen

variable {F : FTy → Type} [FloatOps F]

/-- The factor the queries are multiplied by. -/
def qmul : FVec F S_ .f32 :=
  Host.divf (constant S_ .f32 0x3F800000#32) (mulf (Host.sqrt (constant S_ .f32 0x42C00000#32)) (Host.log (constant S_ .f32 0x40000000#32)))

/-- A zero pad of 32 lanes. -/
def zpad : FVec F S4x8192x8x32 .f32 := broadcastInDim S4x8192x8x32 ![] bcast_S_S4x8192x8x32 (constant S_ .f32 0x00000000#32)

/-- The queries: scaled, joined, padded, transposed. -/
def qT (x0 : FVec F S4x8192x8x64 .f32) (x1 : FVec F S4x8192x8x32 .f32) : FVec F S4x8x128x8192 .bf16 :=
  truncf .bf16 (transpose S4x8x128x8192 [0, 2, 3, 1] (concatenate S4x8192x8x128 3
    [⟨S4x8192x8x64, mulf x0 (broadcastInDim S4x8192x8x64 ![] bcast_S_S4x8192x8x64 qmul)⟩,
     ⟨S4x8192x8x32, mulf x1 (broadcastInDim S4x8192x8x32 ![] bcast_S_S4x8192x8x32 qmul)⟩, ⟨S4x8192x8x32, zpad⟩]
    concatenates_S4x8192x8x64_S4x8192x8x32_S4x8192x8x32_S4x8192x8x128_d3) transposes_S4x8192x8x128_S4x8x128x8192_0_2_3_1) bitsLt_bf16_f32

/-- The keys: the shared part repeated per head, joined, padded, transposed. -/
def kT (x2 : FVec F S4x8192x8x64 .f32) (x3 : FVec F S4x8192x32 .f32) : FVec F S4x8x8192x128 .bf16 :=
  truncf .bf16 (transpose S4x8x8192x128 [0, 2, 1, 3] (concatenate S4x8192x8x128 3
    [⟨S4x8192x8x64, x2⟩,
     ⟨S4x8192x8x32, broadcastInDim S4x8192x8x32 ![0, 1, 2, 3] bcast_S4x8192x1x32_S4x8192x8x32_0_1_2_3
        (broadcastInDim S4x8192x1x32 ![0, 1, 3] bcast_S4x8192x32_S4x8192x1x32_0_1_3 x3)⟩, ⟨S4x8192x8x32, zpad⟩]
    concatenates_S4x8192x8x64_S4x8192x8x32_S4x8192x8x32_S4x8192x8x128_d3) transposes_S4x8192x8x128_S4x8x8192x128_0_2_1_3) bitsLt_bf16_f32

/-- The values, transposed. -/
def vT (x4 : FVec F S4x8192x8x128 .f32) : FVec F S4x8x128x8192 .bf16 :=
  truncf .bf16 (transpose S4x8x128x8192 [0, 2, 3, 1] x4 transposes_S4x8192x8x128_S4x8x128x8192_0_2_3_1) bitsLt_bf16_f32

variable (m : (ℓ : Loc nD τ sig) → Buf (Elt F) ℓ) (c : Dev nD)

theorem V_q : V m c main_v17 = qT (m ((c : Thread nD τ).loc main_arg0)) (m ((c : Thread nD τ).loc main_arg1)) := by
  unfold_abbrev_sides
  after_results
  rfl

theorem V_k : V m c main_v20 = kT (m ((c : Thread nD τ).loc main_arg2)) (m ((c : Thread nD τ).loc main_arg3)) := by
  unfold_abbrev_sides
  after_results
  rfl

theorem V_v : V m c main_v22 = vT (m ((c : Thread nD τ).loc main_arg4)) := by
  unfold_abbrev_sides
  after_results
  rfl

/-! ## At one element -/

theorem qT_at (x0 : FVec Ideal S4x8192x8x64 .f32) (x1 : FVec Ideal S4x8192x8x32 .f32) (b : Fin 4) (h : Fin 8) (d : Fin 128) (s : Fin 8192) :
    qT x0 x1 (ix4 b h d s) = if hd : d.val < 64 then x0 (ix4 b s h ⟨d.val, hd⟩) * qmul (F := Ideal) ix0
      else if hd' : d.val - 64 < 32 then x1 (ix4 b s h ⟨d.val - 64, hd'⟩) * qmul (F := Ideal) ix0 else (0 : EReal) := by
  pointwise [qT, zpad]
  all_goals rfl

theorem kT_at (x2 : FVec Ideal S4x8192x8x64 .f32) (x3 : FVec Ideal S4x8192x32 .f32) (b : Fin 4) (h : Fin 8) (s : Fin 8192) (d : Fin 128) :
    kT x2 x3 (ix4 b h s d) = if hd : d.val < 64 then x2 (ix4 b s h ⟨d.val, hd⟩)
      else if hd' : d.val - 64 < 32 then x3 (ix3 b s ⟨d.val - 64, hd'⟩) else (0 : EReal) := by
  pointwise [kT, zpad]
  all_goals rfl

theorem vT_at (x4 : FVec Ideal S4x8192x8x128 .f32) (b : Fin 4) (h : Fin 8) (d : Fin 128) (s : Fin 8192) :
    vT x4 (ix4 b h d s) = x4 (ix4 b s h d) := by
  pointwise [vT]
  all_goals rfl

end Cert.KernelIdeal.Att

end
-- ==== Proof.Lits.lean ====
/- The literals and the scale of the scores, as reals, and what `finite` says of an array. -/
module

public import proofs.«01_k».proof.Proof.Host
public import proofs.«01_k».proof.Proof.Gen.Pre_finite
public import Idealize.ShloMosaic.Lib.ReduceAll

@[expose] public section

set_option maxRecDepth 16384

noncomputable section

namespace Cert.KernelIdeal.Att

open Idealize.ShloMosaic
open Cert.KernelIdeal.Gen

theorem lit_one : Ideal.ofBits .f32 0x3F800000#32 = ((1 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_96 : Ideal.ofBits .f32 0x42C00000#32 = ((96 : ℝ) : EReal) := by
  simp [Ideal.ofBits, Ideal.ieee, -EReal.coe_mul]; norm_num
theorem lit_inf : Ideal.ofBits .f32 0x7F800000#32 = (⊤ : EReal) := by
  simp [Ideal.ofBits, Ideal.ieee]

theorem log_two_pos : 0 < Real.log 2 := Real.log_pos (by norm_num)
theorem sqrt_pos : 0 < Real.sqrt 96 := Real.sqrt_pos.mpr (by norm_num)

theorem sqrt_96 : Ideal.sqrt ((96 : ℝ) : EReal) = ((Real.sqrt 96 : ℝ) : EReal) := by
  rw [Ideal.sqrt_coe, if_neg (by norm_num)]
theorem log_2 : Ideal.log ((2 : ℝ) : EReal) = ((Real.log 2 : ℝ) : EReal) := by
  rw [Ideal.log_coe, if_neg (by norm_num)]

/-- The kernel's factor: one over the root of 96 and over the logarithm of two. -/
theorem qmul_real : qmul (F := Ideal) ix0 = ((1 / (Real.sqrt 96 * Real.log 2) : ℝ) : EReal) := by
  show Ideal.div (Ideal.ofBits .f32 0x3F800000#32) (Ideal.sqrt (Ideal.ofBits .f32 0x42C00000#32) * Ideal.log (Ideal.ofBits .f32 0x40000000#32)) = _
  rw [lit_one, lit_96, lit_two, sqrt_96, log_2, ← EReal.coe_mul, Ideal.div_coe (mul_pos sqrt_pos log_two_pos).ne', ← EReal.coe_mul, one_mul]

/-- The reference's factor: one over the root of 96. -/
theorem smul_real : Ideal.div (Ideal.ofBits .f32 0x3F800000#32) (Ideal.sqrt (Ideal.ofBits .f32 0x42C00000#32)) = ((1 / Real.sqrt 96 : ℝ) : EReal) := by
  rw [lit_one, lit_96, sqrt_96, Ideal.div_coe sqrt_pos.ne', ← EReal.coe_mul, one_mul]

/-- An extended real below infinity in absolute value is a real. -/
theorem real_of_abs (x : EReal) (h : max x (-x) < ⊤) : x = ((x.toReal : ℝ) : EReal) := by
  refine (EReal.coe_toReal ?_ ?_).symm
  · rintro rfl; simp at h
  · rintro rfl; simp at h

theorem and_one {a b : BitVec 1} (h : a &&& b = 1#1) : a = 1#1 ∧ b = 1#1 := by
  revert a b; decide

theorem real_of_cmp (x : EReal) (h : Ideal.cmp .olt (max x (-x)) (Ideal.ofBits .f32 0x7F800000#32) = 1#1) : x = ((x.toReal : ℝ) : EReal) :=
  real_of_abs x (by rw [← lit_inf]; exact (Ideal.cmp_olt_eq_one _ _).mp h)

open Cert.Pre_finite (fn fn_part1) in
/-- Under `finite` the queries and keys are real everywhere. -/
theorem finite_real (x0 : FVec Ideal S4x8192x8x64 .f32) (x1 : FVec Ideal S4x8192x8x32 .f32) (x2 : FVec Ideal S4x8192x8x64 .f32)
    (x3 : FVec Ideal S4x8192x32 .f32) (x4 : FVec Ideal S4x8192x8x128 .f32) (x5 : FVec Ideal S64 .f32) (x6 : FVec Ideal S32 .f32)
    (x7 : FVec Ideal S64 .f32) (x8 : FVec Ideal S32 .f32)
    (h : Cert.Pre_finite.fn (F := Ideal) x0 x1 x2 x3 x4 x5 x6 x7 x8 = fun _ => 1#1) :
    (∀ i, x0 i = ((EReal.toReal (x0 i) : ℝ) : EReal)) ∧ (∀ i, x1 i = ((EReal.toReal (x1 i) : ℝ) : EReal))
      ∧ (∀ i, x2 i = ((EReal.toReal (x2 i) : ℝ) : EReal)) ∧ (∀ i, x3 i = ((EReal.toReal (x3 i) : ℝ) : EReal)) := by
  have h' := congrFun h ix0
  dsimp only [fn, fn_part1] at h'
  obtain ⟨h', e3⟩ := and_one h'
  obtain ⟨h', e2⟩ := and_one h'
  obtain ⟨e0, e1⟩ := and_one h'
  haveI : Subsingleton Cert.Pre_finite.S_.Idx := ⟨fun i j => funext fun a => a.elim0⟩
  refine ⟨fun i => ?_, fun i => ?_, fun i => ?_, fun i => ?_⟩
  · exact real_of_cmp _ (Host.reduce_andi_all _ _ _ _ _ e0 i)
  · exact real_of_cmp _ (Host.reduce_andi_all _ _ _ _ _ e1 i)
  · exact real_of_cmp _ (Host.reduce_andi_all _ _ _ _ _ e2 i)
  · exact real_of_cmp _ (Host.reduce_andi_all _ _ _ _ _ e3 i)

end Cert.KernelIdeal.Att

end
-- ==== Proof.Soft.lean ====
/- The weighted mean that a softmax attention is, over extended reals: it does not change when all weights are scaled. -/
module

public import Idealize.ShloMosaic.PureOps.Ideal.Laws

@[expose] public section

noncomputable section

namespace Cert.Att

open Finset

/-- A nonnegative real factor goes into a sum of extended reals. -/
theorem coe_mul_sum {ι : Type} (c : ℝ) (hc : 0 ≤ c) (f : ι → EReal) (s : Finset ι) : (c : EReal) * ∑ k ∈ s, f k = ∑ k ∈ s, (c : EReal) * f k := by
  classical
  induction s using Finset.induction_on with
  | empty => simp
  | insert a s ha ih =>
    rw [sum_insert ha, sum_insert ha, EReal.left_distrib_of_nonneg_of_ne_top (by exact_mod_cast hc) (EReal.coe_ne_top c), ih]

theorem coe_sum {ι : Type} (f : ι → ℝ) (s : Finset ι) : ((∑ k ∈ s, f k : ℝ) : EReal) = ∑ k ∈ s, ((f k : ℝ) : EReal) := by
  classical
  induction s using Finset.induction_on with
  | empty => simp
  | insert a s ha ih => rw [sum_insert ha, sum_insert ha, EReal.coe_add, ih]

/-- The weighted sum of the first `n` values. -/
def num (w : ℕ → ℝ) (v : ℕ → EReal) (n : ℕ) : EReal := ∑ k ∈ range n, v k * (w k : EReal)
/-- The sum of the first `n` weights. -/
def den (w : ℕ → ℝ) (n : ℕ) : ℝ := ∑ k ∈ range n, w k
/-- The weighted mean of the first `n` values. -/
def soft (w : ℕ → ℝ) (v : ℕ → EReal) (n : ℕ) : EReal := num w v n * (((den w n)⁻¹ : ℝ) : EReal)

theorem num_scale (c : ℝ) (hc : 0 ≤ c) (w : ℕ → ℝ) (v : ℕ → EReal) (n : ℕ) : num (fun k => c * w k) v n = (c : EReal) * num w v n := by
  unfold num
  rw [coe_mul_sum c hc]
  refine sum_congr rfl fun k _ => ?_
  rw [EReal.coe_mul, ← mul_assoc, ← mul_assoc, mul_comm (v k)]

theorem den_scale (c : ℝ) (w : ℕ → ℝ) (n : ℕ) : den (fun k => c * w k) n = c * den w n := by
  unfold den; rw [mul_sum]

theorem soft_scale (c : ℝ) (hc : 0 < c) (w : ℕ → ℝ) (v : ℕ → EReal) (n : ℕ) : soft (fun k => c * w k) v n = soft w v n := by
  unfold soft
  rw [num_scale c hc.le, den_scale, mul_inv, EReal.coe_mul, mul_comm (c : EReal), mul_assoc, ← mul_assoc (c : EReal),
    ← EReal.coe_mul c, mul_inv_cancel₀ hc.ne', EReal.coe_one, one_mul]

theorem den_nonneg (w : ℕ → ℝ) (hw : ∀ k, 0 ≤ w k) (n : ℕ) : 0 ≤ den w n := sum_nonneg fun k _ => hw k
theorem den_pos (w : ℕ → ℝ) (hw : ∀ k, 0 < w k) (n : ℕ) (hn : 0 < n) : 0 < den w n :=
  sum_pos (fun k _ => hw k) ⟨0, mem_range.mpr hn⟩

/-- The weights normalised first. -/
theorem soft_normalised (w : ℕ → ℝ) (hw : ∀ k, 0 ≤ w k) (v : ℕ → EReal) (n : ℕ) :
    ∑ k ∈ range n, v k * ((w k * (den w n)⁻¹ : ℝ) : EReal) = soft w v n := by
  unfold soft num
  rw [mul_comm, coe_mul_sum _ (inv_nonneg.mpr (den_nonneg w hw n))]
  refine sum_congr rfl fun k _ => ?_
  rw [EReal.coe_mul, ← mul_assoc, mul_comm]

/-- One more tile of weights after the maximum has moved from `μ` to `ν`. -/
theorem den_step (t : ℕ → ℝ) (μ ν : ℝ) (n m : ℕ) :
    (2 : ℝ) ^ (μ - ν) * den (fun k => (2 : ℝ) ^ (t k - μ)) n + ∑ k : Fin m, (2 : ℝ) ^ (t (n + k.val) - ν)
      = den (fun k => (2 : ℝ) ^ (t k - ν)) (n + m) := by
  rw [← den_scale, Fin.sum_univ_eq_sum_range (fun k => (2 : ℝ) ^ (t (n + k) - ν)) m]
  unfold den
  rw [sum_range_add]
  congr 1
  refine sum_congr rfl fun k _ => ?_
  show (2 : ℝ) ^ (μ - ν) * (2 : ℝ) ^ (t k - μ) = (2 : ℝ) ^ (t k - ν)
  rw [← Real.rpow_add two_pos]; congr 1; ring

theorem num_step (t : ℕ → ℝ) (v : ℕ → EReal) (μ ν : ℝ) (n m : ℕ) :
    (((2 : ℝ) ^ (μ - ν) : ℝ) : EReal) * num (fun k => (2 : ℝ) ^ (t k - μ)) v n
        + ∑ k : Fin m, v (n + k.val) * (((2 : ℝ) ^ (t (n + k.val) - ν) : ℝ) : EReal)
      = num (fun k => (2 : ℝ) ^ (t k - ν)) v (n + m) := by
  rw [← num_scale _ (Real.rpow_nonneg two_pos.le _), Fin.sum_univ_eq_sum_range (fun k => v (n + k) * (((2 : ℝ) ^ (t (n + k) - ν) : ℝ) : EReal)) m]
  unfold num
  rw [sum_range_add]
  congr 1
  refine sum_congr rfl fun k _ => ?_
  show v k * (((2 : ℝ) ^ (μ - ν) * (2 : ℝ) ^ (t k - μ) : ℝ) : EReal) = v k * (((2 : ℝ) ^ (t k - ν) : ℝ) : EReal)
  rw [← Real.rpow_add two_pos]; congr 3; ring

/-- Weights under a maximum against weights under none. -/
theorem soft_max (t : ℕ → ℝ) (v : ℕ → EReal) (μ : ℝ) (n : ℕ) : soft (fun k => (2 : ℝ) ^ (t k - μ)) v n = soft (fun k => (2 : ℝ) ^ t k) v n := by
  rw [← soft_scale ((2 : ℝ) ^ (-μ)) (Real.rpow_pos_of_pos two_pos _) (fun k => (2 : ℝ) ^ t k)]
  congr 1; funext k
  rw [← Real.rpow_add two_pos]; congr 1; ring

theorem soft_exp_max (s : ℕ → ℝ) (v : ℕ → EReal) (μ : ℝ) (n : ℕ) : soft (fun k => Real.exp (s k - μ)) v n = soft (fun k => Real.exp (s k)) v n := by
  rw [← soft_scale (Real.exp (-μ)) (Real.exp_pos _) (fun k => Real.exp (s k))]
  congr 1; funext k
  rw [← Real.exp_add]; congr 1; ring

/-- A maximum of finitely many reals, from below every one of them, is one of them. -/
theorem fold_max_real {ι : Type} (f : ι → EReal) (hf : ∀ k, ∃ r : ℝ, f k = r) (s : Finset ι) (hs : s.Nonempty) :
    ∃ r : ℝ, s.fold max (⊥ : EReal) f = r := by
  classical
  induction hs using Finset.Nonempty.cons_induction with
  | singleton a => obtain ⟨r, hr⟩ := hf a; exact ⟨r, by rw [fold_singleton, hr]; exact max_bot_right _⟩
  | cons a s ha hs ih =>
    obtain ⟨r, hr⟩ := hf a; obtain ⟨q, hq⟩ := ih
    exact ⟨max r q, by rw [fold_cons, hr, hq]; exact (EReal.coe_strictMono.monotone.map_max (a := r) (b := q)).symm⟩

end Cert.Att

end
-- ==== Proof.Reads.lean ====
/- The steps of both paths read at one element, over the extended reals. -/
module

public import proofs.«01_k».proof.Proof.Tiles
public import proofs.«01_k».proof.Proof.Soft
public import Idealize.ShloMosaic.Lib.Pointwise

@[expose] public section

set_option maxRecDepth 16384

noncomputable section

namespace Cert.KernelIdeal.Att

open Idealize.ShloMosaic
open Cert.KernelIdeal.Gen

theorem score_at (kt : FVec Ideal S1024x128 .bf16) (qt : FVec Ideal S128x512 .bf16) (k : Fin 1024) (q : Fin 512) :
    score kt qt (ix2 k q) = ∑ d : Fin 128, kt (ix2 k d) * qt (ix2 d q) := by
  pointwise [score]
  all_goals rfl

theorem mstep_at (m : FVec Ideal S1x512 .f32) (s : FVec Ideal S1024x512 .f32) (q : Fin 512) :
    mstep m s (ix2 0 q) = max (m (ix2 0 q)) ((Finset.univ : Finset (Fin 1024)).fold max (Ideal.ofBits .f32 0xFF800000#32) fun k => s (ix2 k q)) := by
  pointwise [mstep]
  all_goals rfl

theorem fac_at (m' m : FVec Ideal S1x512 .f32) (q : Fin 512) :
    fac m' m (ix2 0 q) = Ideal.exp2 (m' (ix2 0 q) - m (ix2 0 q)) := by
  pointwise [fac]
  all_goals rfl

theorem wts_at (m : FVec Ideal S1x512 .f32) (s : FVec Ideal S1024x512 .f32) (k : Fin 1024) (q : Fin 512) :
    wts m s (ix2 k q) = Ideal.exp2 (s (ix2 k q) - m (ix2 0 q)) := by
  pointwise [wts]
  all_goals rfl

theorem lstep_at (m' m : FVec Ideal S1x512 .f32) (s : FVec Ideal S1024x512 .f32) (l : FVec Ideal S1x512 .f32) (q : Fin 512) :
    lstep m' m s l (ix2 0 q) = Ideal.exp2 (m' (ix2 0 q) - m (ix2 0 q)) * l (ix2 0 q) + ∑ k : Fin 1024, Ideal.exp2 (s (ix2 k q) - m (ix2 0 q)) := by
  pointwise [lstep, fac, wts]
  all_goals rfl

theorem astep_at (m' m : FVec Ideal S1x512 .f32) (s : FVec Ideal S1024x512 .f32) (vt : FVec Ideal S128x1024 .bf16) (a : FVec Ideal S128x512 .f32)
    (d : Fin 128) (q : Fin 512) :
    astep m' m s vt a (ix2 d q) = Ideal.exp2 (m' (ix2 0 q) - m (ix2 0 q)) * a (ix2 d q)
      + ∑ k : Fin 1024, vt (ix2 d k) * Ideal.exp2 (s (ix2 k q) - m (ix2 0 q)) := by
  pointwise [astep, scl, pv, fac, wts]
  all_goals rfl

theorem quot_at (l : FVec Ideal S1x512 .f32) (a : FVec Ideal S128x512 .f32) (d : Fin 128) (q : Fin 512) :
    quot l a (ix3 0 d q) = a (ix2 d q) * Ideal.div 1 (l (ix2 0 q)) := by
  pointwise [quot]
  all_goals rfl

theorem fw_at (kt : FVec Ideal S4096x128 .bf16) (qt : FVec Ideal S128x1024 .bf16) (k : Fin 4096) (q : Fin 1024) :
    fw kt qt (ix2 k q) = Ideal.exp2 (∑ d : Fin 128, kt (ix2 k d) * qt (ix2 d q)) := by
  pointwise [fw]
  all_goals rfl

theorem fl_at (w : FVec Ideal S4096x1024 .f32) (q : Fin 1024) : fl w (ix2 0 q) = ∑ k : Fin 4096, w (ix2 k q) := by
  pointwise [fl]
  all_goals rfl

theorem fa_at (vt : FVec Ideal S128x4096 .bf16) (w : FVec Ideal S4096x1024 .f32) (d : Fin 128) (q : Fin 1024) :
    fa vt w (ix2 d q) = ∑ k : Fin 4096, vt (ix2 d k) * w (ix2 k q) := by
  pointwise [fa]
  all_goals rfl

theorem fquot_at (l : FVec Ideal S1x1024 .f32) (a : FVec Ideal S128x1024 .f32) (d : Fin 128) (q : Fin 1024) :
    k0_pay1 l a (ix3 0 d q) = a (ix2 d q) * Ideal.div 1 (l (ix2 0 q)) := by
  pointwise [k0_pay1]
  all_goals rfl

end Cert.KernelIdeal.Att

end
-- ==== Proof.Means.lean ====
/- Both paths leave the same weighted means: where the scores of a query are real, the guarded path's running maximum
   cancels, and each path's quotient is the mean of the values under the weights two to the score. -/
module

public import proofs.«01_k».proof.Proof.Reads

@[expose] public section

set_option maxRecDepth 16384

noncomputable section

namespace Cert.KernelIdeal.Att

open Idealize.ShloMosaic
open Cert.KernelIdeal.Gen Cert.Att

/-- The pattern of minus infinity. -/
theorem minus_inf : Ideal.ofBits .f32 0xFF800000#32 = (⊥ : EReal) := by
  simp [Ideal.ofBits, Ideal.ieee]

theorem exp2_sub (a b : ℝ) : Ideal.exp2 ((a : EReal) - (b : EReal)) = (((2 : ℝ) ^ (a - b) : ℝ) : EReal) := by
  rw [← EReal.coe_sub, Ideal.exp2_coe]; rfl

/-- The score of key `k` against query `q`. -/
def sc (x1 : FVec Ideal S1x1x128x8192 .bf16) (x2 : FVec Ideal S1x1x8192x128 .bf16) (q k : ℕ) : EReal :=
  ∑ d : Fin 128, (x2 (ix4 0 0 ⟨k % 8192, Nat.mod_lt _ (by norm_num)⟩ d) : EReal) * x1 (ix4 0 0 d ⟨q % 8192, Nat.mod_lt _ (by norm_num)⟩)

/-- Component `d` of value `k`. -/
def vl (x3 : FVec Ideal S1x1x128x8192 .bf16) (d : Fin 128) (k : ℕ) : EReal :=
  x3 (ix4 0 0 d ⟨k % 8192, Nat.mod_lt _ (by norm_num)⟩)

section
variable (x1 : FVec Ideal S1x1x128x8192 .bf16) (x2 : FVec Ideal S1x1x8192x128 .bf16) (x3 : FVec Ideal S1x1x128x8192 .bf16)

theorem rows_at (R : ℕ) (o : ℕ) (k : Fin R) (d : Fin 128) :
    rows R x2 o (ix2 k d) = x2 (ix4 0 0 ⟨(o + k.val) % 8192, Nat.mod_lt _ (by norm_num)⟩ d) := by
  rw [ix4_eq_valueIdx]; rfl

theorem cols_at (C : ℕ) (o : ℕ) (d : Fin 128) (q : Fin C) :
    cols C x1 o (ix2 d q) = x1 (ix4 0 0 d ⟨(o + q.val) % 8192, Nat.mod_lt _ (by norm_num)⟩) := by
  rw [ix4_eq_valueIdx]; rfl

theorem S_at (n j : ℕ) (k : Fin 1024) (q : Fin 512) : S x1 x2 n j (ix2 k q) = sc x1 x2 (512 * n + q.val) (1024 * j + k.val) := by
  unfold S
  rw [score_at]
  exact Finset.sum_congr rfl fun d _ => congrArg₂ (fun a b : EReal => a * b) (rows_at x2 1024 (1024 * j) k d) (cols_at x1 512 (512 * n) d q)

variable (n : ℕ) (q : Fin 512) (T : ℕ → ℝ) (hT : ∀ k, sc x1 x2 (512 * n + q.val) k = T k)
include hT

theorem tile_real (j : ℕ) : ∃ r : ℝ, (Finset.univ : Finset (Fin 1024)).fold max (Ideal.ofBits .f32 0xFF800000#32) (fun k => S x1 x2 n j (ix2 k q)) = (r : EReal) := by
  rw [minus_inf]
  exact fold_max_real _ (fun k => ⟨T (1024 * j + k.val), by rw [S_at]; exact hT _⟩) _ ⟨0, Finset.mem_univ _⟩

theorem M_real (j : ℕ) : ∃ r : ℝ, M x1 x2 n (j + 1) (ix2 0 q) = (r : EReal) := by
  induction j with
  | zero =>
    obtain ⟨r, hr⟩ := tile_real x1 x2 n q T hT 0
    refine ⟨r, ?_⟩
    show mstep minf (S x1 x2 n 0) (ix2 0 q) = _
    rw [mstep_at, hr]
    show max (Ideal.ofBits .f32 0xFF800000#32) (r : EReal) = _
    rw [minus_inf]; exact max_bot_left _
  | succ j ih =>
    obtain ⟨r, hr⟩ := tile_real x1 x2 n q T hT (j + 1)
    obtain ⟨p, hp⟩ := ih
    refine ⟨max p r, ?_⟩
    show mstep (M x1 x2 n (j + 1)) (S x1 x2 n (j + 1)) (ix2 0 q) = _
    rw [mstep_at, hr, hp]
    exact (EReal.coe_strictMono.monotone.map_max (a := p) (b := r)).symm

theorem tile_den (j : ℕ) (ν : ℝ) (M' : FVec Ideal S1x512 .f32) (hM : M' (ix2 0 q) = (ν : EReal)) :
    ∑ k : Fin 1024, Ideal.exp2 ((S x1 x2 n j (ix2 k q) : EReal) - M' (ix2 0 q)) = ((∑ k : Fin 1024, (2 : ℝ) ^ (T (1024 * j + k.val) - ν) : ℝ) : EReal) := by
  rw [coe_sum]
  refine Finset.sum_congr rfl fun k _ => ?_
  rw [S_at, hT, hM, exp2_sub]

theorem tile_num (j : ℕ) (ν : ℝ) (M' : FVec Ideal S1x512 .f32) (hM : M' (ix2 0 q) = (ν : EReal)) (d : Fin 128) :
    ∑ k : Fin 1024, (cols 1024 x3 (1024 * j) (ix2 d k) : EReal) * Ideal.exp2 ((S x1 x2 n j (ix2 k q) : EReal) - M' (ix2 0 q))
      = ∑ k : Fin 1024, vl x3 d (1024 * j + k.val) * (((2 : ℝ) ^ (T (1024 * j + k.val) - ν) : ℝ) : EReal) := by
  refine Finset.sum_congr rfl fun k _ => ?_
  rw [S_at, hT, hM, exp2_sub, cols_at]; rfl

/-- The running denominator and numerator, under the running maximum. -/
theorem L_at (j : ℕ) : ∀ ν : ℝ, M x1 x2 n (j + 1) (ix2 0 q) = (ν : EReal) →
    L x1 x2 n (j + 1) (ix2 0 q) = ((den (fun k => (2 : ℝ) ^ (T k - ν)) (1024 * (j + 1)) : ℝ) : EReal) := by
  induction j with
  | zero =>
    intro ν hν
    show lstep (M x1 x2 n 0) (M x1 x2 n 1) (S x1 x2 n 0) (L x1 x2 n 0) (ix2 0 q) = _
    rw [lstep_at, tile_den x1 x2 n q T hT 0 ν _ hν]
    have h0 : L x1 x2 n 0 (ix2 0 q) = (0 : EReal) := Ideal.ofBits_zero_f32
    rw [h0, mul_zero, zero_add]
    have := den_step T 0 ν 0 1024
    simp only [den, Finset.range_zero, Finset.sum_empty, mul_zero, zero_add] at this
    simp only [den, Nat.mul_zero, zero_add, Nat.mul_one]
    rw [this]
  | succ j ih =>
    intro ν hν
    obtain ⟨μ, hμ⟩ := M_real x1 x2 n q T hT j
    show lstep (M x1 x2 n (j + 1)) (M x1 x2 n (j + 2)) (S x1 x2 n (j + 1)) (L x1 x2 n (j + 1)) (ix2 0 q) = _
    rw [lstep_at, tile_den x1 x2 n q T hT (j + 1) ν _ hν, ih μ hμ]
    have hν' : M x1 x2 n (j + 2) (ix2 0 q) = (ν : EReal) := hν
    rw [hμ, hν', exp2_sub, ← EReal.coe_mul, ← EReal.coe_add, den_step, ← Nat.mul_succ]

theorem A_at (d : Fin 128) (j : ℕ) : ∀ ν : ℝ, M x1 x2 n (j + 1) (ix2 0 q) = (ν : EReal) →
    A x1 x2 x3 n (j + 1) (ix2 d q) = num (fun k => (2 : ℝ) ^ (T k - ν)) (vl x3 d) (1024 * (j + 1)) := by
  induction j with
  | zero =>
    intro ν hν
    show astep (M x1 x2 n 0) (M x1 x2 n 1) (S x1 x2 n 0) (cols 1024 x3 (1024 * 0)) (A x1 x2 x3 n 0) (ix2 d q) = _
    rw [astep_at, tile_num x1 x2 x3 n q T hT 0 ν _ hν]
    have h0 : A x1 x2 x3 n 0 (ix2 d q) = (0 : EReal) := Ideal.ofBits_zero_f32
    rw [h0, mul_zero, zero_add]
    have := num_step T (vl x3 d) 0 ν 0 1024
    simp only [num, Finset.range_zero, Finset.sum_empty, mul_zero, zero_add] at this
    simp only [num, Nat.mul_zero, zero_add, Nat.mul_one]
    rw [this]
  | succ j ih =>
    intro ν hν
    obtain ⟨μ, hμ⟩ := M_real x1 x2 n q T hT j
    show astep (M x1 x2 n (j + 1)) (M x1 x2 n (j + 2)) (S x1 x2 n (j + 1)) (cols 1024 x3 (1024 * (j + 1))) (A x1 x2 x3 n (j + 1)) (ix2 d q) = _
    rw [astep_at, tile_num x1 x2 x3 n q T hT (j + 1) ν _ hν, ih μ hμ]
    have hν' : M x1 x2 n (j + 2) (ix2 0 q) = (ν : EReal) := hν
    rw [hμ, hν', exp2_sub, num_step, ← Nat.mul_succ]

/-- The guarded path's quotient. -/
theorem out_at (d : Fin 128) : out x1 x2 x3 n (ix3 0 d q) = soft (fun k => (2 : ℝ) ^ T k) (vl x3 d) 8192 := by
  obtain ⟨μ, hμ⟩ := M_real x1 x2 n q T hT 7
  unfold out
  rw [quot_at, L_at x1 x2 n q T hT 7 μ hμ, A_at x1 x2 x3 n q T hT d 7 μ hμ, ← soft_max T _ μ]
  have hd : den (fun k => (2 : ℝ) ^ (T k - μ)) 8192 ≠ 0 := (den_pos _ (fun k => Real.rpow_pos_of_pos two_pos _) _ (by norm_num)).ne'
  rw [Ideal.div_coe hd, one_mul, one_div]; rfl

end

section
variable (x1 : FVec Ideal S1x1x128x8192 .bf16) (x2 : FVec Ideal S1x1x8192x128 .bf16) (x3 : FVec Ideal S1x1x128x8192 .bf16)
variable (n : ℕ) (q : Fin 1024) (T : ℕ → ℝ) (hT : ∀ k, sc x1 x2 (1024 * n + q.val) k = T k)
include hT

theorem fw_real (o : ℕ) (k : Fin 4096) : fw (rows 4096 x2 o) (cols 1024 x1 (1024 * n)) (ix2 k q) = (((2 : ℝ) ^ T (o + k.val) : ℝ) : EReal) := by
  rw [fw_at]
  have : (∑ d : Fin 128, (rows 4096 x2 o (ix2 k d) : EReal) * cols 1024 x1 (1024 * n) (ix2 d q)) = sc x1 x2 (1024 * n + q.val) (o + k.val) :=
    Finset.sum_congr rfl fun d _ => congrArg₂ (fun a b : EReal => a * b) (rows_at x2 4096 o k d) (cols_at x1 1024 (1024 * n) d q)
  rw [this, hT, Ideal.exp2_coe]; rfl

theorem fl_real (o : ℕ) : fl (fw (rows 4096 x2 o) (cols 1024 x1 (1024 * n))) (ix2 0 q) = ((∑ k : Fin 4096, (2 : ℝ) ^ T (o + k.val) : ℝ) : EReal) := by
  rw [fl_at, coe_sum]
  exact Finset.sum_congr rfl fun k _ => fw_real x1 x2 n q T hT o k

theorem fa_real (d : Fin 128) (o : ℕ) : fa (cols 4096 x3 o) (fw (rows 4096 x2 o) (cols 1024 x1 (1024 * n))) (ix2 d q)
    = ∑ k : Fin 4096, vl x3 d (o + k.val) * (((2 : ℝ) ^ T (o + k.val) : ℝ) : EReal) := by
  rw [fa_at]
  refine Finset.sum_congr rfl fun k _ => ?_
  rw [fw_real x1 x2 n q T hT o k, cols_at]; rfl

/-- The unguarded path's quotient. -/
theorem fout_at (d : Fin 128) : fout x1 x2 x3 n (ix3 0 d q) = soft (fun k => (2 : ℝ) ^ T k) (vl x3 d) 8192 := by
  unfold fout
  rw [fquot_at]
  have hl : (addf (addf (broadcast S1x1024 (Scalar.ofBits .f32 0x00000000#32)) (fl (fw (rows 4096 x2 0) (cols 1024 x1 (1024 * n)))))
      (fl (fw (rows 4096 x2 4096) (cols 1024 x1 (1024 * n)))) : FVec Ideal S1x1024 .f32) (ix2 0 q) = ((den (fun k => (2 : ℝ) ^ T k) 8192 : ℝ) : EReal) := by
    show ((Ideal.ofBits .f32 0x00000000#32 + fl (fw (rows 4096 x2 0) (cols 1024 x1 (1024 * n))) (ix2 0 q) : EReal)
      + fl (fw (rows 4096 x2 4096) (cols 1024 x1 (1024 * n))) (ix2 0 q) : EReal) = _
    rw [Ideal.ofBits_zero_f32, zero_add, fl_real x1 x2 n q T hT, fl_real x1 x2 n q T hT, ← EReal.coe_add]
    unfold den
    rw [Fin.sum_univ_eq_sum_range (fun k => (2 : ℝ) ^ T (0 + k)) 4096, Fin.sum_univ_eq_sum_range (fun k => (2 : ℝ) ^ T (4096 + k)) 4096,
      show (8192 : ℕ) = 4096 + 4096 from rfl, Finset.sum_range_add]
    simp only [zero_add]
  have ha : (addf (addf (broadcast S128x1024 (Scalar.ofBits .f32 0x00000000#32)) (fa (cols 4096 x3 0) (fw (rows 4096 x2 0) (cols 1024 x1 (1024 * n)))))
      (fa (cols 4096 x3 4096) (fw (rows 4096 x2 4096) (cols 1024 x1 (1024 * n)))) : FVec Ideal S128x1024 .f32) (ix2 d q)
        = num (fun k => (2 : ℝ) ^ T k) (vl x3 d) 8192 := by
    show ((Ideal.ofBits .f32 0x00000000#32 + fa (cols 4096 x3 0) (fw (rows 4096 x2 0) (cols 1024 x1 (1024 * n))) (ix2 d q) : EReal)
      + fa (cols 4096 x3 4096) (fw (rows 4096 x2 4096) (cols 1024 x1 (1024 * n))) (ix2 d q) : EReal) = _
    rw [Ideal.ofBits_zero_f32, zero_add, fa_real x1 x2 x3 n q T hT, fa_real x1 x2 x3 n q T hT]
    unfold num
    rw [Fin.sum_univ_eq_sum_range (fun k => vl x3 d (0 + k) * (((2 : ℝ) ^ T (0 + k) : ℝ) : EReal)) 4096,
      Fin.sum_univ_eq_sum_range (fun k => vl x3 d (4096 + k) * (((2 : ℝ) ^ T (4096 + k) : ℝ) : EReal)) 4096,
      show (8192 : ℕ) = 4096 + 4096 from rfl, Finset.sum_range_add]
    simp only [zero_add]
  rw [hl, ha]
  have hd : den (fun k => (2 : ℝ) ^ T k) 8192 ≠ 0 := (den_pos _ (fun k => Real.rpow_pos_of_pos two_pos _) _ (by norm_num)).ne'
  rw [Ideal.div_coe hd, one_mul, one_div]; rfl

end

/-- Whichever path is taken, an element of the block is the mean of the values under the query's weights. -/
theorem paths_at (x1 : FVec Ideal S1x1x128x8192 .bf16) (x2 : FVec Ideal S1x1x8192x128 .bf16) (x3 : FVec Ideal S1x1x128x8192 .bf16)
    (d : Fin 128) (Q : Fin 8192) (T : ℕ → ℝ) (hT : ∀ k, sc x1 x2 Q.val k = T k) :
    safe x1 x2 x3 (ix3 0 d Q) = soft (fun k => (2 : ℝ) ^ T k) (vl x3 d) 8192
      ∧ fast x1 x2 x3 (ix3 0 d Q) = soft (fun k => (2 : ℝ) ^ T k) (vl x3 d) 8192 := by
  constructor
  · have := out_at x1 x2 x3 (Q.val / 512) ⟨Q.val % 512, Nat.mod_lt _ (by norm_num)⟩ T
      (fun k => by rw [← hT k]; show sc x1 x2 (512 * (Q.val / 512) + Q.val % 512) k = _; rw [Nat.div_add_mod]) d
    rw [← this, ix3_eq_valueIdx, ix3_eq_valueIdx]; rfl
  · have := fout_at x1 x2 x3 (Q.val / 1024) ⟨Q.val % 1024, Nat.mod_lt _ (by norm_num)⟩ T
      (fun k => by rw [← hT k]; show sc x1 x2 (1024 * (Q.val / 1024) + Q.val % 1024) k = _; rw [Nat.div_add_mod]) d
    rw [← this, ix3_eq_valueIdx, ix3_eq_valueIdx]; rfl

end Cert.KernelIdeal.Att

end
-- ==== Proof.Spec.lean ====
/- The attention as one function of its arguments, and the host's arrays' scores in its terms. -/
module

public import proofs.«01_k».proof.Proof.Lits
public import proofs.«01_k».proof.Proof.Means

@[expose] public section

set_option maxRecDepth 16384

noncomputable section

namespace Cert.KernelIdeal.Att

open Idealize.ShloMosaic
open Cert.KernelIdeal.Gen Cert.Att

section
variable (x0 : FVec Ideal S4x8192x8x64 .f32) (x1 : FVec Ideal S4x8192x8x32 .f32) (x2 : FVec Ideal S4x8192x8x64 .f32)
  (x3 : FVec Ideal S4x8192x32 .f32) (x4 : FVec Ideal S4x8192x8x128 .f32)

/-- The inner product of a query and a key. -/
def inner (b : Fin 4) (h : Fin 8) (s k : Fin 8192) : ℝ :=
  (∑ d : Fin 64, EReal.toReal (x0 (ix4 b s h d)) * EReal.toReal (x2 (ix4 b k h d)))
    + ∑ d : Fin 32, EReal.toReal (x1 (ix4 b s h d)) * EReal.toReal (x3 (ix3 b k d))

/-- A number as a position of the sequence. -/
def pos (k : ℕ) : Fin 8192 := ⟨k % 8192, Nat.mod_lt _ (by norm_num)⟩

/-- The logit of a query and a key. -/
def logit (b : Fin 4) (h : Fin 8) (s : Fin 8192) (k : ℕ) : ℝ := inner x0 x1 x2 x3 b h s (pos k) * (1 / Real.sqrt 96)

/-- One element of the attention: the mean of the values under the exponentials of the logits. -/
def mean (b : Fin 4) (h : Fin 8) (d : Fin 128) (s : Fin 8192) : EReal :=
  soft (fun k => Real.exp (logit x0 x1 x2 x3 b h s k)) (fun k => (x4 (ix4 b (pos k) h d) : EReal)) 8192

/-- The attention, heads side by side, positions along the last axis. -/
def att : FVec Ideal S4x1024x8192 .bf16 := fun i =>
  mean x0 x1 x2 x3 x4 (i 0) ⟨(i 1).val / 128, by have h : (i 1).val < 1024 := (i 1).isLt; omega⟩
    ⟨(i 1).val % 128, Nat.mod_lt _ (by norm_num)⟩ (i 2)
end

theorem sum_parts (f : Fin 128 → EReal) (hz : ∀ d : Fin 128, 96 ≤ d.val → f d = 0) :
    ∑ d, f d = (∑ d : Fin 64, f ⟨d.val, by omega⟩) + ∑ d : Fin 32, f ⟨64 + d.val, by omega⟩ := by
  have h0 : ∑ d, f d = (∑ d : Fin 64, f ⟨d.val, by omega⟩) + ∑ d : Fin 64, f ⟨64 + d.val, by omega⟩ := Fin.sum_univ_add (a := 64) (b := 64) f
  have h1 : ∑ d : Fin 64, f ⟨64 + d.val, by omega⟩ = (∑ d : Fin 32, f ⟨64 + d.val, by omega⟩) + ∑ d : Fin 32, f ⟨64 + (32 + d.val), by omega⟩ :=
    Fin.sum_univ_add (a := 32) (b := 32) (fun d : Fin 64 => f ⟨64 + d.val, by omega⟩)
  have h2 : ∑ d : Fin 32, f ⟨64 + (32 + d.val), by omega⟩ = 0 := Finset.sum_eq_zero fun d _ => hz _ (by show 96 ≤ 64 + (32 + d.val); omega)
  rw [h0, h1, h2, add_zero]

section
variable (x0 : FVec Ideal S4x8192x8x64 .f32) (x1 : FVec Ideal S4x8192x8x32 .f32) (x2 : FVec Ideal S4x8192x8x64 .f32)
  (x3 : FVec Ideal S4x8192x32 .f32)
variable (r0 : ∀ i, x0 i = ((EReal.toReal (x0 i) : ℝ) : EReal)) (r1 : ∀ i, x1 i = ((EReal.toReal (x1 i) : ℝ) : EReal))
  (r2 : ∀ i, x2 i = ((EReal.toReal (x2 i) : ℝ) : EReal)) (r3 : ∀ i, x3 i = ((EReal.toReal (x3 i) : ℝ) : EReal))
include r0 r1 r2 r3

/-- The score that the kernel computes of the host's arrays: the logit in base two. -/
theorem host_score (b : Fin 4) (h : Fin 8) (s k : Fin 8192) :
    ∑ d : Fin 128, (kT x2 x3 (ix4 b h k d) : EReal) * qT x0 x1 (ix4 b h d s)
      = ((inner x0 x1 x2 x3 b h s k * (1 / Real.sqrt 96) / Real.log 2 : ℝ) : EReal) := by
  rw [sum_parts _ (fun d hd => by
    rw [kT_at, dif_neg (by omega), dif_neg (by omega), zero_mul])]
  have hA : ∀ d : Fin 64, (kT x2 x3 (ix4 b h k ⟨d.val, by omega⟩) : EReal) * qT x0 x1 (ix4 b h ⟨d.val, by omega⟩ s)
      = ((EReal.toReal (x0 (ix4 b s h d)) * EReal.toReal (x2 (ix4 b k h d)) * (1 / (Real.sqrt 96 * Real.log 2)) : ℝ) : EReal) := fun d => by
    rw [kT_at, qT_at, dif_pos d.isLt, dif_pos d.isLt, qmul_real]
    show (x2 (ix4 b k h d) : EReal) * ((x0 (ix4 b s h d) : EReal) * _) = _
    rw [r0 (ix4 b s h d), r2 (ix4 b k h d), ← EReal.coe_mul, ← EReal.coe_mul]
    simp only [EReal.toReal_coe]
    congr 1; ring
  have hB : ∀ d : Fin 32, (kT x2 x3 (ix4 b h k ⟨64 + d.val, by omega⟩) : EReal) * qT x0 x1 (ix4 b h ⟨64 + d.val, by omega⟩ s)
      = ((EReal.toReal (x1 (ix4 b s h d)) * EReal.toReal (x3 (ix3 b k d)) * (1 / (Real.sqrt 96 * Real.log 2)) : ℝ) : EReal) := fun d => by
    have hd : (⟨64 + d.val - 64, by omega⟩ : Fin 32) = d := Fin.ext (by show 64 + d.val - 64 = d.val; omega)
    have hn : ¬ (⟨64 + d.val, by omega⟩ : Fin 128).val < 64 := by show ¬ 64 + d.val < 64; omega
    have hp : (⟨64 + d.val, by omega⟩ : Fin 128).val - 64 < 32 := by show 64 + d.val - 64 < 32; omega
    rw [kT_at, dif_neg hn, dif_pos hp, qT_at, dif_neg hn, dif_pos hp, qmul_real]
    show (x3 (ix3 b k ⟨64 + d.val - 64, _⟩) : EReal) * ((x1 (ix4 b s h ⟨64 + d.val - 64, _⟩) : EReal) * _) = _
    rw [hd, r1 (ix4 b s h d), r3 (ix3 b k d), ← EReal.coe_mul, ← EReal.coe_mul]
    simp only [EReal.toReal_coe]
    congr 1; ring
  rw [Finset.sum_congr rfl fun d _ => hA d, Finset.sum_congr rfl fun d _ => hB d, ← coe_sum, ← coe_sum, ← EReal.coe_add]
  congr 1
  unfold inner
  rw [← Finset.sum_mul, ← Finset.sum_mul]
  have := sqrt_pos.ne'; have := log_two_pos.ne'
  field_simp

end

/-- Two to the logit in base two is the exponential of the logit. -/
theorem two_rpow_log (t : ℝ) : (2 : ℝ) ^ (t / Real.log 2) = Real.exp t := by
  rw [Real.rpow_def_of_pos two_pos, mul_div_cancel₀ _ log_two_pos.ne']

end Cert.KernelIdeal.Att

end
-- ==== Proof.Whole.lean ====
/- The launch's result array at the end of the run: the attention of the arguments. -/
module

public import proofs.«01_k».proof.Proof.Run
public import proofs.«01_k».proof.Proof.Spec

@[expose] public section

set_option maxRecDepth 16384

noncomputable section

namespace Cert.KernelIdeal.Att

open Idealize.ShloMosaic Idealize.ShloMosaic.TcCoe
open Idealize.SL.Sem
open Idealize.ShloMosaic.Pipeline (Dat)
open Cert.KernelIdeal.Gen Cert.Att

/-- Where each window's block lies at a grid point: batch `t / 8`, head `t % 8`. -/
theorem idx_facts : ∀ t : Fin cfg0.N,
    (win0_1.index t (0 : Fin 4) = t.val / 8 ∧ win0_1.index t (1 : Fin 4) = t.val % 8 ∧ win0_1.index t (2 : Fin 4) = 0 ∧ win0_1.index t (3 : Fin 4) = 0)
    ∧ (win0_2.index t (0 : Fin 4) = t.val / 8 ∧ win0_2.index t (1 : Fin 4) = t.val % 8 ∧ win0_2.index t (2 : Fin 4) = 0 ∧ win0_2.index t (3 : Fin 4) = 0)
    ∧ (win0_3.index t (0 : Fin 4) = t.val / 8 ∧ win0_3.index t (1 : Fin 4) = t.val % 8 ∧ win0_3.index t (2 : Fin 4) = 0 ∧ win0_3.index t (3 : Fin 4) = 0)
    ∧ (win0_4.index t (0 : Fin 3) = t.val / 8 ∧ win0_4.index t (1 : Fin 3) = t.val % 8 ∧ win0_4.index t (2 : Fin 3) = 0) :=
  (by decide +kernel : ∀ t : Fin grid0.N, _)

/-- The batch of a grid point. -/
def bat (t : Fin cfg0.N) : Fin 4 := ⟨t.val / 8, by have h : t.val < 32 := lt_of_lt_of_eq t.isLt N_0; omega⟩
/-- The head of a grid point. -/
def hed (t : Fin cfg0.N) : Fin 8 := ⟨t.val % 8, Nat.mod_lt _ (by norm_num)⟩

theorem emb1 (t : Fin cfg0.N) (d : Fin 128) (q : Fin 8192) : ((cfg0.win 1).blk t).view.emb (ix4 0 0 d q) = ix4 (bat t) (hed t) d q := by
  obtain ⟨⟨e0, e1, e2, e3⟩, -⟩ := idx_facts t
  funext a; apply Fin.ext
  match a with
  | ⟨0, _⟩ => show win0_1.index t (0 : Fin 4) * 1 + 1 * 0 = t.val / 8; omega
  | ⟨1, _⟩ => show win0_1.index t (1 : Fin 4) * 1 + 1 * 0 = t.val % 8; omega
  | ⟨2, _⟩ => show win0_1.index t (2 : Fin 4) * 128 + 1 * d.val = d.val; omega
  | ⟨3, _⟩ => show win0_1.index t (3 : Fin 4) * 8192 + 1 * q.val = q.val; omega

theorem emb2 (t : Fin cfg0.N) (k : Fin 8192) (d : Fin 128) : ((cfg0.win 2).blk t).view.emb (ix4 0 0 k d) = ix4 (bat t) (hed t) k d := by
  obtain ⟨-, ⟨e0, e1, e2, e3⟩, -⟩ := idx_facts t
  funext a; apply Fin.ext
  match a with
  | ⟨0, _⟩ => show win0_2.index t (0 : Fin 4) * 1 + 1 * 0 = t.val / 8; omega
  | ⟨1, _⟩ => show win0_2.index t (1 : Fin 4) * 1 + 1 * 0 = t.val % 8; omega
  | ⟨2, _⟩ => show win0_2.index t (2 : Fin 4) * 8192 + 1 * k.val = k.val; omega
  | ⟨3, _⟩ => show win0_2.index t (3 : Fin 4) * 128 + 1 * d.val = d.val; omega

theorem emb3 (t : Fin cfg0.N) (d : Fin 128) (k : Fin 8192) : ((cfg0.win 3).blk t).view.emb (ix4 0 0 d k) = ix4 (bat t) (hed t) d k := by
  obtain ⟨-, -, ⟨e0, e1, e2, e3⟩, -⟩ := idx_facts t
  funext a; apply Fin.ext
  match a with
  | ⟨0, _⟩ => show win0_3.index t (0 : Fin 4) * 1 + 1 * 0 = t.val / 8; omega
  | ⟨1, _⟩ => show win0_3.index t (1 : Fin 4) * 1 + 1 * 0 = t.val % 8; omega
  | ⟨2, _⟩ => show win0_3.index t (2 : Fin 4) * 128 + 1 * d.val = d.val; omega
  | ⟨3, _⟩ => show win0_3.index t (3 : Fin 4) * 8192 + 1 * k.val = k.val; omega

theorem emb4 (t : Fin cfg0.N) (d : Fin 128) (q : Fin 8192) : ((cfg0.win 4).blk t).view.emb (ix3 0 d q)
    = ix3 (bat t) (⟨(hed t).val * 128 + d.val, by have := (hed t).isLt; omega⟩ : Fin 1024) q := by
  obtain ⟨-, -, -, e0, e1, e2⟩ := idx_facts t
  funext a; apply Fin.ext
  match a with
  | ⟨0, _⟩ => show win0_4.index t (0 : Fin 3) * 1 + 1 * 0 = t.val / 8; omega
  | ⟨1, _⟩ => show win0_4.index t (1 : Fin 3) * 128 + 1 * d.val = t.val % 8 * 128 + d.val; omega
  | ⟨2, _⟩ => show win0_4.index t (2 : Fin 3) * 8192 + 1 * q.val = q.val; omega

variable (m : (ℓ : Loc nD τ sig) → Buf (Elt Ideal) ℓ) (c : Dev nD)

/-- The five arrays the attention depends on. -/
abbrev a0 : FVec Ideal S4x8192x8x64 .f32 := m ((c : Thread nD τ).loc main_arg0)
abbrev a1 : FVec Ideal S4x8192x8x32 .f32 := m ((c : Thread nD τ).loc main_arg1)
abbrev a2 : FVec Ideal S4x8192x8x64 .f32 := m ((c : Thread nD τ).loc main_arg2)
abbrev a3 : FVec Ideal S4x8192x32 .f32 := m ((c : Thread nD τ).loc main_arg3)
abbrev a4 : FVec Ideal S4x8192x8x128 .f32 := m ((c : Thread nD τ).loc main_arg4)

theorem iblk1_at (t : Fin cfg0.N) (d : Fin 128) (q : Fin 8192) : iblk m c 1 t (ix4 0 0 d q) = qT (a0 m c) (a1 m c) (ix4 (bat t) (hed t) d q) := by
  show V m c main_v17 (((cfg0.win 1).blk t).view.emb (ix4 0 0 d q)) = _
  rw [emb1, V_q]
theorem iblk2_at (t : Fin cfg0.N) (k : Fin 8192) (d : Fin 128) : iblk m c 2 t (ix4 0 0 k d) = kT (a2 m c) (a3 m c) (ix4 (bat t) (hed t) k d) := by
  show V m c main_v20 (((cfg0.win 2).blk t).view.emb (ix4 0 0 k d)) = _
  rw [emb2, V_k]
theorem iblk3_at (t : Fin cfg0.N) (d : Fin 128) (k : Fin 8192) : iblk m c 3 t (ix4 0 0 d k) = a4 m c (ix4 (bat t) k (hed t) d) := by
  show V m c main_v22 (((cfg0.win 3).blk t).view.emb (ix4 0 0 d k)) = _
  rw [emb3, V_v, vT_at]

/-- The queries and keys are real. -/
structure Real4 : Prop where
  r0 : ∀ i, a0 m c i = ((EReal.toReal (a0 m c i) : ℝ) : EReal)
  r1 : ∀ i, a1 m c i = ((EReal.toReal (a1 m c i) : ℝ) : EReal)
  r2 : ∀ i, a2 m c i = ((EReal.toReal (a2 m c i) : ℝ) : EReal)
  r3 : ∀ i, a3 m c i = ((EReal.toReal (a3 m c i) : ℝ) : EReal)

theorem res_at (hr : Real4 m c) (t : Fin cfg0.N) (d : Fin 128) (q : Fin 8192) :
    resBlk m c t (ix3 0 d q) = mean (a0 m c) (a1 m c) (a2 m c) (a3 m c) (a4 m c) (bat t) (hed t) d q := by
  have hT : ∀ k, sc (iblk m c 1 t) (iblk m c 2 t) q.val k = ((logit (a0 m c) (a1 m c) (a2 m c) (a3 m c) (bat t) (hed t) q k / Real.log 2 : ℝ) : EReal) := fun k => by
    have hq : (⟨q.val % 8192, Nat.mod_lt _ (by norm_num)⟩ : Fin 8192) = q := Fin.ext (Nat.mod_eq_of_lt q.isLt)
    unfold sc
    rw [hq]
    refine Eq.trans (Finset.sum_congr rfl fun e _ => ?_) (host_score (a0 m c) (a1 m c) (a2 m c) (a3 m c) hr.r0 hr.r1 hr.r2 hr.r3 (bat t) (hed t) q (pos k))
    exact congrArg₂ (fun a b : EReal => a * b) (iblk2_at m c t _ e) (iblk1_at m c t e q)
  obtain ⟨hs, hf⟩ := paths_at (iblk m c 1 t) (iblk m c 2 t) (iblk m c 3 t) d q _ hT
  have hw : soft (fun k => (2 : ℝ) ^ (logit (a0 m c) (a1 m c) (a2 m c) (a3 m c) (bat t) (hed t) q k / Real.log 2)) (vl (iblk m c 3 t) d) 8192
      = mean (a0 m c) (a1 m c) (a2 m c) (a3 m c) (a4 m c) (bat t) (hed t) d q := by
    have h2 : (fun k => (2 : ℝ) ^ (logit (a0 m c) (a1 m c) (a2 m c) (a3 m c) (bat t) (hed t) q k / Real.log 2))
        = fun k => Real.exp (logit (a0 m c) (a1 m c) (a2 m c) (a3 m c) (bat t) (hed t) q k) := funext fun k => two_rpow_log _
    have h3 : vl (iblk m c 3 t) d = fun k => a4 m c (ix4 (bat t) (pos k) (hed t) d) := funext fun k => iblk3_at m c t d (pos k)
    rw [h2, h3, mean]
  unfold resBlk block
  split
  · exact hs.trans hw
  · exact hf.trans hw

/-- The attention of the arguments, as contents of the result array. -/
abbrev result : Buf (Elt Ideal) ((c : Thread nD τ).loc main_v41) := att (a0 m c) (a1 m c) (a2 m c) (a3 m c) (a4 m c)

theorem flushed_eq (hr : Real4 m c) (t : Fin cfg0.N) :
    (dats m 0 c).flushed 4 t = ((cfg0.win 4).blk t).view.read (Elt Ideal) (result m c) := by
  show (cfg0.win 4).cut (grid0.coords t) ((dats m 0 c).after 4 t) = _
  rw [dats_after4]
  funext j
  show resBlk m c t j = result m c (((cfg0.win 4).blk t).view.emb j)
  obtain ⟨d, q, rfl⟩ : ∃ (d : Fin 128) (q : Fin 8192), j = (ix3 (0 : Fin 1) d q : S1x128x8192.Idx) := by
    refine ⟨j 1, j 2, ?_⟩
    funext a
    match a with
    | ⟨0, _⟩ => exact Subsingleton.elim (α := Fin 1) _ _
    | ⟨1, _⟩ => rfl
    | ⟨2, _⟩ => rfl
  refine (res_at m c hr t d q).trans (Eq.trans ?_ (congrArg (result m c) (emb4 t d q)).symm)
  have h1 : ((hed t).val * 128 + d.val) / 128 = (hed t).val := by omega
  have h2 : ((hed t).val * 128 + d.val) % 128 = d.val := by omega
  show _ = mean _ _ _ _ _ (bat t) ⟨((hed t).val * 128 + d.val) / 128, _⟩ ⟨((hed t).val * 128 + d.val) % 128, _⟩ q
  congr 1
  · exact Fin.ext h1.symm
  · exact Fin.ext h2.symm

theorem cover (i : S4x1024x8192.Idx) : ∃ t : Fin cfg0.N, (cfg0.win 4).flush t = true ∧ i ∈ ((cfg0.win 4).blk t).view.set := by
  have h0 : (i 0).val < 4 := (i 0).isLt
  have h1 : (i 1).val < 1024 := (i 1).isLt
  refine ⟨⟨(i 0).val * 8 + (i 1).val / 128, by rw [show cfg0.N = 32 from N_0]; omega⟩, flush0_4 _, ?_⟩
  generalize ht : (⟨(i 0).val * 8 + (i 1).val / 128, by rw [show cfg0.N = 32 from N_0]; omega⟩ : Fin cfg0.N) = t
  have htv : t.val = (i 0).val * 8 + (i 1).val / 128 := by rw [← ht]
  have he := emb4 t (⟨(i 1).val % 128, Nat.mod_lt _ (by norm_num)⟩ : Fin 128) (i 2 : Fin 8192)
  refine Eq.mp (congrArg (· ∈ ((cfg0.win 4).blk t).view.set) (he.trans ?_)) (((cfg0.win 4).blk t).view.emb_mem_set _)
  funext a; apply Fin.ext
  match a with
  | ⟨0, _⟩ => show t.val / 8 = (i 0).val; omega
  | ⟨1, _⟩ => show t.val % 8 * 128 + (i 1).val % 128 = (i 1).val; omega
  | ⟨2, _⟩ => rfl

/-- The result array ends holding the attention of the arguments. -/
theorem final (hr : Real4 m c) : (dats m 0 c).arrAt 4 cfg0.N = result m c :=
  (dats m 0 c).arrAt_eq_of_cover 4 (result m c) (fun t _ => flushed_eq m c hr t) cover

end Cert.KernelIdeal.Att

end
-- ==== Proof.RefVal.lean ====
/- The reference's result read at one element: the same attention of its arguments. -/
module

public import proofs.«01_k».proof.Proof.Gen.ReferenceIdeal.Read
public import proofs.«01_k».proof.Proof.Spec

@[expose] public section

set_option maxRecDepth 16384

noncomputable section

namespace Cert.ReferenceIdeal.Att

open Idealize.ShloMosaic
open Cert.Att Cert.ReferenceIdeal Cert.ReferenceIdeal.Gen Cert.ReferenceIdeal.Read
open Cert.KernelIdeal.Att (inner pos logit mean att smul_real minus_inf)

section
variable (x0 : FVec Ideal S4x8192x8x64 .f32) (x1 : FVec Ideal S4x8192x8x32 .f32) (x2 : FVec Ideal S4x8192x8x64 .f32)
  (x3 : FVec Ideal S4x8192x32 .f32) (x4 : FVec Ideal S4x8192x8x128 .f32)
variable (r0 : ∀ i, x0 i = ((EReal.toReal (x0 i) : ℝ) : EReal)) (r1 : ∀ i, x1 i = ((EReal.toReal (x1 i) : ℝ) : EReal))
  (r2 : ∀ i, x2 i = ((EReal.toReal (x2 i) : ℝ) : EReal)) (r3 : ∀ i, x3 i = ((EReal.toReal (x3 i) : ℝ) : EReal))
include r0 r1 r2 r3

/-- The scaled scores are the logits. -/
theorem v7_at (b : Fin 4) (h : Fin 8) (s k : Fin 8192) :
    val_main_v7 (F := Ideal) x0 x1 x2 x3 (ix4 b h s k) = ((inner x0 x1 x2 x3 b h s k * (1 / Real.sqrt 96) : ℝ) : EReal) := by
  rw [val_main_v7_apply, val_main_v5_apply, val_main_v2_apply, val_main_v4_apply, val_main_v3_apply, val_main_v6_apply, val_main_v1_apply,
    val_main_v0_apply, val_main_cst_apply, val_main_cst_0_apply]
  show ((∑ d : Fin 64, (x0 (lidx_main_v2 (ix4 b h s k) d) : EReal) * x2 (ridx_main_v2 (ix4 b h s k) d))
      + ∑ d : Fin 32, (x3 (lidx_main_v3 (idx_main_v4 (ix4 b h s k)) d) : EReal) * x1 (ridx_main_v3 (idx_main_v4 (ix4 b h s k)) d))
      * Ideal.div (Ideal.ofBits .f32 0x3F800000#32) (Ideal.sqrt (Ideal.ofBits .f32 0x42C00000#32)) = _
  have hA : ∀ d : Fin 64, (x0 (lidx_main_v2 (ix4 b h s k) d) : EReal) * x2 (ridx_main_v2 (ix4 b h s k) d)
      = ((EReal.toReal (x0 (ix4 b s h d)) * EReal.toReal (x2 (ix4 b k h d)) : ℝ) : EReal) := fun d => by
    have e0 : lidx_main_v2 (ix4 b h s k) d = ix4 b s h d := funext fun a => match a with
      | ⟨0, _⟩ => rfl | ⟨1, _⟩ => rfl | ⟨2, _⟩ => rfl | ⟨3, _⟩ => rfl
    have e1 : ridx_main_v2 (ix4 b h s k) d = ix4 b k h d := funext fun a => match a with
      | ⟨0, _⟩ => rfl | ⟨1, _⟩ => rfl | ⟨2, _⟩ => rfl | ⟨3, _⟩ => rfl
    rw [e0, e1, EReal.coe_mul, ← r0, ← r2]
  have hB : ∀ d : Fin 32, (x3 (lidx_main_v3 (idx_main_v4 (ix4 b h s k)) d) : EReal) * x1 (ridx_main_v3 (idx_main_v4 (ix4 b h s k)) d)
      = ((EReal.toReal (x1 (ix4 b s h d)) * EReal.toReal (x3 (ix3 b k d)) : ℝ) : EReal) := fun d => by
    have e0 : lidx_main_v3 (idx_main_v4 (ix4 b h s k)) d = ix3 b k d := funext fun a => match a with
      | ⟨0, _⟩ => rfl | ⟨1, _⟩ => rfl | ⟨2, _⟩ => rfl
    have e1 : ridx_main_v3 (idx_main_v4 (ix4 b h s k)) d = ix4 b s h d := funext fun a => match a with
      | ⟨0, _⟩ => rfl | ⟨1, _⟩ => rfl | ⟨2, _⟩ => rfl | ⟨3, _⟩ => rfl
    rw [e0, e1, EReal.coe_mul, ← r1, ← r3, mul_comm]
  rw [Finset.sum_congr rfl fun d _ => hA d, Finset.sum_congr rfl fun d _ => hB d, smul_real, ← coe_sum, ← coe_sum, ← EReal.coe_add, ← EReal.coe_mul]
  rfl

/-- The maximum that is subtracted is a real. -/
theorem v10_real (b : Fin 4) (h : Fin 8) (s : Fin 8192) : ∃ μ : ℝ, val_main_v10 (F := Ideal) x0 x1 x2 x3 (ix3 b h s) = (μ : EReal) := by
  obtain ⟨r, hr⟩ := fold_max_real (fun k : Fin 8192 => (val_main_v7 (F := Ideal) x0 x1 x2 x3 (ix4 b h s k) : EReal))
    (fun k => ⟨_, v7_at x0 x1 x2 x3 r0 r1 r2 r3 b h s k⟩) Finset.univ ⟨0, Finset.mem_univ _⟩
  refine ⟨r, ?_⟩
  rw [val_main_v10_apply, val_main_v9_apply, val_main_cst_2_apply]
  unfold val_main_v8
  generalize val_main_v7 (F := Ideal) x0 x1 x2 x3 = y at hr
  pointwise [val_main_cst_1]
  rw [minus_inf]
  show max (⊥ : EReal) (Finset.univ.fold max ⊥ _) = _
  rw [hr, max_bot_left]

/-- The exponentials, under the maximum. -/
theorem v14_at (b : Fin 4) (h : Fin 8) (s k : Fin 8192) (μ : ℝ) (hμ : val_main_v10 (F := Ideal) x0 x1 x2 x3 (ix3 b h s) = (μ : EReal)) :
    val_main_v14 (F := Ideal) x0 x1 x2 x3 (ix4 b h s k) = ((Real.exp (inner x0 x1 x2 x3 b h s k * (1 / Real.sqrt 96) - μ) : ℝ) : EReal) := by
  rw [val_main_v14_apply, val_main_v13_apply, v7_at x0 x1 x2 x3 r0 r1 r2 r3, val_main_v12_apply, val_main_v11_apply]
  have e : idx_main_v11 (idx_main_v12 (ix4 b h s k)) = ix3 b h s := funext fun a => match a with
    | ⟨0, _⟩ => rfl | ⟨1, _⟩ => rfl | ⟨2, _⟩ => rfl
  rw [e, hμ]
  show Ideal.exp (((_ : ℝ) : EReal) - (μ : EReal)) = _
  rw [← EReal.coe_sub, Ideal.exp_coe]

theorem v15_at (b : Fin 4) (h : Fin 8) (s : Fin 8192) (μ : ℝ) (hμ : val_main_v10 (F := Ideal) x0 x1 x2 x3 (ix3 b h s) = (μ : EReal)) :
    val_main_v15 (F := Ideal) x0 x1 x2 x3 (ix3 b h s) = ((den (fun k => Real.exp (logit x0 x1 x2 x3 b h s k - μ)) 8192 : ℝ) : EReal) := by
  rw [val_main_v15_apply, val_main_cst_3_apply]
  show (Ideal.ofBits .f32 0x00000000#32 : EReal) + _ = _
  rw [Ideal.ofBits_zero_f32, zero_add]
  unfold den
  rw [← Fin.sum_univ_eq_sum_range (fun k => Real.exp (logit x0 x1 x2 x3 b h s k - μ)) 8192, coe_sum]
  refine Finset.sum_congr rfl fun k _ => ?_
  have e : idx_main_v15 (ix3 b h s) k = ix4 b h s k := funext fun a => match a with
    | ⟨0, _⟩ => rfl | ⟨1, _⟩ => rfl | ⟨2, _⟩ => rfl | ⟨3, _⟩ => rfl
  rw [e, v14_at x0 x1 x2 x3 r0 r1 r2 r3 b h s k μ hμ]
  have hp : pos k.val = k := Fin.ext (Nat.mod_eq_of_lt k.isLt)
  show _ = ((Real.exp (inner x0 x1 x2 x3 b h s (pos k.val) * (1 / Real.sqrt 96) - μ) : ℝ) : EReal)
  rw [hp]

theorem v18_at (b : Fin 4) (h : Fin 8) (s : Fin 8192) (μ : ℝ) (hμ : val_main_v10 (F := Ideal) x0 x1 x2 x3 (ix3 b h s) = (μ : EReal)) (k : Fin 8192) :
    val_main_v18 (F := Ideal) x0 x1 x2 x3 (ix4 b h s k)
      = ((Real.exp (logit x0 x1 x2 x3 b h s k.val - μ) * (den (fun k => Real.exp (logit x0 x1 x2 x3 b h s k - μ)) 8192)⁻¹ : ℝ) : EReal) := by
  rw [val_main_v18_apply, v14_at x0 x1 x2 x3 r0 r1 r2 r3 b h s k μ hμ, val_main_v17_apply, val_main_v16_apply]
  have e : idx_main_v16 (idx_main_v17 (ix4 b h s k)) = ix3 b h s := funext fun a => match a with
    | ⟨0, _⟩ => rfl | ⟨1, _⟩ => rfl | ⟨2, _⟩ => rfl
  rw [e, v15_at x0 x1 x2 x3 r0 r1 r2 r3 b h s μ hμ]
  have hp : pos k.val = k := Fin.ext (Nat.mod_eq_of_lt k.isLt)
  have hd : den (fun k => Real.exp (logit x0 x1 x2 x3 b h s k - μ)) 8192 ≠ 0 := (den_pos _ (fun k => Real.exp_pos _) _ (by norm_num)).ne'
  show Ideal.div ((_ : ℝ) : EReal) ((_ : ℝ) : EReal) = _
  rw [Ideal.div_coe hd, ← EReal.coe_mul, one_div (den _ _)]
  show _ = ((Real.exp (inner x0 x1 x2 x3 b h s (pos k.val) * (1 / Real.sqrt 96) - μ) * _ : ℝ) : EReal)
  rw [hp]

theorem v19_at (b : Fin 4) (h : Fin 8) (d : Fin 128) (s : Fin 8192) :
    val_main_v19 (F := Ideal) x0 x1 x2 x3 x4 (ix4 b h d s) = mean x0 x1 x2 x3 x4 b h d s := by
  obtain ⟨μ, hμ⟩ := v10_real x0 x1 x2 x3 r0 r1 r2 r3 b h s
  rw [val_main_v19_apply]
  unfold mean
  rw [← soft_exp_max _ _ μ, ← soft_normalised _ (fun k => (Real.exp_pos _).le),
    ← Fin.sum_univ_eq_sum_range (fun k => (x4 (ix4 b (pos k) h d) : EReal)
      * ((Real.exp (logit x0 x1 x2 x3 b h s k - μ) * (den (fun k => Real.exp (logit x0 x1 x2 x3 b h s k - μ)) 8192)⁻¹ : ℝ) : EReal)) 8192]
  refine Finset.sum_congr rfl fun k _ => ?_
  have hp : pos k.val = k := Fin.ext (Nat.mod_eq_of_lt k.isLt)
  have e0 : lidx_main_v19 (ix4 b h d s) k = ix4 b k h d := funext fun a => match a with
    | ⟨0, _⟩ => rfl | ⟨1, _⟩ => rfl | ⟨2, _⟩ => rfl | ⟨3, _⟩ => rfl
  have e1 : ridx_main_v19 (ix4 b h d s) k = ix4 b h s k := funext fun a => match a with
    | ⟨0, _⟩ => rfl | ⟨1, _⟩ => rfl | ⟨2, _⟩ => rfl | ⟨3, _⟩ => rfl
  rw [e0, e1, v18_at x0 x1 x2 x3 r0 r1 r2 r3 b h s μ hμ k, hp]

/-- The reference's result is the attention. -/
theorem v23_eq : val_main_v23 (F := Ideal) x0 x1 x2 x3 x4 = att x0 x1 x2 x3 x4 := by
  funext i
  rw [val_main_v23_apply, val_main_v22_apply, val_main_v21_apply, val_main_v20_apply]
  show val_main_v19 (F := Ideal) x0 x1 x2 x3 x4 (idx_main_v20 (idx_main_v21 (idx_main_v22 i))) = _
  have h0 : (i 0).val < 4 := (i 0).isLt
  have h1 : (i 1).val < 1024 := (i 1).isLt
  have h2 : (i 2).val < 8192 := (i 2).isLt
  have e : idx_main_v20 (idx_main_v21 (idx_main_v22 i)) = ix4 (i 0 : Fin 4) (⟨(i 1).val / 128, by omega⟩ : Fin 8)
      (⟨(i 1).val % 128, Nat.mod_lt _ (by norm_num)⟩ : Fin 128) (i 2 : Fin 8192) := funext fun a => Fin.ext (match a with
    | ⟨0, _⟩ => by show (((i 0).val * 8192 + (i 2).val) * 1024 + (i 1).val) / 8388608 = (i 0).val; omega
    | ⟨1, _⟩ => by show (((i 0).val * 8192 + (i 2).val) * 1024 + (i 1).val) / 128 % 8 = (i 1).val / 128; omega
    | ⟨2, _⟩ => by show (((i 0).val * 8192 + (i 2).val) * 1024 + (i 1).val) % 128 = (i 1).val % 128; omega
    | ⟨3, _⟩ => by show (((i 0).val * 8192 + (i 2).val) * 1024 + (i 1).val) / 1024 % 8192 = (i 2).val; omega)
  rw [e]
  exact v19_at x0 x1 x2 x3 x4 r0 r1 r2 r3 _ _ _ _

end

end Cert.ReferenceIdeal.Att

end
-- ==== Proof.Bridge.lean ====
/- The run of the kernel at the bits: its text is that of the idealized kernel, piece by piece, so one run serves both. -/
module

public import proofs.«01_k».proof.Proof.Run
public import proofs.«01_k».proof.Proof.Gen.Kernel
public import proofs.«01_k».proof.Defs

@[expose] public section

set_option maxRecDepth 16384

namespace Cert.Kernel.Att

open Idealize.ShloMosaic Idealize.SL.Sem

variable {F : FTy → Type} [FloatOps F]

/-- The body table. -/
theorem defs₀_eq : Cert.Kernel.defs₀ (F := F) = Cert.KernelIdeal.defs₀ (F := F) := by
  funext pr ℓ a
  match pr, ℓ, a with
  | .tc, ⟨0, _⟩, (t, s) =>
    dsimp only [Cert.Kernel.defs₀, Cert.KernelIdeal.defs₀, Defs.onTc]
    rfl
  | .scScalar _, _, _ => rfl
  | .scVector _ _, _, _ => rfl

/-- The body table with the launch's entries. -/
theorem defs_eq : Cert.Kernel.defs (F := F) = Cert.KernelIdeal.defs (F := F) :=
  congrArg (Pipeline.defs Cert.KernelIdeal.pcfgs) defs₀_eq

/-- Two programs that start alike and go on alike are one. -/
theorem bind_eq {E : Type → Type} {α β : Type} {p p' : Prog E α} {k k' : α → Prog E β} (h : p = p') (hk : ∀ a, k a = k' a) :
    (p >>= k) = (p' >>= k') := by
  subst h; rw [funext hk]

set_option maxHeartbeats 20000000 in
/-- The host's program, one operation after the other. -/
theorem main_eq : Cert.Kernel.main (F := F) = Cert.KernelIdeal.main (F := F) := by
  funext c
  unfold Cert.Kernel.main Cert.KernelIdeal.main
  iterate 55
    apply bind_eq
    · rfl
    intro _
  rfl

/-- The kernel at the bits runs to its end, leaves its arguments as they were and every semaphore at zero. -/
theorem frame_kernel : Cert.quiescent_Kernel := fun m ρ _ => by
  rw [defs_eq, main_eq]
  exact Cert.KernelIdeal.Att.frame_run (F := Bits) m ρ

end Cert.Kernel.Att
-- ==== Proof.OutSteps.lean ====
/- The output projection's block: what a grid point stores, read at one element over the extended reals. -/
module

public import proofs.«01_k».proof.Proof.Gen.Kernel2Ideal.Value
public import Idealize.ShloMosaic.Lib.Pointwise
public import Idealize.ShloMosaic.Lib.ValueIdx

@[expose] public section

set_option maxRecDepth 16384

noncomputable section

namespace Cert.Kernel2Ideal.Out

open Idealize.ShloMosaic
open Cert.Kernel2Ideal.Gen

/-- The factor of the norm for one token: the reciprocal root of the mean square. -/
def fac (a : Fin 1024 → EReal) : EReal :=
  Ideal.rsqrt (Ideal.div (∑ e, a e * a e) (Ideal.ofBits .f32 0x44800000#32) + Ideal.ofBits .f32 0x358637BD#32)

/-- The features of one token: the retention's, then the normed and gated attention's. -/
def feat (r a w g : Fin 1024 → EReal) (k : Fin 2048) : EReal :=
  if h : k.val < 1024 then r ⟨k.val, h⟩
  else a ⟨k.val - 1024, by omega⟩ * fac a * w ⟨k.val - 1024, by omega⟩ * g ⟨k.val - 1024, by omega⟩

theorem cat_at (a : Vec Ideal S1x1024x1024 .bf16) (w : Vec Ideal S1024x1 .f32) (g : Vec Ideal S1x1024x1024 .bf16) (r : Vec Ideal S1x1024x1024 .bf16)
    (k : Fin 2048) (s : Fin 1024) :
    k0_pay3 a w g r (ix2 k s) = feat (fun e => r (ix3 0 e s)) (fun e => a (ix3 0 e s)) (fun e => w (ix2 e 0)) (fun e => g (ix3 0 e s)) k := by
  unfold feat fac
  pointwise [k0_pay3]
  all_goals rfl

/-- One block of 256 columns from the joined features, the weights, the gate and the residual. -/
def cols (y : FVec Ideal S2048x1024 .bf16) (w : Vec Ideal S256x2048 .bf16) (g : Vec Ideal S1x1x256 .f32) (x : Vec Ideal S1x1024x256 .f32)
    (s : Fin 1024) (n : Fin 256) : EReal :=
  x (ix3 0 s n) + g (ix3 0 0 n) * ∑ k : Fin 2048, w (ix2 n k) * y (ix2 k s)

theorem pay2_at (y : FVec Ideal S2048x1024 .bf16) (w : Vec Ideal S256x2048 .bf16) (g : Vec Ideal S1x1x256 .f32) (x : Vec Ideal S1x1024x256 .f32)
    (s : Fin 1024) (n : Fin 256) : k0_pay2 y w g x (ix3 0 s n) = cols y w g x s n := by
  unfold cols
  pointwise [k0_pay2]
  all_goals rfl

theorem pay7_at (y : FVec Ideal S2048x1024 .bf16) (w : Vec Ideal S256x2048 .bf16) (g : Vec Ideal S1x1x256 .f32) (x : Vec Ideal S1x1024x256 .f32)
    (s : Fin 1024) (n : Fin 256) : k0_pay7 y w g x (ix3 0 s n) = cols y w g x s n := by
  unfold cols
  pointwise [k0_pay7]
  all_goals rfl

theorem pay8_at (y : FVec Ideal S2048x1024 .bf16) (w : Vec Ideal S256x2048 .bf16) (g : Vec Ideal S1x1x256 .f32) (x : Vec Ideal S1x1024x256 .f32)
    (s : Fin 1024) (n : Fin 256) : k0_pay1 (k0_pay8 y w g x) (ix3 0 s n) = cols y w g x s n := by
  unfold cols
  pointwise [k0_pay1, k0_pay8]
  all_goals rfl

theorem pay6_at (a : Vec Ideal S1x1024x1024 .bf16) (v : Vec Ideal S1024x1 .f32) (h : Vec Ideal S1x1024x1024 .bf16) (r : Vec Ideal S1x1024x1024 .bf16)
    (w : Vec Ideal S256x2048 .bf16) (g : Vec Ideal S1x1x256 .f32) (x : Vec Ideal S1x1024x256 .f32)
    (s : Fin 1024) (n : Fin 256) : k0_pay6 (k0_pay4 x) (k0_pay5 a v h r w g) (ix3 0 s n) = cols (k0_pay3 a v h r) w g x s n := by
  unfold cols k0_pay5
  generalize k0_pay3 a v h r = y
  pointwise [k0_pay6, k0_pay4]
  all_goals rfl

end Cert.Kernel2Ideal.Out

end
-- ==== Proof.OutVal.lean ====
/- The output projection's result array at the end of the run, as a function of the arguments. -/
module

public import proofs.«01_k».proof.Proof.OutSteps
public import Idealize.ShloMosaic.Lib.Claim

@[expose] public section

set_option maxRecDepth 16384

noncomputable section

namespace Cert.Kernel2Ideal.Out

open Idealize.ShloMosaic Idealize.ShloMosaic.TcCoe Idealize.ShloMosaic.StableHlo
open Idealize.SL.Sem
open Idealize.ShloMosaic.Pipeline (Dat)
open Cert.Kernel2Ideal.Gen

/-! ## One block -/

/-- The block a grid point stores, index by index. -/
def blk (x0 : Vec Ideal S1x1024x1024 .f32) (x1 x2 x3 : Vec Ideal S1x1024x1024 .bf16) (x4 : Vec Ideal S1x3x1024 .f32) (x5 : Vec Ideal S1024x1 .f32)
    (x6 : Vec Ideal S1024x2048 .bf16) (s n : Fin 1024) : EReal :=
  x0 (ix3 0 s n) + x4 (ix3 0 2 n) * ∑ k : Fin 2048, x6 (ix2 n k)
    * feat (fun e => x1 (ix3 0 e s)) (fun e => x2 (ix3 0 e s)) (fun e => x5 (ix2 e 0)) (fun e => x3 (ix3 0 e s)) k

theorem ld_whole3 (x : Vec Ideal S1x1024x1024 .bf16) : View.ld x r0_0 = x :=
  View.ld_unit_zero (funext fun a => match a with | ⟨0, _⟩ => rfl | ⟨1, _⟩ => rfl | ⟨2, _⟩ => rfl) _ x
theorem ld_whole2 (x : Vec Ideal S1024x1 .f32) : View.ld x r0_1 = x :=
  View.ld_unit_zero (funext fun a => match a with | ⟨0, _⟩ => rfl | ⟨1, _⟩ => rfl) _ x

variable (x0 : Vec Ideal S1x1024x1024 .f32) (x1 x2 x3 : Vec Ideal S1x1024x1024 .bf16) (x4 : Vec Ideal S1x3x1024 .f32) (x5 : Vec Ideal S1024x1 .f32)
    (x6 : Vec Ideal S1024x2048 .bf16)

/-- 256 columns from column `o` on, computed from the loads at `o`, are the block's. -/
theorem cols_blk (o : ℕ) (ho : o + 256 ≤ 1024) (w : Vec Ideal S256x2048 .bf16) (g : Vec Ideal S1x1x256 .f32) (x : Vec Ideal S1x1024x256 .f32)
    (hw : ∀ n k, w (ix2 n k) = x6 (ix2 (⟨o + n.val, by have := n.isLt; omega⟩ : Fin 1024) k))
    (hg : ∀ n, g (ix3 0 0 n) = x4 (ix3 0 2 (⟨o + n.val, by have := n.isLt; omega⟩ : Fin 1024)))
    (hx : ∀ s n, x (ix3 0 s n) = x0 (ix3 0 s (⟨o + n.val, by have := n.isLt; omega⟩ : Fin 1024)))
    (s : Fin 1024) (n : Fin 256) :
    cols (k0_pay3 x2 x5 x3 x1) w g x s n = blk x0 x1 x2 x3 x4 x5 x6 s ⟨o + n.val, by have := n.isLt; omega⟩ := by
  unfold cols blk
  rw [hg, hx]
  refine congrArg (fun z : EReal => _ + _ * z) (Finset.sum_congr rfl fun k _ => ?_)
  rw [hw, cat_at]

theorem out_at (y : S1x1024x1024.Idx) : out0_7 x0 x1 x2 x3 x4 x5 x6 y = blk x0 x1 x2 x3 x4 x5 x6 (y 1 : Fin 1024) (y 2 : Fin 1024) := by
  unfold out0_7 k0_pay9
  rw [ld_whole3, ld_whole3, ld_whole3, ld_whole2]
  refine View.canon_apply_of_pieces (Val := Elt Ideal) (fun y : S1x1024x1024.Idx => blk x0 x1 x2 x3 x4 x5 x6 (y 1 : Fin 1024) (y 2 : Fin 1024)) _ ?_ y (cover0_7 _ _ _ _ y)
  have hz : ∀ z : S1x1024x256.Idx, ∃ (s : Fin 1024) (n : Fin 256), z = ix3 (0 : Fin 1) s n := fun z => ⟨z 1, z 2, funext fun a => match a with
    | ⟨0, _⟩ => Subsingleton.elim (α := Fin 1) _ _ | ⟨1, _⟩ => rfl | ⟨2, _⟩ => rfl⟩
  intro p hp z
  simp only [List.mem_cons, List.not_mem_nil, or_false] at hp
  rcases hp with rfl | rfl | rfl | rfl
  · obtain ⟨s, n, rfl⟩ := hz z
    refine (pay2_at _ _ _ _ s n).trans ((cols_blk x0 x1 x2 x3 x4 x5 x6 768 (by norm_num) _ _ _ (fun n k => ?_) (fun n => ?_) (fun s n => ?_) s n).trans ?_)
    · exact congrArg x6 (funext fun a => Fin.ext (match a with
        | ⟨0, _⟩ => by show 768 + 1 * n.val = 768 + n.val; omega
        | ⟨1, _⟩ => by show 0 + 1 * k.val = k.val; omega))
    · exact congrArg x4 (funext fun a => Fin.ext (match a with
        | ⟨0, _⟩ => rfl
        | ⟨1, _⟩ => rfl
        | ⟨2, _⟩ => by show 768 + 1 * n.val = 768 + n.val; omega))
    · exact congrArg x0 (funext fun a => Fin.ext (match a with
        | ⟨0, _⟩ => rfl
        | ⟨1, _⟩ => by show 0 + 1 * s.val = s.val; omega
        | ⟨2, _⟩ => by show 768 + 1 * n.val = 768 + n.val; omega))
    · exact congrArg₂ (blk x0 x1 x2 x3 x4 x5 x6) (Fin.ext (by show s.val = 0 + 1 * s.val; omega)) (Fin.ext (by show 768 + n.val = 768 + 1 * n.val; omega))
  · obtain ⟨s, n, rfl⟩ := hz z
    refine (pay8_at _ _ _ _ s n).trans ((cols_blk x0 x1 x2 x3 x4 x5 x6 512 (by norm_num) _ _ _ (fun n k => ?_) (fun n => ?_) (fun s n => ?_) s n).trans ?_)
    · exact congrArg x6 (funext fun a => Fin.ext (match a with
        | ⟨0, _⟩ => by show 512 + 1 * n.val = 512 + n.val; omega
        | ⟨1, _⟩ => by show 0 + 1 * k.val = k.val; omega))
    · exact congrArg x4 (funext fun a => Fin.ext (match a with
        | ⟨0, _⟩ => rfl
        | ⟨1, _⟩ => rfl
        | ⟨2, _⟩ => by show 512 + 1 * n.val = 512 + n.val; omega))
    · exact congrArg x0 (funext fun a => Fin.ext (match a with
        | ⟨0, _⟩ => rfl
        | ⟨1, _⟩ => by show 0 + 1 * s.val = s.val; omega
        | ⟨2, _⟩ => by show 512 + 1 * n.val = 512 + n.val; omega))
    · exact congrArg₂ (blk x0 x1 x2 x3 x4 x5 x6) (Fin.ext (by show s.val = 0 + 1 * s.val; omega)) (Fin.ext (by show 512 + n.val = 512 + 1 * n.val; omega))
  · obtain ⟨s, n, rfl⟩ := hz z
    refine (pay7_at _ _ _ _ s n).trans ((cols_blk x0 x1 x2 x3 x4 x5 x6 256 (by norm_num) _ _ _ (fun n k => ?_) (fun n => ?_) (fun s n => ?_) s n).trans ?_)
    · exact congrArg x6 (funext fun a => Fin.ext (match a with
        | ⟨0, _⟩ => by show 256 + 1 * n.val = 256 + n.val; omega
        | ⟨1, _⟩ => by show 0 + 1 * k.val = k.val; omega))
    · exact congrArg x4 (funext fun a => Fin.ext (match a with
        | ⟨0, _⟩ => rfl
        | ⟨1, _⟩ => rfl
        | ⟨2, _⟩ => by show 256 + 1 * n.val = 256 + n.val; omega))
    · exact congrArg x0 (funext fun a => Fin.ext (match a with
        | ⟨0, _⟩ => rfl
        | ⟨1, _⟩ => by show 0 + 1 * s.val = s.val; omega
        | ⟨2, _⟩ => by show 256 + 1 * n.val = 256 + n.val; omega))
    · exact congrArg₂ (blk x0 x1 x2 x3 x4 x5 x6) (Fin.ext (by show s.val = 0 + 1 * s.val; omega)) (Fin.ext (by show 256 + n.val = 256 + 1 * n.val; omega))
  · obtain ⟨s, n, rfl⟩ := hz z
    refine (pay6_at _ _ _ _ _ _ _ s n).trans ((cols_blk x0 x1 x2 x3 x4 x5 x6 0 (by norm_num) _ _ _ (fun n k => ?_) (fun n => ?_) (fun s n => ?_) s n).trans ?_)
    · exact congrArg x6 (funext fun a => Fin.ext (match a with
        | ⟨0, _⟩ => by show 0 + 1 * n.val = 0 + n.val; omega
        | ⟨1, _⟩ => by show 0 + 1 * k.val = k.val; omega))
    · exact congrArg x4 (funext fun a => Fin.ext (match a with
        | ⟨0, _⟩ => rfl
        | ⟨1, _⟩ => rfl
        | ⟨2, _⟩ => by show 0 + 1 * n.val = 0 + n.val; omega))
    · exact congrArg x0 (funext fun a => Fin.ext (match a with
        | ⟨0, _⟩ => rfl
        | ⟨1, _⟩ => by show 0 + 1 * s.val = s.val; omega
        | ⟨2, _⟩ => by show 0 + 1 * n.val = 0 + n.val; omega))
    · exact congrArg₂ (blk x0 x1 x2 x3 x4 x5 x6) (Fin.ext (by show s.val = 0 + 1 * s.val; omega)) (Fin.ext (by show 0 + n.val = 0 + 1 * n.val; omega))

/-! ## The arrays the host prepares -/

section
variable (m : (ℓ : Loc nD τ sig) → Buf (Elt Ideal) ℓ) (c : Dev nD)

/-- The arguments: the residual stream, the retention's output, the attention's, its gate, the conditioning, the norm's weight, the projection. -/
abbrev a0 : FVec Ideal S4x8192x1024 .f32 := m ((c : Thread nD τ).loc main_arg0)
abbrev a1 : FVec Ideal S4x8192x1024 .f32 := m ((c : Thread nD τ).loc main_arg1)
abbrev a2 : FVec Ideal S4x8192x1024 .f32 := m ((c : Thread nD τ).loc main_arg2)
abbrev a3 : FVec Ideal S4x8192x1024 .f32 := m ((c : Thread nD τ).loc main_arg3)
abbrev a4 : FVec Ideal S4x3072 .f32 := m ((c : Thread nD τ).loc main_arg4)
abbrev a5 : FVec Ideal S1024 .f32 := m ((c : Thread nD τ).loc main_arg5)
abbrev a6 : FVec Ideal S2048x1024 .f32 := m ((c : Thread nD τ).loc main_arg6)

/-- A token's features along the second axis. -/
def turn (x : FVec Ideal S4x8192x1024 .f32) : FVec Ideal S4x1024x8192 .bf16 :=
  truncf .bf16 (transpose S4x1024x8192 [0, 2, 1] x transposes_S4x8192x1024_S4x1024x8192_0_2_1) bitsLt_bf16_f32
def wT (x : FVec Ideal S2048x1024 .f32) : FVec Ideal S1024x2048 .bf16 :=
  truncf .bf16 (transpose S1024x2048 [1, 0] x transposes_S2048x1024_S1024x2048_1_0) bitsLt_bf16_f32
def mod3 (x : FVec Ideal S4x3072 .f32) : FVec Ideal S4x3x1024 .f32 := shapeCast S4x3x1024 x shapeCasts_S4x3072_S4x3x1024
def col (x : FVec Ideal S1024 .f32) : FVec Ideal S1024x1 .f32 := shapeCast S1024x1 x shapeCasts_S1024_S1024x1

theorem V_ret : V m c main_v4 = turn (a1 m c) := by
  unfold_abbrev_sides
  after_results
  rfl
theorem V_att : V m c main_v6 = turn (a2 m c) := by
  unfold_abbrev_sides
  after_results
  rfl
theorem V_gate : V m c main_v8 = turn (a3 m c) := by
  unfold_abbrev_sides
  after_results
  rfl
theorem V_mod : V m c main_v2 = mod3 (a4 m c) := by
  unfold_abbrev_sides
  after_results
  rfl
theorem V_col : V m c main_v9 = col (a5 m c) := by
  unfold_abbrev_sides
  after_results
  rfl
theorem V_w : V m c main_v1 = wT (a6 m c) := by
  unfold_abbrev_sides
  after_results
  rfl
end

theorem turn_at (x : FVec Ideal S4x8192x1024 .f32) (b : Fin 4) (e : Fin 1024) (s : Fin 8192) : turn x (ix3 b e s) = x (ix3 b s e) := by
  pointwise [turn]
  all_goals rfl
theorem wT_at (x : FVec Ideal S2048x1024 .f32) (n : Fin 1024) (k : Fin 2048) : wT x (ix2 n k) = x (ix2 k n) := by
  pointwise [wT]
  all_goals rfl
theorem mod3_at (x : FVec Ideal S4x3072 .f32) (b : Fin 4) (n : Fin 1024) : mod3 x (ix3 b 2 n) = x (ix2 b (⟨2048 + n.val, by have := n.isLt; omega⟩ : Fin 3072)) := by
  pointwise [mod3]
  all_goals rfl
theorem col_at (x : FVec Ideal S1024 .f32) (e : Fin 1024) : col x (ix2 e 0) = x (ix1 e) := by
  pointwise [col]
  all_goals rfl

end Cert.Kernel2Ideal.Out

end
-- ==== Proof.OutWhole.lean ====
/- The output projection's result array: each grid point's block, from the arguments, and the whole. -/
module

public import proofs.«01_k».proof.Proof.OutVal

@[expose] public section

set_option maxRecDepth 16384

noncomputable section

namespace Cert.Kernel2Ideal.Out

open Idealize.ShloMosaic Idealize.ShloMosaic.TcCoe
open Idealize.SL.Sem
open Idealize.ShloMosaic.Pipeline (Dat)
open Cert.Kernel2Ideal.Gen

/-- The layer's last lines: the residual plus the gate times the projection of the features. -/
def proj (x0 x1 x2 x3 : FVec Ideal S4x8192x1024 .f32) (x4 : FVec Ideal S4x3072 .f32) (x5 : FVec Ideal S1024 .f32) (x6 : FVec Ideal S2048x1024 .f32) :
    FVec Ideal S4x8192x1024 .f32 := fun i =>
  x0 (ix3 (i 0 : Fin 4) (i 1 : Fin 8192) (i 2 : Fin 1024))
    + x4 (ix2 (i 0 : Fin 4) (⟨2048 + (i 2).val, by have h : (i 2).val < 1024 := (i 2).isLt; omega⟩ : Fin 3072))
      * ∑ k : Fin 2048, x6 (ix2 k (i 2 : Fin 1024))
        * feat (fun e => x1 (ix3 (i 0 : Fin 4) (i 1 : Fin 8192) e)) (fun e => x2 (ix3 (i 0 : Fin 4) (i 1 : Fin 8192) e)) (fun e => x5 (ix1 e))
            (fun e => x3 (ix3 (i 0 : Fin 4) (i 1 : Fin 8192) e)) k

/-- Where each window's block lies at a grid point: batch `t / 8`, tokens from `t % 8 * 1024` on. -/
theorem idx_facts : ∀ t : Fin cfg0.N,
    (win0_0.index t (0 : Fin 3) = t.val / 8 ∧ win0_0.index t (1 : Fin 3) = t.val % 8 ∧ win0_0.index t (2 : Fin 3) = 0)
    ∧ (win0_1.index t (0 : Fin 3) = t.val / 8 ∧ win0_1.index t (1 : Fin 3) = 0 ∧ win0_1.index t (2 : Fin 3) = t.val % 8)
    ∧ (win0_2.index t (0 : Fin 3) = t.val / 8 ∧ win0_2.index t (1 : Fin 3) = 0 ∧ win0_2.index t (2 : Fin 3) = t.val % 8)
    ∧ (win0_3.index t (0 : Fin 3) = t.val / 8 ∧ win0_3.index t (1 : Fin 3) = 0 ∧ win0_3.index t (2 : Fin 3) = t.val % 8)
    ∧ (win0_4.index t (0 : Fin 3) = t.val / 8 ∧ win0_4.index t (1 : Fin 3) = 0 ∧ win0_4.index t (2 : Fin 3) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 3) = t.val / 8 ∧ win0_7.index t (1 : Fin 3) = t.val % 8 ∧ win0_7.index t (2 : Fin 3) = 0) :=
  (by decide +kernel : ∀ t : Fin grid0.N, _)

/-- The batch of a grid point. -/
def bat (t : Fin cfg0.N) : Fin 4 := ⟨t.val / 8, by have h : t.val < 32 := lt_of_lt_of_eq t.isLt N_0; omega⟩
/-- A token of a grid point's block, in the sequence. -/
def tok (t : Fin cfg0.N) (s : Fin 1024) : Fin 8192 := ⟨t.val % 8 * 1024 + s.val, by have := s.isLt; omega⟩

theorem emb0 (t : Fin cfg0.N) (s : Fin 1024) (n : Fin 1024) : ((cfg0.win 0).blk t).view.emb (ix3 0 s n) = ix3 (bat t) (tok t s) n := by
  obtain ⟨⟨e0, e1, e2⟩, -, -, -, -, -, -, -⟩ := idx_facts t
  funext a; apply Fin.ext
  match a with
  | ⟨0, _⟩ => show win0_0.index t (0 : Fin 3) * 1 + 1 * 0 = t.val / 8; omega
  | ⟨1, _⟩ => show win0_0.index t (1 : Fin 3) * 1024 + 1 * s.val = t.val % 8 * 1024 + s.val; omega
  | ⟨2, _⟩ => show win0_0.index t (2 : Fin 3) * 1024 + 1 * n.val = n.val; omega

theorem emb1 (t : Fin cfg0.N) (e : Fin 1024) (s : Fin 1024) : ((cfg0.win 1).blk t).view.emb (ix3 0 e s) = ix3 (bat t) e (tok t s) := by
  obtain ⟨-, ⟨e0, e1, e2⟩, -, -, -, -, -, -⟩ := idx_facts t
  funext a; apply Fin.ext
  match a with
  | ⟨0, _⟩ => show win0_1.index t (0 : Fin 3) * 1 + 1 * 0 = t.val / 8; omega
  | ⟨1, _⟩ => show win0_1.index t (1 : Fin 3) * 1024 + 1 * e.val = e.val; omega
  | ⟨2, _⟩ => show win0_1.index t (2 : Fin 3) * 1024 + 1 * s.val = t.val % 8 * 1024 + s.val; omega

theorem emb2 (t : Fin cfg0.N) (e : Fin 1024) (s : Fin 1024) : ((cfg0.win 2).blk t).view.emb (ix3 0 e s) = ix3 (bat t) e (tok t s) := by
  obtain ⟨-, -, ⟨e0, e1, e2⟩, -, -, -, -, -⟩ := idx_facts t
  funext a; apply Fin.ext
  match a with
  | ⟨0, _⟩ => show win0_2.index t (0 : Fin 3) * 1 + 1 * 0 = t.val / 8; omega
  | ⟨1, _⟩ => show win0_2.index t (1 : Fin 3) * 1024 + 1 * e.val = e.val; omega
  | ⟨2, _⟩ => show win0_2.index t (2 : Fin 3) * 1024 + 1 * s.val = t.val % 8 * 1024 + s.val; omega

theorem emb3 (t : Fin cfg0.N) (e : Fin 1024) (s : Fin 1024) : ((cfg0.win 3).blk t).view.emb (ix3 0 e s) = ix3 (bat t) e (tok t s) := by
  obtain ⟨-, -, -, ⟨e0, e1, e2⟩, -, -, -, -⟩ := idx_facts t
  funext a; apply Fin.ext
  match a with
  | ⟨0, _⟩ => show win0_3.index t (0 : Fin 3) * 1 + 1 * 0 = t.val / 8; omega
  | ⟨1, _⟩ => show win0_3.index t (1 : Fin 3) * 1024 + 1 * e.val = e.val; omega
  | ⟨2, _⟩ => show win0_3.index t (2 : Fin 3) * 1024 + 1 * s.val = t.val % 8 * 1024 + s.val; omega

theorem emb4 (t : Fin cfg0.N) (n : Fin 1024) : ((cfg0.win 4).blk t).view.emb (ix3 0 2 n) = ix3 (bat t) 2 n := by
  obtain ⟨-, -, -, -, ⟨e0, e1, e2⟩, -, -, -⟩ := idx_facts t
  funext a; apply Fin.ext
  match a with
  | ⟨0, _⟩ => show win0_4.index t (0 : Fin 3) * 1 + 1 * 0 = t.val / 8; omega
  | ⟨1, _⟩ => show win0_4.index t (1 : Fin 3) * 3 + 1 * 2 = 2; omega
  | ⟨2, _⟩ => show win0_4.index t (2 : Fin 3) * 1024 + 1 * n.val = n.val; omega

theorem emb5 (t : Fin cfg0.N) (e : Fin 1024) : ((cfg0.win 5).blk t).view.emb (ix2 e 0) = ix2 e 0 := by
  obtain ⟨-, -, -, -, -, ⟨e0, e1⟩, -, -⟩ := idx_facts t
  funext a; apply Fin.ext
  match a with
  | ⟨0, _⟩ => show win0_5.index t (0 : Fin 2) * 1024 + 1 * e.val = e.val; omega
  | ⟨1, _⟩ => show win0_5.index t (1 : Fin 2) * 1 + 1 * 0 = 0; omega

theorem emb6 (t : Fin cfg0.N) (n : Fin 1024) (k : Fin 2048) : ((cfg0.win 6).blk t).view.emb (ix2 n k) = ix2 n k := by
  obtain ⟨-, -, -, -, -, -, ⟨e0, e1⟩, -⟩ := idx_facts t
  funext a; apply Fin.ext
  match a with
  | ⟨0, _⟩ => show win0_6.index t (0 : Fin 2) * 1024 + 1 * n.val = n.val; omega
  | ⟨1, _⟩ => show win0_6.index t (1 : Fin 2) * 2048 + 1 * k.val = k.val; omega

theorem emb7 (t : Fin cfg0.N) (s : Fin 1024) (n : Fin 1024) : ((cfg0.win 7).blk t).view.emb (ix3 0 s n) = ix3 (bat t) (tok t s) n := by
  obtain ⟨-, -, -, -, -, -, -, e0, e1, e2⟩ := idx_facts t
  funext a; apply Fin.ext
  match a with
  | ⟨0, _⟩ => show win0_7.index t (0 : Fin 3) * 1 + 1 * 0 = t.val / 8; omega
  | ⟨1, _⟩ => show win0_7.index t (1 : Fin 3) * 1024 + 1 * s.val = t.val % 8 * 1024 + s.val; omega
  | ⟨2, _⟩ => show win0_7.index t (2 : Fin 3) * 1024 + 1 * n.val = n.val; omega

variable (m : (ℓ : Loc nD τ sig) → Buf (Elt Ideal) ℓ) (c : Dev nD)

theorem iblk0_at (t : Fin cfg0.N) (s n : Fin 1024) : iblk m c 0 t (ix3 0 s n) = a0 m c (ix3 (bat t) (tok t s) n) := by
  show V m c main_arg0 (((cfg0.win 0).blk t).view.emb (ix3 0 s n)) = _
  rw [emb0, V_main_arg0]
theorem iblk1_at (t : Fin cfg0.N) (e s : Fin 1024) : iblk m c 1 t (ix3 0 e s) = a1 m c (ix3 (bat t) (tok t s) e) := by
  show V m c main_v4 (((cfg0.win 1).blk t).view.emb (ix3 0 e s)) = _
  rw [emb1, V_ret, turn_at]
theorem iblk2_at (t : Fin cfg0.N) (e s : Fin 1024) : iblk m c 2 t (ix3 0 e s) = a2 m c (ix3 (bat t) (tok t s) e) := by
  show V m c main_v6 (((cfg0.win 2).blk t).view.emb (ix3 0 e s)) = _
  rw [emb2, V_att, turn_at]
theorem iblk3_at (t : Fin cfg0.N) (e s : Fin 1024) : iblk m c 3 t (ix3 0 e s) = a3 m c (ix3 (bat t) (tok t s) e) := by
  show V m c main_v8 (((cfg0.win 3).blk t).view.emb (ix3 0 e s)) = _
  rw [emb3, V_gate, turn_at]
theorem iblk4_at (t : Fin cfg0.N) (n : Fin 1024) :
    iblk m c 4 t (ix3 0 2 n) = a4 m c (ix2 (bat t) (⟨2048 + n.val, by have := n.isLt; omega⟩ : Fin 3072)) := by
  show V m c main_v2 (((cfg0.win 4).blk t).view.emb (ix3 0 2 n)) = _
  rw [emb4, V_mod, mod3_at]
theorem iblk5_at (t : Fin cfg0.N) (e : Fin 1024) : iblk m c 5 t (ix2 e 0) = a5 m c (ix1 e) := by
  show V m c main_v9 (((cfg0.win 5).blk t).view.emb (ix2 e 0)) = _
  rw [emb5, V_col, col_at]
theorem iblk6_at (t : Fin cfg0.N) (n : Fin 1024) (k : Fin 2048) : iblk m c 6 t (ix2 n k) = a6 m c (ix2 k n) := by
  show V m c main_v1 (((cfg0.win 6).blk t).view.emb (ix2 n k)) = _
  rw [emb6, V_w, wT_at]

/-- The projection of the arguments, as contents of the result array. -/
abbrev result : Buf (Elt Ideal) ((c : Thread nD τ).loc main_v10) := proj (a0 m c) (a1 m c) (a2 m c) (a3 m c) (a4 m c) (a5 m c) (a6 m c)

theorem res_at (t : Fin cfg0.N) (s n : Fin 1024) :
    blk (iblk m c 0 t) (iblk m c 1 t) (iblk m c 2 t) (iblk m c 3 t) (iblk m c 4 t) (iblk m c 5 t) (iblk m c 6 t) s n
      = result m c (ix3 (bat t) (tok t s) n) := by
  unfold blk
  have h1 : (fun e : Fin 1024 => iblk m c 1 t (ix3 0 e s)) = fun e => a1 m c (ix3 (bat t) (tok t s) e) := funext fun e => iblk1_at m c t e s
  have h2 : (fun e : Fin 1024 => iblk m c 2 t (ix3 0 e s)) = fun e => a2 m c (ix3 (bat t) (tok t s) e) := funext fun e => iblk2_at m c t e s
  have h3 : (fun e : Fin 1024 => iblk m c 3 t (ix3 0 e s)) = fun e => a3 m c (ix3 (bat t) (tok t s) e) := funext fun e => iblk3_at m c t e s
  have h5 : (fun e : Fin 1024 => iblk m c 5 t (ix2 e 0)) = fun e => a5 m c (ix1 e) := funext fun e => iblk5_at m c t e
  refine congrArg₂ (fun a b : EReal => a + b) (iblk0_at m c t s n) (congrArg₂ (fun a b : EReal => a * b) (iblk4_at m c t n)
    (Finset.sum_congr rfl fun k _ => congrArg₂ (fun a b : EReal => a * b) (iblk6_at m c t n k) ?_))
  exact (congrArg (fun z => feat z _ _ _ k) h1).trans ((congrArg (fun z => feat _ z _ _ k) h2).trans
    ((congrArg (fun z => feat _ _ z _ k) h5).trans (congrArg (fun z => feat _ _ _ z k) h3)))

theorem flushed_eq (t : Fin cfg0.N) : (dats m 0 c).flushed 7 t = ((cfg0.win 7).blk t).view.read (Elt Ideal) (result m c) := by
  show (cfg0.win 7).cut (grid0.coords t) ((dats m 0 c).after 7 t) = _
  rw [after0_7]
  funext j
  show out0_7 (iblk m c 0 t) (iblk m c 1 t) (iblk m c 2 t) (iblk m c 3 t) (iblk m c 4 t) (iblk m c 5 t) (iblk m c 6 t) j
    = result m c (((cfg0.win 7).blk t).view.emb j)
  obtain ⟨s, n, rfl⟩ : ∃ (s n : Fin 1024), j = (ix3 (0 : Fin 1) s n : S1x1024x1024.Idx) := by
    refine ⟨j 1, j 2, ?_⟩
    funext a
    match a with
    | ⟨0, _⟩ => exact Subsingleton.elim (α := Fin 1) _ _
    | ⟨1, _⟩ => rfl
    | ⟨2, _⟩ => rfl
  refine (out_at _ _ _ _ _ _ _ _).trans ((res_at m c t s n).trans (congrArg (result m c) (emb7 t s n)).symm)

theorem cover (i : S4x8192x1024.Idx) : ∃ t : Fin cfg0.N, (cfg0.win 7).flush t = true ∧ i ∈ ((cfg0.win 7).blk t).view.set := by
  have h0 : (i 0).val < 4 := (i 0).isLt
  have h1 : (i 1).val < 8192 := (i 1).isLt
  refine ⟨⟨(i 0).val * 8 + (i 1).val / 1024, by rw [show cfg0.N = 32 from N_0]; omega⟩, flush0_7 _, ?_⟩
  generalize ht : (⟨(i 0).val * 8 + (i 1).val / 1024, by rw [show cfg0.N = 32 from N_0]; omega⟩ : Fin cfg0.N) = t
  have htv : t.val = (i 0).val * 8 + (i 1).val / 1024 := by rw [← ht]
  have he := emb7 t (⟨(i 1).val % 1024, Nat.mod_lt _ (by norm_num)⟩ : Fin 1024) (i 2 : Fin 1024)
  refine Eq.mp (congrArg (· ∈ ((cfg0.win 7).blk t).view.set) (he.trans ?_)) (((cfg0.win 7).blk t).view.emb_mem_set _)
  funext a; apply Fin.ext
  match a with
  | ⟨0, _⟩ => show t.val / 8 = (i 0).val; omega
  | ⟨1, _⟩ => show t.val % 8 * 1024 + (i 1).val % 1024 = (i 1).val; omega
  | ⟨2, _⟩ => rfl

/-- The result array ends holding the projection of the arguments. -/
theorem final : (dats m 0 c).arrAt 7 cfg0.N = result m c :=
  (dats m 0 c).arrAt_eq_of_cover 7 (result m c) (fun t _ => flushed_eq m c t) cover

end Cert.Kernel2Ideal.Out

end
-- ==== Proof.OutRef.lean ====
/- The reference of the output projection read at one element: the same projection of its arguments. -/
module

public import proofs.«01_k».proof.Proof.Gen.Reference2Ideal.Read
public import proofs.«01_k».proof.Proof.OutWhole

@[expose] public section

set_option maxRecDepth 16384

noncomputable section

namespace Cert.Reference2Ideal.Out

open Idealize.ShloMosaic
open Cert.Reference2Ideal Cert.Reference2Ideal.Gen Cert.Reference2Ideal.Read
open Cert.Kernel2Ideal.Out (fac feat proj)

variable (x0 x1 x2 x3 : FVec Ideal S4x8192x1024 .f32) (x4 : FVec Ideal S4x3072 .f32) (x5 : FVec Ideal S1024 .f32) (x6 : FVec Ideal S2048x1024 .f32)

/-- The factor of the norm. -/
theorem v11_at (b : Fin 4) (s : Fin 8192) (e : Fin 1024) :
    val_main_v11 (F := Ideal) x2 (ix3 b s e) = fac (fun e => x2 (ix3 b s e)) := by
  rw [val_main_v11_apply, val_main_v10_apply, val_main_v9_apply, val_main_v7_apply, val_main_v5_apply, val_main_v4_apply, val_main_v6_apply,
    val_main_v8_apply, val_main_cst_apply, val_main_cst_0_apply, val_main_cst_1_apply]
  show Ideal.rsqrt (Ideal.div (Ideal.ofBits .f32 0x00000000#32
      + ∑ k : Fin 1024, val_main_v3 (F := Ideal) x2 (idx_main_v4 (idx_main_v5 (idx_main_v11 (ix3 b s e))) k)) (Ideal.ofBits .f32 0x44800000#32)
      + Ideal.ofBits .f32 0x358637BD#32) = _
  rw [Ideal.ofBits_zero_f32, zero_add]
  unfold fac
  refine congrArg (fun z : EReal => Ideal.rsqrt (Ideal.div z (Ideal.ofBits .f32 0x44800000#32) + Ideal.ofBits .f32 0x358637BD#32))
    (Finset.sum_congr rfl fun k _ => ?_)
  rw [val_main_v3_apply]
  have e0 : idx_main_v4 (idx_main_v5 (idx_main_v11 (ix3 b s e))) k = ix3 b s k := funext fun a => match a with
    | ⟨0, _⟩ => rfl | ⟨1, _⟩ => rfl | ⟨2, _⟩ => rfl
  rw [e0]
  rfl

/-- The normed and gated attention. -/
theorem v16_at (b : Fin 4) (s : Fin 8192) (e : Fin 1024) :
    val_main_v16 (F := Ideal) x2 x3 x5 (ix3 b s e) = (x2 (ix3 b s e) : EReal) * fac (fun e => x2 (ix3 b s e)) * x5 (ix1 e) * x3 (ix3 b s e) := by
  rw [val_main_v16_apply, val_main_v15_apply, val_main_v12_apply, v11_at, val_main_v14_apply, val_main_v13_apply]
  have e0 : idx_main_v13 (idx_main_v14 (ix3 b s e)) = ix1 e := funext fun a => match a with | ⟨0, _⟩ => rfl
  rw [e0]
  rfl

/-- The joined features. -/
theorem v17_at (b : Fin 4) (s : Fin 8192) (k : Fin 2048) :
    val_main_v17 (F := Ideal) x1 x2 x3 x5 (ix3 b s k)
      = feat (fun e => x1 (ix3 b s e)) (fun e => x2 (ix3 b s e)) (fun e => x5 (ix1 e)) (fun e => x3 (ix3 b s e)) k := by
  have hy : ∀ e : Fin 1024, val_main_v16 (F := Ideal) x2 x3 x5 (ix3 b s e)
      = (x2 (ix3 b s e) : EReal) * fac (fun e => x2 (ix3 b s e)) * x5 (ix1 e) * x3 (ix3 b s e) := v16_at x2 x3 x5 b s
  unfold val_main_v17 feat
  generalize val_main_v16 (F := Ideal) x2 x3 x5 = y at hy
  simp only [← hy]
  generalize hf : (fun e => x2 (ix3 b s e)) = f
  pointwise
  all_goals rfl

theorem v22_eq : val_main_v22 (F := Ideal) x0 x1 x2 x3 x4 x5 x6 = proj x0 x1 x2 x3 x4 x5 x6 := by
  funext i
  obtain ⟨b, s, n, rfl⟩ : ∃ (b : Fin 4) (s : Fin 8192) (n : Fin 1024), i = (ix3 b s n : S4x8192x1024.Idx) := by
    refine ⟨i 0, i 1, i 2, ?_⟩
    funext a
    match a with
    | ⟨0, _⟩ => rfl
    | ⟨1, _⟩ => rfl
    | ⟨2, _⟩ => rfl
  rw [val_main_v22_apply, val_main_v21_apply, val_main_v20_apply, val_main_v19_apply, val_main_v2_apply, val_main_v18_apply]
  unfold proj
  have e4 : idx_main_v2 (idx_main_v19 (idx_main_v20 (ix3 b s n))) = ix2 b (⟨2048 + n.val, by have := n.isLt; omega⟩ : Fin 3072) :=
    funext fun a => match a with | ⟨0, _⟩ => rfl | ⟨1, _⟩ => rfl
  rw [e4]
  refine congrArg (fun z : EReal => x0 (ix3 b s n) + x4 (ix2 b (⟨2048 + n.val, by have := n.isLt; omega⟩ : Fin 3072)) * z)
    (Finset.sum_congr rfl fun k _ => ?_)
  have el : lidx_main_v18 (ix3 b s n) k = ix3 b s k := funext fun a => match a with
    | ⟨0, _⟩ => rfl | ⟨1, _⟩ => rfl | ⟨2, _⟩ => rfl
  have er : ridx_main_v18 (ix3 b s n) k = ix2 k n := funext fun a => match a with
    | ⟨0, _⟩ => rfl | ⟨1, _⟩ => rfl
  rw [el, er, v17_at]
  exact mul_comm (G := EReal) _ _

end Cert.Reference2Ideal.Out

end
-- ==== Proof.InSpec.lean ====
/- The input projection for one token: the modulated norm, the projections, the latent norms and the rotary parts. -/
module

public import Idealize.ShloMosaic.PureOps.Ideal.Laws
public import Idealize.ShloMosaic.Lib.Pointwise
public import Idealize.ShloMosaic.Lib.ValueIdx

@[expose] public section

noncomputable section

namespace Cert.In

open Idealize.ShloMosaic

/-- The factor of a norm: the reciprocal root of the mean square, the number of entries given as a float. -/
def fac {n : ℕ} (l : BitVec 32) (v : Fin n → EReal) : EReal :=
  Ideal.rsqrt (Ideal.div (∑ e, v e * v e) (Ideal.ofBits .f32 l) + Ideal.ofBits .f32 0x358637BD#32)

/-- A norm with its weights. -/
def rms {n : ℕ} (l : BitVec 32) (v w : Fin n → EReal) (e : Fin n) : EReal := v e * fac l v * w e

/-- The modulated norm of the input. -/
def hid (x sh sc nw : Fin 1024 → EReal) (e : Fin 1024) : EReal :=
  x e * fac 0x44800000#32 x * (nw e * (Ideal.ofBits .f32 0x3F800000#32 + sc e)) + sh e

/-- One entry of a product with a weight matrix. -/
def lin {n k : ℕ} (w : Fin n → Fin k → EReal) (h : Fin k → EReal) (j : Fin n) : EReal := ∑ e, w j e * h e

/-- The first half of a rotary embedding of 32 features. -/
def rotLo (v : Fin 32 → EReal) (c s : Fin 16 → EReal) (j : Fin 16) : EReal :=
  v ⟨j.val, by omega⟩ * c j - v ⟨16 + j.val, by omega⟩ * s j
/-- The second half. -/
def rotHi (v : Fin 32 → EReal) (c s : Fin 16 → EReal) (j : Fin 16) : EReal :=
  v ⟨16 + j.val, by omega⟩ * c j + v ⟨j.val, by omega⟩ * s j
/-- The rotary embedding of 32 features. -/
def rot (v : Fin 32 → EReal) (c s : Fin 16 → EReal) (i : Fin 32) : EReal :=
  if h : i.val < 16 then rotLo v c s ⟨i.val, h⟩ else rotHi v c s ⟨i.val - 16, by omega⟩

/-- A query head of 96 features, padded to 128: the normed part, the rotary part, zeros. -/
def headQ (q : Fin 64 → EReal) (r : Fin 32 → EReal) (c s : Fin 16 → EReal) (wn : Fin 64 → EReal) (wr : Fin 32 → EReal) (e : Fin 128) : EReal :=
  if h : e.val < 64 then rms 0x42800000#32 q wn ⟨e.val, h⟩
  else if h1 : e.val - 64 < 16 then rotLo (rms 0x42000000#32 r wr) c s ⟨e.val - 64, h1⟩
  else if h2 : e.val - 64 - 16 < 16 then rotHi (rms 0x42000000#32 r wr) c s ⟨e.val - 64 - 16, h2⟩
  else Ideal.ofBits .f32 0x00000000#32

/-- A key head: the normed part, the shared rotary part, zeros. -/
def headK (k : Fin 64 → EReal) (kr : Fin 32 → EReal) (wn : Fin 64 → EReal) (e : Fin 128) : EReal :=
  if h : e.val < 64 then rms 0x42800000#32 k wn ⟨e.val, h⟩
  else if h1 : e.val - 64 < 32 then kr ⟨e.val - 64, h1⟩
  else Ideal.ofBits .f32 0x00000000#32

/-- The rotary embedding of 8 heads of 64 features. -/
def rot64 (v : Fin 512 → EReal) (c s : Fin 32 → EReal) (e : Fin 512) : EReal :=
  if h : e.val / 32 % 2 = 0 then
    v e * c ⟨e.val % 32, Nat.mod_lt _ (by norm_num)⟩ - v ⟨e.val + 32, by omega⟩ * s ⟨e.val % 32, Nat.mod_lt _ (by norm_num)⟩
  else v e * c ⟨e.val % 32, Nat.mod_lt _ (by norm_num)⟩ + v ⟨e.val - 32, by omega⟩ * s ⟨e.val % 32, Nat.mod_lt _ (by norm_num)⟩

/-- What one token's results depend on: its row of the input, the conditioning, its position, the frequencies and the weights. -/
@[ext] structure Tok where
  x : Fin 1024 → EReal
  sh : Fin 1024 → EReal
  sc : Fin 1024 → EReal
  nw : Fin 1024 → EReal
  w : Fin 4768 → Fin 1024 → EReal
  pos : EReal
  g64 : Fin 32 → EReal
  g32 : Fin 16 → EReal
  qw : Fin 384 → EReal
  kw : Fin 256 → EReal
  rw : Fin 32 → EReal
  wq : Fin 768 → Fin 384 → EReal
  wkv : Fin 1536 → Fin 256 → EReal
  qn : Fin 64 → EReal
  qr : Fin 32 → EReal
  kn : Fin 64 → EReal

namespace Tok

variable (T : Tok)

/-- A column of the input projection. -/
def p (j : Fin 4768) : EReal := lin T.w (hid T.x T.sh T.sc T.nw) j
def c64 (j : Fin 32) : EReal := Ideal.cos (T.g64 j * T.pos)
def s64 (j : Fin 32) : EReal := Ideal.sin (T.g64 j * T.pos)
def c32 (j : Fin 16) : EReal := Ideal.cos (T.g32 j * T.pos)
def s32 (j : Fin 16) : EReal := Ideal.sin (T.g32 j * T.pos)
/-- The two latent vectors, normed, and the shared rotary key. -/
def cq (j : Fin 384) : EReal := rms 0x43C00000#32 (fun j : Fin 384 => T.p ⟨3072 + j.val, by omega⟩) T.qw j
def ckv (j : Fin 256) : EReal := rms 0x43800000#32 (fun j : Fin 256 => T.p ⟨3456 + j.val, by omega⟩) T.kw j
def kr (j : Fin 32) : EReal := rot (rms 0x42000000#32 (fun j : Fin 32 => T.p ⟨3712 + j.val, by omega⟩) T.rw) T.c32 T.s32 j
/-- The expanded queries, and the expanded keys and values. -/
def q (j : Fin 768) : EReal := lin T.wq T.cq j
def kv (j : Fin 1536) : EReal := lin T.wkv T.ckv j

/-- The six results: the retention's query, key and value; the attention's query, key and value, head by head. -/
def rq (e : Fin 512) : EReal := rot64 (fun j : Fin 512 => T.p ⟨j.val, by omega⟩) T.c64 T.s64 e
def rk (e : Fin 512) : EReal :=
  rot64 (fun j : Fin 512 => T.p ⟨512 + j.val, by omega⟩) (fun j => T.c64 j * Ideal.ofBits .f32 0x3E000000#32) (fun j => T.s64 j * Ideal.ofBits .f32 0x3E000000#32) e
def rv (n : Fin 1024) : EReal := T.p ⟨1024 + n.val, by omega⟩
def qt (i : Fin 8) (e : Fin 128) : EReal :=
  headQ (fun j : Fin 64 => T.q ⟨96 * i.val + j.val, by omega⟩) (fun j : Fin 32 => T.q ⟨96 * i.val + 64 + j.val, by omega⟩) T.c32 T.s32 T.qn T.qr e
def k (i : Fin 8) (e : Fin 128) : EReal := headK (fun j : Fin 64 => T.kv ⟨192 * i.val + j.val, by omega⟩) T.kr T.kn e
def vt (i : Fin 8) (e : Fin 128) : EReal := T.kv ⟨192 * i.val + 64 + e.val, by omega⟩

end Tok

theorem lin_congr {n n' k : ℕ} {w : Fin n → Fin k → EReal} {w' : Fin n' → Fin k → EReal} {h h' : Fin k → EReal} {j : Fin n} {j' : Fin n'}
    (hw : ∀ e, w j e = w' j' e) (hh : ∀ e, h e = h' e) : lin w h j = lin w' h' j' :=
  Finset.sum_congr rfl fun e _ => congrArg₂ (fun a b : EReal => a * b) (hw e) (hh e)

theorem rms_congr {n : ℕ} {l : BitVec 32} {v v' w w' : Fin n → EReal} (hv : ∀ e, v e = v' e) (hw : ∀ e, w e = w' e) (e : Fin n) :
    rms l v w e = rms l v' w' e := by
  rw [show v = v' from funext hv, show w = w' from funext hw]

/-- The two halves of one head of the rotary embedding of 64 features. -/
theorem rot64_lo (v : Fin 512 → EReal) (c s : Fin 32 → EReal) (o : ℕ) (ho : o % 64 = 0) (n : Fin 32) (e : Fin 512) (he : e.val = o + n.val) {a b : EReal}
    (ha : ∀ j : Fin 512, j.val = o + n.val → a = v j) (hb : ∀ j : Fin 512, j.val = o + (32 + n.val) → b = v j) :
    a * c n - b * s n = rot64 v c s e := by
  have hn := n.isLt
  unfold rot64
  rw [dif_pos (by omega), ha e he, hb ⟨e.val + 32, by omega⟩ (by show e.val + 32 = _; omega)]
  rw [show (⟨e.val % 32, Nat.mod_lt _ (by norm_num)⟩ : Fin 32) = n from Fin.ext (by show e.val % 32 = n.val; omega)]

theorem rot64_hi (v : Fin 512 → EReal) (c s : Fin 32 → EReal) (o : ℕ) (ho : o % 64 = 0) (n : Fin 32) (e : Fin 512) (he : e.val = o + (32 + n.val)) {a b : EReal}
    (ha : ∀ j : Fin 512, j.val = o + n.val → a = v j) (hb : ∀ j : Fin 512, j.val = o + (32 + n.val) → b = v j) :
    b * c n + a * s n = rot64 v c s e := by
  have hn := n.isLt
  unfold rot64
  rw [dif_neg (by omega), hb e he, ha ⟨e.val - 32, by omega⟩ (by show e.val - 32 = _; omega)]
  rw [show (⟨e.val % 32, Nat.mod_lt _ (by norm_num)⟩ : Fin 32) = n from Fin.ext (by show e.val % 32 = n.val; omega)]

end Cert.In

end
-- ==== Proof.InRefA.lean ====
/- The reference of the input projection: the modulated norm, the projection's columns and the angles' cosines and sines. -/
module

public import proofs.«01_k».proof.Proof.Gen.Reference3Ideal.Read
public import proofs.«01_k».proof.Proof.InSpec

@[expose] public section

set_option maxRecDepth 16384

noncomputable section

namespace Cert.Reference3Ideal.In

open Idealize.ShloMosaic
open Cert.Reference3Ideal Cert.Reference3Ideal.Gen Cert.Reference3Ideal.Read Cert.In

theorem v23_at (x0 : FVec Ideal S4x8192x1024 .f32) (x1 : FVec Ideal S4x3072 .f32) (x3 : FVec Ideal S1024 .f32) (b : Fin 4) (s : Fin 8192) (e : Fin 1024) : val_main_v23 (F := Ideal) x0 x1 x3 (ix3 b s e)
    = x0 (ix3 b s e) * fac 0x44800000#32 (fun e => x0 (ix3 b s e)) * x3 (ix1 e) * (Ideal.ofBits .f32 0x3F800000#32 + x1 (ix2 b (⟨1024 + e.val, by omega⟩ : Fin 3072))) + x1 (ix2 b (⟨e.val, by omega⟩ : Fin 3072)) := by
  unfold fac
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v1, val_main_v0, val_main_cst, val_main_cst_0, val_main_cst_1, val_main_cst_2]
  all_goals rfl

theorem hid_eq (x sh sc nw : Fin 1024 → EReal) (e : Fin 1024) :
    x e * fac 0x44800000#32 x * nw e * (Ideal.ofBits .f32 0x3F800000#32 + sc e) + sh e = hid x sh sc nw e := by
  unfold hid
  rw [mul_assoc (x e * fac 0x44800000#32 x)]

/-- A product with a matrix stored the other way round. -/
theorem lin_comm {n k : ℕ} (w : Fin n → Fin k → EReal) (h : Fin k → EReal) (j : Fin n) : ∑ e, h e * w j e = lin w h j :=
  Finset.sum_congr rfl fun e _ => mul_comm (h e) (w j e)

theorem v24_dot (x0 : FVec Ideal S4x8192x1024 .f32) (x1 : FVec Ideal S4x3072 .f32) (x3 : FVec Ideal S1024 .f32) (x4 : FVec Ideal S1024x4768 .f32) (b : Fin 4) (s : Fin 8192) (j : Fin 4768) :
    val_main_v24 (F := Ideal) x0 x1 x3 x4 (ix3 b s j) = ∑ e : Fin 1024, val_main_v23 (F := Ideal) x0 x1 x3 (ix3 b s e) * x4 (ix2 e j) := by
  unfold val_main_v24
  generalize val_main_v23 (F := Ideal) x0 x1 x3 = h
  pointwise
  all_goals rfl

theorem v24_at (x0 : FVec Ideal S4x8192x1024 .f32) (x1 : FVec Ideal S4x3072 .f32) (x3 : FVec Ideal S1024 .f32) (x4 : FVec Ideal S1024x4768 .f32) (b : Fin 4) (s : Fin 8192) (j : Fin 4768) :
    val_main_v24 (F := Ideal) x0 x1 x3 x4 (ix3 b s j) = lin (fun j e => x4 (ix2 e j)) (hid (fun e => x0 (ix3 b s e)) (fun e => x1 (ix2 b (⟨e.val, by omega⟩ : Fin 3072))) (fun e => x1 (ix2 b (⟨1024 + e.val, by omega⟩ : Fin 3072))) (fun e => x3 (ix1 e))) j := by
  rw [v24_dot]
  refine (Finset.sum_congr rfl fun e _ => ?_).trans (lin_comm (fun j e => x4 (ix2 e j)) (hid (fun e => x0 (ix3 b s e)) (fun e => x1 (ix2 b (⟨e.val, by omega⟩ : Fin 3072))) (fun e => x1 (ix2 b (⟨1024 + e.val, by omega⟩ : Fin 3072))) (fun e => x3 (ix1 e))) j)
  exact congrArg (fun z : EReal => z * x4 (ix2 e j)) ((v23_at x0 x1 x3 b s e).trans (hid_eq (fun e => x0 (ix3 b s e)) (fun e => x1 (ix2 b (⟨e.val, by omega⟩ : Fin 3072))) (fun e => x1 (ix2 b (⟨1024 + e.val, by omega⟩ : Fin 3072))) (fun e => x3 (ix1 e)) e))

theorem v51_at (x2 : IVec S4x8192 32) (b : Fin 4) (s : Fin 8192) (j : Fin 32) :
    val_main_v51 (F := Ideal) x2 (ix4 b s 0 j) = Ideal.cos (val_main_v43 (F := Ideal) (ix1 j) * Scalar.sitofp (F := Ideal) .f32 (x2 (ix2 b s))) := by
  refine Eq.trans (b := Ideal.cos (Scalar.sitofp (F := Ideal) .f32 (x2 (ix2 b s)) * val_main_v43 (F := Ideal) (ix1 j))) ?_ (congrArg Ideal.cos (mul_comm _ _))
  unfold val_main_v51 val_main_v50 val_main_v49 val_main_v48 val_main_v47 val_main_v46 val_main_v45 val_main_v44
  generalize val_main_v43 (F := Ideal) = h
  pointwise
  all_goals rfl

theorem v52_at (x2 : IVec S4x8192 32) (b : Fin 4) (s : Fin 8192) (j : Fin 32) :
    val_main_v52 (F := Ideal) x2 (ix4 b s 0 j) = Ideal.sin (val_main_v43 (F := Ideal) (ix1 j) * Scalar.sitofp (F := Ideal) .f32 (x2 (ix2 b s))) := by
  refine Eq.trans (b := Ideal.sin (Scalar.sitofp (F := Ideal) .f32 (x2 (ix2 b s)) * val_main_v43 (F := Ideal) (ix1 j))) ?_ (congrArg Ideal.sin (mul_comm _ _))
  unfold val_main_v52 val_main_v50 val_main_v49 val_main_v48 val_main_v47 val_main_v46 val_main_v45 val_main_v44
  generalize val_main_v43 (F := Ideal) = h
  pointwise
  all_goals rfl

theorem v84_at (x2 : IVec S4x8192 32) (b : Fin 4) (s : Fin 8192) (j : Fin 32) :
    val_main_v84 (F := Ideal) x2 (ix4 b s 0 j) = Ideal.cos (val_main_v76 (F := Ideal) (ix1 j) * Scalar.sitofp (F := Ideal) .f32 (x2 (ix2 b s))) := by
  refine Eq.trans (b := Ideal.cos (Scalar.sitofp (F := Ideal) .f32 (x2 (ix2 b s)) * val_main_v76 (F := Ideal) (ix1 j))) ?_ (congrArg Ideal.cos (mul_comm _ _))
  unfold val_main_v84 val_main_v83 val_main_v82 val_main_v81 val_main_v80 val_main_v79 val_main_v78 val_main_v77
  generalize val_main_v76 (F := Ideal) = h
  pointwise
  all_goals rfl

theorem v85_at (x2 : IVec S4x8192 32) (b : Fin 4) (s : Fin 8192) (j : Fin 32) :
    val_main_v85 (F := Ideal) x2 (ix4 b s 0 j) = Ideal.sin (val_main_v76 (F := Ideal) (ix1 j) * Scalar.sitofp (F := Ideal) .f32 (x2 (ix2 b s))) := by
  refine Eq.trans (b := Ideal.sin (Scalar.sitofp (F := Ideal) .f32 (x2 (ix2 b s)) * val_main_v76 (F := Ideal) (ix1 j))) ?_ (congrArg Ideal.sin (mul_comm _ _))
  unfold val_main_v85 val_main_v83 val_main_v82 val_main_v81 val_main_v80 val_main_v79 val_main_v78 val_main_v77
  generalize val_main_v76 (F := Ideal) = h
  pointwise
  all_goals rfl

theorem v176_at (x2 : IVec S4x8192 32) (b : Fin 4) (s : Fin 8192) (j : Fin 16) :
    val_main_v176 (F := Ideal) x2 (ix4 b s 0 j) = Ideal.cos (val_main_v168 (F := Ideal) (ix1 j) * Scalar.sitofp (F := Ideal) .f32 (x2 (ix2 b s))) := by
  refine Eq.trans (b := Ideal.cos (Scalar.sitofp (F := Ideal) .f32 (x2 (ix2 b s)) * val_main_v168 (F := Ideal) (ix1 j))) ?_ (congrArg Ideal.cos (mul_comm _ _))
  unfold val_main_v176 val_main_v175 val_main_v174 val_main_v173 val_main_v172 val_main_v171 val_main_v170 val_main_v169
  generalize val_main_v168 (F := Ideal) = h
  pointwise
  all_goals rfl

theorem v177_at (x2 : IVec S4x8192 32) (b : Fin 4) (s : Fin 8192) (j : Fin 16) :
    val_main_v177 (F := Ideal) x2 (ix4 b s 0 j) = Ideal.sin (val_main_v168 (F := Ideal) (ix1 j) * Scalar.sitofp (F := Ideal) .f32 (x2 (ix2 b s))) := by
  refine Eq.trans (b := Ideal.sin (Scalar.sitofp (F := Ideal) .f32 (x2 (ix2 b s)) * val_main_v168 (F := Ideal) (ix1 j))) ?_ (congrArg Ideal.sin (mul_comm _ _))
  unfold val_main_v177 val_main_v175 val_main_v174 val_main_v173 val_main_v172 val_main_v171 val_main_v170 val_main_v169
  generalize val_main_v168 (F := Ideal) = h
  pointwise
  all_goals rfl

theorem v235_at (x2 : IVec S4x8192 32) (b : Fin 4) (s : Fin 8192) (j : Fin 16) :
    val_main_v235 (F := Ideal) x2 (ix3 b s j) = Ideal.cos (val_main_v228 (F := Ideal) (ix1 j) * Scalar.sitofp (F := Ideal) .f32 (x2 (ix2 b s))) := by
  refine Eq.trans (b := Ideal.cos (Scalar.sitofp (F := Ideal) .f32 (x2 (ix2 b s)) * val_main_v228 (F := Ideal) (ix1 j))) ?_ (congrArg Ideal.cos (mul_comm _ _))
  unfold val_main_v235 val_main_v234 val_main_v233 val_main_v232 val_main_v231 val_main_v230 val_main_v229
  generalize val_main_v228 (F := Ideal) = h
  pointwise
  all_goals rfl

theorem v236_at (x2 : IVec S4x8192 32) (b : Fin 4) (s : Fin 8192) (j : Fin 16) :
    val_main_v236 (F := Ideal) x2 (ix3 b s j) = Ideal.sin (val_main_v228 (F := Ideal) (ix1 j) * Scalar.sitofp (F := Ideal) .f32 (x2 (ix2 b s))) := by
  refine Eq.trans (b := Ideal.sin (Scalar.sitofp (F := Ideal) .f32 (x2 (ix2 b s)) * val_main_v228 (F := Ideal) (ix1 j))) ?_ (congrArg Ideal.sin (mul_comm _ _))
  unfold val_main_v236 val_main_v234 val_main_v233 val_main_v232 val_main_v231 val_main_v230 val_main_v229
  generalize val_main_v228 (F := Ideal) = h
  pointwise
  all_goals rfl

end Cert.Reference3Ideal.In

end
-- ==== Proof.InRefB.lean ====
/- The reference's rotary queries and keys of the retention. -/
module

public import proofs.«01_k».proof.Proof.Gen.Reference3Ideal.Read
public import proofs.«01_k».proof.Proof.InSpec

@[expose] public section

set_option maxRecDepth 16384

noncomputable section

namespace Cert.Reference3Ideal.In

open Idealize.ShloMosaic
open Cert.Reference3Ideal Cert.Reference3Ideal.Gen Cert.Reference3Ideal.Read Cert.In

theorem v25_at (x0 : FVec Ideal S4x8192x1024 .f32) (x1 : FVec Ideal S4x3072 .f32) (x3 : FVec Ideal S1024 .f32) (x4 : FVec Ideal S1024x4768 .f32) (b : Fin 4) (s : Fin 8192) (j : Fin 512) :
    val_main_v25 (F := Ideal) x0 x1 x3 x4 (ix3 b s j) = val_main_v24 (F := Ideal) x0 x1 x3 x4 (ix3 b s (⟨j.val, by omega⟩ : Fin 4768)) := by
  unfold val_main_v25
  generalize val_main_v24 (F := Ideal) x0 x1 x3 x4 = y
  pointwise
  all_goals rfl

theorem v26_at (x0 : FVec Ideal S4x8192x1024 .f32) (x1 : FVec Ideal S4x3072 .f32) (x3 : FVec Ideal S1024 .f32) (x4 : FVec Ideal S1024x4768 .f32) (b : Fin 4) (s : Fin 8192) (j : Fin 512) :
    val_main_v26 (F := Ideal) x0 x1 x3 x4 (ix3 b s j) = val_main_v24 (F := Ideal) x0 x1 x3 x4 (ix3 b s (⟨512 + j.val, by omega⟩ : Fin 4768)) := by
  unfold val_main_v26
  generalize val_main_v24 (F := Ideal) x0 x1 x3 x4 = y
  pointwise
  all_goals rfl

theorem v33_at (x0 : FVec Ideal S4x8192x1024 .f32) (x1 : FVec Ideal S4x3072 .f32) (x3 : FVec Ideal S1024 .f32) (x4 : FVec Ideal S1024x4768 .f32) (b : Fin 4) (s : Fin 8192) (i : Fin 8) (j : Fin 64) :
    val_main_v33 (F := Ideal) x0 x1 x3 x4 (ix4 b s i j) = val_main_v25 (F := Ideal) x0 x1 x3 x4 (ix3 b s (⟨64 * i.val + j.val, by omega⟩ : Fin 512)) := by
  rw [val_main_v33_apply]
  refine congrArg (val_main_v25 (F := Ideal) x0 x1 x3 x4) (funext fun a => ?_)
  have hb := b.isLt
  have hs := s.isLt
  have hi := i.isLt
  have hj := j.isLt
  match a with
  | ⟨0, _⟩ => exact Fin.ext (by show (((b.val * 8192 + s.val) * 8 + i.val) * 64 + j.val) / 4194304 = b.val; omega)
  | ⟨1, _⟩ => exact Fin.ext (by show (((b.val * 8192 + s.val) * 8 + i.val) * 64 + j.val) / 512 % 8192 = s.val; omega)
  | ⟨2, _⟩ => exact Fin.ext (by show (((b.val * 8192 + s.val) * 8 + i.val) * 64 + j.val) % 512 = 64 * i.val + j.val; omega)

theorem v66_at (x0 : FVec Ideal S4x8192x1024 .f32) (x1 : FVec Ideal S4x3072 .f32) (x3 : FVec Ideal S1024 .f32) (x4 : FVec Ideal S1024x4768 .f32) (b : Fin 4) (s : Fin 8192) (i : Fin 8) (j : Fin 64) :
    val_main_v66 (F := Ideal) x0 x1 x3 x4 (ix4 b s i j) = val_main_v26 (F := Ideal) x0 x1 x3 x4 (ix3 b s (⟨64 * i.val + j.val, by omega⟩ : Fin 512)) := by
  rw [val_main_v66_apply]
  refine congrArg (val_main_v26 (F := Ideal) x0 x1 x3 x4) (funext fun a => ?_)
  have hb := b.isLt
  have hs := s.isLt
  have hi := i.isLt
  have hj := j.isLt
  match a with
  | ⟨0, _⟩ => exact Fin.ext (by show (((b.val * 8192 + s.val) * 8 + i.val) * 64 + j.val) / 4194304 = b.val; omega)
  | ⟨1, _⟩ => exact Fin.ext (by show (((b.val * 8192 + s.val) * 8 + i.val) * 64 + j.val) / 512 % 8192 = s.val; omega)
  | ⟨2, _⟩ => exact Fin.ext (by show (((b.val * 8192 + s.val) * 8 + i.val) * 64 + j.val) % 512 = 64 * i.val + j.val; omega)

theorem v65_at (x0 : FVec Ideal S4x8192x1024 .f32) (x1 : FVec Ideal S4x3072 .f32) (x2 : IVec S4x8192 32) (x3 : FVec Ideal S1024 .f32) (x4 : FVec Ideal S1024x4768 .f32) (b : Fin 4) (s : Fin 8192) (i : Fin 8) (e : Fin 64) :
    val_main_v65 (F := Ideal) x0 x1 x2 x3 x4 (ix4 b s i e)
      = (if h : e.val < 32 then val_main_v33 (F := Ideal) x0 x1 x3 x4 (ix4 b s i (⟨e.val, by omega⟩ : Fin 64)) * val_main_v51 (F := Ideal) x2 (ix4 b s 0 (⟨e.val, h⟩ : Fin 32)) - val_main_v33 (F := Ideal) x0 x1 x3 x4 (ix4 b s i (⟨32 + e.val, by omega⟩ : Fin 64)) * val_main_v52 (F := Ideal) x2 (ix4 b s 0 (⟨e.val, h⟩ : Fin 32))
      else val_main_v33 (F := Ideal) x0 x1 x3 x4 (ix4 b s i (⟨32 + (e.val - 32), by omega⟩ : Fin 64)) * val_main_v51 (F := Ideal) x2 (ix4 b s 0 (⟨e.val - 32, by omega⟩ : Fin 32)) + val_main_v33 (F := Ideal) x0 x1 x3 x4 (ix4 b s i (⟨e.val - 32, by omega⟩ : Fin 64)) * val_main_v52 (F := Ideal) x2 (ix4 b s 0 (⟨e.val - 32, by omega⟩ : Fin 32)) : EReal) := by
  unfold val_main_v65 val_main_v64 val_main_v63 val_main_v62 val_main_v61 val_main_v60 val_main_v59 val_main_v58 val_main_v57 val_main_v56 val_main_v55 val_main_v54 val_main_v53
  generalize val_main_v33 (F := Ideal) x0 x1 x3 x4 = y
  generalize val_main_v51 (F := Ideal) x2 = c
  generalize val_main_v52 (F := Ideal) x2 = d
  pointwise
  all_goals rfl

theorem v98_at (x0 : FVec Ideal S4x8192x1024 .f32) (x1 : FVec Ideal S4x3072 .f32) (x2 : IVec S4x8192 32) (x3 : FVec Ideal S1024 .f32) (x4 : FVec Ideal S1024x4768 .f32) (b : Fin 4) (s : Fin 8192) (i : Fin 8) (e : Fin 64) :
    val_main_v98 (F := Ideal) x0 x1 x2 x3 x4 (ix4 b s i e)
      = (if h : e.val < 32 then val_main_v66 (F := Ideal) x0 x1 x3 x4 (ix4 b s i (⟨e.val, by omega⟩ : Fin 64)) * val_main_v84 (F := Ideal) x2 (ix4 b s 0 (⟨e.val, h⟩ : Fin 32)) - val_main_v66 (F := Ideal) x0 x1 x3 x4 (ix4 b s i (⟨32 + e.val, by omega⟩ : Fin 64)) * val_main_v85 (F := Ideal) x2 (ix4 b s 0 (⟨e.val, h⟩ : Fin 32))
      else val_main_v66 (F := Ideal) x0 x1 x3 x4 (ix4 b s i (⟨32 + (e.val - 32), by omega⟩ : Fin 64)) * val_main_v84 (F := Ideal) x2 (ix4 b s 0 (⟨e.val - 32, by omega⟩ : Fin 32)) + val_main_v66 (F := Ideal) x0 x1 x3 x4 (ix4 b s i (⟨e.val - 32, by omega⟩ : Fin 64)) * val_main_v85 (F := Ideal) x2 (ix4 b s 0 (⟨e.val - 32, by omega⟩ : Fin 32)) : EReal) := by
  unfold val_main_v98 val_main_v97 val_main_v96 val_main_v95 val_main_v94 val_main_v93 val_main_v92 val_main_v91 val_main_v90 val_main_v89 val_main_v88 val_main_v87 val_main_v86
  generalize val_main_v66 (F := Ideal) x0 x1 x3 x4 = y
  generalize val_main_v84 (F := Ideal) x2 = c
  generalize val_main_v85 (F := Ideal) x2 = d
  pointwise
  all_goals rfl

theorem v100_at (x0 : FVec Ideal S4x8192x1024 .f32) (x1 : FVec Ideal S4x3072 .f32) (x2 : IVec S4x8192 32) (x3 : FVec Ideal S1024 .f32) (x4 : FVec Ideal S1024x4768 .f32) (b : Fin 4) (s : Fin 8192) (i : Fin 8) (e : Fin 64) :
    val_main_v100 (F := Ideal) x0 x1 x2 x3 x4 (ix4 b s i e) = val_main_v98 (F := Ideal) x0 x1 x2 x3 x4 (ix4 b s i e) * Ideal.ofBits .f32 0x3E000000#32 := by
  rw [val_main_v100_apply, val_main_v99_apply, val_main_cst_11_apply]
  rfl

theorem v249_at (x0 : FVec Ideal S4x8192x1024 .f32) (x1 : FVec Ideal S4x3072 .f32) (x2 : IVec S4x8192 32) (x3 : FVec Ideal S1024 .f32) (x4 : FVec Ideal S1024x4768 .f32) (b : Fin 4) (s : Fin 8192) (n : Fin 512) :
    val_main_v249 (F := Ideal) x0 x1 x2 x3 x4 (ix3 b s n) = val_main_v65 (F := Ideal) x0 x1 x2 x3 x4 (ix4 b s (⟨n.val / 64, by omega⟩ : Fin 8) (⟨n.val % 64, Nat.mod_lt _ (by norm_num)⟩ : Fin 64)) := by
  rw [val_main_v249_apply]
  refine congrArg (val_main_v65 (F := Ideal) x0 x1 x2 x3 x4) (funext fun a => ?_)
  have hb := b.isLt
  have hs := s.isLt
  have hn := n.isLt
  match a with
  | ⟨0, _⟩ => exact Fin.ext (by show ((b.val * 8192 + s.val) * 512 + n.val) / 4194304 = b.val; omega)
  | ⟨1, _⟩ => exact Fin.ext (by show ((b.val * 8192 + s.val) * 512 + n.val) / 512 % 8192 = s.val; omega)
  | ⟨2, _⟩ => exact Fin.ext (by show ((b.val * 8192 + s.val) * 512 + n.val) / 64 % 8 = n.val / 64; omega)
  | ⟨3, _⟩ => exact Fin.ext (by show ((b.val * 8192 + s.val) * 512 + n.val) % 64 = n.val % 64; omega)

theorem v251_at (x0 : FVec Ideal S4x8192x1024 .f32) (x1 : FVec Ideal S4x3072 .f32) (x2 : IVec S4x8192 32) (x3 : FVec Ideal S1024 .f32) (x4 : FVec Ideal S1024x4768 .f32) (b : Fin 4) (n : Fin 512) (s : Fin 8192) :
    val_main_v251 (F := Ideal) x0 x1 x2 x3 x4 (ix3 b n s) = val_main_v65 (F := Ideal) x0 x1 x2 x3 x4 (ix4 b s (⟨n.val / 64, by omega⟩ : Fin 8) (⟨n.val % 64, Nat.mod_lt _ (by norm_num)⟩ : Fin 64)) := by
  refine Eq.trans (b := val_main_v249 (F := Ideal) x0 x1 x2 x3 x4 (ix3 b s n)) ?_ (v249_at x0 x1 x2 x3 x4 b s n)
  rw [val_main_v251_apply, val_main_v250_apply]
  exact congrArg (val_main_v249 (F := Ideal) x0 x1 x2 x3 x4) (funext fun a => match a with | ⟨0, _⟩ => rfl | ⟨1, _⟩ => rfl | ⟨2, _⟩ => rfl)

theorem v252_at (x0 : FVec Ideal S4x8192x1024 .f32) (x1 : FVec Ideal S4x3072 .f32) (x2 : IVec S4x8192 32) (x3 : FVec Ideal S1024 .f32) (x4 : FVec Ideal S1024x4768 .f32) (b : Fin 4) (s : Fin 8192) (n : Fin 512) :
    val_main_v252 (F := Ideal) x0 x1 x2 x3 x4 (ix3 b s n) = val_main_v100 (F := Ideal) x0 x1 x2 x3 x4 (ix4 b s (⟨n.val / 64, by omega⟩ : Fin 8) (⟨n.val % 64, Nat.mod_lt _ (by norm_num)⟩ : Fin 64)) := by
  rw [val_main_v252_apply]
  refine congrArg (val_main_v100 (F := Ideal) x0 x1 x2 x3 x4) (funext fun a => ?_)
  have hb := b.isLt
  have hs := s.isLt
  have hn := n.isLt
  match a with
  | ⟨0, _⟩ => exact Fin.ext (by show ((b.val * 8192 + s.val) * 512 + n.val) / 4194304 = b.val; omega)
  | ⟨1, _⟩ => exact Fin.ext (by show ((b.val * 8192 + s.val) * 512 + n.val) / 512 % 8192 = s.val; omega)
  | ⟨2, _⟩ => exact Fin.ext (by show ((b.val * 8192 + s.val) * 512 + n.val) / 64 % 8 = n.val / 64; omega)
  | ⟨3, _⟩ => exact Fin.ext (by show ((b.val * 8192 + s.val) * 512 + n.val) % 64 = n.val % 64; omega)

theorem v254_at (x0 : FVec Ideal S4x8192x1024 .f32) (x1 : FVec Ideal S4x3072 .f32) (x2 : IVec S4x8192 32) (x3 : FVec Ideal S1024 .f32) (x4 : FVec Ideal S1024x4768 .f32) (b : Fin 4) (n : Fin 512) (s : Fin 8192) :
    val_main_v254 (F := Ideal) x0 x1 x2 x3 x4 (ix3 b n s) = val_main_v100 (F := Ideal) x0 x1 x2 x3 x4 (ix4 b s (⟨n.val / 64, by omega⟩ : Fin 8) (⟨n.val % 64, Nat.mod_lt _ (by norm_num)⟩ : Fin 64)) := by
  refine Eq.trans (b := val_main_v252 (F := Ideal) x0 x1 x2 x3 x4 (ix3 b s n)) ?_ (v252_at x0 x1 x2 x3 x4 b s n)
  rw [val_main_v254_apply, val_main_v253_apply]
  exact congrArg (val_main_v252 (F := Ideal) x0 x1 x2 x3 x4) (funext fun a => match a with | ⟨0, _⟩ => rfl | ⟨1, _⟩ => rfl | ⟨2, _⟩ => rfl)

/-- One entry of a head's rotary embedding, the head's entries read from the 8 heads' one after another. -/
theorem rope_eq (P : Fin 512 → EReal) (c d : Fin 32 → EReal) (y : Fin 64 → EReal) (n : Fin 512)
    (hy : ∀ j : Fin 64, y j = P ⟨64 * (n.val / 64) + j.val, by omega⟩) :
    (if h : n.val % 64 < 32 then y (⟨n.val % 64, by omega⟩ : Fin 64) * c ⟨n.val % 64, h⟩ - y (⟨32 + n.val % 64, by omega⟩ : Fin 64) * d ⟨n.val % 64, h⟩
      else y (⟨32 + (n.val % 64 - 32), by omega⟩ : Fin 64) * c ⟨n.val % 64 - 32, by omega⟩ + y (⟨n.val % 64 - 32, by omega⟩ : Fin 64) * d ⟨n.val % 64 - 32, by omega⟩)
      = rot64 P c d n := by
  have hP : ∀ (j : Fin 64) (k : Fin 512), k.val = 64 * (n.val / 64) + j.val → y j = P k := fun j k hk => (hy j).trans (congrArg P (Fin.ext hk.symm))
  split
  case isTrue h =>
    exact rot64_lo P c d (64 * (n.val / 64)) (by omega) ⟨n.val % 64, h⟩ n (by show n.val = 64 * (n.val / 64) + n.val % 64; omega)
      (fun k hk => hP _ k hk) (fun k hk => hP _ k hk)
  case isFalse h =>
    exact rot64_hi P c d (64 * (n.val / 64)) (by omega) ⟨n.val % 64 - 32, by omega⟩ n (by show n.val = 64 * (n.val / 64) + (32 + (n.val % 64 - 32)); omega)
      (fun k hk => hP _ k hk) (fun k hk => hP _ k hk)

theorem eighth : Ideal.ofBits .f32 0x3E000000#32 = ((1 / 8 : ℝ) : EReal) := by
  simp [Ideal.ofBits, Ideal.ieee, -EReal.coe_mul]; norm_num

theorem scale_add (a b c d : EReal) : (a * c + b * d) * Ideal.ofBits .f32 0x3E000000#32
    = a * (c * Ideal.ofBits .f32 0x3E000000#32) + b * (d * Ideal.ofBits .f32 0x3E000000#32) := by
  rw [eighth, ← mul_assoc, ← mul_assoc]
  exact EReal.right_distrib_of_nonneg_of_ne_top (by exact_mod_cast (by norm_num : (0 : ℝ) ≤ 1 / 8)) (EReal.coe_ne_top _) _ _

theorem scale_sub (a b c d : EReal) : (a * c - b * d) * Ideal.ofBits .f32 0x3E000000#32
    = a * (c * Ideal.ofBits .f32 0x3E000000#32) - b * (d * Ideal.ofBits .f32 0x3E000000#32) := by
  have h := scale_add a (-b) c d
  rw [EReal.neg_mul, EReal.neg_mul] at h
  exact h

/-- A scaled rotary embedding is the embedding by scaled cosines and sines. -/
theorem rot64_scale (P : Fin 512 → EReal) (c d : Fin 32 → EReal) (n : Fin 512) :
    rot64 P c d n * Ideal.ofBits .f32 0x3E000000#32
      = rot64 P (fun j => c j * Ideal.ofBits .f32 0x3E000000#32) (fun j => d j * Ideal.ofBits .f32 0x3E000000#32) n := by
  unfold rot64
  split
  · exact scale_sub _ _ _ _
  · exact scale_add _ _ _ _

/-- The retention's queries, from the columns of the projection and the angles. -/
theorem rq_at (x0 : FVec Ideal S4x8192x1024 .f32) (x1 : FVec Ideal S4x3072 .f32) (x2 : IVec S4x8192 32) (x3 : FVec Ideal S1024 .f32) (x4 : FVec Ideal S1024x4768 .f32) (b : Fin 4) (n : Fin 512) (s : Fin 8192) :
    val_main_v251 (F := Ideal) x0 x1 x2 x3 x4 (ix3 b n s) = rot64 (fun j : Fin 512 => val_main_v24 (F := Ideal) x0 x1 x3 x4 (ix3 b s (⟨j.val, by omega⟩ : Fin 4768)))
      (fun j => val_main_v51 (F := Ideal) x2 (ix4 b s 0 j)) (fun j => val_main_v52 (F := Ideal) x2 (ix4 b s 0 j)) n := by
  rw [v251_at, v65_at]
  exact rope_eq (fun j : Fin 512 => val_main_v24 (F := Ideal) x0 x1 x3 x4 (ix3 b s (⟨j.val, by omega⟩ : Fin 4768))) (fun j => val_main_v51 (F := Ideal) x2 (ix4 b s 0 j)) (fun j => val_main_v52 (F := Ideal) x2 (ix4 b s 0 j))
    (fun j => val_main_v33 (F := Ideal) x0 x1 x3 x4 (ix4 b s (⟨n.val / 64, by omega⟩ : Fin 8) j)) n (fun j => (v33_at x0 x1 x3 x4 b s _ j).trans (v25_at x0 x1 x3 x4 b s _))

/-- The retention's keys. -/
theorem rk_at (x0 : FVec Ideal S4x8192x1024 .f32) (x1 : FVec Ideal S4x3072 .f32) (x2 : IVec S4x8192 32) (x3 : FVec Ideal S1024 .f32) (x4 : FVec Ideal S1024x4768 .f32) (b : Fin 4) (n : Fin 512) (s : Fin 8192) :
    val_main_v254 (F := Ideal) x0 x1 x2 x3 x4 (ix3 b n s) = rot64 (fun j : Fin 512 => val_main_v24 (F := Ideal) x0 x1 x3 x4 (ix3 b s (⟨512 + j.val, by omega⟩ : Fin 4768)))
      (fun j => val_main_v84 (F := Ideal) x2 (ix4 b s 0 j) * Ideal.ofBits .f32 0x3E000000#32) (fun j => val_main_v85 (F := Ideal) x2 (ix4 b s 0 j) * Ideal.ofBits .f32 0x3E000000#32) n := by
  rw [v254_at, v100_at, v98_at]
  refine Eq.trans (congrArg (fun z : EReal => z * Ideal.ofBits .f32 0x3E000000#32) ?_) (rot64_scale _ (fun j => val_main_v84 (F := Ideal) x2 (ix4 b s 0 j)) (fun j => val_main_v85 (F := Ideal) x2 (ix4 b s 0 j)) n)
  exact rope_eq (fun j : Fin 512 => val_main_v24 (F := Ideal) x0 x1 x3 x4 (ix3 b s (⟨512 + j.val, by omega⟩ : Fin 4768))) (fun j => val_main_v84 (F := Ideal) x2 (ix4 b s 0 j)) (fun j => val_main_v85 (F := Ideal) x2 (ix4 b s 0 j))
    (fun j => val_main_v66 (F := Ideal) x0 x1 x3 x4 (ix4 b s (⟨n.val / 64, by omega⟩ : Fin 8) j)) n (fun j => (v66_at x0 x1 x3 x4 b s _ j).trans (v26_at x0 x1 x3 x4 b s _))

end Cert.Reference3Ideal.In

end
-- ==== Proof.InRefC.lean ====
/- The reference's latent vectors and their expansions, and the retention's values. -/
module

public import proofs.«01_k».proof.Proof.Gen.Reference3Ideal.Read
public import proofs.«01_k».proof.Proof.InRefA

@[expose] public section

set_option maxRecDepth 16384

noncomputable section

namespace Cert.Reference3Ideal.In

open Idealize.ShloMosaic
open Cert.Reference3Ideal Cert.Reference3Ideal.Gen Cert.Reference3Ideal.Read Cert.In

theorem v27_at (x0 : FVec Ideal S4x8192x1024 .f32) (x1 : FVec Ideal S4x3072 .f32) (x3 : FVec Ideal S1024 .f32) (x4 : FVec Ideal S1024x4768 .f32) (b : Fin 4) (s : Fin 8192) (j : Fin 1024) :
    val_main_v27 (F := Ideal) x0 x1 x3 x4 (ix3 b s j) = val_main_v24 (F := Ideal) x0 x1 x3 x4 (ix3 b s (⟨1024 + j.val, by omega⟩ : Fin 4768)) := by
  unfold val_main_v27
  generalize val_main_v24 (F := Ideal) x0 x1 x3 x4 = y
  pointwise
  all_goals rfl

theorem v29_at (x0 : FVec Ideal S4x8192x1024 .f32) (x1 : FVec Ideal S4x3072 .f32) (x3 : FVec Ideal S1024 .f32) (x4 : FVec Ideal S1024x4768 .f32) (b : Fin 4) (s : Fin 8192) (j : Fin 384) :
    val_main_v29 (F := Ideal) x0 x1 x3 x4 (ix3 b s j) = val_main_v24 (F := Ideal) x0 x1 x3 x4 (ix3 b s (⟨3072 + j.val, by omega⟩ : Fin 4768)) := by
  unfold val_main_v29
  generalize val_main_v24 (F := Ideal) x0 x1 x3 x4 = y
  pointwise
  all_goals rfl

theorem v30_at (x0 : FVec Ideal S4x8192x1024 .f32) (x1 : FVec Ideal S4x3072 .f32) (x3 : FVec Ideal S1024 .f32) (x4 : FVec Ideal S1024x4768 .f32) (b : Fin 4) (s : Fin 8192) (j : Fin 256) :
    val_main_v30 (F := Ideal) x0 x1 x3 x4 (ix3 b s j) = val_main_v24 (F := Ideal) x0 x1 x3 x4 (ix3 b s (⟨3456 + j.val, by omega⟩ : Fin 4768)) := by
  unfold val_main_v30
  generalize val_main_v24 (F := Ideal) x0 x1 x3 x4 = y
  pointwise
  all_goals rfl

theorem v31_at (x0 : FVec Ideal S4x8192x1024 .f32) (x1 : FVec Ideal S4x3072 .f32) (x3 : FVec Ideal S1024 .f32) (x4 : FVec Ideal S1024x4768 .f32) (b : Fin 4) (s : Fin 8192) (j : Fin 32) :
    val_main_v31 (F := Ideal) x0 x1 x3 x4 (ix3 b s j) = val_main_v24 (F := Ideal) x0 x1 x3 x4 (ix3 b s (⟨3712 + j.val, by omega⟩ : Fin 4768)) := by
  unfold val_main_v31
  generalize val_main_v24 (F := Ideal) x0 x1 x3 x4 = y
  pointwise
  all_goals rfl

theorem v113_at (x0 : FVec Ideal S4x8192x1024 .f32) (x1 : FVec Ideal S4x3072 .f32) (x3 : FVec Ideal S1024 .f32) (x4 : FVec Ideal S1024x4768 .f32) (x5 : FVec Ideal S384 .f32) (b : Fin 4) (s : Fin 8192) (j : Fin 384) :
    val_main_v113 (F := Ideal) x0 x1 x3 x4 x5 (ix3 b s j) = rms 0x43C00000#32 (fun e => val_main_v29 (F := Ideal) x0 x1 x3 x4 (ix3 b s e)) (fun e => x5 (ix1 e)) j := by
  unfold val_main_v113 val_main_v112 val_main_v111 val_main_v110 val_main_v109 val_main_v108 val_main_v107 val_main_v106 val_main_v105 val_main_v104 val_main_v103 val_main_v102 val_main_v101
  generalize val_main_v29 (F := Ideal) x0 x1 x3 x4 = y
  unfold rms fac
  pointwise [val_main_cst_12, val_main_cst_13, val_main_cst_14]
  all_goals rfl

theorem v128_at (x0 : FVec Ideal S4x8192x1024 .f32) (x1 : FVec Ideal S4x3072 .f32) (x3 : FVec Ideal S1024 .f32) (x4 : FVec Ideal S1024x4768 .f32) (x7 : FVec Ideal S256 .f32) (b : Fin 4) (s : Fin 8192) (j : Fin 256) :
    val_main_v128 (F := Ideal) x0 x1 x3 x4 x7 (ix3 b s j) = rms 0x43800000#32 (fun e => val_main_v30 (F := Ideal) x0 x1 x3 x4 (ix3 b s e)) (fun e => x7 (ix1 e)) j := by
  unfold val_main_v128 val_main_v127 val_main_v126 val_main_v125 val_main_v124 val_main_v123 val_main_v122 val_main_v121 val_main_v120 val_main_v119 val_main_v118 val_main_v117 val_main_v116
  generalize val_main_v30 (F := Ideal) x0 x1 x3 x4 = y
  unfold rms fac
  pointwise [val_main_cst_15, val_main_cst_16, val_main_cst_17]
  all_goals rfl

theorem v218_at (x0 : FVec Ideal S4x8192x1024 .f32) (x1 : FVec Ideal S4x3072 .f32) (x3 : FVec Ideal S1024 .f32) (x4 : FVec Ideal S1024x4768 .f32) (x12 : FVec Ideal S32 .f32) (b : Fin 4) (s : Fin 8192) (j : Fin 32) :
    val_main_v218 (F := Ideal) x0 x1 x3 x4 x12 (ix3 b s j) = rms 0x42000000#32 (fun e => val_main_v31 (F := Ideal) x0 x1 x3 x4 (ix3 b s e)) (fun e => x12 (ix1 e)) j := by
  unfold val_main_v218 val_main_v217 val_main_v216 val_main_v215 val_main_v214 val_main_v213 val_main_v212 val_main_v211 val_main_v210 val_main_v209 val_main_v208 val_main_v207 val_main_v206
  generalize val_main_v31 (F := Ideal) x0 x1 x3 x4 = y
  unfold rms fac
  pointwise [val_main_cst_31, val_main_cst_32, val_main_cst_33]
  all_goals rfl

theorem v114_at (x0 : FVec Ideal S4x8192x1024 .f32) (x1 : FVec Ideal S4x3072 .f32) (x3 : FVec Ideal S1024 .f32) (x4 : FVec Ideal S1024x4768 .f32) (x5 : FVec Ideal S384 .f32) (x6 : FVec Ideal S384x768 .f32) (b : Fin 4) (s : Fin 8192) (j : Fin 768) :
    val_main_v114 (F := Ideal) x0 x1 x3 x4 x5 x6 (ix3 b s j) = lin (fun j e => x6 (ix2 e j)) (fun e => val_main_v113 (F := Ideal) x0 x1 x3 x4 x5 (ix3 b s e)) j := by
  refine Eq.trans (b := ∑ e : Fin 384, val_main_v113 (F := Ideal) x0 x1 x3 x4 x5 (ix3 b s e) * x6 (ix2 e j)) ?_ (lin_comm (fun j e => x6 (ix2 e j)) (fun e => val_main_v113 (F := Ideal) x0 x1 x3 x4 x5 (ix3 b s e)) j)
  unfold val_main_v114
  generalize val_main_v113 (F := Ideal) x0 x1 x3 x4 x5 = h
  pointwise
  all_goals rfl

theorem v129_at (x0 : FVec Ideal S4x8192x1024 .f32) (x1 : FVec Ideal S4x3072 .f32) (x3 : FVec Ideal S1024 .f32) (x4 : FVec Ideal S1024x4768 .f32) (x7 : FVec Ideal S256 .f32) (x8 : FVec Ideal S256x1536 .f32) (b : Fin 4) (s : Fin 8192) (j : Fin 1536) :
    val_main_v129 (F := Ideal) x0 x1 x3 x4 x7 x8 (ix3 b s j) = lin (fun j e => x8 (ix2 e j)) (fun e => val_main_v128 (F := Ideal) x0 x1 x3 x4 x7 (ix3 b s e)) j := by
  refine Eq.trans (b := ∑ e : Fin 256, val_main_v128 (F := Ideal) x0 x1 x3 x4 x7 (ix3 b s e) * x8 (ix2 e j)) ?_ (lin_comm (fun j e => x8 (ix2 e j)) (fun e => val_main_v128 (F := Ideal) x0 x1 x3 x4 x7 (ix3 b s e)) j)
  unfold val_main_v129
  generalize val_main_v128 (F := Ideal) x0 x1 x3 x4 x7 = h
  pointwise
  all_goals rfl

theorem v115_at (x0 : FVec Ideal S4x8192x1024 .f32) (x1 : FVec Ideal S4x3072 .f32) (x3 : FVec Ideal S1024 .f32) (x4 : FVec Ideal S1024x4768 .f32) (x5 : FVec Ideal S384 .f32) (x6 : FVec Ideal S384x768 .f32) (b : Fin 4) (s : Fin 8192) (i : Fin 8) (j : Fin 96) :
    val_main_v115 (F := Ideal) x0 x1 x3 x4 x5 x6 (ix4 b s i j) = val_main_v114 (F := Ideal) x0 x1 x3 x4 x5 x6 (ix3 b s (⟨96 * i.val + j.val, by omega⟩ : Fin 768)) := by
  rw [val_main_v115_apply]
  refine congrArg (val_main_v114 (F := Ideal) x0 x1 x3 x4 x5 x6) (funext fun a => ?_)
  have hb := b.isLt
  have hs := s.isLt
  have hi := i.isLt
  have hj := j.isLt
  match a with
  | ⟨0, _⟩ => exact Fin.ext (by show (((b.val * 8192 + s.val) * 8 + i.val) * 96 + j.val) / 6291456 = b.val; omega)
  | ⟨1, _⟩ => exact Fin.ext (by show (((b.val * 8192 + s.val) * 8 + i.val) * 96 + j.val) / 768 % 8192 = s.val; omega)
  | ⟨2, _⟩ => exact Fin.ext (by show (((b.val * 8192 + s.val) * 8 + i.val) * 96 + j.val) % 768 = 96 * i.val + j.val; omega)

theorem v130_at (x0 : FVec Ideal S4x8192x1024 .f32) (x1 : FVec Ideal S4x3072 .f32) (x3 : FVec Ideal S1024 .f32) (x4 : FVec Ideal S1024x4768 .f32) (x7 : FVec Ideal S256 .f32) (x8 : FVec Ideal S256x1536 .f32) (b : Fin 4) (s : Fin 8192) (i : Fin 8) (j : Fin 192) :
    val_main_v130 (F := Ideal) x0 x1 x3 x4 x7 x8 (ix4 b s i j) = val_main_v129 (F := Ideal) x0 x1 x3 x4 x7 x8 (ix3 b s (⟨192 * i.val + j.val, by omega⟩ : Fin 1536)) := by
  rw [val_main_v130_apply]
  refine congrArg (val_main_v129 (F := Ideal) x0 x1 x3 x4 x7 x8) (funext fun a => ?_)
  have hb := b.isLt
  have hs := s.isLt
  have hi := i.isLt
  have hj := j.isLt
  match a with
  | ⟨0, _⟩ => exact Fin.ext (by show (((b.val * 8192 + s.val) * 8 + i.val) * 192 + j.val) / 12582912 = b.val; omega)
  | ⟨1, _⟩ => exact Fin.ext (by show (((b.val * 8192 + s.val) * 8 + i.val) * 192 + j.val) / 1536 % 8192 = s.val; omega)
  | ⟨2, _⟩ => exact Fin.ext (by show (((b.val * 8192 + s.val) * 8 + i.val) * 192 + j.val) % 1536 = 192 * i.val + j.val; omega)

theorem v256_at (x0 : FVec Ideal S4x8192x1024 .f32) (x1 : FVec Ideal S4x3072 .f32) (x3 : FVec Ideal S1024 .f32) (x4 : FVec Ideal S1024x4768 .f32) (b : Fin 4) (n : Fin 1024) (s : Fin 8192) :
    val_main_v256 (F := Ideal) x0 x1 x3 x4 (ix3 b n s) = val_main_v27 (F := Ideal) x0 x1 x3 x4 (ix3 b s n) := by
  rw [val_main_v256_apply, val_main_v255_apply]
  exact congrArg (val_main_v27 (F := Ideal) x0 x1 x3 x4) (funext fun a => match a with | ⟨0, _⟩ => rfl | ⟨1, _⟩ => rfl | ⟨2, _⟩ => rfl)

end Cert.Reference3Ideal.In

end
-- ==== Proof.InRefD.lean ====
/- The reference's heads of the attention, from the expanded queries, keys and values. -/
module

public import proofs.«01_k».proof.Proof.Gen.Reference3Ideal.Read
public import proofs.«01_k».proof.Proof.InSpec

@[expose] public section

set_option maxRecDepth 16384

noncomputable section

namespace Cert.Reference3Ideal.In

open Idealize.ShloMosaic
open Cert.Reference3Ideal Cert.Reference3Ideal.Gen Cert.Reference3Ideal.Read Cert.In

theorem v144_at (x0 : FVec Ideal S4x8192x1024 .f32) (x1 : FVec Ideal S4x3072 .f32) (x3 : FVec Ideal S1024 .f32) (x4 : FVec Ideal S1024x4768 .f32) (x5 : FVec Ideal S384 .f32) (x6 : FVec Ideal S384x768 .f32) (x9 : FVec Ideal S64 .f32) (b : Fin 4) (s : Fin 8192) (i : Fin 8) (j : Fin 64) :
    val_main_v144 (F := Ideal) x0 x1 x3 x4 x5 x6 x9 (ix4 b s i j) = rms 0x42800000#32 (fun e : Fin 64 => val_main_v115 (F := Ideal) x0 x1 x3 x4 x5 x6 (ix4 b s i (⟨e.val, by omega⟩ : Fin 96))) (fun e => x9 (ix1 e)) j := by
  unfold val_main_v144 val_main_v143 val_main_v142 val_main_v141 val_main_v140 val_main_v139 val_main_v138 val_main_v137 val_main_v136 val_main_v135 val_main_v134 val_main_v133 val_main_v132 val_main_v131
  generalize val_main_v115 (F := Ideal) x0 x1 x3 x4 x5 x6 = y
  unfold rms fac
  pointwise [val_main_cst_18, val_main_cst_19, val_main_cst_20]
  all_goals rfl

theorem v158_at (x0 : FVec Ideal S4x8192x1024 .f32) (x1 : FVec Ideal S4x3072 .f32) (x3 : FVec Ideal S1024 .f32) (x4 : FVec Ideal S1024x4768 .f32) (x5 : FVec Ideal S384 .f32) (x6 : FVec Ideal S384x768 .f32) (x10 : FVec Ideal S32 .f32) (b : Fin 4) (s : Fin 8192) (i : Fin 8) (j : Fin 32) :
    val_main_v158 (F := Ideal) x0 x1 x3 x4 x5 x6 x10 (ix4 b s i j) = rms 0x42000000#32 (fun e : Fin 32 => val_main_v115 (F := Ideal) x0 x1 x3 x4 x5 x6 (ix4 b s i (⟨64 + e.val, by omega⟩ : Fin 96))) (fun e => x10 (ix1 e)) j := by
  unfold val_main_v158 val_main_v157 val_main_v156 val_main_v155 val_main_v154 val_main_v153 val_main_v152 val_main_v151 val_main_v150 val_main_v149 val_main_v148 val_main_v147 val_main_v146 val_main_v145
  generalize val_main_v115 (F := Ideal) x0 x1 x3 x4 x5 x6 = y
  unfold rms fac
  pointwise [val_main_cst_21, val_main_cst_22, val_main_cst_23]
  all_goals rfl

theorem v204_at (x0 : FVec Ideal S4x8192x1024 .f32) (x1 : FVec Ideal S4x3072 .f32) (x3 : FVec Ideal S1024 .f32) (x4 : FVec Ideal S1024x4768 .f32) (x7 : FVec Ideal S256 .f32) (x8 : FVec Ideal S256x1536 .f32) (x11 : FVec Ideal S64 .f32) (b : Fin 4) (s : Fin 8192) (i : Fin 8) (j : Fin 64) :
    val_main_v204 (F := Ideal) x0 x1 x3 x4 x7 x8 x11 (ix4 b s i j) = rms 0x42800000#32 (fun e : Fin 64 => val_main_v130 (F := Ideal) x0 x1 x3 x4 x7 x8 (ix4 b s i (⟨e.val, by omega⟩ : Fin 192))) (fun e => x11 (ix1 e)) j := by
  unfold val_main_v204 val_main_v203 val_main_v202 val_main_v201 val_main_v200 val_main_v199 val_main_v198 val_main_v197 val_main_v196 val_main_v195 val_main_v194 val_main_v193 val_main_v192 val_main_v191
  generalize val_main_v130 (F := Ideal) x0 x1 x3 x4 x7 x8 = y
  unfold rms fac
  pointwise [val_main_cst_28, val_main_cst_29, val_main_cst_30]
  all_goals rfl

theorem v190_at (x0 : FVec Ideal S4x8192x1024 .f32) (x1 : FVec Ideal S4x3072 .f32) (x2 : IVec S4x8192 32) (x3 : FVec Ideal S1024 .f32) (x4 : FVec Ideal S1024x4768 .f32) (x5 : FVec Ideal S384 .f32) (x6 : FVec Ideal S384x768 .f32) (x10 : FVec Ideal S32 .f32) (b : Fin 4) (s : Fin 8192) (i : Fin 8) (e : Fin 32) :
    val_main_v190 (F := Ideal) x0 x1 x2 x3 x4 x5 x6 x10 (ix4 b s i e) = rot (fun j => val_main_v158 (F := Ideal) x0 x1 x3 x4 x5 x6 x10 (ix4 b s i j)) (fun j => val_main_v176 (F := Ideal) x2 (ix4 b s 0 j)) (fun j => val_main_v177 (F := Ideal) x2 (ix4 b s 0 j)) e := by
  unfold val_main_v190 val_main_v189 val_main_v188 val_main_v187 val_main_v186 val_main_v185 val_main_v184 val_main_v183 val_main_v182 val_main_v181 val_main_v180 val_main_v179 val_main_v178
  generalize val_main_v158 (F := Ideal) x0 x1 x3 x4 x5 x6 x10 = y
  generalize val_main_v176 (F := Ideal) x2 = c
  generalize val_main_v177 (F := Ideal) x2 = d
  unfold rot rotLo rotHi
  pointwise
  all_goals rfl

theorem v245_at (x0 : FVec Ideal S4x8192x1024 .f32) (x1 : FVec Ideal S4x3072 .f32) (x2 : IVec S4x8192 32) (x3 : FVec Ideal S1024 .f32) (x4 : FVec Ideal S1024x4768 .f32) (x12 : FVec Ideal S32 .f32) (b : Fin 4) (s : Fin 8192) (e : Fin 32) :
    val_main_v245 (F := Ideal) x0 x1 x2 x3 x4 x12 (ix3 b s e) = rot (fun j => val_main_v218 (F := Ideal) x0 x1 x3 x4 x12 (ix3 b s j)) (fun j => val_main_v235 (F := Ideal) x2 (ix3 b s j)) (fun j => val_main_v236 (F := Ideal) x2 (ix3 b s j)) e := by
  unfold val_main_v245 val_main_v244 val_main_v243 val_main_v242 val_main_v241 val_main_v240 val_main_v239 val_main_v238 val_main_v237
  generalize val_main_v218 (F := Ideal) x0 x1 x3 x4 x12 = y
  generalize val_main_v235 (F := Ideal) x2 = c
  generalize val_main_v236 (F := Ideal) x2 = d
  unfold rot rotLo rotHi
  pointwise
  all_goals rfl

theorem v257_at (x0 : FVec Ideal S4x8192x1024 .f32) (x1 : FVec Ideal S4x3072 .f32) (x2 : IVec S4x8192 32) (x3 : FVec Ideal S1024 .f32) (x4 : FVec Ideal S1024x4768 .f32) (x5 : FVec Ideal S384 .f32) (x6 : FVec Ideal S384x768 .f32) (x9 : FVec Ideal S64 .f32) (x10 : FVec Ideal S32 .f32) (b : Fin 4) (s : Fin 8192) (i : Fin 8) (e : Fin 128) :
    val_main_v257 (F := Ideal) x0 x1 x2 x3 x4 x5 x6 x9 x10 (ix4 b s i e) = (if h : e.val < 64 then val_main_v144 (F := Ideal) x0 x1 x3 x4 x5 x6 x9 (ix4 b s i (⟨e.val, h⟩ : Fin 64))
      else if h1 : e.val - 64 < 32 then val_main_v190 (F := Ideal) x0 x1 x2 x3 x4 x5 x6 x10 (ix4 b s i (⟨e.val - 64, h1⟩ : Fin 32)) else Ideal.ofBits .f32 0x00000000#32 : EReal) := by
  unfold val_main_v257 val_main_v248 val_main_cst_38
  generalize val_main_v144 (F := Ideal) x0 x1 x3 x4 x5 x6 x9 = y
  generalize val_main_v190 (F := Ideal) x0 x1 x2 x3 x4 x5 x6 x10 = z
  pointwise
  all_goals rfl

theorem v260_at (x0 : FVec Ideal S4x8192x1024 .f32) (x1 : FVec Ideal S4x3072 .f32) (x2 : IVec S4x8192 32) (x3 : FVec Ideal S1024 .f32) (x4 : FVec Ideal S1024x4768 .f32) (x7 : FVec Ideal S256 .f32) (x8 : FVec Ideal S256x1536 .f32) (x11 : FVec Ideal S64 .f32) (x12 : FVec Ideal S32 .f32) (b : Fin 4) (s : Fin 8192) (i : Fin 8) (e : Fin 128) :
    val_main_v260 (F := Ideal) x0 x1 x2 x3 x4 x7 x8 x11 x12 (ix4 b s i e) = (if h : e.val < 64 then val_main_v204 (F := Ideal) x0 x1 x3 x4 x7 x8 x11 (ix4 b s i (⟨e.val, h⟩ : Fin 64))
      else if h1 : e.val - 64 < 32 then val_main_v247 (F := Ideal) x0 x1 x2 x3 x4 x12 (ix4 b s i (⟨e.val - 64, h1⟩ : Fin 32)) else Ideal.ofBits .f32 0x00000000#32 : EReal) := by
  unfold val_main_v260 val_main_v248 val_main_cst_38
  generalize val_main_v204 (F := Ideal) x0 x1 x3 x4 x7 x8 x11 = y
  generalize val_main_v247 (F := Ideal) x0 x1 x2 x3 x4 x12 = z
  pointwise
  all_goals rfl

theorem v259_at (x0 : FVec Ideal S4x8192x1024 .f32) (x1 : FVec Ideal S4x3072 .f32) (x2 : IVec S4x8192 32) (x3 : FVec Ideal S1024 .f32) (x4 : FVec Ideal S1024x4768 .f32) (x5 : FVec Ideal S384 .f32) (x6 : FVec Ideal S384x768 .f32) (x9 : FVec Ideal S64 .f32) (x10 : FVec Ideal S32 .f32) (b : Fin 4) (s : Fin 8192) (i : Fin 8) (e : Fin 128) :
    val_main_v259 (F := Ideal) x0 x1 x2 x3 x4 x5 x6 x9 x10 (ix4 b i e s) = val_main_v257 (F := Ideal) x0 x1 x2 x3 x4 x5 x6 x9 x10 (ix4 b s i e) := by
  rw [val_main_v259_apply, val_main_v258_apply]
  exact congrArg (val_main_v257 (F := Ideal) x0 x1 x2 x3 x4 x5 x6 x9 x10) (funext fun a => match a with | ⟨0, _⟩ => rfl | ⟨1, _⟩ => rfl | ⟨2, _⟩ => rfl | ⟨3, _⟩ => rfl)

theorem v262_at (x0 : FVec Ideal S4x8192x1024 .f32) (x1 : FVec Ideal S4x3072 .f32) (x2 : IVec S4x8192 32) (x3 : FVec Ideal S1024 .f32) (x4 : FVec Ideal S1024x4768 .f32) (x7 : FVec Ideal S256 .f32) (x8 : FVec Ideal S256x1536 .f32) (x11 : FVec Ideal S64 .f32) (x12 : FVec Ideal S32 .f32) (b : Fin 4) (s : Fin 8192) (i : Fin 8) (e : Fin 128) :
    val_main_v262 (F := Ideal) x0 x1 x2 x3 x4 x7 x8 x11 x12 (ix4 b i s e) = val_main_v260 (F := Ideal) x0 x1 x2 x3 x4 x7 x8 x11 x12 (ix4 b s i e) := by
  rw [val_main_v262_apply, val_main_v261_apply]
  exact congrArg (val_main_v260 (F := Ideal) x0 x1 x2 x3 x4 x7 x8 x11 x12) (funext fun a => match a with | ⟨0, _⟩ => rfl | ⟨1, _⟩ => rfl | ⟨2, _⟩ => rfl | ⟨3, _⟩ => rfl)

theorem v264_at (x0 : FVec Ideal S4x8192x1024 .f32) (x1 : FVec Ideal S4x3072 .f32) (x3 : FVec Ideal S1024 .f32) (x4 : FVec Ideal S1024x4768 .f32) (x7 : FVec Ideal S256 .f32) (x8 : FVec Ideal S256x1536 .f32) (b : Fin 4) (s : Fin 8192) (i : Fin 8) (e : Fin 128) :
    val_main_v264 (F := Ideal) x0 x1 x3 x4 x7 x8 (ix4 b i e s) = val_main_v205 (F := Ideal) x0 x1 x3 x4 x7 x8 (ix4 b s i e) := by
  rw [val_main_v264_apply, val_main_v263_apply]
  exact congrArg (val_main_v205 (F := Ideal) x0 x1 x3 x4 x7 x8) (funext fun a => match a with | ⟨0, _⟩ => rfl | ⟨1, _⟩ => rfl | ⟨2, _⟩ => rfl | ⟨3, _⟩ => rfl)

theorem v205_at (x0 : FVec Ideal S4x8192x1024 .f32) (x1 : FVec Ideal S4x3072 .f32) (x3 : FVec Ideal S1024 .f32) (x4 : FVec Ideal S1024x4768 .f32) (x7 : FVec Ideal S256 .f32) (x8 : FVec Ideal S256x1536 .f32) (b : Fin 4) (s : Fin 8192) (i : Fin 8) (e : Fin 128) :
    val_main_v205 (F := Ideal) x0 x1 x3 x4 x7 x8 (ix4 b s i e) = val_main_v130 (F := Ideal) x0 x1 x3 x4 x7 x8 (ix4 b s i (⟨64 + e.val, by omega⟩ : Fin 192)) := by
  unfold val_main_v205
  generalize val_main_v130 (F := Ideal) x0 x1 x3 x4 x7 x8 = y
  pointwise
  all_goals rfl

theorem v247_at (x0 : FVec Ideal S4x8192x1024 .f32) (x1 : FVec Ideal S4x3072 .f32) (x2 : IVec S4x8192 32) (x3 : FVec Ideal S1024 .f32) (x4 : FVec Ideal S1024x4768 .f32) (x12 : FVec Ideal S32 .f32) (b : Fin 4) (s : Fin 8192) (i : Fin 8) (e : Fin 32) :
    val_main_v247 (F := Ideal) x0 x1 x2 x3 x4 x12 (ix4 b s i e) = val_main_v245 (F := Ideal) x0 x1 x2 x3 x4 x12 (ix3 b s e) := by
  unfold val_main_v247 val_main_v246
  generalize val_main_v245 (F := Ideal) x0 x1 x2 x3 x4 x12 = y
  pointwise
  all_goals rfl

/-- The attention's queries, head by head. -/
theorem qt_at (x0 : FVec Ideal S4x8192x1024 .f32) (x1 : FVec Ideal S4x3072 .f32) (x2 : IVec S4x8192 32) (x3 : FVec Ideal S1024 .f32) (x4 : FVec Ideal S1024x4768 .f32) (x5 : FVec Ideal S384 .f32) (x6 : FVec Ideal S384x768 .f32) (x9 : FVec Ideal S64 .f32) (x10 : FVec Ideal S32 .f32) (b : Fin 4) (i : Fin 8) (e : Fin 128) (s : Fin 8192) :
    val_main_v259 (F := Ideal) x0 x1 x2 x3 x4 x5 x6 x9 x10 (ix4 b i e s) = headQ (fun j : Fin 64 => val_main_v115 (F := Ideal) x0 x1 x3 x4 x5 x6 (ix4 b s i (⟨j.val, by omega⟩ : Fin 96)))
      (fun j : Fin 32 => val_main_v115 (F := Ideal) x0 x1 x3 x4 x5 x6 (ix4 b s i (⟨64 + j.val, by omega⟩ : Fin 96)))
      (fun j => val_main_v176 (F := Ideal) x2 (ix4 b s 0 j)) (fun j => val_main_v177 (F := Ideal) x2 (ix4 b s 0 j)) (fun e => x9 (ix1 e)) (fun e => x10 (ix1 e)) e := by
  rw [v259_at, v257_at]
  unfold headQ
  have he := e.isLt
  by_cases h : e.val < 64
  · rw [dif_pos h, dif_pos h, v144_at]
  rw [dif_neg h, dif_neg h]
  by_cases h1 : e.val - 64 < 32
  · rw [dif_pos h1, v190_at]
    rw [show (fun j => val_main_v158 (F := Ideal) x0 x1 x3 x4 x5 x6 x10 (ix4 b s i j)) = rms 0x42000000#32 (fun e : Fin 32 => val_main_v115 (F := Ideal) x0 x1 x3 x4 x5 x6 (ix4 b s i (⟨64 + e.val, by omega⟩ : Fin 96))) (fun e => x10 (ix1 e)) from
      funext fun j => v158_at x0 x1 x3 x4 x5 x6 x10 b s i j]
    unfold rot
    by_cases h2 : e.val - 64 < 16
    · rw [dif_pos h2, dif_pos h2]
    · rw [dif_neg h2, dif_neg h2, dif_pos (show e.val - 64 - 16 < 16 by omega)]
  · rw [dif_neg h1, dif_neg (show ¬ e.val - 64 < 16 by omega), dif_neg (show ¬ e.val - 64 - 16 < 16 by omega)]

/-- The attention's keys, head by head. -/
theorem k_at (x0 : FVec Ideal S4x8192x1024 .f32) (x1 : FVec Ideal S4x3072 .f32) (x2 : IVec S4x8192 32) (x3 : FVec Ideal S1024 .f32) (x4 : FVec Ideal S1024x4768 .f32) (x7 : FVec Ideal S256 .f32) (x8 : FVec Ideal S256x1536 .f32) (x11 : FVec Ideal S64 .f32) (x12 : FVec Ideal S32 .f32) (b : Fin 4) (i : Fin 8) (s : Fin 8192) (e : Fin 128) :
    val_main_v262 (F := Ideal) x0 x1 x2 x3 x4 x7 x8 x11 x12 (ix4 b i s e) = headK (fun j : Fin 64 => val_main_v130 (F := Ideal) x0 x1 x3 x4 x7 x8 (ix4 b s i (⟨j.val, by omega⟩ : Fin 192)))
      (fun j => val_main_v245 (F := Ideal) x0 x1 x2 x3 x4 x12 (ix3 b s j)) (fun e => x11 (ix1 e)) e := by
  rw [v262_at, v260_at]
  unfold headK
  by_cases h : e.val < 64
  · rw [dif_pos h, dif_pos h, v204_at]
  rw [dif_neg h, dif_neg h]
  by_cases h1 : e.val - 64 < 32
  · rw [dif_pos h1, dif_pos h1, v247_at]
  · rw [dif_neg h1, dif_neg h1]

end Cert.Reference3Ideal.In

end
-- ==== Proof.InSteps.lean ====
/- The values the input projection's body computes on the way, index by index. -/
module

public import proofs.«01_k».proof.Proof.Gen.Kernel3Ideal.Skeleton
public import proofs.«01_k».proof.Proof.InSpec

@[expose] public section

set_option maxRecDepth 16384

noncomputable section

namespace Cert.Kernel3Ideal.In

open Idealize.ShloMosaic
open Cert.Kernel3Ideal Cert.Kernel3Ideal.Gen Cert.In

theorem hid_at (x : Vec Ideal S1x512x1024 .f32) (sh sc : Vec Ideal S1x1x1024 .f32) (nw : Vec Ideal S1x1024 .f32) (t : Fin 512) (e : Fin 1024) :
    k0_pay4 x sh sc nw (ix2 t e) = hid (fun e => x (ix3 0 t e)) (fun e => sh (ix3 0 0 e)) (fun e => sc (ix3 0 0 e)) (fun e => nw (ix2 0 e)) e := by
  unfold hid fac
  pointwise [k0_pay4]
  all_goals rfl
theorem cos64_at (p : Vec Ideal S1x1x512 .i32) (v : Vec Ideal S32x1 .f32) (j : Fin 32) (t : Fin 512) :
    k0_pay7 p v (ix2 j t) = Ideal.cos (v (ix2 j 0) * Scalar.sitofp (F := Ideal) .f32 (p (ix3 0 0 t))) := by
  pointwise [k0_pay7, k0_pay6, k0_pay5]
  all_goals rfl
theorem sin64_at (p : Vec Ideal S1x1x512 .i32) (v : Vec Ideal S32x1 .f32) (j : Fin 32) (t : Fin 512) :
    k0_pay8 p v (ix2 j t) = Ideal.sin (v (ix2 j 0) * Scalar.sitofp (F := Ideal) .f32 (p (ix3 0 0 t))) := by
  pointwise [k0_pay8, k0_pay6, k0_pay5]
  all_goals rfl
theorem cos32_at (p : Vec Ideal S1x1x512 .i32) (v : Vec Ideal S16x1 .f32) (j : Fin 16) (t : Fin 512) :
    k0_pay10 (k0_pay5 p) v (ix2 j t) = Ideal.cos (v (ix2 j 0) * Scalar.sitofp (F := Ideal) .f32 (p (ix3 0 0 t))) := by
  pointwise [k0_pay10, k0_pay9, k0_pay5]
  all_goals rfl
theorem sin32_at (p : Vec Ideal S1x1x512 .i32) (v : Vec Ideal S16x1 .f32) (j : Fin 16) (t : Fin 512) :
    k0_pay11 (k0_pay5 p) v (ix2 j t) = Ideal.sin (v (ix2 j 0) * Scalar.sitofp (F := Ideal) .f32 (p (ix3 0 0 t))) := by
  pointwise [k0_pay11, k0_pay9, k0_pay5]
  all_goals rfl
theorem cq_at (h : FVec Ideal S512x1024 .bf16) (w : Vec Ideal S672x1024 .bf16) (q : Vec Ideal S384x1 .f32) (j : Fin 384) (t : Fin 512) :
    k0_pay13 h w q (ix2 j t) = rms 0x43C00000#32 (fun j : Fin 384 => lin (fun n e => w (ix2 n e)) (fun e => h (ix2 t e)) ⟨j.val, by omega⟩) (fun j => q (ix2 j 0)) j := by
  unfold rms fac lin
  pointwise [k0_pay13, k0_pay12]
  all_goals rfl
theorem ckv_at (h : FVec Ideal S512x1024 .bf16) (w : Vec Ideal S672x1024 .bf16) (q : Vec Ideal S256x1 .f32) (j : Fin 256) (t : Fin 512) :
    k0_pay14 h w q (ix2 j t) = rms 0x43800000#32 (fun j : Fin 256 => lin (fun n e => w (ix2 n e)) (fun e => h (ix2 t e)) ⟨384 + j.val, by omega⟩) (fun j => q (ix2 j 0)) j := by
  unfold rms fac lin
  pointwise [k0_pay14, k0_pay12]
  all_goals rfl
theorem kr0_at (h : FVec Ideal S512x1024 .bf16) (w : Vec Ideal S672x1024 .bf16) (j : Fin 32) (t : Fin 512) :
    k0_pay15 h w (ix2 j t) = lin (fun n e => w (ix2 n e)) (fun e => h (ix2 t e)) (⟨640 + j.val, by omega⟩ : Fin 672) := by
  unfold lin
  pointwise [k0_pay15, k0_pay12]
  all_goals rfl
theorem kr_at (c s : FVec Ideal S16x512 .f32) (v : FVec Ideal S32x512 .f32) (w : Vec Ideal S32x1 .f32) (i : Fin 32) (t : Fin 512) :
   k0_pay17 c s v (k0_pay16 w) (ix2 i t) = rot (rms 0x42000000#32 (fun j => v (ix2 j t)) (fun j => w (ix2 j 0))) (fun j => c (ix2 j t)) (fun j => s (ix2 j t)) i := by
  unfold rot rotLo rotHi rms fac
  pointwise [k0_pay17, k0_pay16]
  all_goals rfl
theorem q_at (cq : FVec Ideal S384x512 .bf16) (w : Vec Ideal S768x384 .bf16) (j : Fin 768) (t : Fin 512) :
    k0_pay18 cq w (ix2 j t) = lin (fun n e => w (ix2 n e)) (fun e => cq (ix2 e t)) j := by
  unfold lin
  pointwise [k0_pay18]
  all_goals rfl
theorem kv_at (cq : FVec Ideal S256x512 .bf16) (w : Vec Ideal S1536x256 .bf16) (j : Fin 1536) (t : Fin 512) :
    k0_pay19 cq w (ix2 j t) = lin (fun n e => w (ix2 n e)) (fun e => cq (ix2 e t)) j := by
  unfold lin
  pointwise [k0_pay19]
  all_goals rfl
theorem qk_at (h : FVec Ideal S512x1024 .bf16) (w : Vec Ideal S1024x1024 .bf16) (n : Fin 1024) (t : Fin 512) :
    k0_pay79 h w (ix2 n t) = lin (fun n e => w (ix2 n e)) (fun e => h (ix2 t e)) n := by
  unfold lin
  pointwise [k0_pay79]
  all_goals rfl
theorem rv_at (h : FVec Ideal S512x1024 .bf16) (w : Vec Ideal S1024x1024 .bf16) (n : Fin 1024) (t : Fin 512) :
    k0_pay3 h w (ix3 0 n t) = lin (fun n e => w (ix2 n e)) (fun e => h (ix2 t e)) n := by
  unfold lin
  pointwise [k0_pay3]
  all_goals rfl
theorem ck_at (c : FVec Ideal S32x512 .f32) (j : Fin 32) (t : Fin 512) : k0_pay80 c (ix2 j t) = c (ix2 j t) * Ideal.ofBits .f32 0x3E000000#32 := by
  pointwise [k0_pay80]
  all_goals rfl
theorem sk_at (c : FVec Ideal S32x512 .f32) (j : Fin 32) (t : Fin 512) : k0_pay81 c (ix2 j t) = c (ix2 j t) * Ideal.ofBits .f32 0x3E000000#32 := by
  pointwise [k0_pay81]
  all_goals rfl

end Cert.Kernel3Ideal.In

end
-- ==== Proof.InPieces.lean ====
/- The stored pieces of the input projection's blocks, index by index. -/
module

public import proofs.«01_k».proof.Proof.Gen.Kernel3Ideal.Skeleton
public import proofs.«01_k».proof.Proof.InSpec

@[expose] public section

set_option maxRecDepth 16384

noncomputable section

namespace Cert.Kernel3Ideal.In

open Idealize.ShloMosaic
open Cert.Kernel3Ideal Cert.Kernel3Ideal.Gen Cert.In

theorem p15_480 (c64 : FVec Ideal S32x512 .f32) (s64 : FVec Ideal S32x512 .f32) (qk : FVec Ideal S1024x512 .f32) (n : Fin 32) (t : Fin 512) :
    k0_pay109 c64 s64 qk (ix3 0 n t) = qk (ix2 ⟨448 + (32 + n.val), by omega⟩ t) * c64 (ix2 n t) + qk (ix2 ⟨448 + n.val, by omega⟩ t) * s64 (ix2 n t) := by
  pointwise [k0_pay107, k0_pay109]
  all_goals rfl
theorem p15_448 (c64 : FVec Ideal S32x512 .f32) (s64 : FVec Ideal S32x512 .f32) (qk : FVec Ideal S1024x512 .f32) (n : Fin 32) (t : Fin 512) :
    k0_pay108 c64 s64 qk (ix3 0 n t) = qk (ix2 ⟨448 + n.val, by omega⟩ t) * c64 (ix2 n t) - qk (ix2 ⟨448 + (32 + n.val), by omega⟩ t) * s64 (ix2 n t) := by
  pointwise [k0_pay107, k0_pay108]
  all_goals rfl
theorem p15_416 (c64 : FVec Ideal S32x512 .f32) (s64 : FVec Ideal S32x512 .f32) (qk : FVec Ideal S1024x512 .f32) (n : Fin 32) (t : Fin 512) :
    k0_pay106 (k0_pay104 c64 s64 qk) (ix3 0 n t) = qk (ix2 ⟨384 + (32 + n.val), by omega⟩ t) * c64 (ix2 n t) + qk (ix2 ⟨384 + n.val, by omega⟩ t) * s64 (ix2 n t) := by
  pointwise [k0_pay103, k0_pay104, k0_pay106]
  all_goals rfl
theorem p15_384 (c64 : FVec Ideal S32x512 .f32) (s64 : FVec Ideal S32x512 .f32) (qk : FVec Ideal S1024x512 .f32) (n : Fin 32) (t : Fin 512) :
    k0_pay105 c64 s64 qk (ix3 0 n t) = qk (ix2 ⟨384 + n.val, by omega⟩ t) * c64 (ix2 n t) - qk (ix2 ⟨384 + (32 + n.val), by omega⟩ t) * s64 (ix2 n t) := by
  pointwise [k0_pay103, k0_pay105]
  all_goals rfl
theorem p15_352 (c64 : FVec Ideal S32x512 .f32) (s64 : FVec Ideal S32x512 .f32) (qk : FVec Ideal S1024x512 .f32) (n : Fin 32) (t : Fin 512) :
    k0_pay102 c64 s64 qk (ix3 0 n t) = qk (ix2 ⟨320 + (32 + n.val), by omega⟩ t) * c64 (ix2 n t) + qk (ix2 ⟨320 + n.val, by omega⟩ t) * s64 (ix2 n t) := by
  pointwise [k0_pay100, k0_pay102]
  all_goals rfl
theorem p15_320 (c64 : FVec Ideal S32x512 .f32) (s64 : FVec Ideal S32x512 .f32) (qk : FVec Ideal S1024x512 .f32) (n : Fin 32) (t : Fin 512) :
    k0_pay101 c64 s64 qk (ix3 0 n t) = qk (ix2 ⟨320 + n.val, by omega⟩ t) * c64 (ix2 n t) - qk (ix2 ⟨320 + (32 + n.val), by omega⟩ t) * s64 (ix2 n t) := by
  pointwise [k0_pay100, k0_pay101]
  all_goals rfl
theorem p15_288 (c64 : FVec Ideal S32x512 .f32) (s64 : FVec Ideal S32x512 .f32) (qk : FVec Ideal S1024x512 .f32) (n : Fin 32) (t : Fin 512) :
    k0_pay99 (k0_pay96 c64 s64 qk) (ix3 0 n t) = qk (ix2 ⟨256 + (32 + n.val), by omega⟩ t) * c64 (ix2 n t) + qk (ix2 ⟨256 + n.val, by omega⟩ t) * s64 (ix2 n t) := by
  pointwise [k0_pay95, k0_pay96, k0_pay99]
  all_goals rfl
theorem p15_256 (c64 : FVec Ideal S32x512 .f32) (s64 : FVec Ideal S32x512 .f32) (qk : FVec Ideal S1024x512 .f32) (n : Fin 32) (t : Fin 512) :
    k0_pay98 (k0_pay97 c64 s64 qk) (ix3 0 n t) = qk (ix2 ⟨256 + n.val, by omega⟩ t) * c64 (ix2 n t) - qk (ix2 ⟨256 + (32 + n.val), by omega⟩ t) * s64 (ix2 n t) := by
  pointwise [k0_pay95, k0_pay97, k0_pay98]
  all_goals rfl
theorem p15_224 (c64 : FVec Ideal S32x512 .f32) (s64 : FVec Ideal S32x512 .f32) (qk : FVec Ideal S1024x512 .f32) (n : Fin 32) (t : Fin 512) :
    k0_pay94 c64 s64 qk (ix3 0 n t) = qk (ix2 ⟨192 + (32 + n.val), by omega⟩ t) * c64 (ix2 n t) + qk (ix2 ⟨192 + n.val, by omega⟩ t) * s64 (ix2 n t) := by
  pointwise [k0_pay92, k0_pay94]
  all_goals rfl
theorem p15_192 (c64 : FVec Ideal S32x512 .f32) (s64 : FVec Ideal S32x512 .f32) (qk : FVec Ideal S1024x512 .f32) (n : Fin 32) (t : Fin 512) :
    k0_pay93 c64 s64 qk (ix3 0 n t) = qk (ix2 ⟨192 + n.val, by omega⟩ t) * c64 (ix2 n t) - qk (ix2 ⟨192 + (32 + n.val), by omega⟩ t) * s64 (ix2 n t) := by
  pointwise [k0_pay92, k0_pay93]
  all_goals rfl
theorem p15_160 (c64 : FVec Ideal S32x512 .f32) (s64 : FVec Ideal S32x512 .f32) (qk : FVec Ideal S1024x512 .f32) (n : Fin 32) (t : Fin 512) :
    k0_pay91 c64 s64 (k0_pay88 qk) (ix3 0 n t) = qk (ix2 ⟨128 + (32 + n.val), by omega⟩ t) * c64 (ix2 n t) + qk (ix2 ⟨128 + n.val, by omega⟩ t) * s64 (ix2 n t) := by
  pointwise [k0_pay88, k0_pay91]
  all_goals rfl
theorem p15_128 (c64 : FVec Ideal S32x512 .f32) (s64 : FVec Ideal S32x512 .f32) (qk : FVec Ideal S1024x512 .f32) (n : Fin 32) (t : Fin 512) :
    k0_pay90 (k0_pay89 c64 s64 qk) (ix3 0 n t) = qk (ix2 ⟨128 + n.val, by omega⟩ t) * c64 (ix2 n t) - qk (ix2 ⟨128 + (32 + n.val), by omega⟩ t) * s64 (ix2 n t) := by
  pointwise [k0_pay88, k0_pay89, k0_pay90]
  all_goals rfl
theorem p15_96 (c64 : FVec Ideal S32x512 .f32) (s64 : FVec Ideal S32x512 .f32) (qk : FVec Ideal S1024x512 .f32) (n : Fin 32) (t : Fin 512) :
    k0_pay87 c64 s64 qk (ix3 0 n t) = qk (ix2 ⟨64 + (32 + n.val), by omega⟩ t) * c64 (ix2 n t) + qk (ix2 ⟨64 + n.val, by omega⟩ t) * s64 (ix2 n t) := by
  pointwise [k0_pay85, k0_pay87]
  all_goals rfl
theorem p15_64 (c64 : FVec Ideal S32x512 .f32) (s64 : FVec Ideal S32x512 .f32) (qk : FVec Ideal S1024x512 .f32) (n : Fin 32) (t : Fin 512) :
    k0_pay86 c64 s64 qk (ix3 0 n t) = qk (ix2 ⟨64 + n.val, by omega⟩ t) * c64 (ix2 n t) - qk (ix2 ⟨64 + (32 + n.val), by omega⟩ t) * s64 (ix2 n t) := by
  pointwise [k0_pay85, k0_pay86]
  all_goals rfl
theorem p15_32 (c64 : FVec Ideal S32x512 .f32) (s64 : FVec Ideal S32x512 .f32) (qk : FVec Ideal S1024x512 .f32) (n : Fin 32) (t : Fin 512) :
    k0_pay84 c64 s64 qk (ix3 0 n t) = qk (ix2 ⟨0 + (32 + n.val), by omega⟩ t) * c64 (ix2 n t) + qk (ix2 ⟨0 + n.val, by omega⟩ t) * s64 (ix2 n t) := by
  pointwise [k0_pay82, k0_pay84]
  all_goals rfl
theorem p15_0 (c64 : FVec Ideal S32x512 .f32) (s64 : FVec Ideal S32x512 .f32) (qk : FVec Ideal S1024x512 .f32) (n : Fin 32) (t : Fin 512) :
    k0_pay83 c64 s64 qk (ix3 0 n t) = qk (ix2 ⟨0 + n.val, by omega⟩ t) * c64 (ix2 n t) - qk (ix2 ⟨0 + (32 + n.val), by omega⟩ t) * s64 (ix2 n t) := by
  pointwise [k0_pay82, k0_pay83]
  all_goals rfl
theorem p16_480 (ck : FVec Ideal S32x512 .f32) (sk : FVec Ideal S32x512 .f32) (qk : FVec Ideal S1024x512 .f32) (n : Fin 32) (t : Fin 512) :
    k0_pay2 (k0_pay137 qk ck sk) (ix3 0 n t) = qk (ix2 ⟨960 + (32 + n.val), by omega⟩ t) * ck (ix2 n t) + qk (ix2 ⟨960 + n.val, by omega⟩ t) * sk (ix2 n t) := by
  pointwise [k0_pay2, k0_pay136, k0_pay137]
  all_goals rfl
theorem p16_448 (ck : FVec Ideal S32x512 .f32) (sk : FVec Ideal S32x512 .f32) (qk : FVec Ideal S1024x512 .f32) (n : Fin 32) (t : Fin 512) :
    k0_pay1 (k0_pay138 qk ck sk) (ix3 0 n t) = qk (ix2 ⟨960 + n.val, by omega⟩ t) * ck (ix2 n t) - qk (ix2 ⟨960 + (32 + n.val), by omega⟩ t) * sk (ix2 n t) := by
  pointwise [k0_pay1, k0_pay136, k0_pay138]
  all_goals rfl
theorem p16_416 (ck : FVec Ideal S32x512 .f32) (sk : FVec Ideal S32x512 .f32) (qk : FVec Ideal S1024x512 .f32) (n : Fin 32) (t : Fin 512) :
    k0_pay135 qk ck sk (ix3 0 n t) = qk (ix2 ⟨896 + (32 + n.val), by omega⟩ t) * ck (ix2 n t) + qk (ix2 ⟨896 + n.val, by omega⟩ t) * sk (ix2 n t) := by
  pointwise [k0_pay133, k0_pay135]
  all_goals rfl
theorem p16_384 (ck : FVec Ideal S32x512 .f32) (sk : FVec Ideal S32x512 .f32) (qk : FVec Ideal S1024x512 .f32) (n : Fin 32) (t : Fin 512) :
    k0_pay134 qk ck sk (ix3 0 n t) = qk (ix2 ⟨896 + n.val, by omega⟩ t) * ck (ix2 n t) - qk (ix2 ⟨896 + (32 + n.val), by omega⟩ t) * sk (ix2 n t) := by
  pointwise [k0_pay133, k0_pay134]
  all_goals rfl
theorem p16_352 (ck : FVec Ideal S32x512 .f32) (sk : FVec Ideal S32x512 .f32) (qk : FVec Ideal S1024x512 .f32) (n : Fin 32) (t : Fin 512) :
    k0_pay132 sk (k0_pay129 qk ck) (k0_pay130 qk) (ix3 0 n t) = qk (ix2 ⟨832 + (32 + n.val), by omega⟩ t) * ck (ix2 n t) + qk (ix2 ⟨832 + n.val, by omega⟩ t) * sk (ix2 n t) := by
  pointwise [k0_pay127, k0_pay129, k0_pay130, k0_pay132]
  all_goals rfl
theorem p16_320 (ck : FVec Ideal S32x512 .f32) (sk : FVec Ideal S32x512 .f32) (qk : FVec Ideal S1024x512 .f32) (n : Fin 32) (t : Fin 512) :
    k0_pay131 (k0_pay128 qk ck sk) (ix3 0 n t) = qk (ix2 ⟨832 + n.val, by omega⟩ t) * ck (ix2 n t) - qk (ix2 ⟨832 + (32 + n.val), by omega⟩ t) * sk (ix2 n t) := by
  pointwise [k0_pay127, k0_pay128, k0_pay131]
  all_goals rfl
theorem p16_288 (ck : FVec Ideal S32x512 .f32) (sk : FVec Ideal S32x512 .f32) (qk : FVec Ideal S1024x512 .f32) (n : Fin 32) (t : Fin 512) :
    k0_pay126 qk ck sk (ix3 0 n t) = qk (ix2 ⟨768 + (32 + n.val), by omega⟩ t) * ck (ix2 n t) + qk (ix2 ⟨768 + n.val, by omega⟩ t) * sk (ix2 n t) := by
  pointwise [k0_pay124, k0_pay126]
  all_goals rfl
theorem p16_256 (ck : FVec Ideal S32x512 .f32) (sk : FVec Ideal S32x512 .f32) (qk : FVec Ideal S1024x512 .f32) (n : Fin 32) (t : Fin 512) :
    k0_pay125 qk ck sk (ix3 0 n t) = qk (ix2 ⟨768 + n.val, by omega⟩ t) * ck (ix2 n t) - qk (ix2 ⟨768 + (32 + n.val), by omega⟩ t) * sk (ix2 n t) := by
  pointwise [k0_pay124, k0_pay125]
  all_goals rfl
theorem p16_224 (ck : FVec Ideal S32x512 .f32) (sk : FVec Ideal S32x512 .f32) (qk : FVec Ideal S1024x512 .f32) (n : Fin 32) (t : Fin 512) :
    k0_pay123 ck sk (k0_pay120 qk) (ix3 0 n t) = qk (ix2 ⟨704 + (32 + n.val), by omega⟩ t) * ck (ix2 n t) + qk (ix2 ⟨704 + n.val, by omega⟩ t) * sk (ix2 n t) := by
  pointwise [k0_pay120, k0_pay123]
  all_goals rfl
theorem p16_192 (ck : FVec Ideal S32x512 .f32) (sk : FVec Ideal S32x512 .f32) (qk : FVec Ideal S1024x512 .f32) (n : Fin 32) (t : Fin 512) :
    k0_pay122 sk (k0_pay120 qk) (k0_pay121 qk ck) (ix3 0 n t) = qk (ix2 ⟨704 + n.val, by omega⟩ t) * ck (ix2 n t) - qk (ix2 ⟨704 + (32 + n.val), by omega⟩ t) * sk (ix2 n t) := by
  pointwise [k0_pay120, k0_pay121, k0_pay122]
  all_goals rfl
theorem p16_160 (ck : FVec Ideal S32x512 .f32) (sk : FVec Ideal S32x512 .f32) (qk : FVec Ideal S1024x512 .f32) (n : Fin 32) (t : Fin 512) :
    k0_pay119 qk ck sk (ix3 0 n t) = qk (ix2 ⟨640 + (32 + n.val), by omega⟩ t) * ck (ix2 n t) + qk (ix2 ⟨640 + n.val, by omega⟩ t) * sk (ix2 n t) := by
  pointwise [k0_pay117, k0_pay119]
  all_goals rfl
theorem p16_128 (ck : FVec Ideal S32x512 .f32) (sk : FVec Ideal S32x512 .f32) (qk : FVec Ideal S1024x512 .f32) (n : Fin 32) (t : Fin 512) :
    k0_pay118 qk ck sk (ix3 0 n t) = qk (ix2 ⟨640 + n.val, by omega⟩ t) * ck (ix2 n t) - qk (ix2 ⟨640 + (32 + n.val), by omega⟩ t) * sk (ix2 n t) := by
  pointwise [k0_pay117, k0_pay118]
  all_goals rfl
theorem p16_96 (ck : FVec Ideal S32x512 .f32) (sk : FVec Ideal S32x512 .f32) (qk : FVec Ideal S1024x512 .f32) (n : Fin 32) (t : Fin 512) :
    k0_pay116 qk ck sk (ix3 0 n t) = qk (ix2 ⟨576 + (32 + n.val), by omega⟩ t) * ck (ix2 n t) + qk (ix2 ⟨576 + n.val, by omega⟩ t) * sk (ix2 n t) := by
  pointwise [k0_pay114, k0_pay116]
  all_goals rfl
theorem p16_64 (ck : FVec Ideal S32x512 .f32) (sk : FVec Ideal S32x512 .f32) (qk : FVec Ideal S1024x512 .f32) (n : Fin 32) (t : Fin 512) :
    k0_pay115 qk ck sk (ix3 0 n t) = qk (ix2 ⟨576 + n.val, by omega⟩ t) * ck (ix2 n t) - qk (ix2 ⟨576 + (32 + n.val), by omega⟩ t) * sk (ix2 n t) := by
  pointwise [k0_pay114, k0_pay115]
  all_goals rfl
theorem p16_32 (ck : FVec Ideal S32x512 .f32) (sk : FVec Ideal S32x512 .f32) (qk : FVec Ideal S1024x512 .f32) (n : Fin 32) (t : Fin 512) :
    k0_pay113 (k0_pay112 qk ck sk) (ix3 0 n t) = qk (ix2 ⟨512 + (32 + n.val), by omega⟩ t) * ck (ix2 n t) + qk (ix2 ⟨512 + n.val, by omega⟩ t) * sk (ix2 n t) := by
  pointwise [k0_pay110, k0_pay112, k0_pay113]
  all_goals rfl
theorem p16_0 (ck : FVec Ideal S32x512 .f32) (sk : FVec Ideal S32x512 .f32) (qk : FVec Ideal S1024x512 .f32) (n : Fin 32) (t : Fin 512) :
    k0_pay111 qk ck sk (ix3 0 n t) = qk (ix2 ⟨512 + n.val, by omega⟩ t) * ck (ix2 n t) - qk (ix2 ⟨512 + (32 + n.val), by omega⟩ t) * sk (ix2 n t) := by
  pointwise [k0_pay110, k0_pay111]
  all_goals rfl
theorem p20_7 (c32 : FVec Ideal S16x512 .f32) (s32 : FVec Ideal S16x512 .f32) (Q : FVec Ideal S768x512 .f32) (wn : Vec Ideal S64x1 .f32) (wr : Vec Ideal S32x1 .f32) (e : Fin 128) (t : Fin 512) :
    k0_pay73 c32 s32 (k0_pay20 (F := Ideal)) (k0_pay69 Q wn) (k0_pay70 Q) (k0_pay71 wr) (k0_pay72 Q) (Scalar.ofBits .f32 0x358637BD#32) (ix4 0 0 e t) = headQ (fun j => Q (ix2 ⟨672 + j.val, by omega⟩ t)) (fun j => Q (ix2 ⟨736 + j.val, by omega⟩ t)) (fun j => c32 (ix2 j t)) (fun j => s32 (ix2 j t)) (fun j => wn (ix2 j 0)) (fun j => wr (ix2 j 0)) e := by
  unfold headQ rotLo rotHi rms fac
  pointwise [k0_pay20, k0_pay69, k0_pay70, k0_pay71, k0_pay72, k0_pay73]
  all_goals rfl
theorem p20_6 (c32 : FVec Ideal S16x512 .f32) (s32 : FVec Ideal S16x512 .f32) (Q : FVec Ideal S768x512 .f32) (wn : Vec Ideal S64x1 .f32) (wr : Vec Ideal S32x1 .f32) (e : Fin 128) (t : Fin 512) :
    k0_pay62 c32 s32 Q (k0_pay20 (F := Ideal)) (k0_pay58 Q) (k0_pay59 wn) (k0_pay60 Q) (k0_pay61 (F := Ideal)) wr (ix4 0 0 e t) = headQ (fun j => Q (ix2 ⟨576 + j.val, by omega⟩ t)) (fun j => Q (ix2 ⟨640 + j.val, by omega⟩ t)) (fun j => c32 (ix2 j t)) (fun j => s32 (ix2 j t)) (fun j => wn (ix2 j 0)) (fun j => wr (ix2 j 0)) e := by
  unfold headQ rotLo rotHi rms fac
  pointwise [k0_pay20, k0_pay58, k0_pay59, k0_pay60, k0_pay61, k0_pay62]
  all_goals rfl
theorem p20_5 (c32 : FVec Ideal S16x512 .f32) (s32 : FVec Ideal S16x512 .f32) (Q : FVec Ideal S768x512 .f32) (wn : Vec Ideal S64x1 .f32) (wr : Vec Ideal S32x1 .f32) (e : Fin 128) (t : Fin 512) :
    k0_pay55 (k0_pay54 c32 s32 Q (k0_pay20 (F := Ideal)) wn wr) (ix4 0 0 e t) = headQ (fun j => Q (ix2 ⟨480 + j.val, by omega⟩ t)) (fun j => Q (ix2 ⟨544 + j.val, by omega⟩ t)) (fun j => c32 (ix2 j t)) (fun j => s32 (ix2 j t)) (fun j => wn (ix2 j 0)) (fun j => wr (ix2 j 0)) e := by
  unfold headQ rotLo rotHi rms fac
  pointwise [k0_pay20, k0_pay54, k0_pay55]
  all_goals rfl
theorem p20_4 (c32 : FVec Ideal S16x512 .f32) (s32 : FVec Ideal S16x512 .f32) (Q : FVec Ideal S768x512 .f32) (wn : Vec Ideal S64x1 .f32) (wr : Vec Ideal S32x1 .f32) (e : Fin 128) (t : Fin 512) :
    k0_pay50 c32 s32 (k0_pay20 (F := Ideal)) (k0_pay46 Q wn) (k0_pay47 Q) (k0_pay48 wr) (k0_pay49 Q) (ix4 0 0 e t) = headQ (fun j => Q (ix2 ⟨384 + j.val, by omega⟩ t)) (fun j => Q (ix2 ⟨448 + j.val, by omega⟩ t)) (fun j => c32 (ix2 j t)) (fun j => s32 (ix2 j t)) (fun j => wn (ix2 j 0)) (fun j => wr (ix2 j 0)) e := by
  unfold headQ rotLo rotHi rms fac
  pointwise [k0_pay20, k0_pay46, k0_pay47, k0_pay48, k0_pay49, k0_pay50]
  all_goals rfl
theorem p20_3 (c32 : FVec Ideal S16x512 .f32) (s32 : FVec Ideal S16x512 .f32) (Q : FVec Ideal S768x512 .f32) (wn : Vec Ideal S64x1 .f32) (wr : Vec Ideal S32x1 .f32) (e : Fin 128) (t : Fin 512) :
    k0_pay40 c32 s32 Q (k0_pay20 (F := Ideal)) (k0_pay37 Q) (k0_pay38 wn) (k0_pay39 Q) wr (ix4 0 0 e t) = headQ (fun j => Q (ix2 ⟨288 + j.val, by omega⟩ t)) (fun j => Q (ix2 ⟨352 + j.val, by omega⟩ t)) (fun j => c32 (ix2 j t)) (fun j => s32 (ix2 j t)) (fun j => wn (ix2 j 0)) (fun j => wr (ix2 j 0)) e := by
  unfold headQ rotLo rotHi rms fac
  pointwise [k0_pay20, k0_pay37, k0_pay38, k0_pay39, k0_pay40]
  all_goals rfl
theorem p20_2 (c32 : FVec Ideal S16x512 .f32) (s32 : FVec Ideal S16x512 .f32) (Q : FVec Ideal S768x512 .f32) (wn : Vec Ideal S64x1 .f32) (wr : Vec Ideal S32x1 .f32) (e : Fin 128) (t : Fin 512) :
    k0_pay34 (k0_pay33 c32 s32 Q (k0_pay20 (F := Ideal)) wn wr) (ix4 0 0 e t) = headQ (fun j => Q (ix2 ⟨192 + j.val, by omega⟩ t)) (fun j => Q (ix2 ⟨256 + j.val, by omega⟩ t)) (fun j => c32 (ix2 j t)) (fun j => s32 (ix2 j t)) (fun j => wn (ix2 j 0)) (fun j => wr (ix2 j 0)) e := by
  unfold headQ rotLo rotHi rms fac
  pointwise [k0_pay20, k0_pay33, k0_pay34]
  all_goals rfl
theorem p20_1 (c32 : FVec Ideal S16x512 .f32) (s32 : FVec Ideal S16x512 .f32) (Q : FVec Ideal S768x512 .f32) (wn : Vec Ideal S64x1 .f32) (wr : Vec Ideal S32x1 .f32) (e : Fin 128) (t : Fin 512) :
    k0_pay29 c32 s32 (k0_pay20 (F := Ideal)) (k0_pay26 Q wn) (k0_pay27 Q) (k0_pay28 wr) (ix4 0 0 e t) = headQ (fun j => Q (ix2 ⟨96 + j.val, by omega⟩ t)) (fun j => Q (ix2 ⟨160 + j.val, by omega⟩ t)) (fun j => c32 (ix2 j t)) (fun j => s32 (ix2 j t)) (fun j => wn (ix2 j 0)) (fun j => wr (ix2 j 0)) e := by
  unfold headQ rotLo rotHi rms fac
  pointwise [k0_pay20, k0_pay26, k0_pay27, k0_pay28, k0_pay29]
  all_goals rfl
theorem p20_0 (c32 : FVec Ideal S16x512 .f32) (s32 : FVec Ideal S16x512 .f32) (cq : FVec Ideal S384x512 .bf16) (wq : Vec Ideal S768x384 .bf16) (wn : Vec Ideal S64x1 .f32) (wr : Vec Ideal S32x1 .f32) (e : Fin 128) (t : Fin 512) :
    k0_pay22 c32 s32 (k0_pay18 cq wq) (k0_pay20 (F := Ideal)) (k0_pay21 cq wq wn) wr (ix4 0 0 e t) = headQ (fun j => k0_pay18 cq wq (ix2 ⟨0 + j.val, by omega⟩ t)) (fun j => k0_pay18 cq wq (ix2 ⟨64 + j.val, by omega⟩ t)) (fun j => c32 (ix2 j t)) (fun j => s32 (ix2 j t)) (fun j => wn (ix2 j 0)) (fun j => wr (ix2 j 0)) e := by
  unfold headQ rotLo rotHi rms fac
  unfold k0_pay21
  generalize k0_pay18 cq wq = Q
  pointwise [k0_pay20, k0_pay22]
  all_goals rfl
theorem p21_7 (kr : FVec Ideal S32x512 .f32) (KV : FVec Ideal S1536x512 .f32) (wk : Vec Ideal S64x1 .f32) (e : Fin 128) (t : Fin 512) :
    k0_pay74 kr KV (k0_pay20 (F := Ideal)) wk (ix4 0 0 t e) = headK (fun j => KV (ix2 ⟨1344 + j.val, by omega⟩ t)) (fun j => kr (ix2 j t)) (fun j => wk (ix2 j 0)) e := by
  unfold headK rms fac
  pointwise [k0_pay20, k0_pay74]
  all_goals rfl
theorem p21_6 (kr : FVec Ideal S32x512 .f32) (KV : FVec Ideal S1536x512 .f32) (wk : Vec Ideal S64x1 .f32) (e : Fin 128) (t : Fin 512) :
    k0_pay67 kr (k0_pay20 (F := Ideal)) (k0_pay63 KV) (k0_pay64 wk) (k0_pay65 KV) (k0_pay66 (F := Ideal)) (ix4 0 0 t e) = headK (fun j => KV (ix2 ⟨1152 + j.val, by omega⟩ t)) (fun j => kr (ix2 j t)) (fun j => wk (ix2 j 0)) e := by
  unfold headK rms fac
  pointwise [k0_pay20, k0_pay63, k0_pay64, k0_pay65, k0_pay66, k0_pay67]
  all_goals rfl
theorem p21_5 (kr : FVec Ideal S32x512 .f32) (KV : FVec Ideal S1536x512 .f32) (wk : Vec Ideal S64x1 .f32) (e : Fin 128) (t : Fin 512) :
    k0_pay56 kr KV (k0_pay20 (F := Ideal)) wk (ix4 0 0 t e) = headK (fun j => KV (ix2 ⟨960 + j.val, by omega⟩ t)) (fun j => kr (ix2 j t)) (fun j => wk (ix2 j 0)) e := by
  unfold headK rms fac
  pointwise [k0_pay20, k0_pay56]
  all_goals rfl
theorem p21_4 (kr : FVec Ideal S32x512 .f32) (KV : FVec Ideal S1536x512 .f32) (wk : Vec Ideal S64x1 .f32) (e : Fin 128) (t : Fin 512) :
    k0_pay51 kr KV (k0_pay20 (F := Ideal)) wk (ix4 0 0 t e) = headK (fun j => KV (ix2 ⟨768 + j.val, by omega⟩ t)) (fun j => kr (ix2 j t)) (fun j => wk (ix2 j 0)) e := by
  unfold headK rms fac
  pointwise [k0_pay20, k0_pay51]
  all_goals rfl
theorem p21_3 (kr : FVec Ideal S32x512 .f32) (KV : FVec Ideal S1536x512 .f32) (wk : Vec Ideal S64x1 .f32) (e : Fin 128) (t : Fin 512) :
    k0_pay44 kr (k0_pay20 (F := Ideal)) (k0_pay41 KV) (k0_pay42 wk) (k0_pay43 KV) (ix4 0 0 t e) = headK (fun j => KV (ix2 ⟨576 + j.val, by omega⟩ t)) (fun j => kr (ix2 j t)) (fun j => wk (ix2 j 0)) e := by
  unfold headK rms fac
  pointwise [k0_pay20, k0_pay41, k0_pay42, k0_pay43, k0_pay44]
  all_goals rfl
theorem p21_2 (kr : FVec Ideal S32x512 .f32) (KV : FVec Ideal S1536x512 .f32) (wk : Vec Ideal S64x1 .f32) (e : Fin 128) (t : Fin 512) :
    k0_pay35 kr KV (k0_pay20 (F := Ideal)) wk (ix4 0 0 t e) = headK (fun j => KV (ix2 ⟨384 + j.val, by omega⟩ t)) (fun j => kr (ix2 j t)) (fun j => wk (ix2 j 0)) e := by
  unfold headK rms fac
  pointwise [k0_pay20, k0_pay35]
  all_goals rfl
theorem p21_1 (kr : FVec Ideal S32x512 .f32) (KV : FVec Ideal S1536x512 .f32) (wk : Vec Ideal S64x1 .f32) (e : Fin 128) (t : Fin 512) :
    k0_pay30 kr KV (k0_pay20 (F := Ideal)) wk (ix4 0 0 t e) = headK (fun j => KV (ix2 ⟨192 + j.val, by omega⟩ t)) (fun j => kr (ix2 j t)) (fun j => wk (ix2 j 0)) e := by
  unfold headK rms fac
  pointwise [k0_pay20, k0_pay30]
  all_goals rfl
theorem p21_0 (kr : FVec Ideal S32x512 .f32) (KV : FVec Ideal S1536x512 .f32) (wk : Vec Ideal S64x1 .f32) (e : Fin 128) (t : Fin 512) :
    k0_pay24 kr (k0_pay20 (F := Ideal)) (k0_pay23 KV wk) (ix4 0 0 t e) = headK (fun j => KV (ix2 ⟨0 + j.val, by omega⟩ t)) (fun j => kr (ix2 j t)) (fun j => wk (ix2 j 0)) e := by
  unfold headK rms fac
  pointwise [k0_pay20, k0_pay23, k0_pay24]
  all_goals rfl
theorem p22_7 (KV : FVec Ideal S1536x512 .f32) (e : Fin 128) (t : Fin 512) :
    k0_pay76 (k0_pay75 KV) (ix4 0 0 e t) = KV (ix2 ⟨1408 + e.val, by omega⟩ t) := by
  pointwise [k0_pay75, k0_pay76]
  all_goals rfl
theorem p22_6 (KV : FVec Ideal S1536x512 .f32) (e : Fin 128) (t : Fin 512) :
    k0_pay68 KV (ix4 0 0 e t) = KV (ix2 ⟨1216 + e.val, by omega⟩ t) := by
  pointwise [k0_pay68]
  all_goals rfl
theorem p22_5 (KV : FVec Ideal S1536x512 .f32) (e : Fin 128) (t : Fin 512) :
    k0_pay57 KV (ix4 0 0 e t) = KV (ix2 ⟨1024 + e.val, by omega⟩ t) := by
  pointwise [k0_pay57]
  all_goals rfl
theorem p22_4 (KV : FVec Ideal S1536x512 .f32) (e : Fin 128) (t : Fin 512) :
    k0_pay53 (k0_pay52 KV) (ix4 0 0 e t) = KV (ix2 ⟨832 + e.val, by omega⟩ t) := by
  pointwise [k0_pay52, k0_pay53]
  all_goals rfl
theorem p22_3 (KV : FVec Ideal S1536x512 .f32) (e : Fin 128) (t : Fin 512) :
    k0_pay45 KV (ix4 0 0 e t) = KV (ix2 ⟨640 + e.val, by omega⟩ t) := by
  pointwise [k0_pay45]
  all_goals rfl
theorem p22_2 (KV : FVec Ideal S1536x512 .f32) (e : Fin 128) (t : Fin 512) :
    k0_pay36 KV (ix4 0 0 e t) = KV (ix2 ⟨448 + e.val, by omega⟩ t) := by
  pointwise [k0_pay36]
  all_goals rfl
theorem p22_1 (KV : FVec Ideal S1536x512 .f32) (e : Fin 128) (t : Fin 512) :
    k0_pay32 (k0_pay31 KV) (ix4 0 0 e t) = KV (ix2 ⟨256 + e.val, by omega⟩ t) := by
  pointwise [k0_pay31, k0_pay32]
  all_goals rfl
theorem p22_0 (KV : FVec Ideal S1536x512 .f32) (e : Fin 128) (t : Fin 512) :
    k0_pay25 KV (ix4 0 0 e t) = KV (ix2 ⟨64 + e.val, by omega⟩ t) := by
  pointwise [k0_pay25]
  all_goals rfl

end Cert.Kernel3Ideal.In

end
-- ==== Proof.InBase.lean ====
/- One block of the input projection: what each output window's buffer holds after the body, from the blocks it reads. -/
module

public import proofs.«01_k».proof.Proof.Gen.Kernel3Ideal.Frame
public import proofs.«01_k».proof.Proof.InSteps
public import proofs.«01_k».proof.Proof.InPieces

@[expose] public section

set_option maxRecDepth 16384

noncomputable section

namespace Cert.Kernel3Ideal.In

open Idealize.ShloMosaic
open Cert.Kernel3Ideal Cert.Kernel3Ideal.Gen Cert.In

theorem whole0 (x : Vec Ideal S1x512x1024 .f32) : View.ld x r0_0 = x :=
  View.ld_unit_zero (funext fun a => match a with | ⟨0, _⟩ => rfl | ⟨1, _⟩ => rfl | ⟨2, _⟩ => rfl) _ x
theorem whole3 (x : Vec Ideal S1x1024 .f32) : View.ld x r0_3 = x :=
  View.ld_unit_zero (funext fun a => match a with | ⟨0, _⟩ => rfl | ⟨1, _⟩ => rfl) _ x
theorem whole4 (x : Vec Ideal S1x1x512 .i32) : View.ld x r0_4 = x :=
  View.ld_unit_zero (funext fun a => match a with | ⟨0, _⟩ => rfl | ⟨1, _⟩ => rfl | ⟨2, _⟩ => rfl) _ x
theorem whole5 (x : Vec Ideal S32x1 .f32) : View.ld x r0_5 = x :=
  View.ld_unit_zero (funext fun a => match a with | ⟨0, _⟩ => rfl | ⟨1, _⟩ => rfl) _ x
theorem whole6 (x : Vec Ideal S16x1 .f32) : View.ld x r0_6 = x :=
  View.ld_unit_zero (funext fun a => match a with | ⟨0, _⟩ => rfl | ⟨1, _⟩ => rfl) _ x
theorem whole8 (x : Vec Ideal S384x1 .f32) : View.ld x r0_8 = x :=
  View.ld_unit_zero (funext fun a => match a with | ⟨0, _⟩ => rfl | ⟨1, _⟩ => rfl) _ x
theorem whole9 (x : Vec Ideal S256x1 .f32) : View.ld x r0_9 = x :=
  View.ld_unit_zero (funext fun a => match a with | ⟨0, _⟩ => rfl | ⟨1, _⟩ => rfl) _ x
theorem whole10 (x : Vec Ideal S768x384 .bf16) : View.ld x r0_10 = x :=
  View.ld_unit_zero (funext fun a => match a with | ⟨0, _⟩ => rfl | ⟨1, _⟩ => rfl) _ x
theorem whole11 (x : Vec Ideal S1536x256 .bf16) : View.ld x r0_11 = x :=
  View.ld_unit_zero (funext fun a => match a with | ⟨0, _⟩ => rfl | ⟨1, _⟩ => rfl) _ x
theorem whole12 (x : Vec Ideal S64x1 .f32) : View.ld x r0_12 = x :=
  View.ld_unit_zero (funext fun a => match a with | ⟨0, _⟩ => rfl | ⟨1, _⟩ => rfl) _ x
theorem row1 (x : Vec Ideal S1x3x1024 .f32) (e : Fin 1024) : View.ld x r0_1 (ix3 0 0 e) = x (ix3 0 0 e) :=
  congrArg x (funext fun a => Fin.ext (match a with
    | ⟨0, _⟩ => rfl | ⟨1, _⟩ => rfl | ⟨2, _⟩ => by show 0 + 1 * e.val = e.val; omega))
theorem row2 (x : Vec Ideal S1x3x1024 .f32) (e : Fin 1024) : View.ld x r0_2 (ix3 0 0 e) = x (ix3 0 1 e) :=
  congrArg x (funext fun a => Fin.ext (match a with
    | ⟨0, _⟩ => rfl | ⟨1, _⟩ => rfl | ⟨2, _⟩ => by show 0 + 1 * e.val = e.val; omega))
theorem rows7 (x : Vec Ideal S4768x1024 .bf16) (n : Fin 672) (e : Fin 1024) (j : Fin 4768) (hj : j.val = 3072 + n.val) :
    View.ld x r0_7 (ix2 n e) = x (ix2 j e) :=
  congrArg x (funext fun a => Fin.ext (match a with
    | ⟨0, _⟩ => by show 3072 + 1 * n.val = j.val; omega | ⟨1, _⟩ => by show 0 + 1 * e.val = e.val; omega))
theorem rows32 (x : Vec Ideal S4768x1024 .bf16) (n : Fin 1024) (e : Fin 1024) (j : Fin 4768) (hj : j.val = 0 + n.val) :
    View.ld x r0_32 (ix2 n e) = x (ix2 j e) :=
  congrArg x (funext fun a => Fin.ext (match a with
    | ⟨0, _⟩ => by show 0 + 1 * n.val = j.val; omega | ⟨1, _⟩ => by show 0 + 1 * e.val = e.val; omega))
theorem rows49 (x : Vec Ideal S4768x1024 .bf16) (n : Fin 1024) (e : Fin 1024) (j : Fin 4768) (hj : j.val = 1024 + n.val) :
    View.ld x r0_49 (ix2 n e) = x (ix2 j e) :=
  congrArg x (funext fun a => Fin.ext (match a with
    | ⟨0, _⟩ => by show 1024 + 1 * n.val = j.val; omega | ⟨1, _⟩ => by show 0 + 1 * e.val = e.val; omega))

variable (x0 : Vec Ideal S1x512x1024 .f32) (x1 : Vec Ideal S1x1x512 .i32) (x2 : Vec Ideal S1x3x1024 .f32) (x3 : Vec Ideal S1x1024 .f32) (x4 : Vec Ideal S4768x1024 .bf16) (x5 : Vec Ideal S32x1 .f32) (x6 : Vec Ideal S16x1 .f32) (x7 : Vec Ideal S384x1 .f32) (x8 : Vec Ideal S256x1 .f32) (x9 : Vec Ideal S32x1 .f32) (x10 : Vec Ideal S768x384 .bf16) (x11 : Vec Ideal S1536x256 .bf16) (x12 : Vec Ideal S64x1 .f32) (x13 : Vec Ideal S32x1 .f32) (x14 : Vec Ideal S64x1 .f32)

/-- The data of one token of the block. -/
def tokOf (t : Fin 512) : Tok where
  x := fun e => x0 (ix3 0 t e)
  sh := fun e => x2 (ix3 0 0 e)
  sc := fun e => x2 (ix3 0 1 e)
  nw := fun e => x3 (ix2 0 e)
  w := fun j e => x4 (ix2 j e)
  pos := Scalar.sitofp (F := Ideal) .f32 (x1 (ix3 0 0 t))
  g64 := fun j => x5 (ix2 j 0)
  g32 := fun j => x6 (ix2 j 0)
  qw := fun j => x7 (ix2 j 0)
  kw := fun j => x8 (ix2 j 0)
  rw := fun j => x9 (ix2 j 0)
  wq := fun j e => x10 (ix2 j e)
  wkv := fun j e => x11 (ix2 j e)
  qn := fun j => x12 (ix2 j 0)
  qr := fun j => x13 (ix2 j 0)
  kn := fun j => x14 (ix2 j 0)

theorem h139 (t : Fin 512) (e : Fin 1024) :
    k0_pay139 x0 x1 x2 x3 x4 x5 x6 x7 x8 x9 x10 x11 x12 x13 x14 (ix2 t e) = hid (tokOf x0 x1 x2 x3 x4 x5 x6 x7 x8 x9 x10 x11 x12 x13 x14 t).x (tokOf x0 x1 x2 x3 x4 x5 x6 x7 x8 x9 x10 x11 x12 x13 x14 t).sh (tokOf x0 x1 x2 x3 x4 x5 x6 x7 x8 x9 x10 x11 x12 x13 x14 t).sc (tokOf x0 x1 x2 x3 x4 x5 x6 x7 x8 x9 x10 x11 x12 x13 x14 t).nw e := by
  unfold k0_pay139
  rw [hid_at, whole0, whole3]
  rw [show (fun e => View.ld x2 r0_1 (ix3 0 0 e)) = (tokOf x0 x1 x2 x3 x4 x5 x6 x7 x8 x9 x10 x11 x12 x13 x14 t).sh from funext fun e => row1 x2 e, show (fun e => View.ld x2 r0_2 (ix3 0 0 e)) = (tokOf x0 x1 x2 x3 x4 x5 x6 x7 x8 x9 x10 x11 x12 x13 x14 t).sc from funext fun e => row2 x2 e]
  rfl

theorem h141 (j : Fin 32) (t : Fin 512) :
    k0_pay141 x0 x1 x2 x3 x4 x5 x6 x7 x8 x9 x10 x11 x12 x13 x14 (ix2 j t) = (tokOf x0 x1 x2 x3 x4 x5 x6 x7 x8 x9 x10 x11 x12 x13 x14 t).c64 j := by
  unfold k0_pay141
  rw [whole4, whole5, cos64_at]
  rfl

theorem h142 (j : Fin 32) (t : Fin 512) :
    k0_pay142 x0 x1 x2 x3 x4 x5 x6 x7 x8 x9 x10 x11 x12 x13 x14 (ix2 j t) = (tokOf x0 x1 x2 x3 x4 x5 x6 x7 x8 x9 x10 x11 x12 x13 x14 t).s64 j := by
  unfold k0_pay142
  rw [whole4, whole5, sin64_at]
  rfl

theorem h143 (j : Fin 16) (t : Fin 512) :
    k0_pay143 x0 x1 x2 x3 x4 x5 x6 x7 x8 x9 x10 x11 x12 x13 x14 (ix2 j t) = (tokOf x0 x1 x2 x3 x4 x5 x6 x7 x8 x9 x10 x11 x12 x13 x14 t).c32 j := by
  unfold k0_pay143 k0_pay140
  rw [whole4, whole6, cos32_at]
  rfl

theorem h144 (j : Fin 16) (t : Fin 512) :
    k0_pay144 x0 x1 x2 x3 x4 x5 x6 x7 x8 x9 x10 x11 x12 x13 x14 (ix2 j t) = (tokOf x0 x1 x2 x3 x4 x5 x6 x7 x8 x9 x10 x11 x12 x13 x14 t).s32 j := by
  unfold k0_pay144 k0_pay140
  rw [whole4, whole6, sin32_at]
  rfl

theorem h145 (j : Fin 384) (t : Fin 512) :
    k0_pay145 x0 x1 x2 x3 x4 x5 x6 x7 x8 x9 x10 x11 x12 x13 x14 (ix2 j t) = (tokOf x0 x1 x2 x3 x4 x5 x6 x7 x8 x9 x10 x11 x12 x13 x14 t).cq j := by
  unfold k0_pay145 Tok.cq
  rw [cq_at, whole8]
  exact rms_congr (fun i => lin_congr (fun k => rows7 x4 _ k _ rfl) (fun k => h139 x0 x1 x2 x3 x4 x5 x6 x7 x8 x9 x10 x11 x12 x13 x14 t k)) (fun _ => rfl) j

theorem hckv (j : Fin 256) (t : Fin 512) :
    k0_pay14 (k0_pay139 x0 x1 x2 x3 x4 x5 x6 x7 x8 x9 x10 x11 x12 x13 x14) (View.ld x4 r0_7) (View.ld x8 r0_9) (ix2 j t) = (tokOf x0 x1 x2 x3 x4 x5 x6 x7 x8 x9 x10 x11 x12 x13 x14 t).ckv j := by
  unfold Tok.ckv
  rw [ckv_at, whole9]
  exact rms_congr (fun i => lin_congr (fun k => rows7 x4 _ k _ (by show 3456 + i.val = 3072 + (384 + i.val); omega)) (fun k => h139 x0 x1 x2 x3 x4 x5 x6 x7 x8 x9 x10 x11 x12 x13 x14 t k)) (fun _ => rfl) j

theorem h146 (j : Fin 32) (t : Fin 512) :
    k0_pay146 x0 x1 x2 x3 x4 x5 x6 x7 x8 x9 x10 x11 x12 x13 x14 (ix2 j t) = (tokOf x0 x1 x2 x3 x4 x5 x6 x7 x8 x9 x10 x11 x12 x13 x14 t).kr j := by
  unfold k0_pay146 Tok.kr
  rw [kr_at, whole5, show (fun j => k0_pay143 x0 x1 x2 x3 x4 x5 x6 x7 x8 x9 x10 x11 x12 x13 x14 (ix2 j t)) = (tokOf x0 x1 x2 x3 x4 x5 x6 x7 x8 x9 x10 x11 x12 x13 x14 t).c32 from funext fun j => h143 x0 x1 x2 x3 x4 x5 x6 x7 x8 x9 x10 x11 x12 x13 x14 j t, show (fun j => k0_pay144 x0 x1 x2 x3 x4 x5 x6 x7 x8 x9 x10 x11 x12 x13 x14 (ix2 j t)) = (tokOf x0 x1 x2 x3 x4 x5 x6 x7 x8 x9 x10 x11 x12 x13 x14 t).s32 from funext fun j => h144 x0 x1 x2 x3 x4 x5 x6 x7 x8 x9 x10 x11 x12 x13 x14 j t]
  refine congrArg (fun v => rot v _ _ j) (funext fun e => rms_congr (fun i => ?_) (fun _ => rfl) e)
  exact (kr0_at _ _ i t).trans (lin_congr (fun k => rows7 x4 _ k _ (by show 3712 + i.val = 3072 + (640 + i.val); omega)) (fun k => h139 x0 x1 x2 x3 x4 x5 x6 x7 x8 x9 x10 x11 x12 x13 x14 t k))

theorem h147 (j : Fin 768) (t : Fin 512) :
    k0_pay147 x0 x1 x2 x3 x4 x5 x6 x7 x8 x9 x10 x11 x12 x13 x14 (ix2 j t) = (tokOf x0 x1 x2 x3 x4 x5 x6 x7 x8 x9 x10 x11 x12 x13 x14 t).q j := by
  unfold k0_pay147 Tok.q
  rw [q_at, whole10]
  exact lin_congr (fun _ => rfl) (fun k => h145 x0 x1 x2 x3 x4 x5 x6 x7 x8 x9 x10 x11 x12 x13 x14 k t)

theorem h148 (j : Fin 1536) (t : Fin 512) :
    k0_pay148 x0 x1 x2 x3 x4 x5 x6 x7 x8 x9 x10 x11 x12 x13 x14 (ix2 j t) = (tokOf x0 x1 x2 x3 x4 x5 x6 x7 x8 x9 x10 x11 x12 x13 x14 t).kv j := by
  unfold k0_pay148 Tok.kv
  rw [kv_at, whole11]
  exact lin_congr (fun _ => rfl) (fun k => hckv x0 x1 x2 x3 x4 x5 x6 x7 x8 x9 x10 x11 x12 x13 x14 k t)

theorem h150 (j : Fin 1024) (t : Fin 512) :
    k0_pay150 x0 x1 x2 x3 x4 x5 x6 x7 x8 x9 x10 x11 x12 x13 x14 (ix2 j t) = (tokOf x0 x1 x2 x3 x4 x5 x6 x7 x8 x9 x10 x11 x12 x13 x14 t).p ⟨j.val, by omega⟩ := by
  unfold k0_pay150 Tok.p
  rw [qk_at]
  exact lin_congr (fun k => rows32 x4 _ k _ (by show j.val = 0 + j.val; omega)) (fun k => h139 x0 x1 x2 x3 x4 x5 x6 x7 x8 x9 x10 x11 x12 x13 x14 t k)

theorem h151 (j : Fin 32) (t : Fin 512) :
    k0_pay151 x0 x1 x2 x3 x4 x5 x6 x7 x8 x9 x10 x11 x12 x13 x14 (ix2 j t) = (tokOf x0 x1 x2 x3 x4 x5 x6 x7 x8 x9 x10 x11 x12 x13 x14 t).c64 j * Ideal.ofBits .f32 0x3E000000#32 := by
  unfold k0_pay151
  rw [ck_at, h141]

theorem h152 (j : Fin 32) (t : Fin 512) :
    k0_pay152 x0 x1 x2 x3 x4 x5 x6 x7 x8 x9 x10 x11 x12 x13 x14 (ix2 j t) = (tokOf x0 x1 x2 x3 x4 x5 x6 x7 x8 x9 x10 x11 x12 x13 x14 t).s64 j * Ideal.ofBits .f32 0x3E000000#32 := by
  unfold k0_pay152
  rw [sk_at, h142]

end Cert.Kernel3Ideal.In

end
-- ==== Proof.InVal.lean ====
/- One block of the input projection: what each output window's buffer holds after the body, from the blocks it reads. -/
module

public import proofs.«01_k».proof.Proof.InBase

@[expose] public section

set_option maxRecDepth 16384

noncomputable section

namespace Cert.Kernel3Ideal.In

open Idealize.ShloMosaic
open Cert.Kernel3Ideal Cert.Kernel3Ideal.Gen Cert.In

/-! ## The rectangles of the pieces, and the pieces -/

theorem emb33 (n : Fin 32) (t : Fin 512) : r0_33.emb (ix3 (0 : Fin 1) n t) = (ix3 0 ⟨0 + n.val, by omega⟩ t : S1x512x512.Idx) :=
  funext fun a => Fin.ext (match a with
    | ⟨0, _⟩ => rfl | ⟨1, _⟩ => by show 0 + 1 * n.val = 0 + n.val; omega | ⟨2, _⟩ => by show 0 + 1 * t.val = t.val; omega)
theorem emb34 (n : Fin 32) (t : Fin 512) : r0_34.emb (ix3 (0 : Fin 1) n t) = (ix3 0 ⟨32 + n.val, by omega⟩ t : S1x512x512.Idx) :=
  funext fun a => Fin.ext (match a with
    | ⟨0, _⟩ => rfl | ⟨1, _⟩ => by show 32 + 1 * n.val = 32 + n.val; omega | ⟨2, _⟩ => by show 0 + 1 * t.val = t.val; omega)
theorem emb35 (n : Fin 32) (t : Fin 512) : r0_35.emb (ix3 (0 : Fin 1) n t) = (ix3 0 ⟨64 + n.val, by omega⟩ t : S1x512x512.Idx) :=
  funext fun a => Fin.ext (match a with
    | ⟨0, _⟩ => rfl | ⟨1, _⟩ => by show 64 + 1 * n.val = 64 + n.val; omega | ⟨2, _⟩ => by show 0 + 1 * t.val = t.val; omega)
theorem emb36 (n : Fin 32) (t : Fin 512) : r0_36.emb (ix3 (0 : Fin 1) n t) = (ix3 0 ⟨96 + n.val, by omega⟩ t : S1x512x512.Idx) :=
  funext fun a => Fin.ext (match a with
    | ⟨0, _⟩ => rfl | ⟨1, _⟩ => by show 96 + 1 * n.val = 96 + n.val; omega | ⟨2, _⟩ => by show 0 + 1 * t.val = t.val; omega)
theorem emb37 (n : Fin 32) (t : Fin 512) : r0_37.emb (ix3 (0 : Fin 1) n t) = (ix3 0 ⟨128 + n.val, by omega⟩ t : S1x512x512.Idx) :=
  funext fun a => Fin.ext (match a with
    | ⟨0, _⟩ => rfl | ⟨1, _⟩ => by show 128 + 1 * n.val = 128 + n.val; omega | ⟨2, _⟩ => by show 0 + 1 * t.val = t.val; omega)
theorem emb38 (n : Fin 32) (t : Fin 512) : r0_38.emb (ix3 (0 : Fin 1) n t) = (ix3 0 ⟨160 + n.val, by omega⟩ t : S1x512x512.Idx) :=
  funext fun a => Fin.ext (match a with
    | ⟨0, _⟩ => rfl | ⟨1, _⟩ => by show 160 + 1 * n.val = 160 + n.val; omega | ⟨2, _⟩ => by show 0 + 1 * t.val = t.val; omega)
theorem emb39 (n : Fin 32) (t : Fin 512) : r0_39.emb (ix3 (0 : Fin 1) n t) = (ix3 0 ⟨192 + n.val, by omega⟩ t : S1x512x512.Idx) :=
  funext fun a => Fin.ext (match a with
    | ⟨0, _⟩ => rfl | ⟨1, _⟩ => by show 192 + 1 * n.val = 192 + n.val; omega | ⟨2, _⟩ => by show 0 + 1 * t.val = t.val; omega)
theorem emb40 (n : Fin 32) (t : Fin 512) : r0_40.emb (ix3 (0 : Fin 1) n t) = (ix3 0 ⟨224 + n.val, by omega⟩ t : S1x512x512.Idx) :=
  funext fun a => Fin.ext (match a with
    | ⟨0, _⟩ => rfl | ⟨1, _⟩ => by show 224 + 1 * n.val = 224 + n.val; omega | ⟨2, _⟩ => by show 0 + 1 * t.val = t.val; omega)
theorem emb41 (n : Fin 32) (t : Fin 512) : r0_41.emb (ix3 (0 : Fin 1) n t) = (ix3 0 ⟨256 + n.val, by omega⟩ t : S1x512x512.Idx) :=
  funext fun a => Fin.ext (match a with
    | ⟨0, _⟩ => rfl | ⟨1, _⟩ => by show 256 + 1 * n.val = 256 + n.val; omega | ⟨2, _⟩ => by show 0 + 1 * t.val = t.val; omega)
theorem emb42 (n : Fin 32) (t : Fin 512) : r0_42.emb (ix3 (0 : Fin 1) n t) = (ix3 0 ⟨288 + n.val, by omega⟩ t : S1x512x512.Idx) :=
  funext fun a => Fin.ext (match a with
    | ⟨0, _⟩ => rfl | ⟨1, _⟩ => by show 288 + 1 * n.val = 288 + n.val; omega | ⟨2, _⟩ => by show 0 + 1 * t.val = t.val; omega)
theorem emb43 (n : Fin 32) (t : Fin 512) : r0_43.emb (ix3 (0 : Fin 1) n t) = (ix3 0 ⟨320 + n.val, by omega⟩ t : S1x512x512.Idx) :=
  funext fun a => Fin.ext (match a with
    | ⟨0, _⟩ => rfl | ⟨1, _⟩ => by show 320 + 1 * n.val = 320 + n.val; omega | ⟨2, _⟩ => by show 0 + 1 * t.val = t.val; omega)
theorem emb44 (n : Fin 32) (t : Fin 512) : r0_44.emb (ix3 (0 : Fin 1) n t) = (ix3 0 ⟨352 + n.val, by omega⟩ t : S1x512x512.Idx) :=
  funext fun a => Fin.ext (match a with
    | ⟨0, _⟩ => rfl | ⟨1, _⟩ => by show 352 + 1 * n.val = 352 + n.val; omega | ⟨2, _⟩ => by show 0 + 1 * t.val = t.val; omega)
theorem emb45 (n : Fin 32) (t : Fin 512) : r0_45.emb (ix3 (0 : Fin 1) n t) = (ix3 0 ⟨384 + n.val, by omega⟩ t : S1x512x512.Idx) :=
  funext fun a => Fin.ext (match a with
    | ⟨0, _⟩ => rfl | ⟨1, _⟩ => by show 384 + 1 * n.val = 384 + n.val; omega | ⟨2, _⟩ => by show 0 + 1 * t.val = t.val; omega)
theorem emb46 (n : Fin 32) (t : Fin 512) : r0_46.emb (ix3 (0 : Fin 1) n t) = (ix3 0 ⟨416 + n.val, by omega⟩ t : S1x512x512.Idx) :=
  funext fun a => Fin.ext (match a with
    | ⟨0, _⟩ => rfl | ⟨1, _⟩ => by show 416 + 1 * n.val = 416 + n.val; omega | ⟨2, _⟩ => by show 0 + 1 * t.val = t.val; omega)
theorem emb47 (n : Fin 32) (t : Fin 512) : r0_47.emb (ix3 (0 : Fin 1) n t) = (ix3 0 ⟨448 + n.val, by omega⟩ t : S1x512x512.Idx) :=
  funext fun a => Fin.ext (match a with
    | ⟨0, _⟩ => rfl | ⟨1, _⟩ => by show 448 + 1 * n.val = 448 + n.val; omega | ⟨2, _⟩ => by show 0 + 1 * t.val = t.val; omega)
theorem emb48 (n : Fin 32) (t : Fin 512) : r0_48.emb (ix3 (0 : Fin 1) n t) = (ix3 0 ⟨480 + n.val, by omega⟩ t : S1x512x512.Idx) :=
  funext fun a => Fin.ext (match a with
    | ⟨0, _⟩ => rfl | ⟨1, _⟩ => by show 480 + 1 * n.val = 480 + n.val; omega | ⟨2, _⟩ => by show 0 + 1 * t.val = t.val; omega)
theorem emb13 (e : Fin 128) (t : Fin 512) : r0_13.emb (ix4 (0 : Fin 1) (0 : Fin 1) e t) = (ix4 0 (⟨0, by norm_num⟩ : Fin 8) e t : S1x8x128x512.Idx) :=
  funext fun a => Fin.ext (match a with
    | ⟨0, _⟩ => rfl | ⟨1, _⟩ => rfl | ⟨2, _⟩ => by show 0 + 1 * e.val = e.val; omega | ⟨3, _⟩ => by show 0 + 1 * t.val = t.val; omega)
theorem emb14 (e : Fin 128) (t : Fin 512) : r0_14.emb (ix4 (0 : Fin 1) (0 : Fin 1) t e) = (ix4 0 (⟨0, by norm_num⟩ : Fin 8) t e : S1x8x512x128.Idx) :=
  funext fun a => Fin.ext (match a with
    | ⟨0, _⟩ => rfl | ⟨1, _⟩ => rfl | ⟨2, _⟩ => by show 0 + 1 * t.val = t.val; omega | ⟨3, _⟩ => by show 0 + 1 * e.val = e.val; omega)
theorem emb15 (e : Fin 128) (t : Fin 512) : r0_15.emb (ix4 (0 : Fin 1) (0 : Fin 1) e t) = (ix4 0 (⟨1, by norm_num⟩ : Fin 8) e t : S1x8x128x512.Idx) :=
  funext fun a => Fin.ext (match a with
    | ⟨0, _⟩ => rfl | ⟨1, _⟩ => rfl | ⟨2, _⟩ => by show 0 + 1 * e.val = e.val; omega | ⟨3, _⟩ => by show 0 + 1 * t.val = t.val; omega)
theorem emb16 (e : Fin 128) (t : Fin 512) : r0_16.emb (ix4 (0 : Fin 1) (0 : Fin 1) t e) = (ix4 0 (⟨1, by norm_num⟩ : Fin 8) t e : S1x8x512x128.Idx) :=
  funext fun a => Fin.ext (match a with
    | ⟨0, _⟩ => rfl | ⟨1, _⟩ => rfl | ⟨2, _⟩ => by show 0 + 1 * t.val = t.val; omega | ⟨3, _⟩ => by show 0 + 1 * e.val = e.val; omega)
theorem emb17 (e : Fin 128) (t : Fin 512) : r0_17.emb (ix4 (0 : Fin 1) (0 : Fin 1) e t) = (ix4 0 (⟨2, by norm_num⟩ : Fin 8) e t : S1x8x128x512.Idx) :=
  funext fun a => Fin.ext (match a with
    | ⟨0, _⟩ => rfl | ⟨1, _⟩ => rfl | ⟨2, _⟩ => by show 0 + 1 * e.val = e.val; omega | ⟨3, _⟩ => by show 0 + 1 * t.val = t.val; omega)
theorem emb18 (e : Fin 128) (t : Fin 512) : r0_18.emb (ix4 (0 : Fin 1) (0 : Fin 1) t e) = (ix4 0 (⟨2, by norm_num⟩ : Fin 8) t e : S1x8x512x128.Idx) :=
  funext fun a => Fin.ext (match a with
    | ⟨0, _⟩ => rfl | ⟨1, _⟩ => rfl | ⟨2, _⟩ => by show 0 + 1 * t.val = t.val; omega | ⟨3, _⟩ => by show 0 + 1 * e.val = e.val; omega)
theorem emb19 (e : Fin 128) (t : Fin 512) : r0_19.emb (ix4 (0 : Fin 1) (0 : Fin 1) e t) = (ix4 0 (⟨3, by norm_num⟩ : Fin 8) e t : S1x8x128x512.Idx) :=
  funext fun a => Fin.ext (match a with
    | ⟨0, _⟩ => rfl | ⟨1, _⟩ => rfl | ⟨2, _⟩ => by show 0 + 1 * e.val = e.val; omega | ⟨3, _⟩ => by show 0 + 1 * t.val = t.val; omega)
theorem emb20 (e : Fin 128) (t : Fin 512) : r0_20.emb (ix4 (0 : Fin 1) (0 : Fin 1) t e) = (ix4 0 (⟨3, by norm_num⟩ : Fin 8) t e : S1x8x512x128.Idx) :=
  funext fun a => Fin.ext (match a with
    | ⟨0, _⟩ => rfl | ⟨1, _⟩ => rfl | ⟨2, _⟩ => by show 0 + 1 * t.val = t.val; omega | ⟨3, _⟩ => by show 0 + 1 * e.val = e.val; omega)
theorem emb21 (e : Fin 128) (t : Fin 512) : r0_21.emb (ix4 (0 : Fin 1) (0 : Fin 1) e t) = (ix4 0 (⟨4, by norm_num⟩ : Fin 8) e t : S1x8x128x512.Idx) :=
  funext fun a => Fin.ext (match a with
    | ⟨0, _⟩ => rfl | ⟨1, _⟩ => rfl | ⟨2, _⟩ => by show 0 + 1 * e.val = e.val; omega | ⟨3, _⟩ => by show 0 + 1 * t.val = t.val; omega)
theorem emb22 (e : Fin 128) (t : Fin 512) : r0_22.emb (ix4 (0 : Fin 1) (0 : Fin 1) t e) = (ix4 0 (⟨4, by norm_num⟩ : Fin 8) t e : S1x8x512x128.Idx) :=
  funext fun a => Fin.ext (match a with
    | ⟨0, _⟩ => rfl | ⟨1, _⟩ => rfl | ⟨2, _⟩ => by show 0 + 1 * t.val = t.val; omega | ⟨3, _⟩ => by show 0 + 1 * e.val = e.val; omega)
theorem emb23 (e : Fin 128) (t : Fin 512) : r0_23.emb (ix4 (0 : Fin 1) (0 : Fin 1) e t) = (ix4 0 (⟨5, by norm_num⟩ : Fin 8) e t : S1x8x128x512.Idx) :=
  funext fun a => Fin.ext (match a with
    | ⟨0, _⟩ => rfl | ⟨1, _⟩ => rfl | ⟨2, _⟩ => by show 0 + 1 * e.val = e.val; omega | ⟨3, _⟩ => by show 0 + 1 * t.val = t.val; omega)
theorem emb24 (e : Fin 128) (t : Fin 512) : r0_24.emb (ix4 (0 : Fin 1) (0 : Fin 1) t e) = (ix4 0 (⟨5, by norm_num⟩ : Fin 8) t e : S1x8x512x128.Idx) :=
  funext fun a => Fin.ext (match a with
    | ⟨0, _⟩ => rfl | ⟨1, _⟩ => rfl | ⟨2, _⟩ => by show 0 + 1 * t.val = t.val; omega | ⟨3, _⟩ => by show 0 + 1 * e.val = e.val; omega)
theorem emb25 (e : Fin 128) (t : Fin 512) : r0_25.emb (ix4 (0 : Fin 1) (0 : Fin 1) e t) = (ix4 0 (⟨6, by norm_num⟩ : Fin 8) e t : S1x8x128x512.Idx) :=
  funext fun a => Fin.ext (match a with
    | ⟨0, _⟩ => rfl | ⟨1, _⟩ => rfl | ⟨2, _⟩ => by show 0 + 1 * e.val = e.val; omega | ⟨3, _⟩ => by show 0 + 1 * t.val = t.val; omega)
theorem emb26 (e : Fin 128) (t : Fin 512) : r0_26.emb (ix4 (0 : Fin 1) (0 : Fin 1) t e) = (ix4 0 (⟨6, by norm_num⟩ : Fin 8) t e : S1x8x512x128.Idx) :=
  funext fun a => Fin.ext (match a with
    | ⟨0, _⟩ => rfl | ⟨1, _⟩ => rfl | ⟨2, _⟩ => by show 0 + 1 * t.val = t.val; omega | ⟨3, _⟩ => by show 0 + 1 * e.val = e.val; omega)
theorem emb27 (e : Fin 128) (t : Fin 512) : r0_27.emb (ix4 (0 : Fin 1) (0 : Fin 1) e t) = (ix4 0 (⟨7, by norm_num⟩ : Fin 8) e t : S1x8x128x512.Idx) :=
  funext fun a => Fin.ext (match a with
    | ⟨0, _⟩ => rfl | ⟨1, _⟩ => rfl | ⟨2, _⟩ => by show 0 + 1 * e.val = e.val; omega | ⟨3, _⟩ => by show 0 + 1 * t.val = t.val; omega)
theorem emb28 (e : Fin 128) (t : Fin 512) : r0_28.emb (ix4 (0 : Fin 1) (0 : Fin 1) t e) = (ix4 0 (⟨7, by norm_num⟩ : Fin 8) t e : S1x8x512x128.Idx) :=
  funext fun a => Fin.ext (match a with
    | ⟨0, _⟩ => rfl | ⟨1, _⟩ => rfl | ⟨2, _⟩ => by show 0 + 1 * t.val = t.val; omega | ⟨3, _⟩ => by show 0 + 1 * e.val = e.val; omega)
theorem emb30 (n : Fin 1024) (t : Fin 512) : r0_30.emb (ix3 (0 : Fin 1) n t) = (ix3 0 n t : S1x1024x512.Idx) :=
  funext fun a => Fin.ext (match a with
    | ⟨0, _⟩ => rfl | ⟨1, _⟩ => by show 0 + 1 * n.val = n.val; omega | ⟨2, _⟩ => by show 0 + 1 * t.val = t.val; omega)
theorem z3 (z : S1x32x512.Idx) : ∃ (n : Fin 32) (t : Fin 512), z = ix3 (0 : Fin 1) n t := ⟨z 1, z 2, funext fun a => match a with
  | ⟨0, _⟩ => Subsingleton.elim (α := Fin 1) _ _ | ⟨1, _⟩ => rfl | ⟨2, _⟩ => rfl⟩
theorem z3' (z : S1x1024x512.Idx) : ∃ (n : Fin 1024) (t : Fin 512), z = ix3 (0 : Fin 1) n t := ⟨z 1, z 2, funext fun a => match a with
  | ⟨0, _⟩ => Subsingleton.elim (α := Fin 1) _ _ | ⟨1, _⟩ => rfl | ⟨2, _⟩ => rfl⟩
theorem z4et (z : S1x1x128x512.Idx) : ∃ (e : Fin 128) (t : Fin 512), z = ix4 (0 : Fin 1) (0 : Fin 1) e t := ⟨z 2, z 3, funext fun a => match a with
  | ⟨0, _⟩ => Subsingleton.elim (α := Fin 1) _ _ | ⟨1, _⟩ => Subsingleton.elim (α := Fin 1) _ _ | ⟨2, _⟩ => rfl | ⟨3, _⟩ => rfl⟩
theorem z4te (z : S1x1x512x128.Idx) : ∃ (e : Fin 128) (t : Fin 512), z = ix4 (0 : Fin 1) (0 : Fin 1) t e := ⟨z 3, z 2, funext fun a => match a with
  | ⟨0, _⟩ => Subsingleton.elim (α := Fin 1) _ _ | ⟨1, _⟩ => Subsingleton.elim (α := Fin 1) _ _ | ⟨2, _⟩ => rfl | ⟨3, _⟩ => rfl⟩

section
variable (T : Fin 512 → Tok)

/-- What each output's buffer is to hold, from the tokens of the block. -/
def g15 (y : S1x512x512.Idx) : EReal := (T (y 2 : Fin 512)).rq (y 1 : Fin 512)
def g16 (y : S1x512x512.Idx) : EReal := (T (y 2 : Fin 512)).rk (y 1 : Fin 512)
def g17 (y : S1x1024x512.Idx) : EReal := (T (y 2 : Fin 512)).rv (y 1 : Fin 1024)
def g20 (y : S1x8x128x512.Idx) : EReal := (T (y 3 : Fin 512)).qt (y 1 : Fin 8) (y 2 : Fin 128)
def g21 (y : S1x8x512x128.Idx) : EReal := (T (y 2 : Fin 512)).k (y 1 : Fin 8) (y 3 : Fin 128)
def g22 (y : S1x8x128x512.Idx) : EReal := (T (y 3 : Fin 512)).vt (y 1 : Fin 8) (y 2 : Fin 128)

theorem o15_480 (c64 : FVec Ideal S32x512 .f32) (s64 : FVec Ideal S32x512 .f32) (qk : FVec Ideal S1024x512 .f32)
    (hq : ∀ (j : Fin 1024) (t : Fin 512) (i : Fin 4768), i.val = j.val → qk (ix2 j t) = (T t).p i)
    (hc : ∀ j t, c64 (ix2 j t) = (T t).c64 j) (hs : ∀ j t, s64 (ix2 j t) = (T t).s64 j) (z : S1x32x512.Idx) :
    k0_pay109 c64 s64 qk z = g15 T (r0_48.emb z) := by
  obtain ⟨n, t, rfl⟩ := z3 z
  rw [p15_480, emb48, hc, hs]
  exact rot64_hi (fun j : Fin 512 => (T t).p ⟨j.val, by omega⟩) (fun j => (T t).c64 j) (fun j => (T t).s64 j) 448 (by norm_num) n (⟨480 + n.val, by omega⟩ : Fin 512) (by show 480 + n.val = 448 + (32 + n.val); omega)
    (fun j hj => hq ⟨448 + n.val, by omega⟩ t ⟨j.val, by omega⟩ (by show j.val = 448 + n.val; omega))
    (fun j hj => hq ⟨448 + (32 + n.val), by omega⟩ t ⟨j.val, by omega⟩ (by show j.val = 448 + (32 + n.val); omega))
theorem o15_448 (c64 : FVec Ideal S32x512 .f32) (s64 : FVec Ideal S32x512 .f32) (qk : FVec Ideal S1024x512 .f32)
    (hq : ∀ (j : Fin 1024) (t : Fin 512) (i : Fin 4768), i.val = j.val → qk (ix2 j t) = (T t).p i)
    (hc : ∀ j t, c64 (ix2 j t) = (T t).c64 j) (hs : ∀ j t, s64 (ix2 j t) = (T t).s64 j) (z : S1x32x512.Idx) :
    k0_pay108 c64 s64 qk z = g15 T (r0_47.emb z) := by
  obtain ⟨n, t, rfl⟩ := z3 z
  rw [p15_448, emb47, hc, hs]
  exact rot64_lo (fun j : Fin 512 => (T t).p ⟨j.val, by omega⟩) (fun j => (T t).c64 j) (fun j => (T t).s64 j) 448 (by norm_num) n (⟨448 + n.val, by omega⟩ : Fin 512) (by show 448 + n.val = 448 + n.val; omega)
    (fun j hj => hq ⟨448 + n.val, by omega⟩ t ⟨j.val, by omega⟩ (by show j.val = 448 + n.val; omega))
    (fun j hj => hq ⟨448 + (32 + n.val), by omega⟩ t ⟨j.val, by omega⟩ (by show j.val = 448 + (32 + n.val); omega))
theorem o15_416 (c64 : FVec Ideal S32x512 .f32) (s64 : FVec Ideal S32x512 .f32) (qk : FVec Ideal S1024x512 .f32)
    (hq : ∀ (j : Fin 1024) (t : Fin 512) (i : Fin 4768), i.val = j.val → qk (ix2 j t) = (T t).p i)
    (hc : ∀ j t, c64 (ix2 j t) = (T t).c64 j) (hs : ∀ j t, s64 (ix2 j t) = (T t).s64 j) (z : S1x32x512.Idx) :
    k0_pay106 (k0_pay104 c64 s64 qk) z = g15 T (r0_46.emb z) := by
  obtain ⟨n, t, rfl⟩ := z3 z
  rw [p15_416, emb46, hc, hs]
  exact rot64_hi (fun j : Fin 512 => (T t).p ⟨j.val, by omega⟩) (fun j => (T t).c64 j) (fun j => (T t).s64 j) 384 (by norm_num) n (⟨416 + n.val, by omega⟩ : Fin 512) (by show 416 + n.val = 384 + (32 + n.val); omega)
    (fun j hj => hq ⟨384 + n.val, by omega⟩ t ⟨j.val, by omega⟩ (by show j.val = 384 + n.val; omega))
    (fun j hj => hq ⟨384 + (32 + n.val), by omega⟩ t ⟨j.val, by omega⟩ (by show j.val = 384 + (32 + n.val); omega))
theorem o15_384 (c64 : FVec Ideal S32x512 .f32) (s64 : FVec Ideal S32x512 .f32) (qk : FVec Ideal S1024x512 .f32)
    (hq : ∀ (j : Fin 1024) (t : Fin 512) (i : Fin 4768), i.val = j.val → qk (ix2 j t) = (T t).p i)
    (hc : ∀ j t, c64 (ix2 j t) = (T t).c64 j) (hs : ∀ j t, s64 (ix2 j t) = (T t).s64 j) (z : S1x32x512.Idx) :
    k0_pay105 c64 s64 qk z = g15 T (r0_45.emb z) := by
  obtain ⟨n, t, rfl⟩ := z3 z
  rw [p15_384, emb45, hc, hs]
  exact rot64_lo (fun j : Fin 512 => (T t).p ⟨j.val, by omega⟩) (fun j => (T t).c64 j) (fun j => (T t).s64 j) 384 (by norm_num) n (⟨384 + n.val, by omega⟩ : Fin 512) (by show 384 + n.val = 384 + n.val; omega)
    (fun j hj => hq ⟨384 + n.val, by omega⟩ t ⟨j.val, by omega⟩ (by show j.val = 384 + n.val; omega))
    (fun j hj => hq ⟨384 + (32 + n.val), by omega⟩ t ⟨j.val, by omega⟩ (by show j.val = 384 + (32 + n.val); omega))
theorem o15_352 (c64 : FVec Ideal S32x512 .f32) (s64 : FVec Ideal S32x512 .f32) (qk : FVec Ideal S1024x512 .f32)
    (hq : ∀ (j : Fin 1024) (t : Fin 512) (i : Fin 4768), i.val = j.val → qk (ix2 j t) = (T t).p i)
    (hc : ∀ j t, c64 (ix2 j t) = (T t).c64 j) (hs : ∀ j t, s64 (ix2 j t) = (T t).s64 j) (z : S1x32x512.Idx) :
    k0_pay102 c64 s64 qk z = g15 T (r0_44.emb z) := by
  obtain ⟨n, t, rfl⟩ := z3 z
  rw [p15_352, emb44, hc, hs]
  exact rot64_hi (fun j : Fin 512 => (T t).p ⟨j.val, by omega⟩) (fun j => (T t).c64 j) (fun j => (T t).s64 j) 320 (by norm_num) n (⟨352 + n.val, by omega⟩ : Fin 512) (by show 352 + n.val = 320 + (32 + n.val); omega)
    (fun j hj => hq ⟨320 + n.val, by omega⟩ t ⟨j.val, by omega⟩ (by show j.val = 320 + n.val; omega))
    (fun j hj => hq ⟨320 + (32 + n.val), by omega⟩ t ⟨j.val, by omega⟩ (by show j.val = 320 + (32 + n.val); omega))
theorem o15_320 (c64 : FVec Ideal S32x512 .f32) (s64 : FVec Ideal S32x512 .f32) (qk : FVec Ideal S1024x512 .f32)
    (hq : ∀ (j : Fin 1024) (t : Fin 512) (i : Fin 4768), i.val = j.val → qk (ix2 j t) = (T t).p i)
    (hc : ∀ j t, c64 (ix2 j t) = (T t).c64 j) (hs : ∀ j t, s64 (ix2 j t) = (T t).s64 j) (z : S1x32x512.Idx) :
    k0_pay101 c64 s64 qk z = g15 T (r0_43.emb z) := by
  obtain ⟨n, t, rfl⟩ := z3 z
  rw [p15_320, emb43, hc, hs]
  exact rot64_lo (fun j : Fin 512 => (T t).p ⟨j.val, by omega⟩) (fun j => (T t).c64 j) (fun j => (T t).s64 j) 320 (by norm_num) n (⟨320 + n.val, by omega⟩ : Fin 512) (by show 320 + n.val = 320 + n.val; omega)
    (fun j hj => hq ⟨320 + n.val, by omega⟩ t ⟨j.val, by omega⟩ (by show j.val = 320 + n.val; omega))
    (fun j hj => hq ⟨320 + (32 + n.val), by omega⟩ t ⟨j.val, by omega⟩ (by show j.val = 320 + (32 + n.val); omega))
theorem o15_288 (c64 : FVec Ideal S32x512 .f32) (s64 : FVec Ideal S32x512 .f32) (qk : FVec Ideal S1024x512 .f32)
    (hq : ∀ (j : Fin 1024) (t : Fin 512) (i : Fin 4768), i.val = j.val → qk (ix2 j t) = (T t).p i)
    (hc : ∀ j t, c64 (ix2 j t) = (T t).c64 j) (hs : ∀ j t, s64 (ix2 j t) = (T t).s64 j) (z : S1x32x512.Idx) :
    k0_pay99 (k0_pay96 c64 s64 qk) z = g15 T (r0_42.emb z) := by
  obtain ⟨n, t, rfl⟩ := z3 z
  rw [p15_288, emb42, hc, hs]
  exact rot64_hi (fun j : Fin 512 => (T t).p ⟨j.val, by omega⟩) (fun j => (T t).c64 j) (fun j => (T t).s64 j) 256 (by norm_num) n (⟨288 + n.val, by omega⟩ : Fin 512) (by show 288 + n.val = 256 + (32 + n.val); omega)
    (fun j hj => hq ⟨256 + n.val, by omega⟩ t ⟨j.val, by omega⟩ (by show j.val = 256 + n.val; omega))
    (fun j hj => hq ⟨256 + (32 + n.val), by omega⟩ t ⟨j.val, by omega⟩ (by show j.val = 256 + (32 + n.val); omega))
theorem o15_256 (c64 : FVec Ideal S32x512 .f32) (s64 : FVec Ideal S32x512 .f32) (qk : FVec Ideal S1024x512 .f32)
    (hq : ∀ (j : Fin 1024) (t : Fin 512) (i : Fin 4768), i.val = j.val → qk (ix2 j t) = (T t).p i)
    (hc : ∀ j t, c64 (ix2 j t) = (T t).c64 j) (hs : ∀ j t, s64 (ix2 j t) = (T t).s64 j) (z : S1x32x512.Idx) :
    k0_pay98 (k0_pay97 c64 s64 qk) z = g15 T (r0_41.emb z) := by
  obtain ⟨n, t, rfl⟩ := z3 z
  rw [p15_256, emb41, hc, hs]
  exact rot64_lo (fun j : Fin 512 => (T t).p ⟨j.val, by omega⟩) (fun j => (T t).c64 j) (fun j => (T t).s64 j) 256 (by norm_num) n (⟨256 + n.val, by omega⟩ : Fin 512) (by show 256 + n.val = 256 + n.val; omega)
    (fun j hj => hq ⟨256 + n.val, by omega⟩ t ⟨j.val, by omega⟩ (by show j.val = 256 + n.val; omega))
    (fun j hj => hq ⟨256 + (32 + n.val), by omega⟩ t ⟨j.val, by omega⟩ (by show j.val = 256 + (32 + n.val); omega))
theorem o15_224 (c64 : FVec Ideal S32x512 .f32) (s64 : FVec Ideal S32x512 .f32) (qk : FVec Ideal S1024x512 .f32)
    (hq : ∀ (j : Fin 1024) (t : Fin 512) (i : Fin 4768), i.val = j.val → qk (ix2 j t) = (T t).p i)
    (hc : ∀ j t, c64 (ix2 j t) = (T t).c64 j) (hs : ∀ j t, s64 (ix2 j t) = (T t).s64 j) (z : S1x32x512.Idx) :
    k0_pay94 c64 s64 qk z = g15 T (r0_40.emb z) := by
  obtain ⟨n, t, rfl⟩ := z3 z
  rw [p15_224, emb40, hc, hs]
  exact rot64_hi (fun j : Fin 512 => (T t).p ⟨j.val, by omega⟩) (fun j => (T t).c64 j) (fun j => (T t).s64 j) 192 (by norm_num) n (⟨224 + n.val, by omega⟩ : Fin 512) (by show 224 + n.val = 192 + (32 + n.val); omega)
    (fun j hj => hq ⟨192 + n.val, by omega⟩ t ⟨j.val, by omega⟩ (by show j.val = 192 + n.val; omega))
    (fun j hj => hq ⟨192 + (32 + n.val), by omega⟩ t ⟨j.val, by omega⟩ (by show j.val = 192 + (32 + n.val); omega))
theorem o15_192 (c64 : FVec Ideal S32x512 .f32) (s64 : FVec Ideal S32x512 .f32) (qk : FVec Ideal S1024x512 .f32)
    (hq : ∀ (j : Fin 1024) (t : Fin 512) (i : Fin 4768), i.val = j.val → qk (ix2 j t) = (T t).p i)
    (hc : ∀ j t, c64 (ix2 j t) = (T t).c64 j) (hs : ∀ j t, s64 (ix2 j t) = (T t).s64 j) (z : S1x32x512.Idx) :
    k0_pay93 c64 s64 qk z = g15 T (r0_39.emb z) := by
  obtain ⟨n, t, rfl⟩ := z3 z
  rw [p15_192, emb39, hc, hs]
  exact rot64_lo (fun j : Fin 512 => (T t).p ⟨j.val, by omega⟩) (fun j => (T t).c64 j) (fun j => (T t).s64 j) 192 (by norm_num) n (⟨192 + n.val, by omega⟩ : Fin 512) (by show 192 + n.val = 192 + n.val; omega)
    (fun j hj => hq ⟨192 + n.val, by omega⟩ t ⟨j.val, by omega⟩ (by show j.val = 192 + n.val; omega))
    (fun j hj => hq ⟨192 + (32 + n.val), by omega⟩ t ⟨j.val, by omega⟩ (by show j.val = 192 + (32 + n.val); omega))
theorem o15_160 (c64 : FVec Ideal S32x512 .f32) (s64 : FVec Ideal S32x512 .f32) (qk : FVec Ideal S1024x512 .f32)
    (hq : ∀ (j : Fin 1024) (t : Fin 512) (i : Fin 4768), i.val = j.val → qk (ix2 j t) = (T t).p i)
    (hc : ∀ j t, c64 (ix2 j t) = (T t).c64 j) (hs : ∀ j t, s64 (ix2 j t) = (T t).s64 j) (z : S1x32x512.Idx) :
    k0_pay91 c64 s64 (k0_pay88 qk) z = g15 T (r0_38.emb z) := by
  obtain ⟨n, t, rfl⟩ := z3 z
  rw [p15_160, emb38, hc, hs]
  exact rot64_hi (fun j : Fin 512 => (T t).p ⟨j.val, by omega⟩) (fun j => (T t).c64 j) (fun j => (T t).s64 j) 128 (by norm_num) n (⟨160 + n.val, by omega⟩ : Fin 512) (by show 160 + n.val = 128 + (32 + n.val); omega)
    (fun j hj => hq ⟨128 + n.val, by omega⟩ t ⟨j.val, by omega⟩ (by show j.val = 128 + n.val; omega))
    (fun j hj => hq ⟨128 + (32 + n.val), by omega⟩ t ⟨j.val, by omega⟩ (by show j.val = 128 + (32 + n.val); omega))
theorem o15_128 (c64 : FVec Ideal S32x512 .f32) (s64 : FVec Ideal S32x512 .f32) (qk : FVec Ideal S1024x512 .f32)
    (hq : ∀ (j : Fin 1024) (t : Fin 512) (i : Fin 4768), i.val = j.val → qk (ix2 j t) = (T t).p i)
    (hc : ∀ j t, c64 (ix2 j t) = (T t).c64 j) (hs : ∀ j t, s64 (ix2 j t) = (T t).s64 j) (z : S1x32x512.Idx) :
    k0_pay90 (k0_pay89 c64 s64 qk) z = g15 T (r0_37.emb z) := by
  obtain ⟨n, t, rfl⟩ := z3 z
  rw [p15_128, emb37, hc, hs]
  exact rot64_lo (fun j : Fin 512 => (T t).p ⟨j.val, by omega⟩) (fun j => (T t).c64 j) (fun j => (T t).s64 j) 128 (by norm_num) n (⟨128 + n.val, by omega⟩ : Fin 512) (by show 128 + n.val = 128 + n.val; omega)
    (fun j hj => hq ⟨128 + n.val, by omega⟩ t ⟨j.val, by omega⟩ (by show j.val = 128 + n.val; omega))
    (fun j hj => hq ⟨128 + (32 + n.val), by omega⟩ t ⟨j.val, by omega⟩ (by show j.val = 128 + (32 + n.val); omega))
theorem o15_96 (c64 : FVec Ideal S32x512 .f32) (s64 : FVec Ideal S32x512 .f32) (qk : FVec Ideal S1024x512 .f32)
    (hq : ∀ (j : Fin 1024) (t : Fin 512) (i : Fin 4768), i.val = j.val → qk (ix2 j t) = (T t).p i)
    (hc : ∀ j t, c64 (ix2 j t) = (T t).c64 j) (hs : ∀ j t, s64 (ix2 j t) = (T t).s64 j) (z : S1x32x512.Idx) :
    k0_pay87 c64 s64 qk z = g15 T (r0_36.emb z) := by
  obtain ⟨n, t, rfl⟩ := z3 z
  rw [p15_96, emb36, hc, hs]
  exact rot64_hi (fun j : Fin 512 => (T t).p ⟨j.val, by omega⟩) (fun j => (T t).c64 j) (fun j => (T t).s64 j) 64 (by norm_num) n (⟨96 + n.val, by omega⟩ : Fin 512) (by show 96 + n.val = 64 + (32 + n.val); omega)
    (fun j hj => hq ⟨64 + n.val, by omega⟩ t ⟨j.val, by omega⟩ (by show j.val = 64 + n.val; omega))
    (fun j hj => hq ⟨64 + (32 + n.val), by omega⟩ t ⟨j.val, by omega⟩ (by show j.val = 64 + (32 + n.val); omega))
theorem o15_64 (c64 : FVec Ideal S32x512 .f32) (s64 : FVec Ideal S32x512 .f32) (qk : FVec Ideal S1024x512 .f32)
    (hq : ∀ (j : Fin 1024) (t : Fin 512) (i : Fin 4768), i.val = j.val → qk (ix2 j t) = (T t).p i)
    (hc : ∀ j t, c64 (ix2 j t) = (T t).c64 j) (hs : ∀ j t, s64 (ix2 j t) = (T t).s64 j) (z : S1x32x512.Idx) :
    k0_pay86 c64 s64 qk z = g15 T (r0_35.emb z) := by
  obtain ⟨n, t, rfl⟩ := z3 z
  rw [p15_64, emb35, hc, hs]
  exact rot64_lo (fun j : Fin 512 => (T t).p ⟨j.val, by omega⟩) (fun j => (T t).c64 j) (fun j => (T t).s64 j) 64 (by norm_num) n (⟨64 + n.val, by omega⟩ : Fin 512) (by show 64 + n.val = 64 + n.val; omega)
    (fun j hj => hq ⟨64 + n.val, by omega⟩ t ⟨j.val, by omega⟩ (by show j.val = 64 + n.val; omega))
    (fun j hj => hq ⟨64 + (32 + n.val), by omega⟩ t ⟨j.val, by omega⟩ (by show j.val = 64 + (32 + n.val); omega))
theorem o15_32 (c64 : FVec Ideal S32x512 .f32) (s64 : FVec Ideal S32x512 .f32) (qk : FVec Ideal S1024x512 .f32)
    (hq : ∀ (j : Fin 1024) (t : Fin 512) (i : Fin 4768), i.val = j.val → qk (ix2 j t) = (T t).p i)
    (hc : ∀ j t, c64 (ix2 j t) = (T t).c64 j) (hs : ∀ j t, s64 (ix2 j t) = (T t).s64 j) (z : S1x32x512.Idx) :
    k0_pay84 c64 s64 qk z = g15 T (r0_34.emb z) := by
  obtain ⟨n, t, rfl⟩ := z3 z
  rw [p15_32, emb34, hc, hs]
  exact rot64_hi (fun j : Fin 512 => (T t).p ⟨j.val, by omega⟩) (fun j => (T t).c64 j) (fun j => (T t).s64 j) 0 (by norm_num) n (⟨32 + n.val, by omega⟩ : Fin 512) (by show 32 + n.val = 0 + (32 + n.val); omega)
    (fun j hj => hq ⟨0 + n.val, by omega⟩ t ⟨j.val, by omega⟩ (by show j.val = 0 + n.val; omega))
    (fun j hj => hq ⟨0 + (32 + n.val), by omega⟩ t ⟨j.val, by omega⟩ (by show j.val = 0 + (32 + n.val); omega))
theorem o15_0 (c64 : FVec Ideal S32x512 .f32) (s64 : FVec Ideal S32x512 .f32) (qk : FVec Ideal S1024x512 .f32)
    (hq : ∀ (j : Fin 1024) (t : Fin 512) (i : Fin 4768), i.val = j.val → qk (ix2 j t) = (T t).p i)
    (hc : ∀ j t, c64 (ix2 j t) = (T t).c64 j) (hs : ∀ j t, s64 (ix2 j t) = (T t).s64 j) (z : S1x32x512.Idx) :
    k0_pay83 c64 s64 qk z = g15 T (r0_33.emb z) := by
  obtain ⟨n, t, rfl⟩ := z3 z
  rw [p15_0, emb33, hc, hs]
  exact rot64_lo (fun j : Fin 512 => (T t).p ⟨j.val, by omega⟩) (fun j => (T t).c64 j) (fun j => (T t).s64 j) 0 (by norm_num) n (⟨0 + n.val, by omega⟩ : Fin 512) (by show 0 + n.val = 0 + n.val; omega)
    (fun j hj => hq ⟨0 + n.val, by omega⟩ t ⟨j.val, by omega⟩ (by show j.val = 0 + n.val; omega))
    (fun j hj => hq ⟨0 + (32 + n.val), by omega⟩ t ⟨j.val, by omega⟩ (by show j.val = 0 + (32 + n.val); omega))
theorem o16_480 (ck : FVec Ideal S32x512 .f32) (sk : FVec Ideal S32x512 .f32) (qk : FVec Ideal S1024x512 .f32)
    (hq : ∀ (j : Fin 1024) (t : Fin 512) (i : Fin 4768), i.val = j.val → qk (ix2 j t) = (T t).p i)
    (hc : ∀ j t, ck (ix2 j t) = (T t).c64 j * Ideal.ofBits .f32 0x3E000000#32) (hs : ∀ j t, sk (ix2 j t) = (T t).s64 j * Ideal.ofBits .f32 0x3E000000#32) (z : S1x32x512.Idx) :
    k0_pay2 (k0_pay137 qk ck sk) z = g16 T (r0_48.emb z) := by
  obtain ⟨n, t, rfl⟩ := z3 z
  rw [p16_480, emb48, hc, hs]
  exact rot64_hi (fun j : Fin 512 => (T t).p ⟨512 + j.val, by omega⟩) (fun j => (T t).c64 j * Ideal.ofBits .f32 0x3E000000#32) (fun j => (T t).s64 j * Ideal.ofBits .f32 0x3E000000#32) 448 (by norm_num) n (⟨480 + n.val, by omega⟩ : Fin 512) (by show 480 + n.val = 448 + (32 + n.val); omega)
    (fun j hj => hq ⟨960 + n.val, by omega⟩ t ⟨512 + j.val, by omega⟩ (by show 512 + j.val = 960 + n.val; omega))
    (fun j hj => hq ⟨960 + (32 + n.val), by omega⟩ t ⟨512 + j.val, by omega⟩ (by show 512 + j.val = 960 + (32 + n.val); omega))
theorem o16_448 (ck : FVec Ideal S32x512 .f32) (sk : FVec Ideal S32x512 .f32) (qk : FVec Ideal S1024x512 .f32)
    (hq : ∀ (j : Fin 1024) (t : Fin 512) (i : Fin 4768), i.val = j.val → qk (ix2 j t) = (T t).p i)
    (hc : ∀ j t, ck (ix2 j t) = (T t).c64 j * Ideal.ofBits .f32 0x3E000000#32) (hs : ∀ j t, sk (ix2 j t) = (T t).s64 j * Ideal.ofBits .f32 0x3E000000#32) (z : S1x32x512.Idx) :
    k0_pay1 (k0_pay138 qk ck sk) z = g16 T (r0_47.emb z) := by
  obtain ⟨n, t, rfl⟩ := z3 z
  rw [p16_448, emb47, hc, hs]
  exact rot64_lo (fun j : Fin 512 => (T t).p ⟨512 + j.val, by omega⟩) (fun j => (T t).c64 j * Ideal.ofBits .f32 0x3E000000#32) (fun j => (T t).s64 j * Ideal.ofBits .f32 0x3E000000#32) 448 (by norm_num) n (⟨448 + n.val, by omega⟩ : Fin 512) (by show 448 + n.val = 448 + n.val; omega)
    (fun j hj => hq ⟨960 + n.val, by omega⟩ t ⟨512 + j.val, by omega⟩ (by show 512 + j.val = 960 + n.val; omega))
    (fun j hj => hq ⟨960 + (32 + n.val), by omega⟩ t ⟨512 + j.val, by omega⟩ (by show 512 + j.val = 960 + (32 + n.val); omega))
theorem o16_416 (ck : FVec Ideal S32x512 .f32) (sk : FVec Ideal S32x512 .f32) (qk : FVec Ideal S1024x512 .f32)
    (hq : ∀ (j : Fin 1024) (t : Fin 512) (i : Fin 4768), i.val = j.val → qk (ix2 j t) = (T t).p i)
    (hc : ∀ j t, ck (ix2 j t) = (T t).c64 j * Ideal.ofBits .f32 0x3E000000#32) (hs : ∀ j t, sk (ix2 j t) = (T t).s64 j * Ideal.ofBits .f32 0x3E000000#32) (z : S1x32x512.Idx) :
    k0_pay135 qk ck sk z = g16 T (r0_46.emb z) := by
  obtain ⟨n, t, rfl⟩ := z3 z
  rw [p16_416, emb46, hc, hs]
  exact rot64_hi (fun j : Fin 512 => (T t).p ⟨512 + j.val, by omega⟩) (fun j => (T t).c64 j * Ideal.ofBits .f32 0x3E000000#32) (fun j => (T t).s64 j * Ideal.ofBits .f32 0x3E000000#32) 384 (by norm_num) n (⟨416 + n.val, by omega⟩ : Fin 512) (by show 416 + n.val = 384 + (32 + n.val); omega)
    (fun j hj => hq ⟨896 + n.val, by omega⟩ t ⟨512 + j.val, by omega⟩ (by show 512 + j.val = 896 + n.val; omega))
    (fun j hj => hq ⟨896 + (32 + n.val), by omega⟩ t ⟨512 + j.val, by omega⟩ (by show 512 + j.val = 896 + (32 + n.val); omega))
theorem o16_384 (ck : FVec Ideal S32x512 .f32) (sk : FVec Ideal S32x512 .f32) (qk : FVec Ideal S1024x512 .f32)
    (hq : ∀ (j : Fin 1024) (t : Fin 512) (i : Fin 4768), i.val = j.val → qk (ix2 j t) = (T t).p i)
    (hc : ∀ j t, ck (ix2 j t) = (T t).c64 j * Ideal.ofBits .f32 0x3E000000#32) (hs : ∀ j t, sk (ix2 j t) = (T t).s64 j * Ideal.ofBits .f32 0x3E000000#32) (z : S1x32x512.Idx) :
    k0_pay134 qk ck sk z = g16 T (r0_45.emb z) := by
  obtain ⟨n, t, rfl⟩ := z3 z
  rw [p16_384, emb45, hc, hs]
  exact rot64_lo (fun j : Fin 512 => (T t).p ⟨512 + j.val, by omega⟩) (fun j => (T t).c64 j * Ideal.ofBits .f32 0x3E000000#32) (fun j => (T t).s64 j * Ideal.ofBits .f32 0x3E000000#32) 384 (by norm_num) n (⟨384 + n.val, by omega⟩ : Fin 512) (by show 384 + n.val = 384 + n.val; omega)
    (fun j hj => hq ⟨896 + n.val, by omega⟩ t ⟨512 + j.val, by omega⟩ (by show 512 + j.val = 896 + n.val; omega))
    (fun j hj => hq ⟨896 + (32 + n.val), by omega⟩ t ⟨512 + j.val, by omega⟩ (by show 512 + j.val = 896 + (32 + n.val); omega))
theorem o16_352 (ck : FVec Ideal S32x512 .f32) (sk : FVec Ideal S32x512 .f32) (qk : FVec Ideal S1024x512 .f32)
    (hq : ∀ (j : Fin 1024) (t : Fin 512) (i : Fin 4768), i.val = j.val → qk (ix2 j t) = (T t).p i)
    (hc : ∀ j t, ck (ix2 j t) = (T t).c64 j * Ideal.ofBits .f32 0x3E000000#32) (hs : ∀ j t, sk (ix2 j t) = (T t).s64 j * Ideal.ofBits .f32 0x3E000000#32) (z : S1x32x512.Idx) :
    k0_pay132 sk (k0_pay129 qk ck) (k0_pay130 qk) z = g16 T (r0_44.emb z) := by
  obtain ⟨n, t, rfl⟩ := z3 z
  rw [p16_352, emb44, hc, hs]
  exact rot64_hi (fun j : Fin 512 => (T t).p ⟨512 + j.val, by omega⟩) (fun j => (T t).c64 j * Ideal.ofBits .f32 0x3E000000#32) (fun j => (T t).s64 j * Ideal.ofBits .f32 0x3E000000#32) 320 (by norm_num) n (⟨352 + n.val, by omega⟩ : Fin 512) (by show 352 + n.val = 320 + (32 + n.val); omega)
    (fun j hj => hq ⟨832 + n.val, by omega⟩ t ⟨512 + j.val, by omega⟩ (by show 512 + j.val = 832 + n.val; omega))
    (fun j hj => hq ⟨832 + (32 + n.val), by omega⟩ t ⟨512 + j.val, by omega⟩ (by show 512 + j.val = 832 + (32 + n.val); omega))
theorem o16_320 (ck : FVec Ideal S32x512 .f32) (sk : FVec Ideal S32x512 .f32) (qk : FVec Ideal S1024x512 .f32)
    (hq : ∀ (j : Fin 1024) (t : Fin 512) (i : Fin 4768), i.val = j.val → qk (ix2 j t) = (T t).p i)
    (hc : ∀ j t, ck (ix2 j t) = (T t).c64 j * Ideal.ofBits .f32 0x3E000000#32) (hs : ∀ j t, sk (ix2 j t) = (T t).s64 j * Ideal.ofBits .f32 0x3E000000#32) (z : S1x32x512.Idx) :
    k0_pay131 (k0_pay128 qk ck sk) z = g16 T (r0_43.emb z) := by
  obtain ⟨n, t, rfl⟩ := z3 z
  rw [p16_320, emb43, hc, hs]
  exact rot64_lo (fun j : Fin 512 => (T t).p ⟨512 + j.val, by omega⟩) (fun j => (T t).c64 j * Ideal.ofBits .f32 0x3E000000#32) (fun j => (T t).s64 j * Ideal.ofBits .f32 0x3E000000#32) 320 (by norm_num) n (⟨320 + n.val, by omega⟩ : Fin 512) (by show 320 + n.val = 320 + n.val; omega)
    (fun j hj => hq ⟨832 + n.val, by omega⟩ t ⟨512 + j.val, by omega⟩ (by show 512 + j.val = 832 + n.val; omega))
    (fun j hj => hq ⟨832 + (32 + n.val), by omega⟩ t ⟨512 + j.val, by omega⟩ (by show 512 + j.val = 832 + (32 + n.val); omega))
theorem o16_288 (ck : FVec Ideal S32x512 .f32) (sk : FVec Ideal S32x512 .f32) (qk : FVec Ideal S1024x512 .f32)
    (hq : ∀ (j : Fin 1024) (t : Fin 512) (i : Fin 4768), i.val = j.val → qk (ix2 j t) = (T t).p i)
    (hc : ∀ j t, ck (ix2 j t) = (T t).c64 j * Ideal.ofBits .f32 0x3E000000#32) (hs : ∀ j t, sk (ix2 j t) = (T t).s64 j * Ideal.ofBits .f32 0x3E000000#32) (z : S1x32x512.Idx) :
    k0_pay126 qk ck sk z = g16 T (r0_42.emb z) := by
  obtain ⟨n, t, rfl⟩ := z3 z
  rw [p16_288, emb42, hc, hs]
  exact rot64_hi (fun j : Fin 512 => (T t).p ⟨512 + j.val, by omega⟩) (fun j => (T t).c64 j * Ideal.ofBits .f32 0x3E000000#32) (fun j => (T t).s64 j * Ideal.ofBits .f32 0x3E000000#32) 256 (by norm_num) n (⟨288 + n.val, by omega⟩ : Fin 512) (by show 288 + n.val = 256 + (32 + n.val); omega)
    (fun j hj => hq ⟨768 + n.val, by omega⟩ t ⟨512 + j.val, by omega⟩ (by show 512 + j.val = 768 + n.val; omega))
    (fun j hj => hq ⟨768 + (32 + n.val), by omega⟩ t ⟨512 + j.val, by omega⟩ (by show 512 + j.val = 768 + (32 + n.val); omega))
theorem o16_256 (ck : FVec Ideal S32x512 .f32) (sk : FVec Ideal S32x512 .f32) (qk : FVec Ideal S1024x512 .f32)
    (hq : ∀ (j : Fin 1024) (t : Fin 512) (i : Fin 4768), i.val = j.val → qk (ix2 j t) = (T t).p i)
    (hc : ∀ j t, ck (ix2 j t) = (T t).c64 j * Ideal.ofBits .f32 0x3E000000#32) (hs : ∀ j t, sk (ix2 j t) = (T t).s64 j * Ideal.ofBits .f32 0x3E000000#32) (z : S1x32x512.Idx) :
    k0_pay125 qk ck sk z = g16 T (r0_41.emb z) := by
  obtain ⟨n, t, rfl⟩ := z3 z
  rw [p16_256, emb41, hc, hs]
  exact rot64_lo (fun j : Fin 512 => (T t).p ⟨512 + j.val, by omega⟩) (fun j => (T t).c64 j * Ideal.ofBits .f32 0x3E000000#32) (fun j => (T t).s64 j * Ideal.ofBits .f32 0x3E000000#32) 256 (by norm_num) n (⟨256 + n.val, by omega⟩ : Fin 512) (by show 256 + n.val = 256 + n.val; omega)
    (fun j hj => hq ⟨768 + n.val, by omega⟩ t ⟨512 + j.val, by omega⟩ (by show 512 + j.val = 768 + n.val; omega))
    (fun j hj => hq ⟨768 + (32 + n.val), by omega⟩ t ⟨512 + j.val, by omega⟩ (by show 512 + j.val = 768 + (32 + n.val); omega))
theorem o16_224 (ck : FVec Ideal S32x512 .f32) (sk : FVec Ideal S32x512 .f32) (qk : FVec Ideal S1024x512 .f32)
    (hq : ∀ (j : Fin 1024) (t : Fin 512) (i : Fin 4768), i.val = j.val → qk (ix2 j t) = (T t).p i)
    (hc : ∀ j t, ck (ix2 j t) = (T t).c64 j * Ideal.ofBits .f32 0x3E000000#32) (hs : ∀ j t, sk (ix2 j t) = (T t).s64 j * Ideal.ofBits .f32 0x3E000000#32) (z : S1x32x512.Idx) :
    k0_pay123 ck sk (k0_pay120 qk) z = g16 T (r0_40.emb z) := by
  obtain ⟨n, t, rfl⟩ := z3 z
  rw [p16_224, emb40, hc, hs]
  exact rot64_hi (fun j : Fin 512 => (T t).p ⟨512 + j.val, by omega⟩) (fun j => (T t).c64 j * Ideal.ofBits .f32 0x3E000000#32) (fun j => (T t).s64 j * Ideal.ofBits .f32 0x3E000000#32) 192 (by norm_num) n (⟨224 + n.val, by omega⟩ : Fin 512) (by show 224 + n.val = 192 + (32 + n.val); omega)
    (fun j hj => hq ⟨704 + n.val, by omega⟩ t ⟨512 + j.val, by omega⟩ (by show 512 + j.val = 704 + n.val; omega))
    (fun j hj => hq ⟨704 + (32 + n.val), by omega⟩ t ⟨512 + j.val, by omega⟩ (by show 512 + j.val = 704 + (32 + n.val); omega))
theorem o16_192 (ck : FVec Ideal S32x512 .f32) (sk : FVec Ideal S32x512 .f32) (qk : FVec Ideal S1024x512 .f32)
    (hq : ∀ (j : Fin 1024) (t : Fin 512) (i : Fin 4768), i.val = j.val → qk (ix2 j t) = (T t).p i)
    (hc : ∀ j t, ck (ix2 j t) = (T t).c64 j * Ideal.ofBits .f32 0x3E000000#32) (hs : ∀ j t, sk (ix2 j t) = (T t).s64 j * Ideal.ofBits .f32 0x3E000000#32) (z : S1x32x512.Idx) :
    k0_pay122 sk (k0_pay120 qk) (k0_pay121 qk ck) z = g16 T (r0_39.emb z) := by
  obtain ⟨n, t, rfl⟩ := z3 z
  rw [p16_192, emb39, hc, hs]
  exact rot64_lo (fun j : Fin 512 => (T t).p ⟨512 + j.val, by omega⟩) (fun j => (T t).c64 j * Ideal.ofBits .f32 0x3E000000#32) (fun j => (T t).s64 j * Ideal.ofBits .f32 0x3E000000#32) 192 (by norm_num) n (⟨192 + n.val, by omega⟩ : Fin 512) (by show 192 + n.val = 192 + n.val; omega)
    (fun j hj => hq ⟨704 + n.val, by omega⟩ t ⟨512 + j.val, by omega⟩ (by show 512 + j.val = 704 + n.val; omega))
    (fun j hj => hq ⟨704 + (32 + n.val), by omega⟩ t ⟨512 + j.val, by omega⟩ (by show 512 + j.val = 704 + (32 + n.val); omega))
theorem o16_160 (ck : FVec Ideal S32x512 .f32) (sk : FVec Ideal S32x512 .f32) (qk : FVec Ideal S1024x512 .f32)
    (hq : ∀ (j : Fin 1024) (t : Fin 512) (i : Fin 4768), i.val = j.val → qk (ix2 j t) = (T t).p i)
    (hc : ∀ j t, ck (ix2 j t) = (T t).c64 j * Ideal.ofBits .f32 0x3E000000#32) (hs : ∀ j t, sk (ix2 j t) = (T t).s64 j * Ideal.ofBits .f32 0x3E000000#32) (z : S1x32x512.Idx) :
    k0_pay119 qk ck sk z = g16 T (r0_38.emb z) := by
  obtain ⟨n, t, rfl⟩ := z3 z
  rw [p16_160, emb38, hc, hs]
  exact rot64_hi (fun j : Fin 512 => (T t).p ⟨512 + j.val, by omega⟩) (fun j => (T t).c64 j * Ideal.ofBits .f32 0x3E000000#32) (fun j => (T t).s64 j * Ideal.ofBits .f32 0x3E000000#32) 128 (by norm_num) n (⟨160 + n.val, by omega⟩ : Fin 512) (by show 160 + n.val = 128 + (32 + n.val); omega)
    (fun j hj => hq ⟨640 + n.val, by omega⟩ t ⟨512 + j.val, by omega⟩ (by show 512 + j.val = 640 + n.val; omega))
    (fun j hj => hq ⟨640 + (32 + n.val), by omega⟩ t ⟨512 + j.val, by omega⟩ (by show 512 + j.val = 640 + (32 + n.val); omega))
theorem o16_128 (ck : FVec Ideal S32x512 .f32) (sk : FVec Ideal S32x512 .f32) (qk : FVec Ideal S1024x512 .f32)
    (hq : ∀ (j : Fin 1024) (t : Fin 512) (i : Fin 4768), i.val = j.val → qk (ix2 j t) = (T t).p i)
    (hc : ∀ j t, ck (ix2 j t) = (T t).c64 j * Ideal.ofBits .f32 0x3E000000#32) (hs : ∀ j t, sk (ix2 j t) = (T t).s64 j * Ideal.ofBits .f32 0x3E000000#32) (z : S1x32x512.Idx) :
    k0_pay118 qk ck sk z = g16 T (r0_37.emb z) := by
  obtain ⟨n, t, rfl⟩ := z3 z
  rw [p16_128, emb37, hc, hs]
  exact rot64_lo (fun j : Fin 512 => (T t).p ⟨512 + j.val, by omega⟩) (fun j => (T t).c64 j * Ideal.ofBits .f32 0x3E000000#32) (fun j => (T t).s64 j * Ideal.ofBits .f32 0x3E000000#32) 128 (by norm_num) n (⟨128 + n.val, by omega⟩ : Fin 512) (by show 128 + n.val = 128 + n.val; omega)
    (fun j hj => hq ⟨640 + n.val, by omega⟩ t ⟨512 + j.val, by omega⟩ (by show 512 + j.val = 640 + n.val; omega))
    (fun j hj => hq ⟨640 + (32 + n.val), by omega⟩ t ⟨512 + j.val, by omega⟩ (by show 512 + j.val = 640 + (32 + n.val); omega))
theorem o16_96 (ck : FVec Ideal S32x512 .f32) (sk : FVec Ideal S32x512 .f32) (qk : FVec Ideal S1024x512 .f32)
    (hq : ∀ (j : Fin 1024) (t : Fin 512) (i : Fin 4768), i.val = j.val → qk (ix2 j t) = (T t).p i)
    (hc : ∀ j t, ck (ix2 j t) = (T t).c64 j * Ideal.ofBits .f32 0x3E000000#32) (hs : ∀ j t, sk (ix2 j t) = (T t).s64 j * Ideal.ofBits .f32 0x3E000000#32) (z : S1x32x512.Idx) :
    k0_pay116 qk ck sk z = g16 T (r0_36.emb z) := by
  obtain ⟨n, t, rfl⟩ := z3 z
  rw [p16_96, emb36, hc, hs]
  exact rot64_hi (fun j : Fin 512 => (T t).p ⟨512 + j.val, by omega⟩) (fun j => (T t).c64 j * Ideal.ofBits .f32 0x3E000000#32) (fun j => (T t).s64 j * Ideal.ofBits .f32 0x3E000000#32) 64 (by norm_num) n (⟨96 + n.val, by omega⟩ : Fin 512) (by show 96 + n.val = 64 + (32 + n.val); omega)
    (fun j hj => hq ⟨576 + n.val, by omega⟩ t ⟨512 + j.val, by omega⟩ (by show 512 + j.val = 576 + n.val; omega))
    (fun j hj => hq ⟨576 + (32 + n.val), by omega⟩ t ⟨512 + j.val, by omega⟩ (by show 512 + j.val = 576 + (32 + n.val); omega))
theorem o16_64 (ck : FVec Ideal S32x512 .f32) (sk : FVec Ideal S32x512 .f32) (qk : FVec Ideal S1024x512 .f32)
    (hq : ∀ (j : Fin 1024) (t : Fin 512) (i : Fin 4768), i.val = j.val → qk (ix2 j t) = (T t).p i)
    (hc : ∀ j t, ck (ix2 j t) = (T t).c64 j * Ideal.ofBits .f32 0x3E000000#32) (hs : ∀ j t, sk (ix2 j t) = (T t).s64 j * Ideal.ofBits .f32 0x3E000000#32) (z : S1x32x512.Idx) :
    k0_pay115 qk ck sk z = g16 T (r0_35.emb z) := by
  obtain ⟨n, t, rfl⟩ := z3 z
  rw [p16_64, emb35, hc, hs]
  exact rot64_lo (fun j : Fin 512 => (T t).p ⟨512 + j.val, by omega⟩) (fun j => (T t).c64 j * Ideal.ofBits .f32 0x3E000000#32) (fun j => (T t).s64 j * Ideal.ofBits .f32 0x3E000000#32) 64 (by norm_num) n (⟨64 + n.val, by omega⟩ : Fin 512) (by show 64 + n.val = 64 + n.val; omega)
    (fun j hj => hq ⟨576 + n.val, by omega⟩ t ⟨512 + j.val, by omega⟩ (by show 512 + j.val = 576 + n.val; omega))
    (fun j hj => hq ⟨576 + (32 + n.val), by omega⟩ t ⟨512 + j.val, by omega⟩ (by show 512 + j.val = 576 + (32 + n.val); omega))
theorem o16_32 (ck : FVec Ideal S32x512 .f32) (sk : FVec Ideal S32x512 .f32) (qk : FVec Ideal S1024x512 .f32)
    (hq : ∀ (j : Fin 1024) (t : Fin 512) (i : Fin 4768), i.val = j.val → qk (ix2 j t) = (T t).p i)
    (hc : ∀ j t, ck (ix2 j t) = (T t).c64 j * Ideal.ofBits .f32 0x3E000000#32) (hs : ∀ j t, sk (ix2 j t) = (T t).s64 j * Ideal.ofBits .f32 0x3E000000#32) (z : S1x32x512.Idx) :
    k0_pay113 (k0_pay112 qk ck sk) z = g16 T (r0_34.emb z) := by
  obtain ⟨n, t, rfl⟩ := z3 z
  rw [p16_32, emb34, hc, hs]
  exact rot64_hi (fun j : Fin 512 => (T t).p ⟨512 + j.val, by omega⟩) (fun j => (T t).c64 j * Ideal.ofBits .f32 0x3E000000#32) (fun j => (T t).s64 j * Ideal.ofBits .f32 0x3E000000#32) 0 (by norm_num) n (⟨32 + n.val, by omega⟩ : Fin 512) (by show 32 + n.val = 0 + (32 + n.val); omega)
    (fun j hj => hq ⟨512 + n.val, by omega⟩ t ⟨512 + j.val, by omega⟩ (by show 512 + j.val = 512 + n.val; omega))
    (fun j hj => hq ⟨512 + (32 + n.val), by omega⟩ t ⟨512 + j.val, by omega⟩ (by show 512 + j.val = 512 + (32 + n.val); omega))
theorem o16_0 (ck : FVec Ideal S32x512 .f32) (sk : FVec Ideal S32x512 .f32) (qk : FVec Ideal S1024x512 .f32)
    (hq : ∀ (j : Fin 1024) (t : Fin 512) (i : Fin 4768), i.val = j.val → qk (ix2 j t) = (T t).p i)
    (hc : ∀ j t, ck (ix2 j t) = (T t).c64 j * Ideal.ofBits .f32 0x3E000000#32) (hs : ∀ j t, sk (ix2 j t) = (T t).s64 j * Ideal.ofBits .f32 0x3E000000#32) (z : S1x32x512.Idx) :
    k0_pay111 qk ck sk z = g16 T (r0_33.emb z) := by
  obtain ⟨n, t, rfl⟩ := z3 z
  rw [p16_0, emb33, hc, hs]
  exact rot64_lo (fun j : Fin 512 => (T t).p ⟨512 + j.val, by omega⟩) (fun j => (T t).c64 j * Ideal.ofBits .f32 0x3E000000#32) (fun j => (T t).s64 j * Ideal.ofBits .f32 0x3E000000#32) 0 (by norm_num) n (⟨0 + n.val, by omega⟩ : Fin 512) (by show 0 + n.val = 0 + n.val; omega)
    (fun j hj => hq ⟨512 + n.val, by omega⟩ t ⟨512 + j.val, by omega⟩ (by show 512 + j.val = 512 + n.val; omega))
    (fun j hj => hq ⟨512 + (32 + n.val), by omega⟩ t ⟨512 + j.val, by omega⟩ (by show 512 + j.val = 512 + (32 + n.val); omega))
theorem o20_7 (c32 : FVec Ideal S16x512 .f32) (s32 : FVec Ideal S16x512 .f32) (Q : FVec Ideal S768x512 .f32) (wn : Vec Ideal S64x1 .f32) (wr : Vec Ideal S32x1 .f32)
    (hq : ∀ j t, Q (ix2 j t) = (T t).q j) (hc : ∀ j t, c32 (ix2 j t) = (T t).c32 j) (hs : ∀ j t, s32 (ix2 j t) = (T t).s32 j)
    (hn : ∀ t j, wn (ix2 j 0) = (T t).qn j) (hr : ∀ t j, wr (ix2 j 0) = (T t).qr j) (z : S1x1x128x512.Idx) :
    k0_pay73 c32 s32 (k0_pay20 (F := Ideal)) (k0_pay69 Q wn) (k0_pay70 Q) (k0_pay71 wr) (k0_pay72 Q) (Scalar.ofBits .f32 0x358637BD#32) z = g20 T (r0_27.emb z) := by
  obtain ⟨e, t, rfl⟩ := z4et z
  rw [p20_7, emb27]
  simp only [hq, hc, hs, hn t, hr t]
  rfl
theorem o20_6 (c32 : FVec Ideal S16x512 .f32) (s32 : FVec Ideal S16x512 .f32) (Q : FVec Ideal S768x512 .f32) (wn : Vec Ideal S64x1 .f32) (wr : Vec Ideal S32x1 .f32)
    (hq : ∀ j t, Q (ix2 j t) = (T t).q j) (hc : ∀ j t, c32 (ix2 j t) = (T t).c32 j) (hs : ∀ j t, s32 (ix2 j t) = (T t).s32 j)
    (hn : ∀ t j, wn (ix2 j 0) = (T t).qn j) (hr : ∀ t j, wr (ix2 j 0) = (T t).qr j) (z : S1x1x128x512.Idx) :
    k0_pay62 c32 s32 Q (k0_pay20 (F := Ideal)) (k0_pay58 Q) (k0_pay59 wn) (k0_pay60 Q) (k0_pay61 (F := Ideal)) wr z = g20 T (r0_25.emb z) := by
  obtain ⟨e, t, rfl⟩ := z4et z
  rw [p20_6, emb25]
  simp only [hq, hc, hs, hn t, hr t]
  rfl
theorem o20_5 (c32 : FVec Ideal S16x512 .f32) (s32 : FVec Ideal S16x512 .f32) (Q : FVec Ideal S768x512 .f32) (wn : Vec Ideal S64x1 .f32) (wr : Vec Ideal S32x1 .f32)
    (hq : ∀ j t, Q (ix2 j t) = (T t).q j) (hc : ∀ j t, c32 (ix2 j t) = (T t).c32 j) (hs : ∀ j t, s32 (ix2 j t) = (T t).s32 j)
    (hn : ∀ t j, wn (ix2 j 0) = (T t).qn j) (hr : ∀ t j, wr (ix2 j 0) = (T t).qr j) (z : S1x1x128x512.Idx) :
    k0_pay55 (k0_pay54 c32 s32 Q (k0_pay20 (F := Ideal)) wn wr) z = g20 T (r0_23.emb z) := by
  obtain ⟨e, t, rfl⟩ := z4et z
  rw [p20_5, emb23]
  simp only [hq, hc, hs, hn t, hr t]
  rfl
theorem o20_4 (c32 : FVec Ideal S16x512 .f32) (s32 : FVec Ideal S16x512 .f32) (Q : FVec Ideal S768x512 .f32) (wn : Vec Ideal S64x1 .f32) (wr : Vec Ideal S32x1 .f32)
    (hq : ∀ j t, Q (ix2 j t) = (T t).q j) (hc : ∀ j t, c32 (ix2 j t) = (T t).c32 j) (hs : ∀ j t, s32 (ix2 j t) = (T t).s32 j)
    (hn : ∀ t j, wn (ix2 j 0) = (T t).qn j) (hr : ∀ t j, wr (ix2 j 0) = (T t).qr j) (z : S1x1x128x512.Idx) :
    k0_pay50 c32 s32 (k0_pay20 (F := Ideal)) (k0_pay46 Q wn) (k0_pay47 Q) (k0_pay48 wr) (k0_pay49 Q) z = g20 T (r0_21.emb z) := by
  obtain ⟨e, t, rfl⟩ := z4et z
  rw [p20_4, emb21]
  simp only [hq, hc, hs, hn t, hr t]
  rfl
theorem o20_3 (c32 : FVec Ideal S16x512 .f32) (s32 : FVec Ideal S16x512 .f32) (Q : FVec Ideal S768x512 .f32) (wn : Vec Ideal S64x1 .f32) (wr : Vec Ideal S32x1 .f32)
    (hq : ∀ j t, Q (ix2 j t) = (T t).q j) (hc : ∀ j t, c32 (ix2 j t) = (T t).c32 j) (hs : ∀ j t, s32 (ix2 j t) = (T t).s32 j)
    (hn : ∀ t j, wn (ix2 j 0) = (T t).qn j) (hr : ∀ t j, wr (ix2 j 0) = (T t).qr j) (z : S1x1x128x512.Idx) :
    k0_pay40 c32 s32 Q (k0_pay20 (F := Ideal)) (k0_pay37 Q) (k0_pay38 wn) (k0_pay39 Q) wr z = g20 T (r0_19.emb z) := by
  obtain ⟨e, t, rfl⟩ := z4et z
  rw [p20_3, emb19]
  simp only [hq, hc, hs, hn t, hr t]
  rfl
theorem o20_2 (c32 : FVec Ideal S16x512 .f32) (s32 : FVec Ideal S16x512 .f32) (Q : FVec Ideal S768x512 .f32) (wn : Vec Ideal S64x1 .f32) (wr : Vec Ideal S32x1 .f32)
    (hq : ∀ j t, Q (ix2 j t) = (T t).q j) (hc : ∀ j t, c32 (ix2 j t) = (T t).c32 j) (hs : ∀ j t, s32 (ix2 j t) = (T t).s32 j)
    (hn : ∀ t j, wn (ix2 j 0) = (T t).qn j) (hr : ∀ t j, wr (ix2 j 0) = (T t).qr j) (z : S1x1x128x512.Idx) :
    k0_pay34 (k0_pay33 c32 s32 Q (k0_pay20 (F := Ideal)) wn wr) z = g20 T (r0_17.emb z) := by
  obtain ⟨e, t, rfl⟩ := z4et z
  rw [p20_2, emb17]
  simp only [hq, hc, hs, hn t, hr t]
  rfl
theorem o20_1 (c32 : FVec Ideal S16x512 .f32) (s32 : FVec Ideal S16x512 .f32) (Q : FVec Ideal S768x512 .f32) (wn : Vec Ideal S64x1 .f32) (wr : Vec Ideal S32x1 .f32)
    (hq : ∀ j t, Q (ix2 j t) = (T t).q j) (hc : ∀ j t, c32 (ix2 j t) = (T t).c32 j) (hs : ∀ j t, s32 (ix2 j t) = (T t).s32 j)
    (hn : ∀ t j, wn (ix2 j 0) = (T t).qn j) (hr : ∀ t j, wr (ix2 j 0) = (T t).qr j) (z : S1x1x128x512.Idx) :
    k0_pay29 c32 s32 (k0_pay20 (F := Ideal)) (k0_pay26 Q wn) (k0_pay27 Q) (k0_pay28 wr) z = g20 T (r0_15.emb z) := by
  obtain ⟨e, t, rfl⟩ := z4et z
  rw [p20_1, emb15]
  simp only [hq, hc, hs, hn t, hr t]
  rfl
theorem o20_0 (c32 : FVec Ideal S16x512 .f32) (s32 : FVec Ideal S16x512 .f32) (cq : FVec Ideal S384x512 .bf16) (wq : Vec Ideal S768x384 .bf16) (wn : Vec Ideal S64x1 .f32) (wr : Vec Ideal S32x1 .f32)
    (hq : ∀ j t, k0_pay18 cq wq (ix2 j t) = (T t).q j) (hc : ∀ j t, c32 (ix2 j t) = (T t).c32 j) (hs : ∀ j t, s32 (ix2 j t) = (T t).s32 j)
    (hn : ∀ t j, wn (ix2 j 0) = (T t).qn j) (hr : ∀ t j, wr (ix2 j 0) = (T t).qr j) (z : S1x1x128x512.Idx) :
    k0_pay22 c32 s32 (k0_pay18 cq wq) (k0_pay20 (F := Ideal)) (k0_pay21 cq wq wn) wr z = g20 T (r0_13.emb z) := by
  obtain ⟨e, t, rfl⟩ := z4et z
  rw [p20_0, emb13]
  simp only [hq, hc, hs, hn t, hr t]
  rfl
theorem o21_7 (kr : FVec Ideal S32x512 .f32) (KV : FVec Ideal S1536x512 .f32) (wk : Vec Ideal S64x1 .f32) (hq : ∀ j t, KV (ix2 j t) = (T t).kv j) (hk : ∀ j t, kr (ix2 j t) = (T t).kr j) (hn : ∀ t j, wk (ix2 j 0) = (T t).kn j)
    (z : S1x1x512x128.Idx) : k0_pay74 kr KV (k0_pay20 (F := Ideal)) wk z = g21 T (r0_28.emb z) := by
  obtain ⟨e, t, rfl⟩ := z4te z
  rw [p21_7, emb28]
  simp only [hq, hk, hn t]
  rfl
theorem o21_6 (kr : FVec Ideal S32x512 .f32) (KV : FVec Ideal S1536x512 .f32) (wk : Vec Ideal S64x1 .f32) (hq : ∀ j t, KV (ix2 j t) = (T t).kv j) (hk : ∀ j t, kr (ix2 j t) = (T t).kr j) (hn : ∀ t j, wk (ix2 j 0) = (T t).kn j)
    (z : S1x1x512x128.Idx) : k0_pay67 kr (k0_pay20 (F := Ideal)) (k0_pay63 KV) (k0_pay64 wk) (k0_pay65 KV) (k0_pay66 (F := Ideal)) z = g21 T (r0_26.emb z) := by
  obtain ⟨e, t, rfl⟩ := z4te z
  rw [p21_6, emb26]
  simp only [hq, hk, hn t]
  rfl
theorem o21_5 (kr : FVec Ideal S32x512 .f32) (KV : FVec Ideal S1536x512 .f32) (wk : Vec Ideal S64x1 .f32) (hq : ∀ j t, KV (ix2 j t) = (T t).kv j) (hk : ∀ j t, kr (ix2 j t) = (T t).kr j) (hn : ∀ t j, wk (ix2 j 0) = (T t).kn j)
    (z : S1x1x512x128.Idx) : k0_pay56 kr KV (k0_pay20 (F := Ideal)) wk z = g21 T (r0_24.emb z) := by
  obtain ⟨e, t, rfl⟩ := z4te z
  rw [p21_5, emb24]
  simp only [hq, hk, hn t]
  rfl
theorem o21_4 (kr : FVec Ideal S32x512 .f32) (KV : FVec Ideal S1536x512 .f32) (wk : Vec Ideal S64x1 .f32) (hq : ∀ j t, KV (ix2 j t) = (T t).kv j) (hk : ∀ j t, kr (ix2 j t) = (T t).kr j) (hn : ∀ t j, wk (ix2 j 0) = (T t).kn j)
    (z : S1x1x512x128.Idx) : k0_pay51 kr KV (k0_pay20 (F := Ideal)) wk z = g21 T (r0_22.emb z) := by
  obtain ⟨e, t, rfl⟩ := z4te z
  rw [p21_4, emb22]
  simp only [hq, hk, hn t]
  rfl
theorem o21_3 (kr : FVec Ideal S32x512 .f32) (KV : FVec Ideal S1536x512 .f32) (wk : Vec Ideal S64x1 .f32) (hq : ∀ j t, KV (ix2 j t) = (T t).kv j) (hk : ∀ j t, kr (ix2 j t) = (T t).kr j) (hn : ∀ t j, wk (ix2 j 0) = (T t).kn j)
    (z : S1x1x512x128.Idx) : k0_pay44 kr (k0_pay20 (F := Ideal)) (k0_pay41 KV) (k0_pay42 wk) (k0_pay43 KV) z = g21 T (r0_20.emb z) := by
  obtain ⟨e, t, rfl⟩ := z4te z
  rw [p21_3, emb20]
  simp only [hq, hk, hn t]
  rfl
theorem o21_2 (kr : FVec Ideal S32x512 .f32) (KV : FVec Ideal S1536x512 .f32) (wk : Vec Ideal S64x1 .f32) (hq : ∀ j t, KV (ix2 j t) = (T t).kv j) (hk : ∀ j t, kr (ix2 j t) = (T t).kr j) (hn : ∀ t j, wk (ix2 j 0) = (T t).kn j)
    (z : S1x1x512x128.Idx) : k0_pay35 kr KV (k0_pay20 (F := Ideal)) wk z = g21 T (r0_18.emb z) := by
  obtain ⟨e, t, rfl⟩ := z4te z
  rw [p21_2, emb18]
  simp only [hq, hk, hn t]
  rfl
theorem o21_1 (kr : FVec Ideal S32x512 .f32) (KV : FVec Ideal S1536x512 .f32) (wk : Vec Ideal S64x1 .f32) (hq : ∀ j t, KV (ix2 j t) = (T t).kv j) (hk : ∀ j t, kr (ix2 j t) = (T t).kr j) (hn : ∀ t j, wk (ix2 j 0) = (T t).kn j)
    (z : S1x1x512x128.Idx) : k0_pay30 kr KV (k0_pay20 (F := Ideal)) wk z = g21 T (r0_16.emb z) := by
  obtain ⟨e, t, rfl⟩ := z4te z
  rw [p21_1, emb16]
  simp only [hq, hk, hn t]
  rfl
theorem o21_0 (kr : FVec Ideal S32x512 .f32) (KV : FVec Ideal S1536x512 .f32) (wk : Vec Ideal S64x1 .f32) (hq : ∀ j t, KV (ix2 j t) = (T t).kv j) (hk : ∀ j t, kr (ix2 j t) = (T t).kr j) (hn : ∀ t j, wk (ix2 j 0) = (T t).kn j)
    (z : S1x1x512x128.Idx) : k0_pay24 kr (k0_pay20 (F := Ideal)) (k0_pay23 KV wk) z = g21 T (r0_14.emb z) := by
  obtain ⟨e, t, rfl⟩ := z4te z
  rw [p21_0, emb14]
  simp only [hq, hk, hn t]
  rfl
theorem o22_7 (KV : FVec Ideal S1536x512 .f32) (hq : ∀ j t, KV (ix2 j t) = (T t).kv j) (z : S1x1x128x512.Idx) : k0_pay76 (k0_pay75 KV) z = g22 T (r0_27.emb z) := by
  obtain ⟨e, t, rfl⟩ := z4et z
  rw [p22_7, emb27]
  exact hq _ t
theorem o22_6 (KV : FVec Ideal S1536x512 .f32) (hq : ∀ j t, KV (ix2 j t) = (T t).kv j) (z : S1x1x128x512.Idx) : k0_pay68 KV z = g22 T (r0_25.emb z) := by
  obtain ⟨e, t, rfl⟩ := z4et z
  rw [p22_6, emb25]
  exact hq _ t
theorem o22_5 (KV : FVec Ideal S1536x512 .f32) (hq : ∀ j t, KV (ix2 j t) = (T t).kv j) (z : S1x1x128x512.Idx) : k0_pay57 KV z = g22 T (r0_23.emb z) := by
  obtain ⟨e, t, rfl⟩ := z4et z
  rw [p22_5, emb23]
  exact hq _ t
theorem o22_4 (KV : FVec Ideal S1536x512 .f32) (hq : ∀ j t, KV (ix2 j t) = (T t).kv j) (z : S1x1x128x512.Idx) : k0_pay53 (k0_pay52 KV) z = g22 T (r0_21.emb z) := by
  obtain ⟨e, t, rfl⟩ := z4et z
  rw [p22_4, emb21]
  exact hq _ t
theorem o22_3 (KV : FVec Ideal S1536x512 .f32) (hq : ∀ j t, KV (ix2 j t) = (T t).kv j) (z : S1x1x128x512.Idx) : k0_pay45 KV z = g22 T (r0_19.emb z) := by
  obtain ⟨e, t, rfl⟩ := z4et z
  rw [p22_3, emb19]
  exact hq _ t
theorem o22_2 (KV : FVec Ideal S1536x512 .f32) (hq : ∀ j t, KV (ix2 j t) = (T t).kv j) (z : S1x1x128x512.Idx) : k0_pay36 KV z = g22 T (r0_17.emb z) := by
  obtain ⟨e, t, rfl⟩ := z4et z
  rw [p22_2, emb17]
  exact hq _ t
theorem o22_1 (KV : FVec Ideal S1536x512 .f32) (hq : ∀ j t, KV (ix2 j t) = (T t).kv j) (z : S1x1x128x512.Idx) : k0_pay32 (k0_pay31 KV) z = g22 T (r0_15.emb z) := by
  obtain ⟨e, t, rfl⟩ := z4et z
  rw [p22_1, emb15]
  exact hq _ t
theorem o22_0 (KV : FVec Ideal S1536x512 .f32) (hq : ∀ j t, KV (ix2 j t) = (T t).kv j) (z : S1x1x128x512.Idx) : k0_pay25 KV z = g22 T (r0_13.emb z) := by
  obtain ⟨e, t, rfl⟩ := z4et z
  rw [p22_0, emb13]
  exact hq _ t
end

/-! ## The buffers -/

variable (x0 : Vec Ideal S1x512x1024 .f32) (x1 : Vec Ideal S1x1x512 .i32) (x2 : Vec Ideal S1x3x1024 .f32) (x3 : Vec Ideal S1x1024 .f32) (x4 : Vec Ideal S4768x1024 .bf16) (x5 : Vec Ideal S32x1 .f32) (x6 : Vec Ideal S16x1 .f32) (x7 : Vec Ideal S384x1 .f32) (x8 : Vec Ideal S256x1 .f32) (x9 : Vec Ideal S32x1 .f32) (x10 : Vec Ideal S768x384 .bf16) (x11 : Vec Ideal S1536x256 .bf16) (x12 : Vec Ideal S64x1 .f32) (x13 : Vec Ideal S32x1 .f32) (x14 : Vec Ideal S64x1 .f32)

theorem out15_at (y : S1x512x512.Idx) : out0_15 x0 x1 x2 x3 x4 x5 x6 x7 x8 x9 x10 x11 x12 x13 x14 y = g15 (tokOf x0 x1 x2 x3 x4 x5 x6 x7 x8 x9 x10 x11 x12 x13 x14) y := by
  unfold out0_15
  have hq : ∀ (j : Fin 1024) (t : Fin 512) (i : Fin 4768), i.val = j.val → k0_pay150 x0 x1 x2 x3 x4 x5 x6 x7 x8 x9 x10 x11 x12 x13 x14 (ix2 j t) = (tokOf x0 x1 x2 x3 x4 x5 x6 x7 x8 x9 x10 x11 x12 x13 x14 t).p i := fun j t i hi => (h150 x0 x1 x2 x3 x4 x5 x6 x7 x8 x9 x10 x11 x12 x13 x14 j t).trans (congrArg (tokOf x0 x1 x2 x3 x4 x5 x6 x7 x8 x9 x10 x11 x12 x13 x14 t).p (Fin.ext hi.symm))
  refine View.canon_apply_of_pieces (Val := Elt Ideal) (g15 (tokOf x0 x1 x2 x3 x4 x5 x6 x7 x8 x9 x10 x11 x12 x13 x14)) _ ?_ y (cover0_15 _ _ _ _ _ _ _ _ _ _ _ _ _ _ _ _ y)
  intro p hp
  simp only [List.mem_cons, List.not_mem_nil, or_false] at hp
  rcases hp with rfl | rfl | rfl | rfl | rfl | rfl | rfl | rfl | rfl | rfl | rfl | rfl | rfl | rfl | rfl | rfl
  · exact o15_480 _ _ _ _ hq (h141 x0 x1 x2 x3 x4 x5 x6 x7 x8 x9 x10 x11 x12 x13 x14) (h142 x0 x1 x2 x3 x4 x5 x6 x7 x8 x9 x10 x11 x12 x13 x14)
  · exact o15_448 _ _ _ _ hq (h141 x0 x1 x2 x3 x4 x5 x6 x7 x8 x9 x10 x11 x12 x13 x14) (h142 x0 x1 x2 x3 x4 x5 x6 x7 x8 x9 x10 x11 x12 x13 x14)
  · exact o15_416 _ _ _ _ hq (h141 x0 x1 x2 x3 x4 x5 x6 x7 x8 x9 x10 x11 x12 x13 x14) (h142 x0 x1 x2 x3 x4 x5 x6 x7 x8 x9 x10 x11 x12 x13 x14)
  · exact o15_384 _ _ _ _ hq (h141 x0 x1 x2 x3 x4 x5 x6 x7 x8 x9 x10 x11 x12 x13 x14) (h142 x0 x1 x2 x3 x4 x5 x6 x7 x8 x9 x10 x11 x12 x13 x14)
  · exact o15_352 _ _ _ _ hq (h141 x0 x1 x2 x3 x4 x5 x6 x7 x8 x9 x10 x11 x12 x13 x14) (h142 x0 x1 x2 x3 x4 x5 x6 x7 x8 x9 x10 x11 x12 x13 x14)
  · exact o15_320 _ _ _ _ hq (h141 x0 x1 x2 x3 x4 x5 x6 x7 x8 x9 x10 x11 x12 x13 x14) (h142 x0 x1 x2 x3 x4 x5 x6 x7 x8 x9 x10 x11 x12 x13 x14)
  · exact o15_288 _ _ _ _ hq (h141 x0 x1 x2 x3 x4 x5 x6 x7 x8 x9 x10 x11 x12 x13 x14) (h142 x0 x1 x2 x3 x4 x5 x6 x7 x8 x9 x10 x11 x12 x13 x14)
  · exact o15_256 _ _ _ _ hq (h141 x0 x1 x2 x3 x4 x5 x6 x7 x8 x9 x10 x11 x12 x13 x14) (h142 x0 x1 x2 x3 x4 x5 x6 x7 x8 x9 x10 x11 x12 x13 x14)
  · exact o15_224 _ _ _ _ hq (h141 x0 x1 x2 x3 x4 x5 x6 x7 x8 x9 x10 x11 x12 x13 x14) (h142 x0 x1 x2 x3 x4 x5 x6 x7 x8 x9 x10 x11 x12 x13 x14)
  · exact o15_192 _ _ _ _ hq (h141 x0 x1 x2 x3 x4 x5 x6 x7 x8 x9 x10 x11 x12 x13 x14) (h142 x0 x1 x2 x3 x4 x5 x6 x7 x8 x9 x10 x11 x12 x13 x14)
  · exact o15_160 _ _ _ _ hq (h141 x0 x1 x2 x3 x4 x5 x6 x7 x8 x9 x10 x11 x12 x13 x14) (h142 x0 x1 x2 x3 x4 x5 x6 x7 x8 x9 x10 x11 x12 x13 x14)
  · exact o15_128 _ _ _ _ hq (h141 x0 x1 x2 x3 x4 x5 x6 x7 x8 x9 x10 x11 x12 x13 x14) (h142 x0 x1 x2 x3 x4 x5 x6 x7 x8 x9 x10 x11 x12 x13 x14)
  · exact o15_96 _ _ _ _ hq (h141 x0 x1 x2 x3 x4 x5 x6 x7 x8 x9 x10 x11 x12 x13 x14) (h142 x0 x1 x2 x3 x4 x5 x6 x7 x8 x9 x10 x11 x12 x13 x14)
  · exact o15_64 _ _ _ _ hq (h141 x0 x1 x2 x3 x4 x5 x6 x7 x8 x9 x10 x11 x12 x13 x14) (h142 x0 x1 x2 x3 x4 x5 x6 x7 x8 x9 x10 x11 x12 x13 x14)
  · exact o15_32 _ _ _ _ hq (h141 x0 x1 x2 x3 x4 x5 x6 x7 x8 x9 x10 x11 x12 x13 x14) (h142 x0 x1 x2 x3 x4 x5 x6 x7 x8 x9 x10 x11 x12 x13 x14)
  · exact o15_0 _ _ _ _ hq (h141 x0 x1 x2 x3 x4 x5 x6 x7 x8 x9 x10 x11 x12 x13 x14) (h142 x0 x1 x2 x3 x4 x5 x6 x7 x8 x9 x10 x11 x12 x13 x14)

theorem out16_at (y : S1x512x512.Idx) : out0_16 x0 x1 x2 x3 x4 x5 x6 x7 x8 x9 x10 x11 x12 x13 x14 y = g16 (tokOf x0 x1 x2 x3 x4 x5 x6 x7 x8 x9 x10 x11 x12 x13 x14) y := by
  unfold out0_16
  have hq : ∀ (j : Fin 1024) (t : Fin 512) (i : Fin 4768), i.val = j.val → k0_pay150 x0 x1 x2 x3 x4 x5 x6 x7 x8 x9 x10 x11 x12 x13 x14 (ix2 j t) = (tokOf x0 x1 x2 x3 x4 x5 x6 x7 x8 x9 x10 x11 x12 x13 x14 t).p i := fun j t i hi => (h150 x0 x1 x2 x3 x4 x5 x6 x7 x8 x9 x10 x11 x12 x13 x14 j t).trans (congrArg (tokOf x0 x1 x2 x3 x4 x5 x6 x7 x8 x9 x10 x11 x12 x13 x14 t).p (Fin.ext hi.symm))
  unfold k0_pay153
  refine View.canon_apply_of_pieces (Val := Elt Ideal) (g16 (tokOf x0 x1 x2 x3 x4 x5 x6 x7 x8 x9 x10 x11 x12 x13 x14)) _ ?_ y (cover0_16 _ _ _ _ _ _ _ _ _ _ _ _ _ _ _ _ y)
  intro p hp
  simp only [List.mem_cons, List.not_mem_nil, or_false] at hp
  rcases hp with rfl | rfl | rfl | rfl | rfl | rfl | rfl | rfl | rfl | rfl | rfl | rfl | rfl | rfl | rfl | rfl
  · exact o16_480 _ _ _ _ hq (h151 x0 x1 x2 x3 x4 x5 x6 x7 x8 x9 x10 x11 x12 x13 x14) (h152 x0 x1 x2 x3 x4 x5 x6 x7 x8 x9 x10 x11 x12 x13 x14)
  · exact o16_448 _ _ _ _ hq (h151 x0 x1 x2 x3 x4 x5 x6 x7 x8 x9 x10 x11 x12 x13 x14) (h152 x0 x1 x2 x3 x4 x5 x6 x7 x8 x9 x10 x11 x12 x13 x14)
  · exact o16_416 _ _ _ _ hq (h151 x0 x1 x2 x3 x4 x5 x6 x7 x8 x9 x10 x11 x12 x13 x14) (h152 x0 x1 x2 x3 x4 x5 x6 x7 x8 x9 x10 x11 x12 x13 x14)
  · exact o16_384 _ _ _ _ hq (h151 x0 x1 x2 x3 x4 x5 x6 x7 x8 x9 x10 x11 x12 x13 x14) (h152 x0 x1 x2 x3 x4 x5 x6 x7 x8 x9 x10 x11 x12 x13 x14)
  · exact o16_352 _ _ _ _ hq (h151 x0 x1 x2 x3 x4 x5 x6 x7 x8 x9 x10 x11 x12 x13 x14) (h152 x0 x1 x2 x3 x4 x5 x6 x7 x8 x9 x10 x11 x12 x13 x14)
  · exact o16_320 _ _ _ _ hq (h151 x0 x1 x2 x3 x4 x5 x6 x7 x8 x9 x10 x11 x12 x13 x14) (h152 x0 x1 x2 x3 x4 x5 x6 x7 x8 x9 x10 x11 x12 x13 x14)
  · exact o16_288 _ _ _ _ hq (h151 x0 x1 x2 x3 x4 x5 x6 x7 x8 x9 x10 x11 x12 x13 x14) (h152 x0 x1 x2 x3 x4 x5 x6 x7 x8 x9 x10 x11 x12 x13 x14)
  · exact o16_256 _ _ _ _ hq (h151 x0 x1 x2 x3 x4 x5 x6 x7 x8 x9 x10 x11 x12 x13 x14) (h152 x0 x1 x2 x3 x4 x5 x6 x7 x8 x9 x10 x11 x12 x13 x14)
  · exact o16_224 _ _ _ _ hq (h151 x0 x1 x2 x3 x4 x5 x6 x7 x8 x9 x10 x11 x12 x13 x14) (h152 x0 x1 x2 x3 x4 x5 x6 x7 x8 x9 x10 x11 x12 x13 x14)
  · exact o16_192 _ _ _ _ hq (h151 x0 x1 x2 x3 x4 x5 x6 x7 x8 x9 x10 x11 x12 x13 x14) (h152 x0 x1 x2 x3 x4 x5 x6 x7 x8 x9 x10 x11 x12 x13 x14)
  · exact o16_160 _ _ _ _ hq (h151 x0 x1 x2 x3 x4 x5 x6 x7 x8 x9 x10 x11 x12 x13 x14) (h152 x0 x1 x2 x3 x4 x5 x6 x7 x8 x9 x10 x11 x12 x13 x14)
  · exact o16_128 _ _ _ _ hq (h151 x0 x1 x2 x3 x4 x5 x6 x7 x8 x9 x10 x11 x12 x13 x14) (h152 x0 x1 x2 x3 x4 x5 x6 x7 x8 x9 x10 x11 x12 x13 x14)
  · exact o16_96 _ _ _ _ hq (h151 x0 x1 x2 x3 x4 x5 x6 x7 x8 x9 x10 x11 x12 x13 x14) (h152 x0 x1 x2 x3 x4 x5 x6 x7 x8 x9 x10 x11 x12 x13 x14)
  · exact o16_64 _ _ _ _ hq (h151 x0 x1 x2 x3 x4 x5 x6 x7 x8 x9 x10 x11 x12 x13 x14) (h152 x0 x1 x2 x3 x4 x5 x6 x7 x8 x9 x10 x11 x12 x13 x14)
  · exact o16_32 _ _ _ _ hq (h151 x0 x1 x2 x3 x4 x5 x6 x7 x8 x9 x10 x11 x12 x13 x14) (h152 x0 x1 x2 x3 x4 x5 x6 x7 x8 x9 x10 x11 x12 x13 x14)
  · exact o16_0 _ _ _ _ hq (h151 x0 x1 x2 x3 x4 x5 x6 x7 x8 x9 x10 x11 x12 x13 x14) (h152 x0 x1 x2 x3 x4 x5 x6 x7 x8 x9 x10 x11 x12 x13 x14)

theorem out17_at (y : S1x1024x512.Idx) : out0_17 x0 x1 x2 x3 x4 x5 x6 x7 x8 x9 x10 x11 x12 x13 x14 y = g17 (tokOf x0 x1 x2 x3 x4 x5 x6 x7 x8 x9 x10 x11 x12 x13 x14) y := by
  unfold out0_17
  refine View.canon_apply_of_pieces (Val := Elt Ideal) (g17 (tokOf x0 x1 x2 x3 x4 x5 x6 x7 x8 x9 x10 x11 x12 x13 x14)) _ ?_ y (cover0_17 _ y)
  intro p hp z
  simp only [List.mem_cons, List.not_mem_nil, or_false] at hp
  obtain rfl := hp
  obtain ⟨n, t, rfl⟩ := z3' z
  refine (rv_at _ _ n t).trans (Eq.trans ?_ (congrArg (g17 (tokOf x0 x1 x2 x3 x4 x5 x6 x7 x8 x9 x10 x11 x12 x13 x14)) (emb30 n t)).symm)
  exact lin_congr (fun k => rows49 x4 _ k _ rfl) (fun k => h139 x0 x1 x2 x3 x4 x5 x6 x7 x8 x9 x10 x11 x12 x13 x14 t k)

theorem out20_at (y : S1x8x128x512.Idx) : out0_20 x0 x1 x2 x3 x4 x5 x6 x7 x8 x9 x10 x11 x12 x13 x14 y = g20 (tokOf x0 x1 x2 x3 x4 x5 x6 x7 x8 x9 x10 x11 x12 x13 x14) y := by
  unfold out0_20
  rw [whole12, whole5]
  unfold k0_pay149
  refine View.canon_apply_of_pieces (Val := Elt Ideal) (g20 (tokOf x0 x1 x2 x3 x4 x5 x6 x7 x8 x9 x10 x11 x12 x13 x14)) _ ?_ y (cover0_20 _ _ _ _ _ _ _ _ y)
  intro p hp
  simp only [List.mem_cons, List.not_mem_nil, or_false] at hp
  rcases hp with rfl | rfl | rfl | rfl | rfl | rfl | rfl | rfl
  · exact o20_7 _ _ _ _ _ _ (h147 x0 x1 x2 x3 x4 x5 x6 x7 x8 x9 x10 x11 x12 x13 x14) (h143 x0 x1 x2 x3 x4 x5 x6 x7 x8 x9 x10 x11 x12 x13 x14) (h144 x0 x1 x2 x3 x4 x5 x6 x7 x8 x9 x10 x11 x12 x13 x14) (fun _ _ => rfl) (fun _ _ => rfl)
  · exact o20_6 _ _ _ _ _ _ (h147 x0 x1 x2 x3 x4 x5 x6 x7 x8 x9 x10 x11 x12 x13 x14) (h143 x0 x1 x2 x3 x4 x5 x6 x7 x8 x9 x10 x11 x12 x13 x14) (h144 x0 x1 x2 x3 x4 x5 x6 x7 x8 x9 x10 x11 x12 x13 x14) (fun _ _ => rfl) (fun _ _ => rfl)
  · exact o20_5 _ _ _ _ _ _ (h147 x0 x1 x2 x3 x4 x5 x6 x7 x8 x9 x10 x11 x12 x13 x14) (h143 x0 x1 x2 x3 x4 x5 x6 x7 x8 x9 x10 x11 x12 x13 x14) (h144 x0 x1 x2 x3 x4 x5 x6 x7 x8 x9 x10 x11 x12 x13 x14) (fun _ _ => rfl) (fun _ _ => rfl)
  · exact o20_4 _ _ _ _ _ _ (h147 x0 x1 x2 x3 x4 x5 x6 x7 x8 x9 x10 x11 x12 x13 x14) (h143 x0 x1 x2 x3 x4 x5 x6 x7 x8 x9 x10 x11 x12 x13 x14) (h144 x0 x1 x2 x3 x4 x5 x6 x7 x8 x9 x10 x11 x12 x13 x14) (fun _ _ => rfl) (fun _ _ => rfl)
  · exact o20_3 _ _ _ _ _ _ (h147 x0 x1 x2 x3 x4 x5 x6 x7 x8 x9 x10 x11 x12 x13 x14) (h143 x0 x1 x2 x3 x4 x5 x6 x7 x8 x9 x10 x11 x12 x13 x14) (h144 x0 x1 x2 x3 x4 x5 x6 x7 x8 x9 x10 x11 x12 x13 x14) (fun _ _ => rfl) (fun _ _ => rfl)
  · exact o20_2 _ _ _ _ _ _ (h147 x0 x1 x2 x3 x4 x5 x6 x7 x8 x9 x10 x11 x12 x13 x14) (h143 x0 x1 x2 x3 x4 x5 x6 x7 x8 x9 x10 x11 x12 x13 x14) (h144 x0 x1 x2 x3 x4 x5 x6 x7 x8 x9 x10 x11 x12 x13 x14) (fun _ _ => rfl) (fun _ _ => rfl)
  · exact o20_1 _ _ _ _ _ _ (h147 x0 x1 x2 x3 x4 x5 x6 x7 x8 x9 x10 x11 x12 x13 x14) (h143 x0 x1 x2 x3 x4 x5 x6 x7 x8 x9 x10 x11 x12 x13 x14) (h144 x0 x1 x2 x3 x4 x5 x6 x7 x8 x9 x10 x11 x12 x13 x14) (fun _ _ => rfl) (fun _ _ => rfl)
  · exact o20_0 _ _ _ _ _ _ _ (h147 x0 x1 x2 x3 x4 x5 x6 x7 x8 x9 x10 x11 x12 x13 x14) (h143 x0 x1 x2 x3 x4 x5 x6 x7 x8 x9 x10 x11 x12 x13 x14) (h144 x0 x1 x2 x3 x4 x5 x6 x7 x8 x9 x10 x11 x12 x13 x14) (fun _ _ => rfl) (fun _ _ => rfl)

theorem out21_at (y : S1x8x512x128.Idx) : out0_21 x0 x1 x2 x3 x4 x5 x6 x7 x8 x9 x10 x11 x12 x13 x14 y = g21 (tokOf x0 x1 x2 x3 x4 x5 x6 x7 x8 x9 x10 x11 x12 x13 x14) y := by
  unfold out0_21
  rw [whole12]
  unfold k0_pay149
  refine View.canon_apply_of_pieces (Val := Elt Ideal) (g21 (tokOf x0 x1 x2 x3 x4 x5 x6 x7 x8 x9 x10 x11 x12 x13 x14)) _ ?_ y (cover0_21 _ _ _ _ _ _ _ _ y)
  intro p hp
  simp only [List.mem_cons, List.not_mem_nil, or_false] at hp
  rcases hp with rfl | rfl | rfl | rfl | rfl | rfl | rfl | rfl
  · exact o21_7 _ _ _ _ (h148 x0 x1 x2 x3 x4 x5 x6 x7 x8 x9 x10 x11 x12 x13 x14) (h146 x0 x1 x2 x3 x4 x5 x6 x7 x8 x9 x10 x11 x12 x13 x14) (fun _ _ => rfl)
  · exact o21_6 _ _ _ _ (h148 x0 x1 x2 x3 x4 x5 x6 x7 x8 x9 x10 x11 x12 x13 x14) (h146 x0 x1 x2 x3 x4 x5 x6 x7 x8 x9 x10 x11 x12 x13 x14) (fun _ _ => rfl)
  · exact o21_5 _ _ _ _ (h148 x0 x1 x2 x3 x4 x5 x6 x7 x8 x9 x10 x11 x12 x13 x14) (h146 x0 x1 x2 x3 x4 x5 x6 x7 x8 x9 x10 x11 x12 x13 x14) (fun _ _ => rfl)
  · exact o21_4 _ _ _ _ (h148 x0 x1 x2 x3 x4 x5 x6 x7 x8 x9 x10 x11 x12 x13 x14) (h146 x0 x1 x2 x3 x4 x5 x6 x7 x8 x9 x10 x11 x12 x13 x14) (fun _ _ => rfl)
  · exact o21_3 _ _ _ _ (h148 x0 x1 x2 x3 x4 x5 x6 x7 x8 x9 x10 x11 x12 x13 x14) (h146 x0 x1 x2 x3 x4 x5 x6 x7 x8 x9 x10 x11 x12 x13 x14) (fun _ _ => rfl)
  · exact o21_2 _ _ _ _ (h148 x0 x1 x2 x3 x4 x5 x6 x7 x8 x9 x10 x11 x12 x13 x14) (h146 x0 x1 x2 x3 x4 x5 x6 x7 x8 x9 x10 x11 x12 x13 x14) (fun _ _ => rfl)
  · exact o21_1 _ _ _ _ (h148 x0 x1 x2 x3 x4 x5 x6 x7 x8 x9 x10 x11 x12 x13 x14) (h146 x0 x1 x2 x3 x4 x5 x6 x7 x8 x9 x10 x11 x12 x13 x14) (fun _ _ => rfl)
  · exact o21_0 _ _ _ _ (h148 x0 x1 x2 x3 x4 x5 x6 x7 x8 x9 x10 x11 x12 x13 x14) (h146 x0 x1 x2 x3 x4 x5 x6 x7 x8 x9 x10 x11 x12 x13 x14) (fun _ _ => rfl)

theorem out22_at (y : S1x8x128x512.Idx) : out0_22 x0 x1 x2 x3 x4 x5 x6 x7 x8 x9 x10 x11 x12 x13 x14 y = g22 (tokOf x0 x1 x2 x3 x4 x5 x6 x7 x8 x9 x10 x11 x12 x13 x14) y := by
  unfold out0_22
  refine View.canon_apply_of_pieces (Val := Elt Ideal) (g22 (tokOf x0 x1 x2 x3 x4 x5 x6 x7 x8 x9 x10 x11 x12 x13 x14)) _ ?_ y (cover0_22 _ _ _ _ _ _ _ _ y)
  intro p hp
  simp only [List.mem_cons, List.not_mem_nil, or_false] at hp
  rcases hp with rfl | rfl | rfl | rfl | rfl | rfl | rfl | rfl
  · exact o22_7 _ _ (h148 x0 x1 x2 x3 x4 x5 x6 x7 x8 x9 x10 x11 x12 x13 x14)
  · exact o22_6 _ _ (h148 x0 x1 x2 x3 x4 x5 x6 x7 x8 x9 x10 x11 x12 x13 x14)
  · exact o22_5 _ _ (h148 x0 x1 x2 x3 x4 x5 x6 x7 x8 x9 x10 x11 x12 x13 x14)
  · exact o22_4 _ _ (h148 x0 x1 x2 x3 x4 x5 x6 x7 x8 x9 x10 x11 x12 x13 x14)
  · exact o22_3 _ _ (h148 x0 x1 x2 x3 x4 x5 x6 x7 x8 x9 x10 x11 x12 x13 x14)
  · exact o22_2 _ _ (h148 x0 x1 x2 x3 x4 x5 x6 x7 x8 x9 x10 x11 x12 x13 x14)
  · exact o22_1 _ _ (h148 x0 x1 x2 x3 x4 x5 x6 x7 x8 x9 x10 x11 x12 x13 x14)
  · exact o22_0 _ _ (h148 x0 x1 x2 x3 x4 x5 x6 x7 x8 x9 x10 x11 x12 x13 x14)

end Cert.Kernel3Ideal.In

end
-- ==== Proof.InWhole.lean ====
/- The input projection's six result arrays at the end of the run, as functions of the arguments. -/
module

public import proofs.«01_k».proof.Proof.Gen.Kernel3Ideal.Value
public import proofs.«01_k».proof.Proof.InVal
public import Idealize.ShloMosaic.Lib.Claim

@[expose] public section

set_option maxRecDepth 16384

noncomputable section

namespace Cert.Kernel3Ideal.In

open Idealize.ShloMosaic Idealize.ShloMosaic.TcCoe Idealize.ShloMosaic.StableHlo
open Idealize.SL.Sem
open Idealize.ShloMosaic.Pipeline (Dat)
open Cert.Kernel3Ideal Cert.Kernel3Ideal.Gen Cert.In

/-! ## The arrays the host prepares -/

/-- The rotary frequencies, 32 and 16 of them. -/
def freq64 : FVec Ideal S32 .f32 :=
  Host.powf (broadcastInDim S32 ![] bcast_S_S32 (constant (F := Ideal) S_ .f32 0x461C4000#32))
    (Host.divf (Host.negf (addf (broadcastInDim S32 ![] bcast_S_S32 (constant (F := Ideal) S_ .f32 0x00000000#32))
      (mulf (broadcastInDim S32 ![] bcast_S_S32 (constant (F := Ideal) S_ .f32 0x40000000#32)) (sitofp .f32 (iotaInDim S32 32 0)))))
      (broadcastInDim S32 ![] bcast_S_S32 (constant (F := Ideal) S_ .f32 0x42800000#32)))
def freq32 : FVec Ideal S16 .f32 :=
  Host.powf (broadcastInDim S16 ![] bcast_S_S16 (constant (F := Ideal) S_ .f32 0x461C4000#32))
    (Host.divf (Host.negf (addf (broadcastInDim S16 ![] bcast_S_S16 (constant (F := Ideal) S_ .f32 0x00000000#32))
      (mulf (broadcastInDim S16 ![] bcast_S_S16 (constant (F := Ideal) S_ .f32 0x40000000#32)) (sitofp .f32 (iotaInDim S16 32 0)))))
      (broadcastInDim S16 ![] bcast_S_S16 (constant (F := Ideal) S_ .f32 0x42000000#32)))

def wIn (x : FVec Ideal S1024x4768 .f32) : FVec Ideal S4768x1024 .bf16 :=
  truncf .bf16 (transpose S4768x1024 [1, 0] x transposes_S1024x4768_S4768x1024_1_0) bitsLt_bf16_f32
def wQ (x : FVec Ideal S384x768 .f32) : FVec Ideal S768x384 .bf16 :=
  truncf .bf16 (transpose S768x384 [1, 0] x transposes_S384x768_S768x384_1_0) bitsLt_bf16_f32
def wKV (x : FVec Ideal S256x1536 .f32) : FVec Ideal S1536x256 .bf16 :=
  truncf .bf16 (transpose S1536x256 [1, 0] x transposes_S256x1536_S1536x256_1_0) bitsLt_bf16_f32
def mod3 (x : FVec Ideal S4x3072 .f32) : FVec Ideal S4x3x1024 .f32 :=
  shapeCast S4x3x1024 x shapeCasts_S4x3072_S4x3x1024
def pos3 (x : IVec S4x8192 32) : IVec S4x1x8192 32 :=
  shapeCast S4x1x8192 x shapeCasts_S4x8192_S4x1x8192
def col384 (x : FVec Ideal S384 .f32) : FVec Ideal S384x1 .f32 :=
  shapeCast S384x1 x shapeCasts_S384_S384x1
def col256 (x : FVec Ideal S256 .f32) : FVec Ideal S256x1 .f32 :=
  shapeCast S256x1 x shapeCasts_S256_S256x1
def col64 (x : FVec Ideal S64 .f32) : FVec Ideal S64x1 .f32 :=
  shapeCast S64x1 x shapeCasts_S64_S64x1
def col32 (x : FVec Ideal S32 .f32) : FVec Ideal S32x1 .f32 :=
  shapeCast S32x1 x shapeCasts_S32_S32x1
def col16 (x : FVec Ideal S16 .f32) : FVec Ideal S16x1 .f32 :=
  shapeCast S16x1 x shapeCasts_S16_S16x1
def nrow (x : FVec Ideal S1024 .f32) : FVec Ideal S1x1024 .f32 :=
  shapeCast S1x1024 x shapeCasts_S1024_S1x1024

section
variable (m : (ℓ : Loc nD τ sig) → Buf (Elt Ideal) ℓ) (c : Dev nD)

/-- The arguments, in their order. -/
abbrev a0 : FVec Ideal S4x8192x1024 .f32 := m ((c : Thread nD τ).loc main_arg0)
abbrev a1 : FVec Ideal S4x3072 .f32 := m ((c : Thread nD τ).loc main_arg1)
abbrev a2 : IVec S4x8192 32 := m ((c : Thread nD τ).loc main_arg2)
abbrev a3 : FVec Ideal S1024 .f32 := m ((c : Thread nD τ).loc main_arg3)
abbrev a4 : FVec Ideal S1024x4768 .f32 := m ((c : Thread nD τ).loc main_arg4)
abbrev a5 : FVec Ideal S384 .f32 := m ((c : Thread nD τ).loc main_arg5)
abbrev a6 : FVec Ideal S384x768 .f32 := m ((c : Thread nD τ).loc main_arg6)
abbrev a7 : FVec Ideal S256 .f32 := m ((c : Thread nD τ).loc main_arg7)
abbrev a8 : FVec Ideal S256x1536 .f32 := m ((c : Thread nD τ).loc main_arg8)
abbrev a9 : FVec Ideal S64 .f32 := m ((c : Thread nD τ).loc main_arg9)
abbrev a10 : FVec Ideal S32 .f32 := m ((c : Thread nD τ).loc main_arg10)
abbrev a11 : FVec Ideal S64 .f32 := m ((c : Thread nD τ).loc main_arg11)
abbrev a12 : FVec Ideal S32 .f32 := m ((c : Thread nD τ).loc main_arg12)
theorem V_v1 : V m c main_v1 = wIn (a4 m c) := by
  unfold_abbrev_sides
  after_results
  rfl
theorem V_v3 : V m c main_v3 = wQ (a6 m c) := by
  unfold_abbrev_sides
  after_results
  rfl
theorem V_v5 : V m c main_v5 = wKV (a8 m c) := by
  unfold_abbrev_sides
  after_results
  rfl
theorem V_v16 : V m c main_v16 = col32 freq64 := by
  unfold_abbrev_sides
  after_results
  rfl
theorem V_v27 : V m c main_v27 = col16 freq32 := by
  unfold_abbrev_sides
  after_results
  rfl
theorem V_v28 : V m c main_v28 = mod3 (a1 m c) := by
  unfold_abbrev_sides
  after_results
  rfl
theorem V_v29 : V m c main_v29 = pos3 (a2 m c) := by
  unfold_abbrev_sides
  after_results
  rfl
theorem V_v30 : V m c main_v30 = col384 (a5 m c) := by
  unfold_abbrev_sides
  after_results
  rfl
theorem V_v31 : V m c main_v31 = col256 (a7 m c) := by
  unfold_abbrev_sides
  after_results
  rfl
theorem V_v32 : V m c main_v32 = col32 (a12 m c) := by
  unfold_abbrev_sides
  after_results
  rfl
theorem V_v33 : V m c main_v33 = col64 (a9 m c) := by
  unfold_abbrev_sides
  after_results
  rfl
theorem V_v34 : V m c main_v34 = col32 (a10 m c) := by
  unfold_abbrev_sides
  after_results
  rfl
theorem V_v35 : V m c main_v35 = col64 (a11 m c) := by
  unfold_abbrev_sides
  after_results
  rfl
theorem V_v36 : V m c main_v36 = nrow (a3 m c) := by
  unfold_abbrev_sides
  after_results
  rfl
end

theorem wIn_at (x : FVec Ideal S1024x4768 .f32) (n : Fin 4768) (k : Fin 1024) : wIn x (ix2 n k) = x (ix2 k n) := by
  pointwise [wIn]
  all_goals rfl
theorem wQ_at (x : FVec Ideal S384x768 .f32) (n : Fin 768) (k : Fin 384) : wQ x (ix2 n k) = x (ix2 k n) := by
  pointwise [wQ]
  all_goals rfl
theorem wKV_at (x : FVec Ideal S256x1536 .f32) (n : Fin 1536) (k : Fin 256) : wKV x (ix2 n k) = x (ix2 k n) := by
  pointwise [wKV]
  all_goals rfl
theorem mod3_at0 (x : FVec Ideal S4x3072 .f32) (b : Fin 4) (n : Fin 1024) : mod3 x (ix3 b 0 n) = x (ix2 b (⟨n.val, by omega⟩ : Fin 3072)) := by
  pointwise [mod3]
  all_goals rfl
theorem mod3_at1 (x : FVec Ideal S4x3072 .f32) (b : Fin 4) (n : Fin 1024) : mod3 x (ix3 b 1 n) = x (ix2 b (⟨1024 + n.val, by omega⟩ : Fin 3072)) := by
  pointwise [mod3]
  all_goals rfl
theorem pos3_at (x : IVec S4x8192 32) (b : Fin 4) (s : Fin 8192) : pos3 x (ix3 b 0 s) = x (ix2 b s) := by
  pointwise [pos3]
  all_goals rfl
theorem col384_at (x : FVec Ideal S384 .f32) (e : Fin 384) : col384 x (ix2 e 0) = x (ix1 e) := by
  pointwise [col384]
  all_goals rfl
theorem col256_at (x : FVec Ideal S256 .f32) (e : Fin 256) : col256 x (ix2 e 0) = x (ix1 e) := by
  pointwise [col256]
  all_goals rfl
theorem col64_at (x : FVec Ideal S64 .f32) (e : Fin 64) : col64 x (ix2 e 0) = x (ix1 e) := by
  pointwise [col64]
  all_goals rfl
theorem col32_at (x : FVec Ideal S32 .f32) (e : Fin 32) : col32 x (ix2 e 0) = x (ix1 e) := by
  pointwise [col32]
  all_goals rfl
theorem col16_at (x : FVec Ideal S16 .f32) (e : Fin 16) : col16 x (ix2 e 0) = x (ix1 e) := by
  pointwise [col16]
  all_goals rfl
theorem nrow_at (x : FVec Ideal S1024 .f32) (e : Fin 1024) : nrow x (ix2 0 e) = x (ix1 e) := by
  pointwise [nrow]
  all_goals rfl

/-! ## The results -/

/-- The data of one token, from the arguments. -/
def tokA (x0 : FVec Ideal S4x8192x1024 .f32) (x1 : FVec Ideal S4x3072 .f32) (x2 : IVec S4x8192 32) (x3 : FVec Ideal S1024 .f32) (x4 : FVec Ideal S1024x4768 .f32) (x5 : FVec Ideal S384 .f32) (x6 : FVec Ideal S384x768 .f32) (x7 : FVec Ideal S256 .f32) (x8 : FVec Ideal S256x1536 .f32) (x9 : FVec Ideal S64 .f32) (x10 : FVec Ideal S32 .f32) (x11 : FVec Ideal S64 .f32) (x12 : FVec Ideal S32 .f32) (b : Fin 4) (s : Fin 8192) : Tok where
  x := fun e => x0 (ix3 b s e)
  sh := fun e => x1 (ix2 b (⟨e.val, by omega⟩ : Fin 3072))
  sc := fun e => x1 (ix2 b (⟨1024 + e.val, by omega⟩ : Fin 3072))
  nw := fun e => x3 (ix1 e)
  w := fun j e => x4 (ix2 e j)
  pos := Scalar.sitofp (F := Ideal) .f32 (x2 (ix2 b s))
  g64 := fun j => freq64 (ix1 j)
  g32 := fun j => freq32 (ix1 j)
  qw := fun j => x5 (ix1 j)
  kw := fun j => x7 (ix1 j)
  rw := fun j => x12 (ix1 j)
  wq := fun j e => x6 (ix2 e j)
  wkv := fun j e => x8 (ix2 e j)
  qn := fun j => x9 (ix1 j)
  qr := fun j => x10 (ix1 j)
  kn := fun j => x11 (ix1 j)

def res15 (x0 : FVec Ideal S4x8192x1024 .f32) (x1 : FVec Ideal S4x3072 .f32) (x2 : IVec S4x8192 32) (x3 : FVec Ideal S1024 .f32) (x4 : FVec Ideal S1024x4768 .f32) (x5 : FVec Ideal S384 .f32) (x6 : FVec Ideal S384x768 .f32) (x7 : FVec Ideal S256 .f32) (x8 : FVec Ideal S256x1536 .f32) (x9 : FVec Ideal S64 .f32) (x10 : FVec Ideal S32 .f32) (x11 : FVec Ideal S64 .f32) (x12 : FVec Ideal S32 .f32) : FVec Ideal S4x512x8192 .bf16 := fun i => (tokA x0 x1 x2 x3 x4 x5 x6 x7 x8 x9 x10 x11 x12 (i 0 : Fin 4) (i 2 : Fin 8192)).rq (i 1 : Fin 512)
def res16 (x0 : FVec Ideal S4x8192x1024 .f32) (x1 : FVec Ideal S4x3072 .f32) (x2 : IVec S4x8192 32) (x3 : FVec Ideal S1024 .f32) (x4 : FVec Ideal S1024x4768 .f32) (x5 : FVec Ideal S384 .f32) (x6 : FVec Ideal S384x768 .f32) (x7 : FVec Ideal S256 .f32) (x8 : FVec Ideal S256x1536 .f32) (x9 : FVec Ideal S64 .f32) (x10 : FVec Ideal S32 .f32) (x11 : FVec Ideal S64 .f32) (x12 : FVec Ideal S32 .f32) : FVec Ideal S4x512x8192 .bf16 := fun i => (tokA x0 x1 x2 x3 x4 x5 x6 x7 x8 x9 x10 x11 x12 (i 0 : Fin 4) (i 2 : Fin 8192)).rk (i 1 : Fin 512)
def res17 (x0 : FVec Ideal S4x8192x1024 .f32) (x1 : FVec Ideal S4x3072 .f32) (x2 : IVec S4x8192 32) (x3 : FVec Ideal S1024 .f32) (x4 : FVec Ideal S1024x4768 .f32) (x5 : FVec Ideal S384 .f32) (x6 : FVec Ideal S384x768 .f32) (x7 : FVec Ideal S256 .f32) (x8 : FVec Ideal S256x1536 .f32) (x9 : FVec Ideal S64 .f32) (x10 : FVec Ideal S32 .f32) (x11 : FVec Ideal S64 .f32) (x12 : FVec Ideal S32 .f32) : FVec Ideal S4x1024x8192 .bf16 := fun i => (tokA x0 x1 x2 x3 x4 x5 x6 x7 x8 x9 x10 x11 x12 (i 0 : Fin 4) (i 2 : Fin 8192)).rv (i 1 : Fin 1024)
def res20 (x0 : FVec Ideal S4x8192x1024 .f32) (x1 : FVec Ideal S4x3072 .f32) (x2 : IVec S4x8192 32) (x3 : FVec Ideal S1024 .f32) (x4 : FVec Ideal S1024x4768 .f32) (x5 : FVec Ideal S384 .f32) (x6 : FVec Ideal S384x768 .f32) (x7 : FVec Ideal S256 .f32) (x8 : FVec Ideal S256x1536 .f32) (x9 : FVec Ideal S64 .f32) (x10 : FVec Ideal S32 .f32) (x11 : FVec Ideal S64 .f32) (x12 : FVec Ideal S32 .f32) : FVec Ideal S4x8x128x8192 .bf16 := fun i => (tokA x0 x1 x2 x3 x4 x5 x6 x7 x8 x9 x10 x11 x12 (i 0 : Fin 4) (i 3 : Fin 8192)).qt (i 1 : Fin 8) (i 2 : Fin 128)
def res21 (x0 : FVec Ideal S4x8192x1024 .f32) (x1 : FVec Ideal S4x3072 .f32) (x2 : IVec S4x8192 32) (x3 : FVec Ideal S1024 .f32) (x4 : FVec Ideal S1024x4768 .f32) (x5 : FVec Ideal S384 .f32) (x6 : FVec Ideal S384x768 .f32) (x7 : FVec Ideal S256 .f32) (x8 : FVec Ideal S256x1536 .f32) (x9 : FVec Ideal S64 .f32) (x10 : FVec Ideal S32 .f32) (x11 : FVec Ideal S64 .f32) (x12 : FVec Ideal S32 .f32) : FVec Ideal S4x8x8192x128 .bf16 := fun i => (tokA x0 x1 x2 x3 x4 x5 x6 x7 x8 x9 x10 x11 x12 (i 0 : Fin 4) (i 2 : Fin 8192)).k (i 1 : Fin 8) (i 3 : Fin 128)
def res22 (x0 : FVec Ideal S4x8192x1024 .f32) (x1 : FVec Ideal S4x3072 .f32) (x2 : IVec S4x8192 32) (x3 : FVec Ideal S1024 .f32) (x4 : FVec Ideal S1024x4768 .f32) (x5 : FVec Ideal S384 .f32) (x6 : FVec Ideal S384x768 .f32) (x7 : FVec Ideal S256 .f32) (x8 : FVec Ideal S256x1536 .f32) (x9 : FVec Ideal S64 .f32) (x10 : FVec Ideal S32 .f32) (x11 : FVec Ideal S64 .f32) (x12 : FVec Ideal S32 .f32) : FVec Ideal S4x8x128x8192 .bf16 := fun i => (tokA x0 x1 x2 x3 x4 x5 x6 x7 x8 x9 x10 x11 x12 (i 0 : Fin 4) (i 3 : Fin 8192)).vt (i 1 : Fin 8) (i 2 : Fin 128)

/-- Where each window's block lies at a grid point: batch `t / 16`, tokens from `t % 16 * 512` on. -/
theorem idx0 : ∀ t : Fin cfg0.N, win0_0.index t (0 : Fin 3) = t.val / 16 ∧ win0_0.index t (1 : Fin 3) = t.val % 16 ∧ win0_0.index t (2 : Fin 3) = 0 :=
  (by decide +kernel : ∀ t : Fin grid0.N, _)
theorem idx1 : ∀ t : Fin cfg0.N, win0_1.index t (0 : Fin 3) = t.val / 16 ∧ win0_1.index t (1 : Fin 3) = 0 ∧ win0_1.index t (2 : Fin 3) = t.val % 16 :=
  (by decide +kernel : ∀ t : Fin grid0.N, _)
theorem idx2 : ∀ t : Fin cfg0.N, win0_2.index t (0 : Fin 3) = t.val / 16 ∧ win0_2.index t (1 : Fin 3) = 0 ∧ win0_2.index t (2 : Fin 3) = 0 :=
  (by decide +kernel : ∀ t : Fin grid0.N, _)
theorem idx15 : ∀ t : Fin cfg0.N, win0_15.index t (0 : Fin 3) = t.val / 16 ∧ win0_15.index t (1 : Fin 3) = 0 ∧ win0_15.index t (2 : Fin 3) = t.val % 16 :=
  (by decide +kernel : ∀ t : Fin grid0.N, _)
theorem idx16 : ∀ t : Fin cfg0.N, win0_16.index t (0 : Fin 3) = t.val / 16 ∧ win0_16.index t (1 : Fin 3) = 0 ∧ win0_16.index t (2 : Fin 3) = t.val % 16 :=
  (by decide +kernel : ∀ t : Fin grid0.N, _)
theorem idx17 : ∀ t : Fin cfg0.N, win0_17.index t (0 : Fin 3) = t.val / 16 ∧ win0_17.index t (1 : Fin 3) = 0 ∧ win0_17.index t (2 : Fin 3) = t.val % 16 :=
  (by decide +kernel : ∀ t : Fin grid0.N, _)
theorem idx20 : ∀ t : Fin cfg0.N, win0_20.index t (0 : Fin 4) = t.val / 16 ∧ win0_20.index t (1 : Fin 4) = 0 ∧ win0_20.index t (2 : Fin 4) = 0 ∧ win0_20.index t (3 : Fin 4) = t.val % 16 :=
  (by decide +kernel : ∀ t : Fin grid0.N, _)
theorem idx21 : ∀ t : Fin cfg0.N, win0_21.index t (0 : Fin 4) = t.val / 16 ∧ win0_21.index t (1 : Fin 4) = 0 ∧ win0_21.index t (2 : Fin 4) = t.val % 16 ∧ win0_21.index t (3 : Fin 4) = 0 :=
  (by decide +kernel : ∀ t : Fin grid0.N, _)
theorem idx22 : ∀ t : Fin cfg0.N, win0_22.index t (0 : Fin 4) = t.val / 16 ∧ win0_22.index t (1 : Fin 4) = 0 ∧ win0_22.index t (2 : Fin 4) = 0 ∧ win0_22.index t (3 : Fin 4) = t.val % 16 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 2) = 0 ∧ win0_14.index t (1 : Fin 2) = 0 :=
  (by decide +kernel : ∀ t : Fin grid0.N, _)

/-- The batch of a grid point. -/
def bat (t : Fin cfg0.N) : Fin 4 := ⟨t.val / 16, by have h : t.val < 64 := lt_of_lt_of_eq t.isLt N_0; omega⟩
/-- A token of a grid point's block, in the sequence. -/
def tok (t : Fin cfg0.N) (s : Fin 512) : Fin 8192 := ⟨t.val % 16 * 512 + s.val, by have := s.isLt; omega⟩

theorem wb0 (t : Fin cfg0.N) (s : Fin 512) (n : Fin 1024) : ((cfg0.win 0).blk t).view.emb (ix3 0 s n) = ix3 (bat t) (tok t s) n := by
  obtain ⟨e0, e1, e2⟩ := idx0 t
  funext a; apply Fin.ext
  match a with
  | ⟨0, _⟩ => show win0_0.index t (0 : Fin 3) * 1 + 1 * 0 = t.val / 16; omega
  | ⟨1, _⟩ => show win0_0.index t (1 : Fin 3) * 512 + 1 * s.val = t.val % 16 * 512 + s.val; omega
  | ⟨2, _⟩ => show win0_0.index t (2 : Fin 3) * 1024 + 1 * n.val = n.val; omega
theorem wb1 (t : Fin cfg0.N) (s : Fin 512) : ((cfg0.win 1).blk t).view.emb (ix3 0 0 s) = ix3 (bat t) 0 (tok t s) := by
  obtain ⟨e0, e1, e2⟩ := idx1 t
  funext a; apply Fin.ext
  match a with
  | ⟨0, _⟩ => show win0_1.index t (0 : Fin 3) * 1 + 1 * 0 = t.val / 16; omega
  | ⟨1, _⟩ => show win0_1.index t (1 : Fin 3) * 1 + 1 * 0 = 0; omega
  | ⟨2, _⟩ => show win0_1.index t (2 : Fin 3) * 512 + 1 * s.val = t.val % 16 * 512 + s.val; omega
theorem wb2_0 (t : Fin cfg0.N) (n : Fin 1024) : ((cfg0.win 2).blk t).view.emb (ix3 0 0 n) = ix3 (bat t) 0 n := by
  obtain ⟨e0, e1, e2⟩ := idx2 t
  funext a; apply Fin.ext
  match a with
  | ⟨0, _⟩ => show win0_2.index t (0 : Fin 3) * 1 + 1 * 0 = t.val / 16; omega
  | ⟨1, _⟩ => show win0_2.index t (1 : Fin 3) * 3 + 1 * 0 = 0; omega
  | ⟨2, _⟩ => show win0_2.index t (2 : Fin 3) * 1024 + 1 * n.val = n.val; omega
theorem wb2_1 (t : Fin cfg0.N) (n : Fin 1024) : ((cfg0.win 2).blk t).view.emb (ix3 0 1 n) = ix3 (bat t) 1 n := by
  obtain ⟨e0, e1, e2⟩ := idx2 t
  funext a; apply Fin.ext
  match a with
  | ⟨0, _⟩ => show win0_2.index t (0 : Fin 3) * 1 + 1 * 0 = t.val / 16; omega
  | ⟨1, _⟩ => show win0_2.index t (1 : Fin 3) * 3 + 1 * 1 = 1; omega
  | ⟨2, _⟩ => show win0_2.index t (2 : Fin 3) * 1024 + 1 * n.val = n.val; omega
theorem wb3 (t : Fin cfg0.N) (n : Fin 1024) : ((cfg0.win 3).blk t).view.emb (ix2 0 n) = ix2 0 n := by
  obtain ⟨e0, e1⟩ := idx3 t
  funext a; apply Fin.ext
  match a with
  | ⟨0, _⟩ => show win0_3.index t (0 : Fin 2) * 1 + 1 * 0 = 0; omega
  | ⟨1, _⟩ => show win0_3.index t (1 : Fin 2) * 1024 + 1 * n.val = n.val; omega
theorem wb4 (t : Fin cfg0.N) (j : Fin 4768) (e : Fin 1024) : ((cfg0.win 4).blk t).view.emb (ix2 j e) = ix2 j e := by
  obtain ⟨e0, e1⟩ := idx4 t
  funext a; apply Fin.ext
  match a with
  | ⟨0, _⟩ => show win0_4.index t (0 : Fin 2) * 4768 + 1 * j.val = j.val; omega
  | ⟨1, _⟩ => show win0_4.index t (1 : Fin 2) * 1024 + 1 * e.val = e.val; omega
theorem wb10 (t : Fin cfg0.N) (j : Fin 768) (e : Fin 384) : ((cfg0.win 10).blk t).view.emb (ix2 j e) = ix2 j e := by
  obtain ⟨e0, e1⟩ := idx10 t
  funext a; apply Fin.ext
  match a with
  | ⟨0, _⟩ => show win0_10.index t (0 : Fin 2) * 768 + 1 * j.val = j.val; omega
  | ⟨1, _⟩ => show win0_10.index t (1 : Fin 2) * 384 + 1 * e.val = e.val; omega
theorem wb11 (t : Fin cfg0.N) (j : Fin 1536) (e : Fin 256) : ((cfg0.win 11).blk t).view.emb (ix2 j e) = ix2 j e := by
  obtain ⟨e0, e1⟩ := idx11 t
  funext a; apply Fin.ext
  match a with
  | ⟨0, _⟩ => show win0_11.index t (0 : Fin 2) * 1536 + 1 * j.val = j.val; omega
  | ⟨1, _⟩ => show win0_11.index t (1 : Fin 2) * 256 + 1 * e.val = e.val; omega
theorem wb5 (t : Fin cfg0.N) (j : Fin 32) : ((cfg0.win 5).blk t).view.emb (ix2 j 0) = ix2 j 0 := by
  obtain ⟨e0, e1⟩ := idx5 t
  funext a; apply Fin.ext
  match a with
  | ⟨0, _⟩ => show win0_5.index t (0 : Fin 2) * 32 + 1 * j.val = j.val; omega
  | ⟨1, _⟩ => show win0_5.index t (1 : Fin 2) * 1 + 1 * 0 = 0; omega
theorem wb6 (t : Fin cfg0.N) (j : Fin 16) : ((cfg0.win 6).blk t).view.emb (ix2 j 0) = ix2 j 0 := by
  obtain ⟨e0, e1⟩ := idx6 t
  funext a; apply Fin.ext
  match a with
  | ⟨0, _⟩ => show win0_6.index t (0 : Fin 2) * 16 + 1 * j.val = j.val; omega
  | ⟨1, _⟩ => show win0_6.index t (1 : Fin 2) * 1 + 1 * 0 = 0; omega
theorem wb7 (t : Fin cfg0.N) (j : Fin 384) : ((cfg0.win 7).blk t).view.emb (ix2 j 0) = ix2 j 0 := by
  obtain ⟨e0, e1⟩ := idx7 t
  funext a; apply Fin.ext
  match a with
  | ⟨0, _⟩ => show win0_7.index t (0 : Fin 2) * 384 + 1 * j.val = j.val; omega
  | ⟨1, _⟩ => show win0_7.index t (1 : Fin 2) * 1 + 1 * 0 = 0; omega
theorem wb8 (t : Fin cfg0.N) (j : Fin 256) : ((cfg0.win 8).blk t).view.emb (ix2 j 0) = ix2 j 0 := by
  obtain ⟨e0, e1⟩ := idx8 t
  funext a; apply Fin.ext
  match a with
  | ⟨0, _⟩ => show win0_8.index t (0 : Fin 2) * 256 + 1 * j.val = j.val; omega
  | ⟨1, _⟩ => show win0_8.index t (1 : Fin 2) * 1 + 1 * 0 = 0; omega
theorem wb9 (t : Fin cfg0.N) (j : Fin 32) : ((cfg0.win 9).blk t).view.emb (ix2 j 0) = ix2 j 0 := by
  obtain ⟨e0, e1⟩ := idx9 t
  funext a; apply Fin.ext
  match a with
  | ⟨0, _⟩ => show win0_9.index t (0 : Fin 2) * 32 + 1 * j.val = j.val; omega
  | ⟨1, _⟩ => show win0_9.index t (1 : Fin 2) * 1 + 1 * 0 = 0; omega
theorem wb12 (t : Fin cfg0.N) (j : Fin 64) : ((cfg0.win 12).blk t).view.emb (ix2 j 0) = ix2 j 0 := by
  obtain ⟨e0, e1⟩ := idx12 t
  funext a; apply Fin.ext
  match a with
  | ⟨0, _⟩ => show win0_12.index t (0 : Fin 2) * 64 + 1 * j.val = j.val; omega
  | ⟨1, _⟩ => show win0_12.index t (1 : Fin 2) * 1 + 1 * 0 = 0; omega
theorem wb13 (t : Fin cfg0.N) (j : Fin 32) : ((cfg0.win 13).blk t).view.emb (ix2 j 0) = ix2 j 0 := by
  obtain ⟨e0, e1⟩ := idx13 t
  funext a; apply Fin.ext
  match a with
  | ⟨0, _⟩ => show win0_13.index t (0 : Fin 2) * 32 + 1 * j.val = j.val; omega
  | ⟨1, _⟩ => show win0_13.index t (1 : Fin 2) * 1 + 1 * 0 = 0; omega
theorem wb14 (t : Fin cfg0.N) (j : Fin 64) : ((cfg0.win 14).blk t).view.emb (ix2 j 0) = ix2 j 0 := by
  obtain ⟨e0, e1⟩ := idx14 t
  funext a; apply Fin.ext
  match a with
  | ⟨0, _⟩ => show win0_14.index t (0 : Fin 2) * 64 + 1 * j.val = j.val; omega
  | ⟨1, _⟩ => show win0_14.index t (1 : Fin 2) * 1 + 1 * 0 = 0; omega
theorem wb15 (t : Fin cfg0.N) (n s : Fin 512) : ((cfg0.win 15).blk t).view.emb (ix3 0 n s) = ix3 (bat t) n (tok t s) := by
  obtain ⟨e0, e1, e2⟩ := idx15 t
  funext a; apply Fin.ext
  match a with
  | ⟨0, _⟩ => show win0_15.index t (0 : Fin 3) * 1 + 1 * 0 = t.val / 16; omega
  | ⟨1, _⟩ => show win0_15.index t (1 : Fin 3) * 512 + 1 * n.val = n.val; omega
  | ⟨2, _⟩ => show win0_15.index t (2 : Fin 3) * 512 + 1 * s.val = t.val % 16 * 512 + s.val; omega
theorem wb16 (t : Fin cfg0.N) (n s : Fin 512) : ((cfg0.win 16).blk t).view.emb (ix3 0 n s) = ix3 (bat t) n (tok t s) := by
  obtain ⟨e0, e1, e2⟩ := idx16 t
  funext a; apply Fin.ext
  match a with
  | ⟨0, _⟩ => show win0_16.index t (0 : Fin 3) * 1 + 1 * 0 = t.val / 16; omega
  | ⟨1, _⟩ => show win0_16.index t (1 : Fin 3) * 512 + 1 * n.val = n.val; omega
  | ⟨2, _⟩ => show win0_16.index t (2 : Fin 3) * 512 + 1 * s.val = t.val % 16 * 512 + s.val; omega
theorem wb17 (t : Fin cfg0.N) (n : Fin 1024) (s : Fin 512) : ((cfg0.win 17).blk t).view.emb (ix3 0 n s) = ix3 (bat t) n (tok t s) := by
  obtain ⟨e0, e1, e2⟩ := idx17 t
  funext a; apply Fin.ext
  match a with
  | ⟨0, _⟩ => show win0_17.index t (0 : Fin 3) * 1 + 1 * 0 = t.val / 16; omega
  | ⟨1, _⟩ => show win0_17.index t (1 : Fin 3) * 1024 + 1 * n.val = n.val; omega
  | ⟨2, _⟩ => show win0_17.index t (2 : Fin 3) * 512 + 1 * s.val = t.val % 16 * 512 + s.val; omega
theorem wb20 (t : Fin cfg0.N) (i : Fin 8) (e : Fin 128) (s : Fin 512) : ((cfg0.win 20).blk t).view.emb (ix4 0 i e s) = ix4 (bat t) i e (tok t s) := by
  obtain ⟨e0, e1, e2, e3⟩ := idx20 t
  funext a; apply Fin.ext
  match a with
  | ⟨0, _⟩ => show win0_20.index t (0 : Fin 4) * 1 + 1 * 0 = t.val / 16; omega
  | ⟨1, _⟩ => show win0_20.index t (1 : Fin 4) * 8 + 1 * i.val = i.val; omega
  | ⟨2, _⟩ => show win0_20.index t (2 : Fin 4) * 128 + 1 * e.val = e.val; omega
  | ⟨3, _⟩ => show win0_20.index t (3 : Fin 4) * 512 + 1 * s.val = t.val % 16 * 512 + s.val; omega
theorem wb22 (t : Fin cfg0.N) (i : Fin 8) (e : Fin 128) (s : Fin 512) : ((cfg0.win 22).blk t).view.emb (ix4 0 i e s) = ix4 (bat t) i e (tok t s) := by
  obtain ⟨e0, e1, e2, e3⟩ := idx22 t
  funext a; apply Fin.ext
  match a with
  | ⟨0, _⟩ => show win0_22.index t (0 : Fin 4) * 1 + 1 * 0 = t.val / 16; omega
  | ⟨1, _⟩ => show win0_22.index t (1 : Fin 4) * 8 + 1 * i.val = i.val; omega
  | ⟨2, _⟩ => show win0_22.index t (2 : Fin 4) * 128 + 1 * e.val = e.val; omega
  | ⟨3, _⟩ => show win0_22.index t (3 : Fin 4) * 512 + 1 * s.val = t.val % 16 * 512 + s.val; omega
theorem wb21 (t : Fin cfg0.N) (i : Fin 8) (s : Fin 512) (e : Fin 128) : ((cfg0.win 21).blk t).view.emb (ix4 0 i s e) = ix4 (bat t) i (tok t s) e := by
  obtain ⟨e0, e1, e2, e3⟩ := idx21 t
  funext a; apply Fin.ext
  match a with
  | ⟨0, _⟩ => show win0_21.index t (0 : Fin 4) * 1 + 1 * 0 = t.val / 16; omega
  | ⟨1, _⟩ => show win0_21.index t (1 : Fin 4) * 8 + 1 * i.val = i.val; omega
  | ⟨2, _⟩ => show win0_21.index t (2 : Fin 4) * 512 + 1 * s.val = t.val % 16 * 512 + s.val; omega
  | ⟨3, _⟩ => show win0_21.index t (3 : Fin 4) * 128 + 1 * e.val = e.val; omega

variable (m : (ℓ : Loc nD τ sig) → Buf (Elt Ideal) ℓ) (c : Dev nD)

theorem ib0 (t : Fin cfg0.N) (s : Fin 512) (n : Fin 1024) : iblk m c 0 t (ix3 0 s n) = a0 m c (ix3 (bat t) (tok t s) n) := by
  show V m c main_arg0 (((cfg0.win 0).blk t).view.emb (ix3 0 s n)) = _
  rw [wb0, V_main_arg0]
theorem ib1 (t : Fin cfg0.N) (s : Fin 512) : iblk m c 1 t (ix3 0 0 s) = a2 m c (ix2 (bat t) (tok t s)) := by
  show V m c main_v29 (((cfg0.win 1).blk t).view.emb (ix3 0 0 s)) = _
  rw [wb1, V_v29, pos3_at]
theorem ib2_0 (t : Fin cfg0.N) (n : Fin 1024) : iblk m c 2 t (ix3 0 0 n) = a1 m c (ix2 (bat t) (⟨n.val, by omega⟩ : Fin 3072)) := by
  show V m c main_v28 (((cfg0.win 2).blk t).view.emb (ix3 0 0 n)) = _
  rw [wb2_0, V_v28, mod3_at0]
theorem ib2_1 (t : Fin cfg0.N) (n : Fin 1024) : iblk m c 2 t (ix3 0 1 n) = a1 m c (ix2 (bat t) (⟨1024 + n.val, by omega⟩ : Fin 3072)) := by
  show V m c main_v28 (((cfg0.win 2).blk t).view.emb (ix3 0 1 n)) = _
  rw [wb2_1, V_v28, mod3_at1]
theorem ib3 (t : Fin cfg0.N) (n : Fin 1024) : iblk m c 3 t (ix2 0 n) = a3 m c (ix1 n) := by
  show V m c main_v36 (((cfg0.win 3).blk t).view.emb (ix2 0 n)) = _
  rw [wb3, V_v36, nrow_at]
theorem ib4 (t : Fin cfg0.N) (j : Fin 4768) (e : Fin 1024) : iblk m c 4 t (ix2 j e) = a4 m c (ix2 e j) := by
  show V m c main_v1 (((cfg0.win 4).blk t).view.emb (ix2 j e)) = _
  rw [wb4, V_v1, wIn_at]
theorem ib10 (t : Fin cfg0.N) (j : Fin 768) (e : Fin 384) : iblk m c 10 t (ix2 j e) = a6 m c (ix2 e j) := by
  show V m c main_v3 (((cfg0.win 10).blk t).view.emb (ix2 j e)) = _
  rw [wb10, V_v3, wQ_at]
theorem ib11 (t : Fin cfg0.N) (j : Fin 1536) (e : Fin 256) : iblk m c 11 t (ix2 j e) = a8 m c (ix2 e j) := by
  show V m c main_v5 (((cfg0.win 11).blk t).view.emb (ix2 j e)) = _
  rw [wb11, V_v5, wKV_at]
theorem ib5 (t : Fin cfg0.N) (j : Fin 32) : iblk m c 5 t (ix2 j 0) = freq64 (ix1 j) := by
  show V m c main_v16 (((cfg0.win 5).blk t).view.emb (ix2 j 0)) = _
  rw [wb5, V_v16, col32_at]
theorem ib6 (t : Fin cfg0.N) (j : Fin 16) : iblk m c 6 t (ix2 j 0) = freq32 (ix1 j) := by
  show V m c main_v27 (((cfg0.win 6).blk t).view.emb (ix2 j 0)) = _
  rw [wb6, V_v27, col16_at]
theorem ib7 (t : Fin cfg0.N) (j : Fin 384) : iblk m c 7 t (ix2 j 0) = a5 m c (ix1 j) := by
  show V m c main_v30 (((cfg0.win 7).blk t).view.emb (ix2 j 0)) = _
  rw [wb7, V_v30, col384_at]
theorem ib8 (t : Fin cfg0.N) (j : Fin 256) : iblk m c 8 t (ix2 j 0) = a7 m c (ix1 j) := by
  show V m c main_v31 (((cfg0.win 8).blk t).view.emb (ix2 j 0)) = _
  rw [wb8, V_v31, col256_at]
theorem ib9 (t : Fin cfg0.N) (j : Fin 32) : iblk m c 9 t (ix2 j 0) = a12 m c (ix1 j) := by
  show V m c main_v32 (((cfg0.win 9).blk t).view.emb (ix2 j 0)) = _
  rw [wb9, V_v32, col32_at]
theorem ib12 (t : Fin cfg0.N) (j : Fin 64) : iblk m c 12 t (ix2 j 0) = a9 m c (ix1 j) := by
  show V m c main_v33 (((cfg0.win 12).blk t).view.emb (ix2 j 0)) = _
  rw [wb12, V_v33, col64_at]
theorem ib13 (t : Fin cfg0.N) (j : Fin 32) : iblk m c 13 t (ix2 j 0) = a10 m c (ix1 j) := by
  show V m c main_v34 (((cfg0.win 13).blk t).view.emb (ix2 j 0)) = _
  rw [wb13, V_v34, col32_at]
theorem ib14 (t : Fin cfg0.N) (j : Fin 64) : iblk m c 14 t (ix2 j 0) = a11 m c (ix1 j) := by
  show V m c main_v35 (((cfg0.win 14).blk t).view.emb (ix2 j 0)) = _
  rw [wb14, V_v35, col64_at]
theorem tokOf_eq (x0 : Vec Ideal S1x512x1024 .f32) (x1 : Vec Ideal S1x1x512 .i32) (x2 : Vec Ideal S1x3x1024 .f32) (x3 : Vec Ideal S1x1024 .f32) (x4 : Vec Ideal S4768x1024 .bf16) (x5 : Vec Ideal S32x1 .f32) (x6 : Vec Ideal S16x1 .f32) (x7 : Vec Ideal S384x1 .f32) (x8 : Vec Ideal S256x1 .f32) (x9 : Vec Ideal S32x1 .f32) (x10 : Vec Ideal S768x384 .bf16) (x11 : Vec Ideal S1536x256 .bf16) (x12 : Vec Ideal S64x1 .f32) (x13 : Vec Ideal S32x1 .f32) (x14 : Vec Ideal S64x1 .f32) (t : Fin 512) (T : Tok)
    (h0 : ∀ e, x0 (ix3 0 t e) = T.x e) (h1 : ∀ e, x2 (ix3 0 0 e) = T.sh e) (h2 : ∀ e, x2 (ix3 0 1 e) = T.sc e) (h3 : ∀ e, x3 (ix2 0 e) = T.nw e)
    (h4 : ∀ j e, x4 (ix2 j e) = T.w j e) (h5 : Scalar.sitofp (F := Ideal) .f32 (x1 (ix3 0 0 t)) = T.pos) (h6 : ∀ j, x5 (ix2 j 0) = T.g64 j) (h7 : ∀ j, x6 (ix2 j 0) = T.g32 j)
    (h8 : ∀ j, x7 (ix2 j 0) = T.qw j) (h9 : ∀ j, x8 (ix2 j 0) = T.kw j) (h10 : ∀ j, x9 (ix2 j 0) = T.rw j) (h11 : ∀ j e, x10 (ix2 j e) = T.wq j e)
    (h12 : ∀ j e, x11 (ix2 j e) = T.wkv j e) (h13 : ∀ j, x12 (ix2 j 0) = T.qn j) (h14 : ∀ j, x13 (ix2 j 0) = T.qr j) (h15 : ∀ j, x14 (ix2 j 0) = T.kn j) :
    tokOf x0 x1 x2 x3 x4 x5 x6 x7 x8 x9 x10 x11 x12 x13 x14 t = T :=
  Tok.ext (funext h0) (funext h1) (funext h2) (funext h3) (funext fun j => funext (h4 j)) h5 (funext h6) (funext h7) (funext h8) (funext h9) (funext h10)
    (funext fun j => funext (h11 j)) (funext fun j => funext (h12 j)) (funext h13) (funext h14) (funext h15)

theorem tok_eq (t : Fin cfg0.N) (s : Fin 512) : tokOf (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) s = tokA (a0 m c) (a1 m c) (a2 m c) (a3 m c) (a4 m c) (a5 m c) (a6 m c) (a7 m c) (a8 m c) (a9 m c) (a10 m c) (a11 m c) (a12 m c) (bat t) (tok t s) :=
  tokOf_eq _ _ _ _ _ _ _ _ _ _ _ _ _ _ _ s _ (ib0 m c t s) (ib2_0 m c t) (ib2_1 m c t) (ib3 m c t)
    (ib4 m c t) (congrArg (Scalar.sitofp (F := Ideal) .f32) (ib1 m c t s)) (ib5 m c t) (ib6 m c t)
    (ib7 m c t) (ib8 m c t) (ib9 m c t) (ib10 m c t) (ib11 m c t) (ib12 m c t) (ib13 m c t) (ib14 m c t)

abbrev result15 : Buf (Elt Ideal) ((c : Thread nD τ).loc main_v37_0) := res15 (a0 m c) (a1 m c) (a2 m c) (a3 m c) (a4 m c) (a5 m c) (a6 m c) (a7 m c) (a8 m c) (a9 m c) (a10 m c) (a11 m c) (a12 m c)
theorem flushed15 (t : Fin cfg0.N) : (dats m 0 c).flushed 15 t = ((cfg0.win 15).blk t).view.read (Elt Ideal) (result15 m c) := by
  show (cfg0.win 15).cut (grid0.coords t) ((dats m 0 c).after 15 t) = _
  rw [after0_15]
  funext j
  show out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) j
    = result15 m c (((cfg0.win 15).blk t).view.emb j)
  obtain ⟨n, s, rfl⟩ : ∃ (n : Fin 512) (s : Fin 512), j = (ix3 (0 : Fin 1) n s : S1x512x512.Idx) := by
    refine ⟨j 1, j 2, ?_⟩
    funext a
    match a with
    | ⟨0, _⟩ => exact Subsingleton.elim (α := Fin 1) _ _
    | ⟨1, _⟩ => rfl
    | ⟨2, _⟩ => rfl
  refine (out15_at _ _ _ _ _ _ _ _ _ _ _ _ _ _ _ _).trans (Eq.trans ?_ (congrArg (result15 m c) (wb15 t n s)).symm)
  exact congrArg (fun T : Tok => T.rq n) (tok_eq m c t s)

theorem cover15 (i : S4x512x8192.Idx) : ∃ t : Fin cfg0.N, (cfg0.win 15).flush t = true ∧ i ∈ ((cfg0.win 15).blk t).view.set := by
  have h0 : (i 0).val < 4 := (i 0).isLt
  have h1 : (i 2).val < 8192 := (i 2).isLt
  refine ⟨(⟨(i 0).val * 16 + (i 2).val / 512, by rw [show cfg0.N = 64 from N_0]; omega⟩ : Fin cfg0.N), flush0_15 _, ?_⟩
  generalize ht : (⟨(i 0).val * 16 + (i 2).val / 512, by rw [show cfg0.N = 64 from N_0]; omega⟩ : Fin cfg0.N) = t
  have htv : t.val = (i 0).val * 16 + (i 2).val / 512 := by rw [← ht]
  have he := wb15 t (i 1 : Fin 512) (⟨(i 2).val % 512, Nat.mod_lt _ (by norm_num)⟩ : Fin 512)
  refine Eq.mp (congrArg (· ∈ ((cfg0.win 15).blk t).view.set) (he.trans ?_)) (((cfg0.win 15).blk t).view.emb_mem_set _)
  funext a; apply Fin.ext
  match a with
  | ⟨0, _⟩ => show t.val / 16 = (i 0).val; omega
  | ⟨1, _⟩ => rfl
  | ⟨2, _⟩ => show t.val % 16 * 512 + (i 2).val % 512 = (i 2).val; omega

theorem final15 : (dats m 0 c).arrAt 15 cfg0.N = result15 m c :=
  (dats m 0 c).arrAt_eq_of_cover 15 (result15 m c) (fun t _ => flushed15 m c t) cover15

abbrev result16 : Buf (Elt Ideal) ((c : Thread nD τ).loc main_v37_1) := res16 (a0 m c) (a1 m c) (a2 m c) (a3 m c) (a4 m c) (a5 m c) (a6 m c) (a7 m c) (a8 m c) (a9 m c) (a10 m c) (a11 m c) (a12 m c)
theorem flushed16 (t : Fin cfg0.N) : (dats m 0 c).flushed 16 t = ((cfg0.win 16).blk t).view.read (Elt Ideal) (result16 m c) := by
  show (cfg0.win 16).cut (grid0.coords t) ((dats m 0 c).after 16 t) = _
  rw [after0_16]
  funext j
  show out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) j
    = result16 m c (((cfg0.win 16).blk t).view.emb j)
  obtain ⟨n, s, rfl⟩ : ∃ (n : Fin 512) (s : Fin 512), j = (ix3 (0 : Fin 1) n s : S1x512x512.Idx) := by
    refine ⟨j 1, j 2, ?_⟩
    funext a
    match a with
    | ⟨0, _⟩ => exact Subsingleton.elim (α := Fin 1) _ _
    | ⟨1, _⟩ => rfl
    | ⟨2, _⟩ => rfl
  refine (out16_at _ _ _ _ _ _ _ _ _ _ _ _ _ _ _ _).trans (Eq.trans ?_ (congrArg (result16 m c) (wb16 t n s)).symm)
  exact congrArg (fun T : Tok => T.rk n) (tok_eq m c t s)

theorem cover16 (i : S4x512x8192.Idx) : ∃ t : Fin cfg0.N, (cfg0.win 16).flush t = true ∧ i ∈ ((cfg0.win 16).blk t).view.set := by
  have h0 : (i 0).val < 4 := (i 0).isLt
  have h1 : (i 2).val < 8192 := (i 2).isLt
  refine ⟨(⟨(i 0).val * 16 + (i 2).val / 512, by rw [show cfg0.N = 64 from N_0]; omega⟩ : Fin cfg0.N), flush0_16 _, ?_⟩
  generalize ht : (⟨(i 0).val * 16 + (i 2).val / 512, by rw [show cfg0.N = 64 from N_0]; omega⟩ : Fin cfg0.N) = t
  have htv : t.val = (i 0).val * 16 + (i 2).val / 512 := by rw [← ht]
  have he := wb16 t (i 1 : Fin 512) (⟨(i 2).val % 512, Nat.mod_lt _ (by norm_num)⟩ : Fin 512)
  refine Eq.mp (congrArg (· ∈ ((cfg0.win 16).blk t).view.set) (he.trans ?_)) (((cfg0.win 16).blk t).view.emb_mem_set _)
  funext a; apply Fin.ext
  match a with
  | ⟨0, _⟩ => show t.val / 16 = (i 0).val; omega
  | ⟨1, _⟩ => rfl
  | ⟨2, _⟩ => show t.val % 16 * 512 + (i 2).val % 512 = (i 2).val; omega

theorem final16 : (dats m 0 c).arrAt 16 cfg0.N = result16 m c :=
  (dats m 0 c).arrAt_eq_of_cover 16 (result16 m c) (fun t _ => flushed16 m c t) cover16

abbrev result17 : Buf (Elt Ideal) ((c : Thread nD τ).loc main_v37_2) := res17 (a0 m c) (a1 m c) (a2 m c) (a3 m c) (a4 m c) (a5 m c) (a6 m c) (a7 m c) (a8 m c) (a9 m c) (a10 m c) (a11 m c) (a12 m c)
theorem flushed17 (t : Fin cfg0.N) : (dats m 0 c).flushed 17 t = ((cfg0.win 17).blk t).view.read (Elt Ideal) (result17 m c) := by
  show (cfg0.win 17).cut (grid0.coords t) ((dats m 0 c).after 17 t) = _
  rw [after0_17]
  funext j
  show out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) j
    = result17 m c (((cfg0.win 17).blk t).view.emb j)
  obtain ⟨n, s, rfl⟩ : ∃ (n : Fin 1024) (s : Fin 512), j = (ix3 (0 : Fin 1) n s : S1x1024x512.Idx) := by
    refine ⟨j 1, j 2, ?_⟩
    funext a
    match a with
    | ⟨0, _⟩ => exact Subsingleton.elim (α := Fin 1) _ _
    | ⟨1, _⟩ => rfl
    | ⟨2, _⟩ => rfl
  refine (out17_at _ _ _ _ _ _ _ _ _ _ _ _ _ _ _ _).trans (Eq.trans ?_ (congrArg (result17 m c) (wb17 t n s)).symm)
  exact congrArg (fun T : Tok => T.rv n) (tok_eq m c t s)

theorem cover17 (i : S4x1024x8192.Idx) : ∃ t : Fin cfg0.N, (cfg0.win 17).flush t = true ∧ i ∈ ((cfg0.win 17).blk t).view.set := by
  have h0 : (i 0).val < 4 := (i 0).isLt
  have h1 : (i 2).val < 8192 := (i 2).isLt
  refine ⟨(⟨(i 0).val * 16 + (i 2).val / 512, by rw [show cfg0.N = 64 from N_0]; omega⟩ : Fin cfg0.N), flush0_17 _, ?_⟩
  generalize ht : (⟨(i 0).val * 16 + (i 2).val / 512, by rw [show cfg0.N = 64 from N_0]; omega⟩ : Fin cfg0.N) = t
  have htv : t.val = (i 0).val * 16 + (i 2).val / 512 := by rw [← ht]
  have he := wb17 t (i 1 : Fin 1024) (⟨(i 2).val % 512, Nat.mod_lt _ (by norm_num)⟩ : Fin 512)
  refine Eq.mp (congrArg (· ∈ ((cfg0.win 17).blk t).view.set) (he.trans ?_)) (((cfg0.win 17).blk t).view.emb_mem_set _)
  funext a; apply Fin.ext
  match a with
  | ⟨0, _⟩ => show t.val / 16 = (i 0).val; omega
  | ⟨1, _⟩ => rfl
  | ⟨2, _⟩ => show t.val % 16 * 512 + (i 2).val % 512 = (i 2).val; omega

theorem final17 : (dats m 0 c).arrAt 17 cfg0.N = result17 m c :=
  (dats m 0 c).arrAt_eq_of_cover 17 (result17 m c) (fun t _ => flushed17 m c t) cover17

abbrev result20 : Buf (Elt Ideal) ((c : Thread nD τ).loc main_v37_5) := res20 (a0 m c) (a1 m c) (a2 m c) (a3 m c) (a4 m c) (a5 m c) (a6 m c) (a7 m c) (a8 m c) (a9 m c) (a10 m c) (a11 m c) (a12 m c)
theorem flushed20 (t : Fin cfg0.N) : (dats m 0 c).flushed 20 t = ((cfg0.win 20).blk t).view.read (Elt Ideal) (result20 m c) := by
  show (cfg0.win 20).cut (grid0.coords t) ((dats m 0 c).after 20 t) = _
  rw [after0_20]
  funext j
  show out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) j
    = result20 m c (((cfg0.win 20).blk t).view.emb j)
  obtain ⟨i, e, s, rfl⟩ : ∃ (i : Fin 8) (e : Fin 128) (s : Fin 512), j = (ix4 (0 : Fin 1) i e s : S1x8x128x512.Idx) := by
    refine ⟨j 1, j 2, j 3, ?_⟩
    funext a
    match a with
    | ⟨0, _⟩ => exact Subsingleton.elim (α := Fin 1) _ _
    | ⟨1, _⟩ => rfl
    | ⟨2, _⟩ => rfl
    | ⟨3, _⟩ => rfl
  refine (out20_at _ _ _ _ _ _ _ _ _ _ _ _ _ _ _ _).trans (Eq.trans ?_ (congrArg (result20 m c) (wb20 t i e s)).symm)
  exact congrArg (fun T : Tok => T.qt i e) (tok_eq m c t s)

theorem cover20 (i : S4x8x128x8192.Idx) : ∃ t : Fin cfg0.N, (cfg0.win 20).flush t = true ∧ i ∈ ((cfg0.win 20).blk t).view.set := by
  have h0 : (i 0).val < 4 := (i 0).isLt
  have h1 : (i 3).val < 8192 := (i 3).isLt
  refine ⟨(⟨(i 0).val * 16 + (i 3).val / 512, by rw [show cfg0.N = 64 from N_0]; omega⟩ : Fin cfg0.N), flush0_20 _, ?_⟩
  generalize ht : (⟨(i 0).val * 16 + (i 3).val / 512, by rw [show cfg0.N = 64 from N_0]; omega⟩ : Fin cfg0.N) = t
  have htv : t.val = (i 0).val * 16 + (i 3).val / 512 := by rw [← ht]
  have he := wb20 t (i 1 : Fin 8) (i 2 : Fin 128) (⟨(i 3).val % 512, Nat.mod_lt _ (by norm_num)⟩ : Fin 512)
  refine Eq.mp (congrArg (· ∈ ((cfg0.win 20).blk t).view.set) (he.trans ?_)) (((cfg0.win 20).blk t).view.emb_mem_set _)
  funext a; apply Fin.ext
  match a with
  | ⟨0, _⟩ => show t.val / 16 = (i 0).val; omega
  | ⟨1, _⟩ => rfl
  | ⟨2, _⟩ => rfl
  | ⟨3, _⟩ => show t.val % 16 * 512 + (i 3).val % 512 = (i 3).val; omega

theorem final20 : (dats m 0 c).arrAt 20 cfg0.N = result20 m c :=
  (dats m 0 c).arrAt_eq_of_cover 20 (result20 m c) (fun t _ => flushed20 m c t) cover20

abbrev result21 : Buf (Elt Ideal) ((c : Thread nD τ).loc main_v37_6) := res21 (a0 m c) (a1 m c) (a2 m c) (a3 m c) (a4 m c) (a5 m c) (a6 m c) (a7 m c) (a8 m c) (a9 m c) (a10 m c) (a11 m c) (a12 m c)
theorem flushed21 (t : Fin cfg0.N) : (dats m 0 c).flushed 21 t = ((cfg0.win 21).blk t).view.read (Elt Ideal) (result21 m c) := by
  show (cfg0.win 21).cut (grid0.coords t) ((dats m 0 c).after 21 t) = _
  rw [after0_21]
  funext j
  show out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) j
    = result21 m c (((cfg0.win 21).blk t).view.emb j)
  obtain ⟨i, e, s, rfl⟩ : ∃ (i : Fin 8) (e : Fin 128) (s : Fin 512), j = (ix4 (0 : Fin 1) i s e : S1x8x512x128.Idx) := by
    refine ⟨j 1, j 3, j 2, ?_⟩
    funext a
    match a with
    | ⟨0, _⟩ => exact Subsingleton.elim (α := Fin 1) _ _
    | ⟨1, _⟩ => rfl
    | ⟨2, _⟩ => rfl
    | ⟨3, _⟩ => rfl
  refine (out21_at _ _ _ _ _ _ _ _ _ _ _ _ _ _ _ _).trans (Eq.trans ?_ (congrArg (result21 m c) (wb21 t i s e)).symm)
  exact congrArg (fun T : Tok => T.k i e) (tok_eq m c t s)

theorem cover21 (i : S4x8x8192x128.Idx) : ∃ t : Fin cfg0.N, (cfg0.win 21).flush t = true ∧ i ∈ ((cfg0.win 21).blk t).view.set := by
  have h0 : (i 0).val < 4 := (i 0).isLt
  have h1 : (i 2).val < 8192 := (i 2).isLt
  refine ⟨(⟨(i 0).val * 16 + (i 2).val / 512, by rw [show cfg0.N = 64 from N_0]; omega⟩ : Fin cfg0.N), flush0_21 _, ?_⟩
  generalize ht : (⟨(i 0).val * 16 + (i 2).val / 512, by rw [show cfg0.N = 64 from N_0]; omega⟩ : Fin cfg0.N) = t
  have htv : t.val = (i 0).val * 16 + (i 2).val / 512 := by rw [← ht]
  have he := wb21 t (i 1 : Fin 8) (⟨(i 2).val % 512, Nat.mod_lt _ (by norm_num)⟩ : Fin 512) (i 3 : Fin 128)
  refine Eq.mp (congrArg (· ∈ ((cfg0.win 21).blk t).view.set) (he.trans ?_)) (((cfg0.win 21).blk t).view.emb_mem_set _)
  funext a; apply Fin.ext
  match a with
  | ⟨0, _⟩ => show t.val / 16 = (i 0).val; omega
  | ⟨1, _⟩ => rfl
  | ⟨2, _⟩ => show t.val % 16 * 512 + (i 2).val % 512 = (i 2).val; omega
  | ⟨3, _⟩ => rfl

theorem final21 : (dats m 0 c).arrAt 21 cfg0.N = result21 m c :=
  (dats m 0 c).arrAt_eq_of_cover 21 (result21 m c) (fun t _ => flushed21 m c t) cover21

abbrev result22 : Buf (Elt Ideal) ((c : Thread nD τ).loc main_v37_7) := res22 (a0 m c) (a1 m c) (a2 m c) (a3 m c) (a4 m c) (a5 m c) (a6 m c) (a7 m c) (a8 m c) (a9 m c) (a10 m c) (a11 m c) (a12 m c)
theorem flushed22 (t : Fin cfg0.N) : (dats m 0 c).flushed 22 t = ((cfg0.win 22).blk t).view.read (Elt Ideal) (result22 m c) := by
  show (cfg0.win 22).cut (grid0.coords t) ((dats m 0 c).after 22 t) = _
  rw [after0_22]
  funext j
  show out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) j
    = result22 m c (((cfg0.win 22).blk t).view.emb j)
  obtain ⟨i, e, s, rfl⟩ : ∃ (i : Fin 8) (e : Fin 128) (s : Fin 512), j = (ix4 (0 : Fin 1) i e s : S1x8x128x512.Idx) := by
    refine ⟨j 1, j 2, j 3, ?_⟩
    funext a
    match a with
    | ⟨0, _⟩ => exact Subsingleton.elim (α := Fin 1) _ _
    | ⟨1, _⟩ => rfl
    | ⟨2, _⟩ => rfl
    | ⟨3, _⟩ => rfl
  refine (out22_at _ _ _ _ _ _ _ _ _ _ _ _ _ _ _ _).trans (Eq.trans ?_ (congrArg (result22 m c) (wb22 t i e s)).symm)
  exact congrArg (fun T : Tok => T.vt i e) (tok_eq m c t s)

theorem cover22 (i : S4x8x128x8192.Idx) : ∃ t : Fin cfg0.N, (cfg0.win 22).flush t = true ∧ i ∈ ((cfg0.win 22).blk t).view.set := by
  have h0 : (i 0).val < 4 := (i 0).isLt
  have h1 : (i 3).val < 8192 := (i 3).isLt
  refine ⟨(⟨(i 0).val * 16 + (i 3).val / 512, by rw [show cfg0.N = 64 from N_0]; omega⟩ : Fin cfg0.N), flush0_22 _, ?_⟩
  generalize ht : (⟨(i 0).val * 16 + (i 3).val / 512, by rw [show cfg0.N = 64 from N_0]; omega⟩ : Fin cfg0.N) = t
  have htv : t.val = (i 0).val * 16 + (i 3).val / 512 := by rw [← ht]
  have he := wb22 t (i 1 : Fin 8) (i 2 : Fin 128) (⟨(i 3).val % 512, Nat.mod_lt _ (by norm_num)⟩ : Fin 512)
  refine Eq.mp (congrArg (· ∈ ((cfg0.win 22).blk t).view.set) (he.trans ?_)) (((cfg0.win 22).blk t).view.emb_mem_set _)
  funext a; apply Fin.ext
  match a with
  | ⟨0, _⟩ => show t.val / 16 = (i 0).val; omega
  | ⟨1, _⟩ => rfl
  | ⟨2, _⟩ => rfl
  | ⟨3, _⟩ => show t.val % 16 * 512 + (i 3).val % 512 = (i 3).val; omega

theorem final22 : (dats m 0 c).arrAt 22 cfg0.N = result22 m c :=
  (dats m 0 c).arrAt_eq_of_cover 22 (result22 m c) (fun t _ => flushed22 m c t) cover22

end Cert.Kernel3Ideal.In

end
-- ==== Proof.InRef.lean ====
/- The reference of the input projection: its six results are those of the kernel, as functions of the arguments. -/
module

public import proofs.«01_k».proof.Proof.Gen.Reference3Ideal.Read
public import proofs.«01_k».proof.Proof.InRefA
public import proofs.«01_k».proof.Proof.InRefB
public import proofs.«01_k».proof.Proof.InRefC
public import proofs.«01_k».proof.Proof.InRefD
public import proofs.«01_k».proof.Proof.InWhole

@[expose] public section

set_option maxRecDepth 16384

noncomputable section

namespace Cert.Reference3Ideal.In

open Idealize.ShloMosaic
open Cert.Reference3Ideal Cert.Reference3Ideal.Gen Cert.Reference3Ideal.Read Cert.In

open Cert.Kernel3Ideal.In (tokA freq64 freq32 res15 res16 res17 res20 res21 res22)

variable (x0 : FVec Ideal S4x8192x1024 .f32) (x1 : FVec Ideal S4x3072 .f32) (x2 : IVec S4x8192 32) (x3 : FVec Ideal S1024 .f32) (x4 : FVec Ideal S1024x4768 .f32) (x5 : FVec Ideal S384 .f32) (x6 : FVec Ideal S384x768 .f32) (x7 : FVec Ideal S256 .f32) (x8 : FVec Ideal S256x1536 .f32) (x9 : FVec Ideal S64 .f32) (x10 : FVec Ideal S32 .f32) (x11 : FVec Ideal S64 .f32) (x12 : FVec Ideal S32 .f32)

theorem v43_eq : val_main_v43 (F := Ideal) = freq64 := rfl
theorem v76_eq : val_main_v76 (F := Ideal) = freq64 := rfl
theorem v168_eq : val_main_v168 (F := Ideal) = freq32 := rfl
theorem v228_eq : val_main_v228 (F := Ideal) = freq32 := rfl

theorem p_at (b : Fin 4) (s : Fin 8192) (j : Fin 4768) : val_main_v24 (F := Ideal) x0 x1 x3 x4 (ix3 b s j) = (tokA x0 x1 x2 x3 x4 x5 x6 x7 x8 x9 x10 x11 x12 b s).p j := v24_at x0 x1 x3 x4 b s j
theorem a51_at (b : Fin 4) (s : Fin 8192) (j : Fin 32) : val_main_v51 (F := Ideal) x2 (ix4 b s 0 j) = (tokA x0 x1 x2 x3 x4 x5 x6 x7 x8 x9 x10 x11 x12 b s).c64 j := v51_at x2 b s j
theorem a52_at (b : Fin 4) (s : Fin 8192) (j : Fin 32) : val_main_v52 (F := Ideal) x2 (ix4 b s 0 j) = (tokA x0 x1 x2 x3 x4 x5 x6 x7 x8 x9 x10 x11 x12 b s).s64 j := v52_at x2 b s j
theorem a84_at (b : Fin 4) (s : Fin 8192) (j : Fin 32) : val_main_v84 (F := Ideal) x2 (ix4 b s 0 j) = (tokA x0 x1 x2 x3 x4 x5 x6 x7 x8 x9 x10 x11 x12 b s).c64 j := v84_at x2 b s j
theorem a85_at (b : Fin 4) (s : Fin 8192) (j : Fin 32) : val_main_v85 (F := Ideal) x2 (ix4 b s 0 j) = (tokA x0 x1 x2 x3 x4 x5 x6 x7 x8 x9 x10 x11 x12 b s).s64 j := v85_at x2 b s j
theorem a176_at (b : Fin 4) (s : Fin 8192) (j : Fin 16) : val_main_v176 (F := Ideal) x2 (ix4 b s 0 j) = (tokA x0 x1 x2 x3 x4 x5 x6 x7 x8 x9 x10 x11 x12 b s).c32 j := v176_at x2 b s j
theorem a177_at (b : Fin 4) (s : Fin 8192) (j : Fin 16) : val_main_v177 (F := Ideal) x2 (ix4 b s 0 j) = (tokA x0 x1 x2 x3 x4 x5 x6 x7 x8 x9 x10 x11 x12 b s).s32 j := v177_at x2 b s j
theorem a235_at (b : Fin 4) (s : Fin 8192) (j : Fin 16) : val_main_v235 (F := Ideal) x2 (ix3 b s j) = (tokA x0 x1 x2 x3 x4 x5 x6 x7 x8 x9 x10 x11 x12 b s).c32 j := v235_at x2 b s j
theorem a236_at (b : Fin 4) (s : Fin 8192) (j : Fin 16) : val_main_v236 (F := Ideal) x2 (ix3 b s j) = (tokA x0 x1 x2 x3 x4 x5 x6 x7 x8 x9 x10 x11 x12 b s).s32 j := v236_at x2 b s j

theorem cq_at (b : Fin 4) (s : Fin 8192) (j : Fin 384) : val_main_v113 (F := Ideal) x0 x1 x3 x4 x5 (ix3 b s j) = (tokA x0 x1 x2 x3 x4 x5 x6 x7 x8 x9 x10 x11 x12 b s).cq j :=
  (v113_at x0 x1 x3 x4 x5 b s j).trans (rms_congr (fun e => (v29_at x0 x1 x3 x4 b s e).trans (p_at x0 x1 x2 x3 x4 x5 x6 x7 x8 x9 x10 x11 x12 b s _)) (fun _ => rfl) j)
theorem ckv_at (b : Fin 4) (s : Fin 8192) (j : Fin 256) : val_main_v128 (F := Ideal) x0 x1 x3 x4 x7 (ix3 b s j) = (tokA x0 x1 x2 x3 x4 x5 x6 x7 x8 x9 x10 x11 x12 b s).ckv j :=
  (v128_at x0 x1 x3 x4 x7 b s j).trans (rms_congr (fun e => (v30_at x0 x1 x3 x4 b s e).trans (p_at x0 x1 x2 x3 x4 x5 x6 x7 x8 x9 x10 x11 x12 b s _)) (fun _ => rfl) j)
theorem q_at (b : Fin 4) (s : Fin 8192) (j : Fin 768) : val_main_v114 (F := Ideal) x0 x1 x3 x4 x5 x6 (ix3 b s j) = (tokA x0 x1 x2 x3 x4 x5 x6 x7 x8 x9 x10 x11 x12 b s).q j :=
  (v114_at x0 x1 x3 x4 x5 x6 b s j).trans (lin_congr (fun _ => rfl) (fun e => cq_at x0 x1 x2 x3 x4 x5 x6 x7 x8 x9 x10 x11 x12 b s e))
theorem kv_at (b : Fin 4) (s : Fin 8192) (j : Fin 1536) : val_main_v129 (F := Ideal) x0 x1 x3 x4 x7 x8 (ix3 b s j) = (tokA x0 x1 x2 x3 x4 x5 x6 x7 x8 x9 x10 x11 x12 b s).kv j :=
  (v129_at x0 x1 x3 x4 x7 x8 b s j).trans (lin_congr (fun _ => rfl) (fun e => ckv_at x0 x1 x2 x3 x4 x5 x6 x7 x8 x9 x10 x11 x12 b s e))
theorem kr_at (b : Fin 4) (s : Fin 8192) (j : Fin 32) : val_main_v245 (F := Ideal) x0 x1 x2 x3 x4 x12 (ix3 b s j) = (tokA x0 x1 x2 x3 x4 x5 x6 x7 x8 x9 x10 x11 x12 b s).kr j := by
  rw [v245_at]
  unfold Tok.kr
  rw [show (fun j => val_main_v235 (F := Ideal) x2 (ix3 b s j)) = (tokA x0 x1 x2 x3 x4 x5 x6 x7 x8 x9 x10 x11 x12 b s).c32 from funext fun j => a235_at x0 x1 x2 x3 x4 x5 x6 x7 x8 x9 x10 x11 x12 b s j,
    show (fun j => val_main_v236 (F := Ideal) x2 (ix3 b s j)) = (tokA x0 x1 x2 x3 x4 x5 x6 x7 x8 x9 x10 x11 x12 b s).s32 from funext fun j => a236_at x0 x1 x2 x3 x4 x5 x6 x7 x8 x9 x10 x11 x12 b s j]
  refine congrArg (fun v => rot v _ _ j) (funext fun e => ?_)
  exact (v218_at x0 x1 x3 x4 x12 b s e).trans (rms_congr (fun e => (v31_at x0 x1 x3 x4 b s e).trans (p_at x0 x1 x2 x3 x4 x5 x6 x7 x8 x9 x10 x11 x12 b s _)) (fun _ => rfl) e)

theorem rq_eq : val_main_v251 (F := Ideal) x0 x1 x2 x3 x4 = res15 x0 x1 x2 x3 x4 x5 x6 x7 x8 x9 x10 x11 x12 := by
  funext x
  obtain ⟨b, n, s, rfl⟩ : ∃ (b : Fin 4) (n : Fin 512) (s : Fin 8192), x = ix3 b n s :=
    ⟨x 0, x 1, x 2, funext fun a => match a with | ⟨0, _⟩ => rfl | ⟨1, _⟩ => rfl | ⟨2, _⟩ => rfl⟩
  show _ = (tokA x0 x1 x2 x3 x4 x5 x6 x7 x8 x9 x10 x11 x12 b s).rq n
  rw [rq_at]
  unfold Tok.rq
  rw [show (fun j => val_main_v51 (F := Ideal) x2 (ix4 b s 0 j)) = (tokA x0 x1 x2 x3 x4 x5 x6 x7 x8 x9 x10 x11 x12 b s).c64 from funext fun j => a51_at x0 x1 x2 x3 x4 x5 x6 x7 x8 x9 x10 x11 x12 b s j,
    show (fun j => val_main_v52 (F := Ideal) x2 (ix4 b s 0 j)) = (tokA x0 x1 x2 x3 x4 x5 x6 x7 x8 x9 x10 x11 x12 b s).s64 from funext fun j => a52_at x0 x1 x2 x3 x4 x5 x6 x7 x8 x9 x10 x11 x12 b s j]
  exact congrArg (fun v => rot64 v _ _ n) (funext fun j => p_at x0 x1 x2 x3 x4 x5 x6 x7 x8 x9 x10 x11 x12 b s _)

theorem rk_eq : val_main_v254 (F := Ideal) x0 x1 x2 x3 x4 = res16 x0 x1 x2 x3 x4 x5 x6 x7 x8 x9 x10 x11 x12 := by
  funext x
  obtain ⟨b, n, s, rfl⟩ : ∃ (b : Fin 4) (n : Fin 512) (s : Fin 8192), x = ix3 b n s :=
    ⟨x 0, x 1, x 2, funext fun a => match a with | ⟨0, _⟩ => rfl | ⟨1, _⟩ => rfl | ⟨2, _⟩ => rfl⟩
  show _ = (tokA x0 x1 x2 x3 x4 x5 x6 x7 x8 x9 x10 x11 x12 b s).rk n
  rw [rk_at]
  unfold Tok.rk
  rw [show (fun j => val_main_v84 (F := Ideal) x2 (ix4 b s 0 j) * Ideal.ofBits .f32 0x3E000000#32) = (fun j => (tokA x0 x1 x2 x3 x4 x5 x6 x7 x8 x9 x10 x11 x12 b s).c64 j * Ideal.ofBits .f32 0x3E000000#32) from
      funext fun j => congrArg (fun z : EReal => z * Ideal.ofBits .f32 0x3E000000#32) (a84_at x0 x1 x2 x3 x4 x5 x6 x7 x8 x9 x10 x11 x12 b s j),
    show (fun j => val_main_v85 (F := Ideal) x2 (ix4 b s 0 j) * Ideal.ofBits .f32 0x3E000000#32) = (fun j => (tokA x0 x1 x2 x3 x4 x5 x6 x7 x8 x9 x10 x11 x12 b s).s64 j * Ideal.ofBits .f32 0x3E000000#32) from
      funext fun j => congrArg (fun z : EReal => z * Ideal.ofBits .f32 0x3E000000#32) (a85_at x0 x1 x2 x3 x4 x5 x6 x7 x8 x9 x10 x11 x12 b s j)]
  exact congrArg (fun v => rot64 v _ _ n) (funext fun j => p_at x0 x1 x2 x3 x4 x5 x6 x7 x8 x9 x10 x11 x12 b s _)

theorem rv_eq : val_main_v256 (F := Ideal) x0 x1 x3 x4 = res17 x0 x1 x2 x3 x4 x5 x6 x7 x8 x9 x10 x11 x12 := by
  funext x
  obtain ⟨b, n, s, rfl⟩ : ∃ (b : Fin 4) (n : Fin 1024) (s : Fin 8192), x = ix3 b n s :=
    ⟨x 0, x 1, x 2, funext fun a => match a with | ⟨0, _⟩ => rfl | ⟨1, _⟩ => rfl | ⟨2, _⟩ => rfl⟩
  show _ = (tokA x0 x1 x2 x3 x4 x5 x6 x7 x8 x9 x10 x11 x12 b s).rv n
  exact (v256_at x0 x1 x3 x4 b n s).trans ((v27_at x0 x1 x3 x4 b s n).trans (p_at x0 x1 x2 x3 x4 x5 x6 x7 x8 x9 x10 x11 x12 b s _))

theorem qt_eq : val_main_v259 (F := Ideal) x0 x1 x2 x3 x4 x5 x6 x9 x10 = res20 x0 x1 x2 x3 x4 x5 x6 x7 x8 x9 x10 x11 x12 := by
  funext x
  obtain ⟨b, i, e, s, rfl⟩ : ∃ (b : Fin 4) (i : Fin 8) (e : Fin 128) (s : Fin 8192), x = ix4 b i e s :=
    ⟨x 0, x 1, x 2, x 3, funext fun a => match a with | ⟨0, _⟩ => rfl | ⟨1, _⟩ => rfl | ⟨2, _⟩ => rfl | ⟨3, _⟩ => rfl⟩
  show _ = (tokA x0 x1 x2 x3 x4 x5 x6 x7 x8 x9 x10 x11 x12 b s).qt i e
  rw [qt_at]
  unfold Tok.qt
  rw [show (fun j => val_main_v176 (F := Ideal) x2 (ix4 b s 0 j)) = (tokA x0 x1 x2 x3 x4 x5 x6 x7 x8 x9 x10 x11 x12 b s).c32 from funext fun j => a176_at x0 x1 x2 x3 x4 x5 x6 x7 x8 x9 x10 x11 x12 b s j,
    show (fun j => val_main_v177 (F := Ideal) x2 (ix4 b s 0 j)) = (tokA x0 x1 x2 x3 x4 x5 x6 x7 x8 x9 x10 x11 x12 b s).s32 from funext fun j => a177_at x0 x1 x2 x3 x4 x5 x6 x7 x8 x9 x10 x11 x12 b s j]
  rw [show (fun j : Fin 64 => val_main_v115 (F := Ideal) x0 x1 x3 x4 x5 x6 (ix4 b s i (⟨j.val, by omega⟩ : Fin 96))) = (fun j : Fin 64 => (tokA x0 x1 x2 x3 x4 x5 x6 x7 x8 x9 x10 x11 x12 b s).q ⟨96 * i.val + j.val, by omega⟩) from
      funext fun j => (v115_at x0 x1 x3 x4 x5 x6 b s i _).trans (q_at x0 x1 x2 x3 x4 x5 x6 x7 x8 x9 x10 x11 x12 b s _),
    show (fun j : Fin 32 => val_main_v115 (F := Ideal) x0 x1 x3 x4 x5 x6 (ix4 b s i (⟨64 + j.val, by omega⟩ : Fin 96))) = (fun j : Fin 32 => (tokA x0 x1 x2 x3 x4 x5 x6 x7 x8 x9 x10 x11 x12 b s).q ⟨96 * i.val + 64 + j.val, by omega⟩) from
      funext fun j => (v115_at x0 x1 x3 x4 x5 x6 b s i _).trans ((q_at x0 x1 x2 x3 x4 x5 x6 x7 x8 x9 x10 x11 x12 b s _).trans (congrArg (tokA x0 x1 x2 x3 x4 x5 x6 x7 x8 x9 x10 x11 x12 b s).q (Fin.ext (by show 96 * i.val + (64 + j.val) = 96 * i.val + 64 + j.val; omega))))]
  rfl

theorem k_eq : val_main_v262 (F := Ideal) x0 x1 x2 x3 x4 x7 x8 x11 x12 = res21 x0 x1 x2 x3 x4 x5 x6 x7 x8 x9 x10 x11 x12 := by
  funext x
  obtain ⟨b, i, s, e, rfl⟩ : ∃ (b : Fin 4) (i : Fin 8) (s : Fin 8192) (e : Fin 128), x = ix4 b i s e :=
    ⟨x 0, x 1, x 2, x 3, funext fun a => match a with | ⟨0, _⟩ => rfl | ⟨1, _⟩ => rfl | ⟨2, _⟩ => rfl | ⟨3, _⟩ => rfl⟩
  show _ = (tokA x0 x1 x2 x3 x4 x5 x6 x7 x8 x9 x10 x11 x12 b s).k i e
  rw [k_at]
  unfold Tok.k
  rw [show (fun j : Fin 64 => val_main_v130 (F := Ideal) x0 x1 x3 x4 x7 x8 (ix4 b s i (⟨j.val, by omega⟩ : Fin 192))) = (fun j : Fin 64 => (tokA x0 x1 x2 x3 x4 x5 x6 x7 x8 x9 x10 x11 x12 b s).kv ⟨192 * i.val + j.val, by omega⟩) from
      funext fun j => (v130_at x0 x1 x3 x4 x7 x8 b s i _).trans (kv_at x0 x1 x2 x3 x4 x5 x6 x7 x8 x9 x10 x11 x12 b s _),
    show (fun j => val_main_v245 (F := Ideal) x0 x1 x2 x3 x4 x12 (ix3 b s j)) = (tokA x0 x1 x2 x3 x4 x5 x6 x7 x8 x9 x10 x11 x12 b s).kr from funext fun j => kr_at x0 x1 x2 x3 x4 x5 x6 x7 x8 x9 x10 x11 x12 b s j]
  rfl

theorem vt_eq : val_main_v264 (F := Ideal) x0 x1 x3 x4 x7 x8 = res22 x0 x1 x2 x3 x4 x5 x6 x7 x8 x9 x10 x11 x12 := by
  funext x
  obtain ⟨b, i, e, s, rfl⟩ : ∃ (b : Fin 4) (i : Fin 8) (e : Fin 128) (s : Fin 8192), x = ix4 b i e s :=
    ⟨x 0, x 1, x 2, x 3, funext fun a => match a with | ⟨0, _⟩ => rfl | ⟨1, _⟩ => rfl | ⟨2, _⟩ => rfl | ⟨3, _⟩ => rfl⟩
  show _ = (tokA x0 x1 x2 x3 x4 x5 x6 x7 x8 x9 x10 x11 x12 b s).vt i e
  exact (v264_at x0 x1 x3 x4 x7 x8 b s i e).trans ((v205_at x0 x1 x3 x4 x7 x8 b s i e).trans ((v130_at x0 x1 x3 x4 x7 x8 b s i _).trans ((kv_at x0 x1 x2 x3 x4 x5 x6 x7 x8 x9 x10 x11 x12 b s _).trans
    (congrArg (tokA x0 x1 x2 x3 x4 x5 x6 x7 x8 x9 x10 x11 x12 b s).kv (Fin.ext (by show 192 * i.val + (64 + e.val) = 192 * i.val + 64 + e.val; omega))))))

end Cert.Reference3Ideal.In

end
-- ==== Proof.InEnd.lean ====
/- The input projection's kernel and reference end at the same six results. -/
module

public import proofs.«01_k».proof.Defs
public import proofs.«01_k».proof.Proof.Gen.Kernel3Ideal.Value
public import proofs.«01_k».proof.Proof.Gen.Reference3Ideal.Run
public import proofs.«01_k».proof.Proof.InRef
public import Idealize.ShloMosaic.Adequacy
public import Idealize.ShloMosaic.Lib.Quiescent

@[expose] public section

noncomputable section

namespace Cert.Proof

open Idealize.ShloMosaic Idealize.SL.Sem

/-- Functions of equal arguments are equal. -/
theorem agree {A0 A1 A2 A3 A4 A5 A6 A7 A8 A9 A10 A11 A12 B : Type} (f : A0 → A1 → A2 → A3 → A4 → A5 → A6 → A7 → A8 → A9 → A10 → A11 → A12 → B)
    {x0 y0 : A0} {x1 y1 : A1} {x2 y2 : A2} {x3 y3 : A3} {x4 y4 : A4} {x5 y5 : A5} {x6 y6 : A6} {x7 y7 : A7} {x8 y8 : A8} {x9 y9 : A9} {x10 y10 : A10} {x11 y11 : A11} {x12 y12 : A12}
    (e0 : x0 = y0) (e1 : x1 = y1) (e2 : x2 = y2) (e3 : x3 = y3) (e4 : x4 = y4) (e5 : x5 = y5) (e6 : x6 = y6) (e7 : x7 = y7) (e8 : x8 = y8) (e9 : x9 = y9) (e10 : x10 = y10) (e11 : x11 = y11) (e12 : x12 = y12) :
    f x0 x1 x2 x3 x4 x5 x6 x7 x8 x9 x10 x11 x12 = f y0 y1 y2 y3 y4 y5 y6 y7 y8 y9 y10 y11 y12 := by
  subst e0 e1 e2 e3 e4 e5 e6 e7 e8 e9 e10 e11 e12
  rfl

set_option maxHeartbeats 1000000 in
/-- The input projection's six results are its reference's. -/
theorem same3 : Cert.algebraic_Kernel3Ideal_Reference3Ideal := by
  intro m g m' g' _ hagree
  refine ⟨fun c => Cert.Kernel3Ideal.In.result15 m c, fun c => Cert.Kernel3Ideal.In.result16 m c, fun c => Cert.Kernel3Ideal.In.result17 m c, fun c => Cert.Kernel3Ideal.In.result20 m c, fun c => Cert.Kernel3Ideal.In.result21 m c, fun c => Cert.Kernel3Ideal.In.result22 m c, ?_, ?_⟩
  · refine (θ_run Cert.Kernel3Ideal.defs _ _).mono (fun _ h c => ?_) (Cert.Kernel3Ideal.Value.run_blocks m g)
    obtain ⟨r15, r16, r17, _, _, r20, r21, r22, hargs⟩ := h c
    exact ⟨r15.trans (Cert.Kernel3Ideal.In.final15 m c),
        r16.trans (Cert.Kernel3Ideal.In.final16 m c),
        r17.trans (Cert.Kernel3Ideal.In.final17 m c),
        r20.trans (Cert.Kernel3Ideal.In.final20 m c),
        r21.trans (Cert.Kernel3Ideal.In.final21 m c),
        r22.trans (Cert.Kernel3Ideal.In.final22 m c), hargs⟩
  · refine (θ_run Cert.Reference3Ideal.defs _ _).mono (fun _ h c => ?_) (Cert.Reference3Ideal.Value.run (F := Ideal) m' g')
    obtain ⟨q15, q16, q17, q20, q21, q22, hargs⟩ := h c
    obtain ⟨e0, e1, e2, e3, e4, e5, e6, e7, e8, e9, e10, e11, e12⟩ := hagree c
    have s15 : Cert.Kernel3Ideal.In.res15 (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) (m' ((c.tc : Thread Cert.Reference3Ideal.nD Cert.Reference3Ideal.τ).loc Cert.Reference3Ideal.main_arg9)) (m' ((c.tc : Thread Cert.Reference3Ideal.nD Cert.Reference3Ideal.τ).loc Cert.Reference3Ideal.main_arg10)) (m' ((c.tc : Thread Cert.Reference3Ideal.nD Cert.Reference3Ideal.τ).loc Cert.Reference3Ideal.main_arg11)) (m' ((c.tc : Thread Cert.Reference3Ideal.nD Cert.Reference3Ideal.τ).loc Cert.Reference3Ideal.main_arg12)) = Cert.Kernel3Ideal.In.result15 m c :=
      agree _ e0 e1 e2 e3 e4 e5 e6 e7 e8 e9 e10 e11 e12
    have s16 : Cert.Kernel3Ideal.In.res16 (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) (m' ((c.tc : Thread Cert.Reference3Ideal.nD Cert.Reference3Ideal.τ).loc Cert.Reference3Ideal.main_arg9)) (m' ((c.tc : Thread Cert.Reference3Ideal.nD Cert.Reference3Ideal.τ).loc Cert.Reference3Ideal.main_arg10)) (m' ((c.tc : Thread Cert.Reference3Ideal.nD Cert.Reference3Ideal.τ).loc Cert.Reference3Ideal.main_arg11)) (m' ((c.tc : Thread Cert.Reference3Ideal.nD Cert.Reference3Ideal.τ).loc Cert.Reference3Ideal.main_arg12)) = Cert.Kernel3Ideal.In.result16 m c :=
      agree _ e0 e1 e2 e3 e4 e5 e6 e7 e8 e9 e10 e11 e12
    have s17 : Cert.Kernel3Ideal.In.res17 (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) (m' ((c.tc : Thread Cert.Reference3Ideal.nD Cert.Reference3Ideal.τ).loc Cert.Reference3Ideal.main_arg9)) (m' ((c.tc : Thread Cert.Reference3Ideal.nD Cert.Reference3Ideal.τ).loc Cert.Reference3Ideal.main_arg10)) (m' ((c.tc : Thread Cert.Reference3Ideal.nD Cert.Reference3Ideal.τ).loc Cert.Reference3Ideal.main_arg11)) (m' ((c.tc : Thread Cert.Reference3Ideal.nD Cert.Reference3Ideal.τ).loc Cert.Reference3Ideal.main_arg12)) = Cert.Kernel3Ideal.In.result17 m c :=
      agree _ e0 e1 e2 e3 e4 e5 e6 e7 e8 e9 e10 e11 e12
    have s20 : Cert.Kernel3Ideal.In.res20 (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) (m' ((c.tc : Thread Cert.Reference3Ideal.nD Cert.Reference3Ideal.τ).loc Cert.Reference3Ideal.main_arg9)) (m' ((c.tc : Thread Cert.Reference3Ideal.nD Cert.Reference3Ideal.τ).loc Cert.Reference3Ideal.main_arg10)) (m' ((c.tc : Thread Cert.Reference3Ideal.nD Cert.Reference3Ideal.τ).loc Cert.Reference3Ideal.main_arg11)) (m' ((c.tc : Thread Cert.Reference3Ideal.nD Cert.Reference3Ideal.τ).loc Cert.Reference3Ideal.main_arg12)) = Cert.Kernel3Ideal.In.result20 m c :=
      agree _ e0 e1 e2 e3 e4 e5 e6 e7 e8 e9 e10 e11 e12
    have s21 : Cert.Kernel3Ideal.In.res21 (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) (m' ((c.tc : Thread Cert.Reference3Ideal.nD Cert.Reference3Ideal.τ).loc Cert.Reference3Ideal.main_arg9)) (m' ((c.tc : Thread Cert.Reference3Ideal.nD Cert.Reference3Ideal.τ).loc Cert.Reference3Ideal.main_arg10)) (m' ((c.tc : Thread Cert.Reference3Ideal.nD Cert.Reference3Ideal.τ).loc Cert.Reference3Ideal.main_arg11)) (m' ((c.tc : Thread Cert.Reference3Ideal.nD Cert.Reference3Ideal.τ).loc Cert.Reference3Ideal.main_arg12)) = Cert.Kernel3Ideal.In.result21 m c :=
      agree _ e0 e1 e2 e3 e4 e5 e6 e7 e8 e9 e10 e11 e12
    have s22 : Cert.Kernel3Ideal.In.res22 (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) (m' ((c.tc : Thread Cert.Reference3Ideal.nD Cert.Reference3Ideal.τ).loc Cert.Reference3Ideal.main_arg9)) (m' ((c.tc : Thread Cert.Reference3Ideal.nD Cert.Reference3Ideal.τ).loc Cert.Reference3Ideal.main_arg10)) (m' ((c.tc : Thread Cert.Reference3Ideal.nD Cert.Reference3Ideal.τ).loc Cert.Reference3Ideal.main_arg11)) (m' ((c.tc : Thread Cert.Reference3Ideal.nD Cert.Reference3Ideal.τ).loc Cert.Reference3Ideal.main_arg12)) = Cert.Kernel3Ideal.In.result22 m c :=
      agree _ e0 e1 e2 e3 e4 e5 e6 e7 e8 e9 e10 e11 e12
    exact ⟨(q15.trans (Cert.Reference3Ideal.Read.val_main_v251_eq (F := Ideal) (StableHlo.launchContents m' c))).trans
        ((Cert.Reference3Ideal.In.rq_eq (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) (m' ((c.tc : Thread Cert.Reference3Ideal.nD Cert.Reference3Ideal.τ).loc Cert.Reference3Ideal.main_arg9)) (m' ((c.tc : Thread Cert.Reference3Ideal.nD Cert.Reference3Ideal.τ).loc Cert.Reference3Ideal.main_arg10)) (m' ((c.tc : Thread Cert.Reference3Ideal.nD Cert.Reference3Ideal.τ).loc Cert.Reference3Ideal.main_arg11)) (m' ((c.tc : Thread Cert.Reference3Ideal.nD Cert.Reference3Ideal.τ).loc Cert.Reference3Ideal.main_arg12))).trans s15),
      (q16.trans (Cert.Reference3Ideal.Read.val_main_v254_eq (F := Ideal) (StableHlo.launchContents m' c))).trans
        ((Cert.Reference3Ideal.In.rk_eq (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) (m' ((c.tc : Thread Cert.Reference3Ideal.nD Cert.Reference3Ideal.τ).loc Cert.Reference3Ideal.main_arg9)) (m' ((c.tc : Thread Cert.Reference3Ideal.nD Cert.Reference3Ideal.τ).loc Cert.Reference3Ideal.main_arg10)) (m' ((c.tc : Thread Cert.Reference3Ideal.nD Cert.Reference3Ideal.τ).loc Cert.Reference3Ideal.main_arg11)) (m' ((c.tc : Thread Cert.Reference3Ideal.nD Cert.Reference3Ideal.τ).loc Cert.Reference3Ideal.main_arg12))).trans s16),
      (q17.trans (Cert.Reference3Ideal.Read.val_main_v256_eq (F := Ideal) (StableHlo.launchContents m' c))).trans
        ((Cert.Reference3Ideal.In.rv_eq (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) (m' ((c.tc : Thread Cert.Reference3Ideal.nD Cert.Reference3Ideal.τ).loc Cert.Reference3Ideal.main_arg9)) (m' ((c.tc : Thread Cert.Reference3Ideal.nD Cert.Reference3Ideal.τ).loc Cert.Reference3Ideal.main_arg10)) (m' ((c.tc : Thread Cert.Reference3Ideal.nD Cert.Reference3Ideal.τ).loc Cert.Reference3Ideal.main_arg11)) (m' ((c.tc : Thread Cert.Reference3Ideal.nD Cert.Reference3Ideal.τ).loc Cert.Reference3Ideal.main_arg12))).trans s17),
      (q20.trans (Cert.Reference3Ideal.Read.val_main_v259_eq (F := Ideal) (StableHlo.launchContents m' c))).trans
        ((Cert.Reference3Ideal.In.qt_eq (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) (m' ((c.tc : Thread Cert.Reference3Ideal.nD Cert.Reference3Ideal.τ).loc Cert.Reference3Ideal.main_arg9)) (m' ((c.tc : Thread Cert.Reference3Ideal.nD Cert.Reference3Ideal.τ).loc Cert.Reference3Ideal.main_arg10)) (m' ((c.tc : Thread Cert.Reference3Ideal.nD Cert.Reference3Ideal.τ).loc Cert.Reference3Ideal.main_arg11)) (m' ((c.tc : Thread Cert.Reference3Ideal.nD Cert.Reference3Ideal.τ).loc Cert.Reference3Ideal.main_arg12))).trans s20),
      (q21.trans (Cert.Reference3Ideal.Read.val_main_v262_eq (F := Ideal) (StableHlo.launchContents m' c))).trans
        ((Cert.Reference3Ideal.In.k_eq (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) (m' ((c.tc : Thread Cert.Reference3Ideal.nD Cert.Reference3Ideal.τ).loc Cert.Reference3Ideal.main_arg9)) (m' ((c.tc : Thread Cert.Reference3Ideal.nD Cert.Reference3Ideal.τ).loc Cert.Reference3Ideal.main_arg10)) (m' ((c.tc : Thread Cert.Reference3Ideal.nD Cert.Reference3Ideal.τ).loc Cert.Reference3Ideal.main_arg11)) (m' ((c.tc : Thread Cert.Reference3Ideal.nD Cert.Reference3Ideal.τ).loc Cert.Reference3Ideal.main_arg12))).trans s21),
      (q22.trans (Cert.Reference3Ideal.Read.val_main_v264_eq (F := Ideal) (StableHlo.launchContents m' c))).trans
        ((Cert.Reference3Ideal.In.vt_eq (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) (m' ((c.tc : Thread Cert.Reference3Ideal.nD Cert.Reference3Ideal.τ).loc Cert.Reference3Ideal.main_arg9)) (m' ((c.tc : Thread Cert.Reference3Ideal.nD Cert.Reference3Ideal.τ).loc Cert.Reference3Ideal.main_arg10)) (m' ((c.tc : Thread Cert.Reference3Ideal.nD Cert.Reference3Ideal.τ).loc Cert.Reference3Ideal.main_arg11)) (m' ((c.tc : Thread Cert.Reference3Ideal.nD Cert.Reference3Ideal.τ).loc Cert.Reference3Ideal.main_arg12))).trans s22), hargs⟩

end Cert.Proof

end
-- ==== Proof.lean ====
module

public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import Idealize.ShloMosaic.Adequacy
public import Idealize.ShloMosaic.Init
public import Idealize.ShloMosaic.Lib.Quiescent
public import proofs.«01_k».proof.Proof.Whole
public import proofs.«01_k».proof.Proof.RefVal
public import proofs.«01_k».proof.Proof.Bridge
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal.Value
public import proofs.«01_k».proof.Proof.Gen.Reference2Ideal.Run
public import proofs.«01_k».proof.Proof.OutRef
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal.Value
public import proofs.«01_k».proof.Proof.Gen.Reference3Ideal.Run
public import proofs.«01_k».proof.Proof.InEnd

@[expose] public section

noncomputable section

namespace Cert.Proof

open Idealize.ShloMosaic Idealize.SL.Sem

/-- The reference's arguments are unchanged and it has no semaphore. -/
theorem frame_reference : Cert.quiescent_ReferenceIdeal := fun m g _ =>
  (θ_run Cert.ReferenceIdeal.defs _ _).mono (fun r h => ⟨fun c => (h c).2, sem_eq_zero_of_no_sems rfl r.2⟩)
    (Cert.ReferenceIdeal.Value.run (F := Ideal) m g)

/-- The kernel's result is the reference's: both end at the attention of the arguments. -/
theorem same : Cert.algebraic_KernelIdeal_ReferenceIdeal_pre_finite := by
  intro m g m' g' hpre hagree
  have hr : ∀ c, Cert.KernelIdeal.Att.Real4 m c := fun c => by
    obtain ⟨h0, h1, h2, h3⟩ := Cert.KernelIdeal.Att.finite_real _ _ _ _ _ _ _ _ _ (hpre c)
    exact ⟨h0, h1, h2, h3⟩
  refine ⟨fun c => Cert.KernelIdeal.Att.result m c, ?_, ?_⟩
  · exact (θ_run Cert.KernelIdeal.defs _ _).mono
      (fun _ h c => ⟨((h.1.1 c).1 4).trans (Cert.KernelIdeal.Att.final m c (hr c)), h.2.1 c⟩)
      (θ_run_and (Cert.KernelIdeal.Att.run m g) (Cert.KernelIdeal.Att.frame_run m g))
  · refine (θ_run Cert.ReferenceIdeal.defs _ _).mono (fun _ h c => ⟨(h c).1.trans ?_, (h c).2⟩)
      (Cert.ReferenceIdeal.Value.run (F := Ideal) m' g')
    obtain ⟨e0, e1, e2, e3, e4, -⟩ := hagree c
    rw [e0, e1, e2, e3, e4]
    exact (Cert.ReferenceIdeal.Read.val_main_v23_eq (F := Ideal) _ _ _ _ _).trans
      (Cert.ReferenceIdeal.Att.v23_eq _ _ _ _ _ (hr c).r0 (hr c).r1 (hr c).r2 (hr c).r3)

/-- The second reference's arguments are unchanged and it has no semaphore. -/
theorem frame_reference2 : Cert.quiescent_Reference2Ideal := fun m g _ =>
  (θ_run Cert.Reference2Ideal.defs _ _).mono (fun r h => ⟨fun c => (h c).2, sem_eq_zero_of_no_sems rfl r.2⟩)
    (Cert.Reference2Ideal.Value.run (F := Ideal) m g)

/-- The output projection's result is its reference's. -/
theorem same2 : Cert.algebraic_Kernel2Ideal_Reference2Ideal := by
  intro m g m' g' _ hagree
  refine ⟨fun c => Cert.Kernel2Ideal.Out.result m c, ?_, ?_⟩
  · exact (θ_run Cert.Kernel2Ideal.defs _ _).mono
      (fun _ h c => ⟨(h c).1.trans (Cert.Kernel2Ideal.Out.final m c), (h c).2⟩)
      (Cert.Kernel2Ideal.Value.run_blocks m g)
  · refine (θ_run Cert.Reference2Ideal.defs _ _).mono (fun _ h c => ⟨(h c).1.trans ?_, (h c).2⟩)
      (Cert.Reference2Ideal.Value.run (F := Ideal) m' g')
    obtain ⟨e0, e1, e2, e3, e4, e5, e6⟩ := hagree c
    rw [e0, e1, e2, e3, e4, e5, e6]
    exact (Cert.Reference2Ideal.Read.val_main_v22_eq (F := Ideal) _ _ _ _ _ _ _).trans
      (Cert.Reference2Ideal.Out.v22_eq _ _ _ _ _ _ _)

/-- The third reference's arguments are unchanged and it has no semaphore. -/
theorem frame_reference3 : Cert.quiescent_Reference3Ideal := fun m g _ =>
  (θ_run Cert.Reference3Ideal.defs _ _).mono (fun r h => ⟨fun c => (h c).2.2.2.2.2.2, sem_eq_zero_of_no_sems rfl r.2⟩)
    (Cert.Reference3Ideal.Value.run (F := Ideal) m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_finite.Gen.facts,
  Cert.Kernel.Att.frame_kernel, fun m g _ => Cert.KernelIdeal.Att.frame_run m g, fun m g _ => Cert.KernelIdeal.Att.frame_run m g,
  frame_reference, fun m g _ => frame_reference m g trivial,
  fun m g _ => Cert.Kernel2.Gen.frame m g, fun m g _ => Cert.Kernel2Ideal.Gen.frame m g, frame_reference2,
  fun m g _ => Cert.Kernel3.Gen.frame m g, fun m g _ => Cert.Kernel3Ideal.Gen.frame m g, frame_reference3,
  trivial, same, trivial, same2, trivial, same3⟩

end Cert.Proof

end
